-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S16384x11 : Shape := ⟨2, ![16384, 11]⟩
abbrev S16384x5 : Shape := ⟨2, ![16384, 5]⟩
abbrev S166x16 : Shape := ⟨2, ![166, 16]⟩
abbrev S357x512 : Shape := ⟨2, ![357, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384x11 : S_.BroadcastsInDim S16384x11 (![] : Fin 0 → Fin S16384x11.rank)
  reducesTo_S16384x11_S_d0_1 : S16384x11.ReducesTo [0, 1] S_
  h_S_ : 0 < S_.numel

variable [Facts]

def fn {F : FTy → Type} [FloatOps F] (main_arg0 : IVec S16384x11 32) (main_arg1 : FVec F S16384x5 .f32) (main_arg2 : IVec S166x16 32) (main_arg3 : FVec F S357x512 .f32) (main_arg4 : FVec F S512 .f32) (main_arg5 : FVec F S512 .f32) (main_arg6 : FVec F S512 .f32) (main_arg7 : FVec F S512x256 .f32) (main_arg8 : FVec F S256 .f32) (main_arg9 : FVec F S256 .f32) (main_arg10 : FVec F S256 .f32) (main_arg11 : FVec F S256x128 .f32) (main_arg12 : FVec F S128 .f32) (main_arg13 : FVec F S128 .f32) (main_arg14 : FVec F S128 .f32) (main_arg15 : FVec F S128x1 .f32) (main_arg16 : FVec F S1 .f32) : IVec S_ 1 :=
  let main_c : IVec S_ 32 := constantI S_ 32 0#32
  let main_v0 : IVec S16384x11 32 := broadcastInDim S16384x11 ![] bcast_S_S16384x11 main_c
  let main_v1 : IVec S16384x11 1 := cmpi .sge main_arg0 main_v0
  let main_c_0 : IVec S_ 32 := constantI S_ 32 165#32
  let main_v2 : IVec S16384x11 32 := broadcastInDim S16384x11 ![] bcast_S_S16384x11 main_c_0
  let main_v3 : IVec S16384x11 1 := cmpi .sle main_arg0 main_v2
  let main_v4 : IVec S16384x11 1 := andi main_v1 main_v3
  let main_c_1 : IVec S_ 1 := constantI S_ 1 1#1
  let main_v5 : IVec S_ 1 := (fun x v => Host.reduce IntOp.andi x v reducesTo_S16384x11_S_d0_1 h_S_) main_v4 main_c_1
  main_v5
-- ==== Pre_in_range_finite.lean ====
abbrev S16384x11 : Shape := ⟨2, ![16384, 11]⟩
abbrev S16384x5 : Shape := ⟨2, ![16384, 5]⟩
abbrev S166x16 : Shape := ⟨2, ![166, 16]⟩
abbrev S357x512 : Shape := ⟨2, ![357, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S166x16x2 : Shape := ⟨3, ![166, 16, 2]⟩

class Facts : Prop where
  bcast_S_S16384x11 : S_.BroadcastsInDim S16384x11 (![] : Fin 0 → Fin S16384x11.rank)
  reducesTo_S16384x11_S_d0_1 : S16384x11.ReducesTo [0, 1] S_
  h_S_ : 0 < S_.numel
  splits_S166x16_w32_S166x16x2_w16 : S166x16.SplitsWords 32 S166x16x2 16
  bitsLt_bf16_f32 : FTy.bits .bf16 < FTy.bits .f32
  bcast_S_S166x16x2 : S_.BroadcastsInDim S166x16x2 (![] : Fin 0 → Fin S166x16x2.rank)
  reducesTo_S166x16x2_S_d0_1_2 : S166x16x2.ReducesTo [0, 1, 2] S_
  bcast_S_S16384x5 : S_.BroadcastsInDim S16384x5 (![] : Fin 0 → Fin S16384x5.rank)
  reducesTo_S16384x5_S_d0_1 : S16384x5.ReducesTo [0, 1] S_
  bcast_S_S357x512 : S_.BroadcastsInDim S357x512 (![] : Fin 0 → Fin S357x512.rank)
  reducesTo_S357x512_S_d0_1 : S357x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg10 : FVec F S256 .f32) (main_arg11 : FVec F S256x128 .f32) (main_arg12 : FVec F S128 .f32) (main_v47 : IVec S_ 1) (main_v50 : IVec S256 1) (main_c_18 : IVec S_ 1) : IVec S_ 1 :=
  let main_v51 : IVec S_ 1 := (fun x v => Host.reduce IntOp.andi x v reducesTo_S256_S_d0 h_S_) main_v50 main_c_18
  let main_v52 : IVec S_ 1 := andi main_v47 main_v51
  let main_v53 : FVec F S256 .f32 := Host.absf main_arg10
  let main_cst_19 : FVec F S_ .f32 := constant S_ .f32 0x7F800000#32
  let main_v54 : FVec F S256 .f32 := broadcastInDim S256 ![] bcast_S_S256 main_cst_19
  let main_v55 : IVec S256 1 := cmpf .olt main_v53 main_v54
  let main_c_20 : IVec S_ 1 := constantI S_ 1 1#1
  let main_v56 : IVec S_ 1 := (fun x v => Host.reduce IntOp.andi x v reducesTo_S256_S_d0 h_S_) main_v55 main_c_20
  let main_v57 : IVec S_ 1 := andi main_v52 main_v56
  let main_v58 : FVec F S256x128 .f32 := Host.absf main_arg11
  let main_cst_21 : FVec F S_ .f32 := constant S_ .f32 0x7F800000#32
  let main_v59 : FVec F S256x128 .f32 := broadcastInDim S256x128 ![] bcast_S_S256x128 main_cst_21
  let main_v60 : IVec S256x128 1 := cmpf .olt main_v58 main_v59
  let main_c_22 : IVec S_ 1 := constantI S_ 1 1#1
  let main_v61 : IVec S_ 1 := (fun x v => Host.reduce IntOp.andi x v reducesTo_S256x128_S_d0_1 h_S_) main_v60 main_c_22
  let main_v62 : IVec S_ 1 := andi main_v57 main_v61
  let main_v63 : FVec F S128 .f32 := Host.absf main_arg12
  let main_cst_23 : FVec F S_ .f32 := constant S_ .f32 0x7F800000#32
  let main_v64 : FVec F S128 .f32 := broadcastInDim S128 ![] bcast_S_S128 main_cst_23
  let main_v65 : IVec S128 1 := cmpf .olt main_v63 main_v64
  let main_c_24 : IVec S_ 1 := constantI S_ 1 1#1
  let main_v66 : IVec S_ 1 := (fun x v => Host.reduce IntOp.andi x v reducesTo_S128_S_d0 h_S_) main_v65 main_c_24
  let main_v67 : IVec S_ 1 := andi main_v62 main_v66
  main_v67

def fn_part2 {F : FTy → Type} [FloatOps F] (main_arg7 : FVec F S512x256 .f32) (main_arg8 : FVec F S256 .f32) (main_arg9 : FVec F S256 .f32) (main_arg10 : FVec F S256 .f32) (main_arg11 : FVec F S256x128 .f32) (main_arg12 : FVec F S128 .f32) (main_v32 : IVec S_ 1) (main_v33 : FVec F S512 .f32) (main_cst_11 : FVec F S_ .f32) : IVec S_ 1 :=
  let main_v34 : FVec F S512 .f32 := broadcastInDim S512 ![] bcast_S_S512 main_cst_11
  let main_v35 : IVec S512 1 := cmpf .olt main_v33 main_v34
  let main_c_12 : IVec S_ 1 := constantI S_ 1 1#1
  let main_v36 : IVec S_ 1 := (fun x v => Host.reduce IntOp.andi x v reducesTo_S512_S_d0 h_S_) main_v35 main_c_12
  let main_v37 : IVec S_ 1 := andi main_v32 main_v36
  let main_v38 : FVec F S512x256 .f32 := Host.absf main_arg7
  let main_cst_13 : FVec F S_ .f32 := constant S_ .f32 0x7F800000#32
  let main_v39 : FVec F S512x256 .f32 := broadcastInDim S512x256 ![] bcast_S_S512x256 main_cst_13
  let main_v40 : IVec S512x256 1 := cmpf .olt main_v38 main_v39
  let main_c_14 : IVec S_ 1 := constantI S_ 1 1#1
  let main_v41 : IVec S_ 1 := (fun x v => Host.reduce IntOp.andi x v reducesTo_S512x256_S_d0_1 h_S_) main_v40 main_c_14
  let main_v42 : IVec S_ 1 := andi main_v37 main_v41
  let main_v43 : FVec F S256 .f32 := Host.absf main_arg8
  let main_cst_15 : FVec F S_ .f32 := constant S_ .f32 0x7F800000#32
  let main_v44 : FVec F S256 .f32 := broadcastInDim S256 ![] bcast_S_S256 main_cst_15
  let main_v45 : IVec S256 1 := cmpf .olt main_v43 main_v44
  let main_c_16 : IVec S_ 1 := constantI S_ 1 1#1
  let main_v46 : IVec S_ 1 := (fun x v => Host.reduce IntOp.andi x v reducesTo_S256_S_d0 h_S_) main_v45 main_c_16
  let main_v47 : IVec S_ 1 := andi main_v42 main_v46
  let main_v48 : FVec F S256 .f32 := Host.absf main_arg9
  let main_cst_17 : FVec F S_ .f32 := constant S_ .f32 0x7F800000#32
  let main_v49 : FVec F S256 .f32 := broadcastInDim S256 ![] bcast_S_S256 main_cst_17
  let main_v50 : IVec S256 1 := cmpf .olt main_v48 main_v49
  let main_c_18 : IVec S_ 1 := constantI S_ 1 1#1
  fn_part3 (F := F) main_arg10 main_arg11 main_arg12 main_v47 main_v50 main_c_18

def fn_part1 {F : FTy → Type} [FloatOps F] (main_arg3 : FVec F S357x512 .f32) (main_arg4 : FVec F S512 .f32) (main_arg5 : FVec F S512 .f32) (main_arg6 : FVec F S512 .f32) (main_arg7 : FVec F S512x256 .f32) (main_arg8 : FVec F S256 .f32) (main_arg9 : FVec F S256 .f32) (main_arg10 : FVec F S256 .f32) (main_arg11 : FVec F S256x128 .f32) (main_arg12 : FVec F S128 .f32) (main_v12 : IVec S_ 1) (main_v16 : IVec S_ 1) : IVec S_ 1 :=
  let main_v17 : IVec S_ 1 := andi main_v12 main_v16
  let main_v18 : FVec F S357x512 .f32 := Host.absf main_arg3
  let main_cst_5 : FVec F S_ .f32 := constant S_ .f32 0x7F800000#32
  let main_v19 : FVec F S357x512 .f32 := broadcastInDim S357x512 ![] bcast_S_S357x512 main_cst_5
  let main_v20 : IVec S357x512 1 := cmpf .olt main_v18 main_v19
  let main_c_6 : IVec S_ 1 := constantI S_ 1 1#1
  let main_v21 : IVec S_ 1 := (fun x v => Host.reduce IntOp.andi x v reducesTo_S357x512_S_d0_1 h_S_) main_v20 main_c_6
  let main_v22 : IVec S_ 1 := andi main_v17 main_v21
  let main_v23 : FVec F S512 .f32 := Host.absf main_arg4
  let main_cst_7 : FVec F S_ .f32 := constant S_ .f32 0x7F800000#32
  let main_v24 : FVec F S512 .f32 := broadcastInDim S512 ![] bcast_S_S512 main_cst_7
  let main_v25 : IVec S512 1 := cmpf .olt main_v23 main_v24
  let main_c_8 : IVec S_ 1 := constantI S_ 1 1#1
  let main_v26 : IVec S_ 1 := (fun x v => Host.reduce IntOp.andi x v reducesTo_S512_S_d0 h_S_) main_v25 main_c_8
  let main_v27 : IVec S_ 1 := andi main_v22 main_v26
  let main_v28 : FVec F S512 .f32 := Host.absf main_arg5
  let main_cst_9 : FVec F S_ .f32 := constant S_ .f32 0x7F800000#32
  let main_v29 : FVec F S512 .f32 := broadcastInDim S512 ![] bcast_S_S512 main_cst_9
  let main_v30 : IVec S512 1 := cmpf .olt main_v28 main_v29
  let main_c_10 : IVec S_ 1 := constantI S_ 1 1#1
  let main_v31 : IVec S_ 1 := (fun x v => Host.reduce IntOp.andi x v reducesTo_S512_S_d0 h_S_) main_v30 main_c_10
  let main_v32 : IVec S_ 1 := andi main_v27 main_v31
  let main_v33 : FVec F S512 .f32 := Host.absf main_arg6
  let main_cst_11 : FVec F S_ .f32 := constant S_ .f32 0x7F800000#32
  fn_part2 (F := F) main_arg7 main_arg8 main_arg9 main_arg10 main_arg11 main_arg12 main_v32 main_v33 main_cst_11

def fn {F : FTy → Type} [FloatOps F] (main_arg0 : IVec S16384x11 32) (main_arg1 : FVec F S16384x5 .f32) (main_arg2 : IVec S166x16 32) (main_arg3 : FVec F S357x512 .f32) (main_arg4 : FVec F S512 .f32) (main_arg5 : FVec F S512 .f32) (main_arg6 : FVec F S512 .f32) (main_arg7 : FVec F S512x256 .f32) (main_arg8 : FVec F S256 .f32) (main_arg9 : FVec F S256 .f32) (main_arg10 : FVec F S256 .f32) (main_arg11 : FVec F S256x128 .f32) (main_arg12 : FVec F S128 .f32) (main_arg13 : FVec F S128 .f32) (main_arg14 : FVec F S128 .f32) (main_arg15 : FVec F S128x1 .f32) (main_arg16 : FVec F S1 .f32) : IVec S_ 1 :=
  let main_c : IVec S_ 32 := constantI S_ 32 0#32
  let main_v0 : IVec S16384x11 32 := broadcastInDim S16384x11 ![] bcast_S_S16384x11 main_c
  let main_v1 : IVec S16384x11 1 := cmpi .sge main_arg0 main_v0
  let main_c_0 : IVec S_ 32 := constantI S_ 32 165#32
  let main_v2 : IVec S16384x11 32 := broadcastInDim S16384x11 ![] bcast_S_S16384x11 main_c_0
  let main_v3 : IVec S16384x11 1 := cmpi .sle main_arg0 main_v2
  let main_v4 : IVec S16384x11 1 := andi main_v1 main_v3
  let main_c_1 : IVec S_ 1 := constantI S_ 1 1#1
  let main_v5 : IVec S_ 1 := (fun x v => Host.reduce IntOp.andi x v reducesTo_S16384x11_S_d0_1 h_S_) main_v4 main_c_1
  let main_v6 : FVec F S166x16x2 .bf16 := (fun x => bitcastToFloat .bf16 (Host.bitcastConvertNarrow S166x16x2 16 x splits_S166x16_w32_S166x16x2_w16)) main_arg2
  let main_v7 : FVec F S166x16x2 .f32 := (extf .f32 · bitsLt_bf16_f32) main_v6
  let main_v8 : FVec F S166x16x2 .f32 := Host.absf main_v7
  let main_cst : FVec F S_ .f32 := constant S_ .f32 0x7F800000#32
  let main_v9 : FVec F S166x16x2 .f32 := broadcastInDim S166x16x2 ![] bcast_S_S166x16x2 main_cst
  let main_v10 : IVec S166x16x2 1 := cmpf .olt main_v8 main_v9
  let main_c_2 : IVec S_ 1 := constantI S_ 1 1#1
  let main_v11 : IVec S_ 1 := (fun x v => Host.reduce IntOp.andi x v reducesTo_S166x16x2_S_d0_1_2 h_S_) main_v10 main_c_2
  let main_v12 : IVec S_ 1 := andi main_v5 main_v11
  let main_v13 : FVec F S16384x5 .f32 := Host.absf main_arg1
  let main_cst_3 : FVec F S_ .f32 := constant S_ .f32 0x7F800000#32
  let main_v14 : FVec F S16384x5 .f32 := broadcastInDim S16384x5 ![] bcast_S_S16384x5 main_cst_3
  let main_v15 : IVec S16384x5 1 := cmpf .olt main_v13 main_v14
  let main_c_4 : IVec S_ 1 := constantI S_ 1 1#1
  let main_v16 : IVec S_ 1 := (fun x v => Host.reduce IntOp.andi x v reducesTo_S16384x5_S_d0_1 h_S_) main_v15 main_c_4
  fn_part1 (F := F) main_arg3 main_arg4 main_arg5 main_arg6 main_arg7 main_arg8 main_arg9 main_arg10 main_arg11 main_arg12 main_v12 main_v16
-- ==== Kernel.lean ====
abbrev S16384x11 : Shape := ⟨2, ![16384, 11]⟩
abbrev S16384x5 : Shape := ⟨2, ![16384, 5]⟩
abbrev S166x16 : Shape := ⟨2, ![166, 16]⟩
abbrev S357x512 : Shape := ⟨2, ![357, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S16 : Shape := ⟨1, ![16]⟩
abbrev S16x256 : Shape := ⟨2, ![16, 256]⟩
abbrev S16x166 : Shape := ⟨2, ![16, 166]⟩
abbrev S1408x128 : Shape := ⟨2, ![1408, 128]⟩
abbrev S16384x256 : Shape := ⟨2, ![16384, 256]⟩
abbrev S44x128 : Shape := ⟨2, ![44, 128]⟩
abbrev S256x257 : Shape := ⟨2, ![256, 257]⟩
abbrev S256x256 : Shape := ⟨2, ![256, 256]⟩
abbrev S357 : Shape := ⟨1, ![357]⟩
abbrev S357x1 : Shape := ⟨2, ![357, 1]⟩
abbrev S512x1 : Shape := ⟨2, ![512, 1]⟩
abbrev S256x1 : Shape := ⟨2, ![256, 1]⟩
abbrev S176x512 : Shape := ⟨2, ![176, 512]⟩
abbrev S5x512 : Shape := ⟨2, ![5, 512]⟩
abbrev S1x512 : Shape := ⟨2, ![1, 512]⟩
abbrev S1x256 : Shape := ⟨2, ![1, 256]⟩
abbrev S1x128 : Shape := ⟨2, ![1, 128]⟩
abbrev S1x1 : Shape := ⟨2, ![1, 1]⟩
abbrev S16384x1 : Shape := ⟨2, ![16384, 1]⟩
abbrev S2048x256 : Shape := ⟨2, ![2048, 256]⟩
abbrev S2048x5 : Shape := ⟨2, ![2048, 5]⟩
abbrev S2048x1 : Shape := ⟨2, ![2048, 1]⟩
abbrev S2048x176 : Shape := ⟨2, ![2048, 176]⟩
abbrev S2048x512 : Shape := ⟨2, ![2048, 512]⟩
abbrev S2048 : Shape := ⟨1, ![2048]⟩
abbrev S2048x128 : Shape := ⟨2, ![2048, 128]⟩
abbrev S16384 : Shape := ⟨1, ![16384]⟩

abbrev nBuf : Table → Nat
  | .hbm => 105
  | .local .tc .vmem => 22
  | .local .scVector .vmem => 3
  | _ => 0

abbrev bufTy : (tb : Table) → Fin (nBuf tb) → BufTy
  | .hbm, ⟨0, _⟩ => ⟨S16384x11, .i32⟩
  | .hbm, ⟨1, _⟩ => ⟨S16384x5, .f32⟩
  | .hbm, ⟨2, _⟩ => ⟨S166x16, .i32⟩
  | .hbm, ⟨3, _⟩ => ⟨S357x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S16, .i32⟩
  | .hbm, ⟨21, _⟩ => ⟨S166x16, .i32⟩
  | .hbm, ⟨22, _⟩ => ⟨S_, .i32⟩
  | .hbm, ⟨23, _⟩ => ⟨S16x256, .i32⟩
  | .hbm, ⟨24, _⟩ => ⟨S16x166, .i32⟩
  | .hbm, ⟨25, _⟩ => ⟨S_, .i32⟩
  | .hbm, ⟨26, _⟩ => ⟨S1, .i32⟩
  | .hbm, ⟨27, _⟩ => ⟨S16x256, .i32⟩
  | .hbm, ⟨28, _⟩ => ⟨S1408x128, .i32⟩
  | .hbm, ⟨29, _⟩ => ⟨S16384x256, .i32⟩
  | .hbm, ⟨30, _⟩ => ⟨S_, .f32⟩
  | .hbm, ⟨31, _⟩ => ⟨S357, .f32⟩
  | .hbm, ⟨32, _⟩ => ⟨S357x1, .f32⟩
  | .hbm, ⟨33, _⟩ => ⟨S_, .f32⟩
  | .hbm, ⟨34, _⟩ => ⟨S357x1, .f32⟩
  | .hbm, ⟨35, _⟩ => ⟨S357x1, .f32⟩
  | .hbm, ⟨36, _⟩ => ⟨S357x512, .f32⟩
  | .hbm, ⟨37, _⟩ => ⟨S357x512, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S_, .f32⟩
  | .hbm, ⟨45, _⟩ => ⟨S512, .f32⟩
  | .hbm, ⟨46, _⟩ => ⟨S512x1, .f32⟩
  | .hbm, ⟨47, _⟩ => ⟨S_, .f32⟩
  | .hbm, ⟨48, _⟩ => ⟨S512x1, .f32⟩
  | .hbm, ⟨49, _⟩ => ⟨S512x1, .f32⟩
  | .hbm, ⟨50, _⟩ => ⟨S512x256, .f32⟩
  | .hbm, ⟨51, _⟩ => ⟨S512x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S_, .f32⟩
  | .hbm, ⟨59, _⟩ => ⟨S256, .f32⟩
  | .hbm, ⟨60, _⟩ => ⟨S256x1, .f32⟩
  | .hbm, ⟨61, _⟩ => ⟨S_, .f32⟩
  | .hbm, ⟨62, _⟩ => ⟨S256x1, .f32⟩
  | .hbm, ⟨63, _⟩ => ⟨S256x1, .f32⟩
  | .hbm, ⟨64, _⟩ => ⟨S256x128, .f32⟩
  | .hbm, ⟨65, _⟩ => ⟨S256x128, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S176x512, .f32⟩
  | .hbm, ⟨73, _⟩ => ⟨S176x512, .bf16⟩
  | .hbm, ⟨74, _⟩ => ⟨S176x512, .f32⟩
  | .hbm, ⟨75, _⟩ => ⟨S176x512, .bf16⟩
  | .hbm, ⟨76, _⟩ => ⟨S5x512, .f32⟩
  | .hbm, ⟨77, _⟩ => ⟨S5x512, .bf16⟩
  | .hbm, ⟨78, _⟩ => ⟨S512x256, .bf16⟩
  | .hbm, ⟨79, _⟩ => ⟨S256x128, .bf16⟩
  | .hbm, ⟨80, _⟩ => ⟨S16384x5, .bf16⟩
  | .hbm, ⟨81, _⟩ => ⟨S1x512, .f32⟩
  | .hbm, ⟨82, _⟩ => ⟨S1x512, .f32⟩
  | .hbm, ⟨83, _⟩ => ⟨S1x512, .f32⟩
  | .hbm, ⟨84, _⟩ => ⟨S1x256, .f32⟩
  | .hbm, ⟨85, _⟩ => ⟨S1x256, .f32⟩
  | .hbm, ⟨86, _⟩ => ⟨S1x256, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x1, .f32⟩
  | .hbm, ⟨92, _⟩ => ⟨S1x512, .f32⟩
  | .hbm, ⟨93, _⟩ => ⟨S1x512, .f32⟩
  | .hbm, ⟨94, _⟩ => ⟨S1x512, .f32⟩
  | .hbm, ⟨95, _⟩ => ⟨S1x256, .f32⟩
  | .hbm, ⟨96, _⟩ => ⟨S1x256, .f32⟩
  | .hbm, ⟨97, _⟩ => ⟨S1x256, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S1x1, .f32⟩
  | .hbm, ⟨103, _⟩ => ⟨S16384x1, .f32⟩
  | .hbm, ⟨104, _⟩ => ⟨S16384, .f32⟩
  | .local .tc .vmem, ⟨0, _⟩ => ⟨S2048x256, .i32⟩
  | .local .tc .vmem, ⟨1, _⟩ => ⟨S2048x256, .i32⟩
  | .local .tc .vmem, ⟨2, _⟩ => ⟨S2048x5, .bf16⟩
  | .local .tc .vmem, ⟨3, _⟩ => ⟨S2048x5, .bf16⟩
  | .local .tc .vmem, ⟨4, _⟩ => ⟨S176x512, .bf16⟩
  | .local .tc .vmem, ⟨5, _⟩ => ⟨S176x512, .bf16⟩
  | .local .tc .vmem, ⟨6, _⟩ => ⟨S5x512, .bf16⟩
  | .local .tc .vmem, ⟨7, _⟩ => ⟨S1x512, .f32⟩
  | .local .tc .vmem, ⟨8, _⟩ => ⟨S1x512, .f32⟩
  | .local .tc .vmem, ⟨9, _⟩ => ⟨S1x512, .f32⟩
  | .local .tc .vmem, ⟨10, _⟩ => ⟨S512x256, .bf16⟩
  | .local .tc .vmem, ⟨11, _⟩ => ⟨S1x256, .f32⟩
  | .local .tc .vmem, ⟨12, _⟩ => ⟨S1x256, .f32⟩
  | .local .tc .vmem, ⟨13, _⟩ => ⟨S1x256, .f32⟩
  | .local .tc .vmem, ⟨14, _⟩ => ⟨S256x128, .bf16⟩
  | .local .tc .vmem, ⟨15, _⟩ => ⟨S1x128, .f32⟩
  | .local .tc .vmem, ⟨16, _⟩ => ⟨S1x128, .f32⟩
  | .local .tc .vmem, ⟨17, _⟩ => ⟨S1x128, .f32⟩
  | .local .tc .vmem, ⟨18, _⟩ => ⟨S1x128, .f32⟩
  | .local .tc .vmem, ⟨19, _⟩ => ⟨S1x1, .f32⟩
  | .local .tc .vmem, ⟨20, _⟩ => ⟨S2048x1, .f32⟩
  | .local .tc .vmem, ⟨21, _⟩ => ⟨S2048x1, .f32⟩
  | .local .scVector .vmem, ⟨0, _⟩ => ⟨S16x256, .i32⟩
  | .local .scVector .vmem, ⟨1, _⟩ => ⟨S44x128, .i32⟩
  | .local .scVector .vmem, ⟨2, _⟩ => ⟨S256x257, .i32⟩
  | _, _ => ⟨S16384x11, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_c_0 : Ref sig .tc := ⟨.hbm, 19, rfl⟩
abbrev main_v1 : Ref sig .tc := ⟨.hbm, 20, rfl⟩
abbrev main_v2 : Ref sig .tc := ⟨.hbm, 21, rfl⟩
abbrev main_c_1 : Ref sig .tc := ⟨.hbm, 22, rfl⟩
abbrev main_v3 : Ref sig .tc := ⟨.hbm, 23, rfl⟩
abbrev main_v4 : Ref sig .tc := ⟨.hbm, 24, rfl⟩
abbrev main_c_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩
abbrev main_cst_3 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_4 : Ref sig .tc := ⟨.hbm, 38, rfl⟩
abbrev main_v15 : Ref sig .tc := ⟨.hbm, 39, rfl⟩
abbrev main_cst_5 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_6 : Ref sig .tc := ⟨.hbm, 44, rfl⟩
abbrev main_v19 : Ref sig .tc := ⟨.hbm, 45, rfl⟩
abbrev main_v20 : Ref sig .tc := ⟨.hbm, 46, rfl⟩
abbrev main_cst_7 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_8 : Ref sig .tc := ⟨.hbm, 52, rfl⟩
abbrev main_v25 : Ref sig .tc := ⟨.hbm, 53, rfl⟩
abbrev main_cst_9 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_10 : Ref sig .tc := ⟨.hbm, 58, rfl⟩
abbrev main_v29 : Ref sig .tc := ⟨.hbm, 59, rfl⟩
abbrev main_v30 : Ref sig .tc := ⟨.hbm, 60, rfl⟩
abbrev main_cst_11 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_12 : Ref sig .tc := ⟨.hbm, 66, rfl⟩
abbrev main_v35 : Ref sig .tc := ⟨.hbm, 67, rfl⟩
abbrev main_cst_13 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v6_scv : Ref sig .scVector := ⟨.hbm, 27, rfl⟩
abbrev main_v7_scv : Ref sig .scVector := ⟨.hbm, 28, rfl⟩
abbrev main_v8_scv : Ref sig .scVector := ⟨.hbm, 29, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg14_0 : Ref sig .tc := ⟨.vmem, 16, rfl⟩
abbrev cc1_stg15_0 : Ref sig .tc := ⟨.vmem, 17, rfl⟩
abbrev cc1_stg16_0 : Ref sig .tc := ⟨.vmem, 18, rfl⟩
abbrev cc1_stg17_0 : Ref sig .tc := ⟨.vmem, 19, rfl⟩
abbrev cc1_stg18_0 : Ref sig .tc := ⟨.vmem, 20, rfl⟩
abbrev cc1_stg18_1 : Ref sig .tc := ⟨.vmem, 21, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem13_0 : DmaSem sig := 18
abbrev cc1_sem14_0 : DmaSem sig := 19
abbrev cc1_sem15_0 : DmaSem sig := 20
abbrev cc1_sem16_0 : DmaSem sig := 21
abbrev cc1_sem17_0 : DmaSem sig := 22
abbrev cc1_sem18_0 : DmaSem sig := 23
abbrev cc1_sem18_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c44_i32 : BitVec 32 := 44#32
  let v3 : BitVec 32 := Scalar.muli v1 c44_i32
  let c0_i32_3_r1 : BitVec 32 := 0#32
  ![v3.toNat, 0]
@[reducible] def k0_t1_loop : Scf.Loop 32 :=
  let c0_i32_0 : BitVec 32 := 0#32
  let c2_i32_1 : BitVec 32 := 2#32
  let v4 : BitVec 32 := Scalar.addi c0_i32_0 c2_i32_1
  let c1_i32 : BitVec 32 := 1#32
  ⟨c0_i32_0, v4, c1_i32⟩
@[reducible] def k0_t2_loop (k0_t1 : Fin k0_t1_loop.trips) : Scf.Loop 32 :=
  let c0_i32_9 : BitVec 32 := 0#32
  let c0_i32_0 : BitVec 32 := 0#32
  let c1_i32 : BitVec 32 := 1#32
  let arg8 : BitVec 32 := Scf.iv c0_i32_0 c1_i32 k0_t1
  let c1_i32_3 : BitVec 32 := 1#32
  let v7 : BitVec 32 := Scalar.addi arg8 c1_i32_3
  let c16_i32_4 : BitVec 32 := 16#32
  let v8 : BitVec 32 := Scalar.muli v7 c16_i32_4
  let c16_i32 : BitVec 32 := 16#32
  let v6 : BitVec 32 := Scalar.muli arg8 c16_i32
  let v9 : BitVec 32 := Scalar.subi v8 v6
  let c1_i32_5 : BitVec 32 := 1#32
  let c1_i32_6 : BitVec 32 := 1#32
  let v10 : BitVec 32 := Scalar.subi c1_i32_5 c1_i32_6
  let v11 : BitVec 32 := Scalar.addi v9 v10
  let c1_i32_7 : BitVec 32 := 1#32
  let v12 : BitVec 32 := Scalar.divsi v11 c1_i32_7
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let c1_i32_11 : BitVec 32 := 1#32
  ⟨c0_i32_9, v17, c1_i32_11⟩

def k0_chk1 (v37 : IVec S16 32) (v39 : IVec S16 32) : Prop :=
  (∀ a x, ((![v37, v39] : Fin 2 → IVec S16 32) a x).toNat < S44x128.size a)
theorem k0_idx1_inb : ∀ (v37 : IVec S16 32) (v39 : IVec S16 32) (k0_hw1 : k0_chk1 v37 v39), ∀ a x, ((![v37, v39] : Fin 2 → IVec S16 32) a x).toNat < S44x128.size a := fun v37 v39 k0_hw1 => k0_hw1

def k0_chk2 (v40 : IVec S16 32) (v41 : IVec S16 32) : Prop :=
  (∀ a x, ((![v41, v40] : Fin 2 → IVec S16 32) a x).toNat < S16x256.size a)
theorem k0_idx2_inb : ∀ (v40 : IVec S16 32) (v41 : IVec S16 32) (k0_hw2 : k0_chk2 v40 v41), ∀ a x, ((![v41, v40] : Fin 2 → IVec S16 32) a x).toNat < S16x256.size a := fun v40 v41 k0_hw2 => k0_hw2

def k0_chk3 (v27 : IVec S16 32) (v43 : IVec S16 32) : Prop :=
  (∀ a x, ((![v27, v43] : Fin 2 → IVec S16 32) a x).toNat < S256x257.size a)
theorem k0_idx3_inb : ∀ (v27 : IVec S16 32) (v43 : IVec S16 32) (k0_hw3 : k0_chk3 v27 v43), ∀ a x, ((![v27, v43] : Fin 2 → IVec S16 32) a x).toNat < S256x257.size a := fun v27 v43 k0_hw3 => k0_hw3

def k0_chk4 (v40 : IVec S16 32) (v44 : IVec S16 32) : Prop :=
  (∀ a x, ((![v44, v40] : Fin 2 → IVec S16 32) a x).toNat < S16x256.size a)
theorem k0_idx4_inb : ∀ (v40 : IVec S16 32) (v44 : IVec S16 32) (k0_hw4 : k0_chk4 v40 v44), ∀ a x, ((![v44, v40] : Fin 2 → IVec S16 32) a x).toNat < S16x256.size a := fun v40 v44 k0_hw4 => k0_hw4

def k0_chk5 (v27 : IVec S16 32) (v46 : IVec S16 32) : Prop :=
  (∀ a x, ((![v27, v46] : Fin 2 → IVec S16 32) a x).toNat < S256x257.size a)
theorem k0_idx5_inb : ∀ (v27 : IVec S16 32) (v46 : IVec S16 32) (k0_hw5 : k0_chk5 v27 v46), ∀ a x, ((![v27, v46] : Fin 2 → IVec S16 32) a x).toNat < S256x257.size a := fun v27 v46 k0_hw5 => k0_hw5

def k0_chk6 (v40 : IVec S16 32) (v47 : IVec S16 32) : Prop :=
  (∀ a x, ((![v47, v40] : Fin 2 → IVec S16 32) a x).toNat < S16x256.size a)
theorem k0_idx6_inb : ∀ (v40 : IVec S16 32) (v47 : IVec S16 32) (k0_hw6 : k0_chk6 v40 v47), ∀ a x, ((![v47, v40] : Fin 2 → IVec S16 32) a x).toNat < S16x256.size a := fun v40 v47 k0_hw6 => k0_hw6

def k0_chk7 (v27 : IVec S16 32) (v49 : IVec S16 32) : Prop :=
  (∀ a x, ((![v27, v49] : Fin 2 → IVec S16 32) a x).toNat < S256x257.size a)
theorem k0_idx7_inb : ∀ (v27 : IVec S16 32) (v49 : IVec S16 32) (k0_hw7 : k0_chk7 v27 v49), ∀ a x, ((![v27, v49] : Fin 2 → IVec S16 32) a x).toNat < S256x257.size a := fun v27 v49 k0_hw7 => k0_hw7

def k0_chk8 (v40 : IVec S16 32) (v50 : IVec S16 32) : Prop :=
  (∀ a x, ((![v50, v40] : Fin 2 → IVec S16 32) a x).toNat < S16x256.size a)
theorem k0_idx8_inb : ∀ (v40 : IVec S16 32) (v50 : IVec S16 32) (k0_hw8 : k0_chk8 v40 v50), ∀ a x, ((![v50, v40] : Fin 2 → IVec S16 32) a x).toNat < S16x256.size a := fun v40 v50 k0_hw8 => k0_hw8

def k0_chk9 (v27 : IVec S16 32) (v52 : IVec S16 32) : Prop :=
  (∀ a x, ((![v27, v52] : Fin 2 → IVec S16 32) a x).toNat < S256x257.size a)
theorem k0_idx9_inb : ∀ (v27 : IVec S16 32) (v52 : IVec S16 32) (k0_hw9 : k0_chk9 v27 v52), ∀ a x, ((![v27, v52] : Fin 2 → IVec S16 32) a x).toNat < S256x257.size a := fun v27 v52 k0_hw9 => k0_hw9

def k0_chk10 (v40 : IVec S16 32) (v53 : IVec S16 32) : Prop :=
  (∀ a x, ((![v53, v40] : Fin 2 → IVec S16 32) a x).toNat < S16x256.size a)
theorem k0_idx10_inb : ∀ (v40 : IVec S16 32) (v53 : IVec S16 32) (k0_hw10 : k0_chk10 v40 v53), ∀ a x, ((![v53, v40] : Fin 2 → IVec S16 32) a x).toNat < S16x256.size a := fun v40 v53 k0_hw10 => k0_hw10

def k0_chk11 (v27 : IVec S16 32) (v55 : IVec S16 32) : Prop :=
  (∀ a x, ((![v27, v55] : Fin 2 → IVec S16 32) a x).toNat < S256x257.size a)
theorem k0_idx11_inb : ∀ (v27 : IVec S16 32) (v55 : IVec S16 32) (k0_hw11 : k0_chk11 v27 v55), ∀ a x, ((![v27, v55] : Fin 2 → IVec S16 32) a x).toNat < S256x257.size a := fun v27 v55 k0_hw11 => k0_hw11

def k0_chk12 (v40 : IVec S16 32) (v56 : IVec S16 32) : Prop :=
  (∀ a x, ((![v56, v40] : Fin 2 → IVec S16 32) a x).toNat < S16x256.size a)
theorem k0_idx12_inb : ∀ (v40 : IVec S16 32) (v56 : IVec S16 32) (k0_hw12 : k0_chk12 v40 v56), ∀ a x, ((![v56, v40] : Fin 2 → IVec S16 32) a x).toNat < S16x256.size a := fun v40 v56 k0_hw12 => k0_hw12

def k0_chk13 (v27 : IVec S16 32) (v58 : IVec S16 32) : Prop :=
  (∀ a x, ((![v27, v58] : Fin 2 → IVec S16 32) a x).toNat < S256x257.size a)
theorem k0_idx13_inb : ∀ (v27 : IVec S16 32) (v58 : IVec S16 32) (k0_hw13 : k0_chk13 v27 v58), ∀ a x, ((![v27, v58] : Fin 2 → IVec S16 32) a x).toNat < S256x257.size a := fun v27 v58 k0_hw13 => k0_hw13

def k0_chk14 (v40 : IVec S16 32) (v59 : IVec S16 32) : Prop :=
  (∀ a x, ((![v59, v40] : Fin 2 → IVec S16 32) a x).toNat < S16x256.size a)
theorem k0_idx14_inb : ∀ (v40 : IVec S16 32) (v59 : IVec S16 32) (k0_hw14 : k0_chk14 v40 v59), ∀ a x, ((![v59, v40] : Fin 2 → IVec S16 32) a x).toNat < S16x256.size a := fun v40 v59 k0_hw14 => k0_hw14

def k0_chk15 (v27 : IVec S16 32) (v61 : IVec S16 32) : Prop :=
  (∀ a x, ((![v27, v61] : Fin 2 → IVec S16 32) a x).toNat < S256x257.size a)
theorem k0_idx15_inb : ∀ (v27 : IVec S16 32) (v61 : IVec S16 32) (k0_hw15 : k0_chk15 v27 v61), ∀ a x, ((![v27, v61] : Fin 2 → IVec S16 32) a x).toNat < S256x257.size a := fun v27 v61 k0_hw15 => k0_hw15

def k0_chk16 (v40 : IVec S16 32) (v62 : IVec S16 32) : Prop :=
  (∀ a x, ((![v62, v40] : Fin 2 → IVec S16 32) a x).toNat < S16x256.size a)
theorem k0_idx16_inb : ∀ (v40 : IVec S16 32) (v62 : IVec S16 32) (k0_hw16 : k0_chk16 v40 v62), ∀ a x, ((![v62, v40] : Fin 2 → IVec S16 32) a x).toNat < S16x256.size a := fun v40 v62 k0_hw16 => k0_hw16

def k0_chk17 (v27 : IVec S16 32) (v64 : IVec S16 32) : Prop :=
  (∀ a x, ((![v27, v64] : Fin 2 → IVec S16 32) a x).toNat < S256x257.size a)
theorem k0_idx17_inb : ∀ (v27 : IVec S16 32) (v64 : IVec S16 32) (k0_hw17 : k0_chk17 v27 v64), ∀ a x, ((![v27, v64] : Fin 2 → IVec S16 32) a x).toNat < S256x257.size a := fun v27 v64 k0_hw17 => k0_hw17

def k0_chk18 (v40 : IVec S16 32) (v65 : IVec S16 32) : Prop :=
  (∀ a x, ((![v65, v40] : Fin 2 → IVec S16 32) a x).toNat < S16x256.size a)
theorem k0_idx18_inb : ∀ (v40 : IVec S16 32) (v65 : IVec S16 32) (k0_hw18 : k0_chk18 v40 v65), ∀ a x, ((![v65, v40] : Fin 2 → IVec S16 32) a x).toNat < S16x256.size a := fun v40 v65 k0_hw18 => k0_hw18

def k0_chk19 (v27 : IVec S16 32) (v67 : IVec S16 32) : Prop :=
  (∀ a x, ((![v27, v67] : Fin 2 → IVec S16 32) a x).toNat < S256x257.size a)
theorem k0_idx19_inb : ∀ (v27 : IVec S16 32) (v67 : IVec S16 32) (k0_hw19 : k0_chk19 v27 v67), ∀ a x, ((![v27, v67] : Fin 2 → IVec S16 32) a x).toNat < S256x257.size a := fun v27 v67 k0_hw19 => k0_hw19

def k0_chk20 (v40 : IVec S16 32) (v68 : IVec S16 32) : Prop :=
  (∀ a x, ((![v68, v40] : Fin 2 → IVec S16 32) a x).toNat < S16x256.size a)
theorem k0_idx20_inb : ∀ (v40 : IVec S16 32) (v68 : IVec S16 32) (k0_hw20 : k0_chk20 v40 v68), ∀ a x, ((![v68, v40] : Fin 2 → IVec S16 32) a x).toNat < S16x256.size a := fun v40 v68 k0_hw20 => k0_hw20

def k0_chk21 (v27 : IVec S16 32) (v70 : IVec S16 32) : Prop :=
  (∀ a x, ((![v27, v70] : Fin 2 → IVec S16 32) a x).toNat < S256x257.size a)
theorem k0_idx21_inb : ∀ (v27 : IVec S16 32) (v70 : IVec S16 32) (k0_hw21 : k0_chk21 v27 v70), ∀ a x, ((![v27, v70] : Fin 2 → IVec S16 32) a x).toNat < S256x257.size a := fun v27 v70 k0_hw21 => k0_hw21

def k0_chk22 (v40 : IVec S16 32) (v71 : IVec S16 32) : Prop :=
  (∀ a x, ((![v71, v40] : Fin 2 → IVec S16 32) a x).toNat < S16x256.size a)
theorem k0_idx22_inb : ∀ (v40 : IVec S16 32) (v71 : IVec S16 32) (k0_hw22 : k0_chk22 v40 v71), ∀ a x, ((![v71, v40] : Fin 2 → IVec S16 32) a x).toNat < S16x256.size a := fun v40 v71 k0_hw22 => k0_hw22

def k0_chk23 (v27 : IVec S16 32) (v73 : IVec S16 32) : Prop :=
  (∀ a x, ((![v27, v73] : Fin 2 → IVec S16 32) a x).toNat < S256x257.size a)
theorem k0_idx23_inb : ∀ (v27 : IVec S16 32) (v73 : IVec S16 32) (k0_hw23 : k0_chk23 v27 v73), ∀ a x, ((![v27, v73] : Fin 2 → IVec S16 32) a x).toNat < S256x257.size a := fun v27 v73 k0_hw23 => k0_hw23

def k0_chk24 (v40 : IVec S16 32) (v74 : IVec S16 32) : Prop :=
  (∀ a x, ((![v74, v40] : Fin 2 → IVec S16 32) a x).toNat < S16x256.size a)
theorem k0_idx24_inb : ∀ (v40 : IVec S16 32) (v74 : IVec S16 32) (k0_hw24 : k0_chk24 v40 v74), ∀ a x, ((![v74, v40] : Fin 2 → IVec S16 32) a x).toNat < S16x256.size a := fun v40 v74 k0_hw24 => k0_hw24

def k0_chk25 (v27 : IVec S16 32) (v76 : IVec S16 32) : Prop :=
  (∀ a x, ((![v27, v76] : Fin 2 → IVec S16 32) a x).toNat < S256x257.size a)
theorem k0_idx25_inb : ∀ (v27 : IVec S16 32) (v76 : IVec S16 32) (k0_hw25 : k0_chk25 v27 v76), ∀ a x, ((![v27, v76] : Fin 2 → IVec S16 32) a x).toNat < S256x257.size a := fun v27 v76 k0_hw25 => k0_hw25

def k0_chk26 (v40 : IVec S16 32) (v77 : IVec S16 32) : Prop :=
  (∀ a x, ((![v77, v40] : Fin 2 → IVec S16 32) a x).toNat < S16x256.size a)
theorem k0_idx26_inb : ∀ (v40 : IVec S16 32) (v77 : IVec S16 32) (k0_hw26 : k0_chk26 v40 v77), ∀ a x, ((![v77, v40] : Fin 2 → IVec S16 32) a x).toNat < S16x256.size a := fun v40 v77 k0_hw26 => k0_hw26

def k0_chk27 (v27 : IVec S16 32) (v79 : IVec S16 32) : Prop :=
  (∀ a x, ((![v27, v79] : Fin 2 → IVec S16 32) a x).toNat < S256x257.size a)
theorem k0_idx27_inb : ∀ (v27 : IVec S16 32) (v79 : IVec S16 32) (k0_hw27 : k0_chk27 v27 v79), ∀ a x, ((![v27, v79] : Fin 2 → IVec S16 32) a x).toNat < S256x257.size a := fun v27 v79 k0_hw27 => k0_hw27

def k0_chk28 (v40 : IVec S16 32) (v80 : IVec S16 32) : Prop :=
  (∀ a x, ((![v80, v40] : Fin 2 → IVec S16 32) a x).toNat < S16x256.size a)
theorem k0_idx28_inb : ∀ (v40 : IVec S16 32) (v80 : IVec S16 32) (k0_hw28 : k0_chk28 v40 v80), ∀ a x, ((![v80, v40] : Fin 2 → IVec S16 32) a x).toNat < S16x256.size a := fun v40 v80 k0_hw28 => k0_hw28

def k0_chk29 (v27 : IVec S16 32) (v82 : IVec S16 32) : Prop :=
  (∀ a x, ((![v27, v82] : Fin 2 → IVec S16 32) a x).toNat < S256x257.size a)
theorem k0_idx29_inb : ∀ (v27 : IVec S16 32) (v82 : IVec S16 32) (k0_hw29 : k0_chk29 v27 v82), ∀ a x, ((![v27, v82] : Fin 2 → IVec S16 32) a x).toNat < S256x257.size a := fun v27 v82 k0_hw29 => k0_hw29

def k0_chk30 (v40 : IVec S16 32) (v83 : IVec S16 32) : Prop :=
  (∀ a x, ((![v83, v40] : Fin 2 → IVec S16 32) a x).toNat < S16x256.size a)
theorem k0_idx30_inb : ∀ (v40 : IVec S16 32) (v83 : IVec S16 32) (k0_hw30 : k0_chk30 v40 v83), ∀ a x, ((![v83, v40] : Fin 2 → IVec S16 32) a x).toNat < S16x256.size a := fun v40 v83 k0_hw30 => k0_hw30

def k0_chk31 (v27 : IVec S16 32) (v85 : IVec S16 32) : Prop :=
  (∀ a x, ((![v27, v85] : Fin 2 → IVec S16 32) a x).toNat < S256x257.size a)
theorem k0_idx31_inb : ∀ (v27 : IVec S16 32) (v85 : IVec S16 32) (k0_hw31 : k0_chk31 v27 v85), ∀ a x, ((![v27, v85] : Fin 2 → IVec S16 32) a x).toNat < S256x257.size a := fun v27 v85 k0_hw31 => k0_hw31

def k0_chk32 (v40 : IVec S16 32) (v86 : IVec S16 32) : Prop :=
  (∀ a x, ((![v86, v40] : Fin 2 → IVec S16 32) a x).toNat < S16x256.size a)
theorem k0_idx32_inb : ∀ (v40 : IVec S16 32) (v86 : IVec S16 32) (k0_hw32 : k0_chk32 v40 v86), ∀ a x, ((![v86, v40] : Fin 2 → IVec S16 32) a x).toNat < S16x256.size a := fun v40 v86 k0_hw32 => k0_hw32

def k0_chk33 (v27 : IVec S16 32) (v88 : IVec S16 32) : Prop :=
  (∀ a x, ((![v27, v88] : Fin 2 → IVec S16 32) a x).toNat < S256x257.size a)
theorem k0_idx33_inb : ∀ (v27 : IVec S16 32) (v88 : IVec S16 32) (k0_hw33 : k0_chk33 v27 v88), ∀ a x, ((![v27, v88] : Fin 2 → IVec S16 32) a x).toNat < S256x257.size a := fun v27 v88 k0_hw33 => k0_hw33

def k0_chk34 (v92 : IVec S16 32) (v94 : IVec S16 32) : Prop :=
  (∀ a x, ((![v92, v94] : Fin 2 → IVec S16 32) a x).toNat < S44x128.size a)
theorem k0_idx34_inb : ∀ (v92 : IVec S16 32) (v94 : IVec S16 32) (k0_hw34 : k0_chk34 v92 v94), ∀ a x, ((![v92, v94] : Fin 2 → IVec S16 32) a x).toNat < S44x128.size a := fun v92 v94 k0_hw34 => k0_hw34

def k0_chk35 (v95 : IVec S16 32) (v96 : IVec S16 32) : Prop :=
  (∀ a x, ((![v96, v95] : Fin 2 → IVec S16 32) a x).toNat < S16x256.size a)
theorem k0_idx35_inb : ∀ (v95 : IVec S16 32) (v96 : IVec S16 32) (k0_hw35 : k0_chk35 v95 v96), ∀ a x, ((![v96, v95] : Fin 2 → IVec S16 32) a x).toNat < S16x256.size a := fun v95 v96 k0_hw35 => k0_hw35

def k0_chk36 (v27 : IVec S16 32) (v98 : IVec S16 32) : Prop :=
  (∀ a x, ((![v27, v98] : Fin 2 → IVec S16 32) a x).toNat < S256x257.size a)
theorem k0_idx36_inb : ∀ (v27 : IVec S16 32) (v98 : IVec S16 32) (k0_hw36 : k0_chk36 v27 v98), ∀ a x, ((![v27, v98] : Fin 2 → IVec S16 32) a x).toNat < S256x257.size a := fun v27 v98 k0_hw36 => k0_hw36

def k0_chk37 (v95 : IVec S16 32) (v99 : IVec S16 32) : Prop :=
  (∀ a x, ((![v99, v95] : Fin 2 → IVec S16 32) a x).toNat < S16x256.size a)
theorem k0_idx37_inb : ∀ (v95 : IVec S16 32) (v99 : IVec S16 32) (k0_hw37 : k0_chk37 v95 v99), ∀ a x, ((![v99, v95] : Fin 2 → IVec S16 32) a x).toNat < S16x256.size a := fun v95 v99 k0_hw37 => k0_hw37

def k0_chk38 (v27 : IVec S16 32) (v101 : IVec S16 32) : Prop :=
  (∀ a x, ((![v27, v101] : Fin 2 → IVec S16 32) a x).toNat < S256x257.size a)
theorem k0_idx38_inb : ∀ (v27 : IVec S16 32) (v101 : IVec S16 32) (k0_hw38 : k0_chk38 v27 v101), ∀ a x, ((![v27, v101] : Fin 2 → IVec S16 32) a x).toNat < S256x257.size a := fun v27 v101 k0_hw38 => k0_hw38

def k0_chk39 (v95 : IVec S16 32) (v102 : IVec S16 32) : Prop :=
  (∀ a x, ((![v102, v95] : Fin 2 → IVec S16 32) a x).toNat < S16x256.size a)
theorem k0_idx39_inb : ∀ (v95 : IVec S16 32) (v102 : IVec S16 32) (k0_hw39 : k0_chk39 v95 v102), ∀ a x, ((![v102, v95] : Fin 2 → IVec S16 32) a x).toNat < S16x256.size a := fun v95 v102 k0_hw39 => k0_hw39

def k0_chk40 (v27 : IVec S16 32) (v104 : IVec S16 32) : Prop :=
  (∀ a x, ((![v27, v104] : Fin 2 → IVec S16 32) a x).toNat < S256x257.size a)
theorem k0_idx40_inb : ∀ (v27 : IVec S16 32) (v104 : IVec S16 32) (k0_hw40 : k0_chk40 v27 v104), ∀ a x, ((![v27, v104] : Fin 2 → IVec S16 32) a x).toNat < S256x257.size a := fun v27 v104 k0_hw40 => k0_hw40

def k0_chk41 (v95 : IVec S16 32) (v105 : IVec S16 32) : Prop :=
  (∀ a x, ((![v105, v95] : Fin 2 → IVec S16 32) a x).toNat < S16x256.size a)
theorem k0_idx41_inb : ∀ (v95 : IVec S16 32) (v105 : IVec S16 32) (k0_hw41 : k0_chk41 v95 v105), ∀ a x, ((![v105, v95] : Fin 2 → IVec S16 32) a x).toNat < S16x256.size a := fun v95 v105 k0_hw41 => k0_hw41

def k0_chk42 (v27 : IVec S16 32) (v107 : IVec S16 32) : Prop :=
  (∀ a x, ((![v27, v107] : Fin 2 → IVec S16 32) a x).toNat < S256x257.size a)
theorem k0_idx42_inb : ∀ (v27 : IVec S16 32) (v107 : IVec S16 32) (k0_hw42 : k0_chk42 v27 v107), ∀ a x, ((![v27, v107] : Fin 2 → IVec S16 32) a x).toNat < S256x257.size a := fun v27 v107 k0_hw42 => k0_hw42

def k0_chk43 (v95 : IVec S16 32) (v108 : IVec S16 32) : Prop :=
  (∀ a x, ((![v108, v95] : Fin 2 → IVec S16 32) a x).toNat < S16x256.size a)
theorem k0_idx43_inb : ∀ (v95 : IVec S16 32) (v108 : IVec S16 32) (k0_hw43 : k0_chk43 v95 v108), ∀ a x, ((![v108, v95] : Fin 2 → IVec S16 32) a x).toNat < S16x256.size a := fun v95 v108 k0_hw43 => k0_hw43

def k0_chk44 (v27 : IVec S16 32) (v110 : IVec S16 32) : Prop :=
  (∀ a x, ((![v27, v110] : Fin 2 → IVec S16 32) a x).toNat < S256x257.size a)
theorem k0_idx44_inb : ∀ (v27 : IVec S16 32) (v110 : IVec S16 32) (k0_hw44 : k0_chk44 v27 v110), ∀ a x, ((![v27, v110] : Fin 2 → IVec S16 32) a x).toNat < S256x257.size a := fun v27 v110 k0_hw44 => k0_hw44

def k0_chk45 (v95 : IVec S16 32) (v111 : IVec S16 32) : Prop :=
  (∀ a x, ((![v111, v95] : Fin 2 → IVec S16 32) a x).toNat < S16x256.size a)
theorem k0_idx45_inb : ∀ (v95 : IVec S16 32) (v111 : IVec S16 32) (k0_hw45 : k0_chk45 v95 v111), ∀ a x, ((![v111, v95] : Fin 2 → IVec S16 32) a x).toNat < S16x256.size a := fun v95 v111 k0_hw45 => k0_hw45

def k0_chk46 (v27 : IVec S16 32) (v113 : IVec S16 32) : Prop :=
  (∀ a x, ((![v27, v113] : Fin 2 → IVec S16 32) a x).toNat < S256x257.size a)
theorem k0_idx46_inb : ∀ (v27 : IVec S16 32) (v113 : IVec S16 32) (k0_hw46 : k0_chk46 v27 v113), ∀ a x, ((![v27, v113] : Fin 2 → IVec S16 32) a x).toNat < S256x257.size a := fun v27 v113 k0_hw46 => k0_hw46

def k0_chk47 (v95 : IVec S16 32) (v114 : IVec S16 32) : Prop :=
  (∀ a x, ((![v114, v95] : Fin 2 → IVec S16 32) a x).toNat < S16x256.size a)
theorem k0_idx47_inb : ∀ (v95 : IVec S16 32) (v114 : IVec S16 32) (k0_hw47 : k0_chk47 v95 v114), ∀ a x, ((![v114, v95] : Fin 2 → IVec S16 32) a x).toNat < S16x256.size a := fun v95 v114 k0_hw47 => k0_hw47

def k0_chk48 (v27 : IVec S16 32) (v116 : IVec S16 32) : Prop :=
  (∀ a x, ((![v27, v116] : Fin 2 → IVec S16 32) a x).toNat < S256x257.size a)
theorem k0_idx48_inb : ∀ (v27 : IVec S16 32) (v116 : IVec S16 32) (k0_hw48 : k0_chk48 v27 v116), ∀ a x, ((![v27, v116] : Fin 2 → IVec S16 32) a x).toNat < S256x257.size a := fun v27 v116 k0_hw48 => k0_hw48

def k0_chk49 (v95 : IVec S16 32) (v117 : IVec S16 32) : Prop :=
  (∀ a x, ((![v117, v95] : Fin 2 → IVec S16 32) a x).toNat < S16x256.size a)
theorem k0_idx49_inb : ∀ (v95 : IVec S16 32) (v117 : IVec S16 32) (k0_hw49 : k0_chk49 v95 v117), ∀ a x, ((![v117, v95] : Fin 2 → IVec S16 32) a x).toNat < S16x256.size a := fun v95 v117 k0_hw49 => k0_hw49

def k0_chk50 (v27 : IVec S16 32) (v119 : IVec S16 32) : Prop :=
  (∀ a x, ((![v27, v119] : Fin 2 → IVec S16 32) a x).toNat < S256x257.size a)
theorem k0_idx50_inb : ∀ (v27 : IVec S16 32) (v119 : IVec S16 32) (k0_hw50 : k0_chk50 v27 v119), ∀ a x, ((![v27, v119] : Fin 2 → IVec S16 32) a x).toNat < S256x257.size a := fun v27 v119 k0_hw50 => k0_hw50

def k0_chk51 (v95 : IVec S16 32) (v120 : IVec S16 32) : Prop :=
  (∀ a x, ((![v120, v95] : Fin 2 → IVec S16 32) a x).toNat < S16x256.size a)
theorem k0_idx51_inb : ∀ (v95 : IVec S16 32) (v120 : IVec S16 32) (k0_hw51 : k0_chk51 v95 v120), ∀ a x, ((![v120, v95] : Fin 2 → IVec S16 32) a x).toNat < S16x256.size a := fun v95 v120 k0_hw51 => k0_hw51

def k0_chk52 (v27 : IVec S16 32) (v122 : IVec S16 32) : Prop :=
  (∀ a x, ((![v27, v122] : Fin 2 → IVec S16 32) a x).toNat < S256x257.size a)
theorem k0_idx52_inb : ∀ (v27 : IVec S16 32) (v122 : IVec S16 32) (k0_hw52 : k0_chk52 v27 v122), ∀ a x, ((![v27, v122] : Fin 2 → IVec S16 32) a x).toNat < S256x257.size a := fun v27 v122 k0_hw52 => k0_hw52

def k0_chk53 (v95 : IVec S16 32) (v123 : IVec S16 32) : Prop :=
  (∀ a x, ((![v123, v95] : Fin 2 → IVec S16 32) a x).toNat < S16x256.size a)
theorem k0_idx53_inb : ∀ (v95 : IVec S16 32) (v123 : IVec S16 32) (k0_hw53 : k0_chk53 v95 v123), ∀ a x, ((![v123, v95] : Fin 2 → IVec S16 32) a x).toNat < S16x256.size a := fun v95 v123 k0_hw53 => k0_hw53

def k0_chk54 (v27 : IVec S16 32) (v125 : IVec S16 32) : Prop :=
  (∀ a x, ((![v27, v125] : Fin 2 → IVec S16 32) a x).toNat < S256x257.size a)
theorem k0_idx54_inb : ∀ (v27 : IVec S16 32) (v125 : IVec S16 32) (k0_hw54 : k0_chk54 v27 v125), ∀ a x, ((![v27, v125] : Fin 2 → IVec S16 32) a x).toNat < S256x257.size a := fun v27 v125 k0_hw54 => k0_hw54

def k0_chk55 (v95 : IVec S16 32) (v126 : IVec S16 32) : Prop :=
  (∀ a x, ((![v126, v95] : Fin 2 → IVec S16 32) a x).toNat < S16x256.size a)
theorem k0_idx55_inb : ∀ (v95 : IVec S16 32) (v126 : IVec S16 32) (k0_hw55 : k0_chk55 v95 v126), ∀ a x, ((![v126, v95] : Fin 2 → IVec S16 32) a x).toNat < S16x256.size a := fun v95 v126 k0_hw55 => k0_hw55

def k0_chk56 (v27 : IVec S16 32) (v128 : IVec S16 32) : Prop :=
  (∀ a x, ((![v27, v128] : Fin 2 → IVec S16 32) a x).toNat < S256x257.size a)
theorem k0_idx56_inb : ∀ (v27 : IVec S16 32) (v128 : IVec S16 32) (k0_hw56 : k0_chk56 v27 v128), ∀ a x, ((![v27, v128] : Fin 2 → IVec S16 32) a x).toNat < S256x257.size a := fun v27 v128 k0_hw56 => k0_hw56

def k0_chk57 (v95 : IVec S16 32) (v129 : IVec S16 32) : Prop :=
  (∀ a x, ((![v129, v95] : Fin 2 → IVec S16 32) a x).toNat < S16x256.size a)
theorem k0_idx57_inb : ∀ (v95 : IVec S16 32) (v129 : IVec S16 32) (k0_hw57 : k0_chk57 v95 v129), ∀ a x, ((![v129, v95] : Fin 2 → IVec S16 32) a x).toNat < S16x256.size a := fun v95 v129 k0_hw57 => k0_hw57

def k0_chk58 (v27 : IVec S16 32) (v131 : IVec S16 32) : Prop :=
  (∀ a x, ((![v27, v131] : Fin 2 → IVec S16 32) a x).toNat < S256x257.size a)
theorem k0_idx58_inb : ∀ (v27 : IVec S16 32) (v131 : IVec S16 32) (k0_hw58 : k0_chk58 v27 v131), ∀ a x, ((![v27, v131] : Fin 2 → IVec S16 32) a x).toNat < S256x257.size a := fun v27 v131 k0_hw58 => k0_hw58

def k0_chk59 (v95 : IVec S16 32) (v132 : IVec S16 32) : Prop :=
  (∀ a x, ((![v132, v95] : Fin 2 → IVec S16 32) a x).toNat < S16x256.size a)
theorem k0_idx59_inb : ∀ (v95 : IVec S16 32) (v132 : IVec S16 32) (k0_hw59 : k0_chk59 v95 v132), ∀ a x, ((![v132, v95] : Fin 2 → IVec S16 32) a x).toNat < S16x256.size a := fun v95 v132 k0_hw59 => k0_hw59

def k0_chk60 (v27 : IVec S16 32) (v134 : IVec S16 32) : Prop :=
  (∀ a x, ((![v27, v134] : Fin 2 → IVec S16 32) a x).toNat < S256x257.size a)
theorem k0_idx60_inb : ∀ (v27 : IVec S16 32) (v134 : IVec S16 32) (k0_hw60 : k0_chk60 v27 v134), ∀ a x, ((![v27, v134] : Fin 2 → IVec S16 32) a x).toNat < S256x257.size a := fun v27 v134 k0_hw60 => k0_hw60

def k0_chk61 (v95 : IVec S16 32) (v135 : IVec S16 32) : Prop :=
  (∀ a x, ((![v135, v95] : Fin 2 → IVec S16 32) a x).toNat < S16x256.size a)
theorem k0_idx61_inb : ∀ (v95 : IVec S16 32) (v135 : IVec S16 32) (k0_hw61 : k0_chk61 v95 v135), ∀ a x, ((![v135, v95] : Fin 2 → IVec S16 32) a x).toNat < S16x256.size a := fun v95 v135 k0_hw61 => k0_hw61

def k0_chk62 (v27 : IVec S16 32) (v137 : IVec S16 32) : Prop :=
  (∀ a x, ((![v27, v137] : Fin 2 → IVec S16 32) a x).toNat < S256x257.size a)
theorem k0_idx62_inb : ∀ (v27 : IVec S16 32) (v137 : IVec S16 32) (k0_hw62 : k0_chk62 v27 v137), ∀ a x, ((![v27, v137] : Fin 2 → IVec S16 32) a x).toNat < S256x257.size a := fun v27 v137 k0_hw62 => k0_hw62

def k0_chk63 (v95 : IVec S16 32) (v138 : IVec S16 32) : Prop :=
  (∀ a x, ((![v138, v95] : Fin 2 → IVec S16 32) a x).toNat < S16x256.size a)
theorem k0_idx63_inb : ∀ (v95 : IVec S16 32) (v138 : IVec S16 32) (k0_hw63 : k0_chk63 v95 v138), ∀ a x, ((![v138, v95] : Fin 2 → IVec S16 32) a x).toNat < S16x256.size a := fun v95 v138 k0_hw63 => k0_hw63

def k0_chk64 (v27 : IVec S16 32) (v140 : IVec S16 32) : Prop :=
  (∀ a x, ((![v27, v140] : Fin 2 → IVec S16 32) a x).toNat < S256x257.size a)
theorem k0_idx64_inb : ∀ (v27 : IVec S16 32) (v140 : IVec S16 32) (k0_hw64 : k0_chk64 v27 v140), ∀ a x, ((![v27, v140] : Fin 2 → IVec S16 32) a x).toNat < S256x257.size a := fun v27 v140 k0_hw64 => k0_hw64

def k0_chk65 (v95 : IVec S16 32) (v141 : IVec S16 32) : Prop :=
  (∀ a x, ((![v141, v95] : Fin 2 → IVec S16 32) a x).toNat < S16x256.size a)
theorem k0_idx65_inb : ∀ (v95 : IVec S16 32) (v141 : IVec S16 32) (k0_hw65 : k0_chk65 v95 v141), ∀ a x, ((![v141, v95] : Fin 2 → IVec S16 32) a x).toNat < S16x256.size a := fun v95 v141 k0_hw65 => k0_hw65

def k0_chk66 (v27 : IVec S16 32) (v143 : IVec S16 32) : Prop :=
  (∀ a x, ((![v27, v143] : Fin 2 → IVec S16 32) a x).toNat < S256x257.size a)
theorem k0_idx66_inb : ∀ (v27 : IVec S16 32) (v143 : IVec S16 32) (k0_hw66 : k0_chk66 v27 v143), ∀ a x, ((![v27, v143] : Fin 2 → IVec S16 32) a x).toNat < S256x257.size a := fun v27 v143 k0_hw66 => k0_hw66

def k0_chk67 (v147 : IVec S16 32) (v149 : IVec S16 32) : Prop :=
  (∀ a x, ((![v147, v149] : Fin 2 → IVec S16 32) a x).toNat < S44x128.size a)
theorem k0_idx67_inb : ∀ (v147 : IVec S16 32) (v149 : IVec S16 32) (k0_hw67 : k0_chk67 v147 v149), ∀ a x, ((![v147, v149] : Fin 2 → IVec S16 32) a x).toNat < S44x128.size a := fun v147 v149 k0_hw67 => k0_hw67

def k0_chk68 (v150 : IVec S16 32) (v151 : IVec S16 32) : Prop :=
  (∀ a x, ((![v151, v150] : Fin 2 → IVec S16 32) a x).toNat < S16x256.size a)
theorem k0_idx68_inb : ∀ (v150 : IVec S16 32) (v151 : IVec S16 32) (k0_hw68 : k0_chk68 v150 v151), ∀ a x, ((![v151, v150] : Fin 2 → IVec S16 32) a x).toNat < S16x256.size a := fun v150 v151 k0_hw68 => k0_hw68

def k0_chk69 (v27 : IVec S16 32) (v153 : IVec S16 32) : Prop :=
  (∀ a x, ((![v27, v153] : Fin 2 → IVec S16 32) a x).toNat < S256x257.size a)
theorem k0_idx69_inb : ∀ (v27 : IVec S16 32) (v153 : IVec S16 32) (k0_hw69 : k0_chk69 v27 v153), ∀ a x, ((![v27, v153] : Fin 2 → IVec S16 32) a x).toNat < S256x257.size a := fun v27 v153 k0_hw69 => k0_hw69

def k0_chk70 (v150 : IVec S16 32) (v154 : IVec S16 32) : Prop :=
  (∀ a x, ((![v154, v150] : Fin 2 → IVec S16 32) a x).toNat < S16x256.size a)
theorem k0_idx70_inb : ∀ (v150 : IVec S16 32) (v154 : IVec S16 32) (k0_hw70 : k0_chk70 v150 v154), ∀ a x, ((![v154, v150] : Fin 2 → IVec S16 32) a x).toNat < S16x256.size a := fun v150 v154 k0_hw70 => k0_hw70

def k0_chk71 (v27 : IVec S16 32) (v156 : IVec S16 32) : Prop :=
  (∀ a x, ((![v27, v156] : Fin 2 → IVec S16 32) a x).toNat < S256x257.size a)
theorem k0_idx71_inb : ∀ (v27 : IVec S16 32) (v156 : IVec S16 32) (k0_hw71 : k0_chk71 v27 v156), ∀ a x, ((![v27, v156] : Fin 2 → IVec S16 32) a x).toNat < S256x257.size a := fun v27 v156 k0_hw71 => k0_hw71

def k0_chk72 (v150 : IVec S16 32) (v157 : IVec S16 32) : Prop :=
  (∀ a x, ((![v157, v150] : Fin 2 → IVec S16 32) a x).toNat < S16x256.size a)
theorem k0_idx72_inb : ∀ (v150 : IVec S16 32) (v157 : IVec S16 32) (k0_hw72 : k0_chk72 v150 v157), ∀ a x, ((![v157, v150] : Fin 2 → IVec S16 32) a x).toNat < S16x256.size a := fun v150 v157 k0_hw72 => k0_hw72

def k0_chk73 (v27 : IVec S16 32) (v159 : IVec S16 32) : Prop :=
  (∀ a x, ((![v27, v159] : Fin 2 → IVec S16 32) a x).toNat < S256x257.size a)
theorem k0_idx73_inb : ∀ (v27 : IVec S16 32) (v159 : IVec S16 32) (k0_hw73 : k0_chk73 v27 v159), ∀ a x, ((![v27, v159] : Fin 2 → IVec S16 32) a x).toNat < S256x257.size a := fun v27 v159 k0_hw73 => k0_hw73

def k0_chk74 (v150 : IVec S16 32) (v160 : IVec S16 32) : Prop :=
  (∀ a x, ((![v160, v150] : Fin 2 → IVec S16 32) a x).toNat < S16x256.size a)
theorem k0_idx74_inb : ∀ (v150 : IVec S16 32) (v160 : IVec S16 32) (k0_hw74 : k0_chk74 v150 v160), ∀ a x, ((![v160, v150] : Fin 2 → IVec S16 32) a x).toNat < S16x256.size a := fun v150 v160 k0_hw74 => k0_hw74

def k0_chk75 (v27 : IVec S16 32) (v162 : IVec S16 32) : Prop :=
  (∀ a x, ((![v27, v162] : Fin 2 → IVec S16 32) a x).toNat < S256x257.size a)
theorem k0_idx75_inb : ∀ (v27 : IVec S16 32) (v162 : IVec S16 32) (k0_hw75 : k0_chk75 v27 v162), ∀ a x, ((![v27, v162] : Fin 2 → IVec S16 32) a x).toNat < S256x257.size a := fun v27 v162 k0_hw75 => k0_hw75

def k0_chk76 (v150 : IVec S16 32) (v163 : IVec S16 32) : Prop :=
  (∀ a x, ((![v163, v150] : Fin 2 → IVec S16 32) a x).toNat < S16x256.size a)
theorem k0_idx76_inb : ∀ (v150 : IVec S16 32) (v163 : IVec S16 32) (k0_hw76 : k0_chk76 v150 v163), ∀ a x, ((![v163, v150] : Fin 2 → IVec S16 32) a x).toNat < S16x256.size a := fun v150 v163 k0_hw76 => k0_hw76

def k0_chk77 (v27 : IVec S16 32) (v165 : IVec S16 32) : Prop :=
  (∀ a x, ((![v27, v165] : Fin 2 → IVec S16 32) a x).toNat < S256x257.size a)
theorem k0_idx77_inb : ∀ (v27 : IVec S16 32) (v165 : IVec S16 32) (k0_hw77 : k0_chk77 v27 v165), ∀ a x, ((![v27, v165] : Fin 2 → IVec S16 32) a x).toNat < S256x257.size a := fun v27 v165 k0_hw77 => k0_hw77

def k0_chk78 (v150 : IVec S16 32) (v166 : IVec S16 32) : Prop :=
  (∀ a x, ((![v166, v150] : Fin 2 → IVec S16 32) a x).toNat < S16x256.size a)
theorem k0_idx78_inb : ∀ (v150 : IVec S16 32) (v166 : IVec S16 32) (k0_hw78 : k0_chk78 v150 v166), ∀ a x, ((![v166, v150] : Fin 2 → IVec S16 32) a x).toNat < S16x256.size a := fun v150 v166 k0_hw78 => k0_hw78

def k0_chk79 (v27 : IVec S16 32) (v168 : IVec S16 32) : Prop :=
  (∀ a x, ((![v27, v168] : Fin 2 → IVec S16 32) a x).toNat < S256x257.size a)
theorem k0_idx79_inb : ∀ (v27 : IVec S16 32) (v168 : IVec S16 32) (k0_hw79 : k0_chk79 v27 v168), ∀ a x, ((![v27, v168] : Fin 2 → IVec S16 32) a x).toNat < S256x257.size a := fun v27 v168 k0_hw79 => k0_hw79

def k0_chk80 (v150 : IVec S16 32) (v169 : IVec S16 32) : Prop :=
  (∀ a x, ((![v169, v150] : Fin 2 → IVec S16 32) a x).toNat < S16x256.size a)
theorem k0_idx80_inb : ∀ (v150 : IVec S16 32) (v169 : IVec S16 32) (k0_hw80 : k0_chk80 v150 v169), ∀ a x, ((![v169, v150] : Fin 2 → IVec S16 32) a x).toNat < S16x256.size a := fun v150 v169 k0_hw80 => k0_hw80

def k0_chk81 (v27 : IVec S16 32) (v171 : IVec S16 32) : Prop :=
  (∀ a x, ((![v27, v171] : Fin 2 → IVec S16 32) a x).toNat < S256x257.size a)
theorem k0_idx81_inb : ∀ (v27 : IVec S16 32) (v171 : IVec S16 32) (k0_hw81 : k0_chk81 v27 v171), ∀ a x, ((![v27, v171] : Fin 2 → IVec S16 32) a x).toNat < S256x257.size a := fun v27 v171 k0_hw81 => k0_hw81

def k0_chk82 (v150 : IVec S16 32) (v172 : IVec S16 32) : Prop :=
  (∀ a x, ((![v172, v150] : Fin 2 → IVec S16 32) a x).toNat < S16x256.size a)
theorem k0_idx82_inb : ∀ (v150 : IVec S16 32) (v172 : IVec S16 32) (k0_hw82 : k0_chk82 v150 v172), ∀ a x, ((![v172, v150] : Fin 2 → IVec S16 32) a x).toNat < S16x256.size a := fun v150 v172 k0_hw82 => k0_hw82

def k0_chk83 (v27 : IVec S16 32) (v174 : IVec S16 32) : Prop :=
  (∀ a x, ((![v27, v174] : Fin 2 → IVec S16 32) a x).toNat < S256x257.size a)
theorem k0_idx83_inb : ∀ (v27 : IVec S16 32) (v174 : IVec S16 32) (k0_hw83 : k0_chk83 v27 v174), ∀ a x, ((![v27, v174] : Fin 2 → IVec S16 32) a x).toNat < S256x257.size a := fun v27 v174 k0_hw83 => k0_hw83

def k0_chk84 (v150 : IVec S16 32) (v175 : IVec S16 32) : Prop :=
  (∀ a x, ((![v175, v150] : Fin 2 → IVec S16 32) a x).toNat < S16x256.size a)
theorem k0_idx84_inb : ∀ (v150 : IVec S16 32) (v175 : IVec S16 32) (k0_hw84 : k0_chk84 v150 v175), ∀ a x, ((![v175, v150] : Fin 2 → IVec S16 32) a x).toNat < S16x256.size a := fun v150 v175 k0_hw84 => k0_hw84

def k0_chk85 (v27 : IVec S16 32) (v177 : IVec S16 32) : Prop :=
  (∀ a x, ((![v27, v177] : Fin 2 → IVec S16 32) a x).toNat < S256x257.size a)
theorem k0_idx85_inb : ∀ (v27 : IVec S16 32) (v177 : IVec S16 32) (k0_hw85 : k0_chk85 v27 v177), ∀ a x, ((![v27, v177] : Fin 2 → IVec S16 32) a x).toNat < S256x257.size a := fun v27 v177 k0_hw85 => k0_hw85

def k0_chk86 (v150 : IVec S16 32) (v178 : IVec S16 32) : Prop :=
  (∀ a x, ((![v178, v150] : Fin 2 → IVec S16 32) a x).toNat < S16x256.size a)
theorem k0_idx86_inb : ∀ (v150 : IVec S16 32) (v178 : IVec S16 32) (k0_hw86 : k0_chk86 v150 v178), ∀ a x, ((![v178, v150] : Fin 2 → IVec S16 32) a x).toNat < S16x256.size a := fun v150 v178 k0_hw86 => k0_hw86

def k0_chk87 (v27 : IVec S16 32) (v180 : IVec S16 32) : Prop :=
  (∀ a x, ((![v27, v180] : Fin 2 → IVec S16 32) a x).toNat < S256x257.size a)
theorem k0_idx87_inb : ∀ (v27 : IVec S16 32) (v180 : IVec S16 32) (k0_hw87 : k0_chk87 v27 v180), ∀ a x, ((![v27, v180] : Fin 2 → IVec S16 32) a x).toNat < S256x257.size a := fun v27 v180 k0_hw87 => k0_hw87

def k0_chk88 (v150 : IVec S16 32) (v181 : IVec S16 32) : Prop :=
  (∀ a x, ((![v181, v150] : Fin 2 → IVec S16 32) a x).toNat < S16x256.size a)
theorem k0_idx88_inb : ∀ (v150 : IVec S16 32) (v181 : IVec S16 32) (k0_hw88 : k0_chk88 v150 v181), ∀ a x, ((![v181, v150] : Fin 2 → IVec S16 32) a x).toNat < S16x256.size a := fun v150 v181 k0_hw88 => k0_hw88

def k0_chk89 (v27 : IVec S16 32) (v183 : IVec S16 32) : Prop :=
  (∀ a x, ((![v27, v183] : Fin 2 → IVec S16 32) a x).toNat < S256x257.size a)
theorem k0_idx89_inb : ∀ (v27 : IVec S16 32) (v183 : IVec S16 32) (k0_hw89 : k0_chk89 v27 v183), ∀ a x, ((![v27, v183] : Fin 2 → IVec S16 32) a x).toNat < S256x257.size a := fun v27 v183 k0_hw89 => k0_hw89

def k0_chk90 (v150 : IVec S16 32) (v184 : IVec S16 32) : Prop :=
  (∀ a x, ((![v184, v150] : Fin 2 → IVec S16 32) a x).toNat < S16x256.size a)
theorem k0_idx90_inb : ∀ (v150 : IVec S16 32) (v184 : IVec S16 32) (k0_hw90 : k0_chk90 v150 v184), ∀ a x, ((![v184, v150] : Fin 2 → IVec S16 32) a x).toNat < S16x256.size a := fun v150 v184 k0_hw90 => k0_hw90

def k0_chk91 (v27 : IVec S16 32) (v186 : IVec S16 32) : Prop :=
  (∀ a x, ((![v27, v186] : Fin 2 → IVec S16 32) a x).toNat < S256x257.size a)
theorem k0_idx91_inb : ∀ (v27 : IVec S16 32) (v186 : IVec S16 32) (k0_hw91 : k0_chk91 v27 v186), ∀ a x, ((![v27, v186] : Fin 2 → IVec S16 32) a x).toNat < S256x257.size a := fun v27 v186 k0_hw91 => k0_hw91

def k0_chk92 (v150 : IVec S16 32) (v187 : IVec S16 32) : Prop :=
  (∀ a x, ((![v187, v150] : Fin 2 → IVec S16 32) a x).toNat < S16x256.size a)
theorem k0_idx92_inb : ∀ (v150 : IVec S16 32) (v187 : IVec S16 32) (k0_hw92 : k0_chk92 v150 v187), ∀ a x, ((![v187, v150] : Fin 2 → IVec S16 32) a x).toNat < S16x256.size a := fun v150 v187 k0_hw92 => k0_hw92

def k0_chk93 (v27 : IVec S16 32) (v189 : IVec S16 32) : Prop :=
  (∀ a x, ((![v27, v189] : Fin 2 → IVec S16 32) a x).toNat < S256x257.size a)
theorem k0_idx93_inb : ∀ (v27 : IVec S16 32) (v189 : IVec S16 32) (k0_hw93 : k0_chk93 v27 v189), ∀ a x, ((![v27, v189] : Fin 2 → IVec S16 32) a x).toNat < S256x257.size a := fun v27 v189 k0_hw93 => k0_hw93

def k0_chk94 (v150 : IVec S16 32) (v190 : IVec S16 32) : Prop :=
  (∀ a x, ((![v190, v150] : Fin 2 → IVec S16 32) a x).toNat < S16x256.size a)
theorem k0_idx94_inb : ∀ (v150 : IVec S16 32) (v190 : IVec S16 32) (k0_hw94 : k0_chk94 v150 v190), ∀ a x, ((![v190, v150] : Fin 2 → IVec S16 32) a x).toNat < S16x256.size a := fun v150 v190 k0_hw94 => k0_hw94

def k0_chk95 (v27 : IVec S16 32) (v192 : IVec S16 32) : Prop :=
  (∀ a x, ((![v27, v192] : Fin 2 → IVec S16 32) a x).toNat < S256x257.size a)
theorem k0_idx95_inb : ∀ (v27 : IVec S16 32) (v192 : IVec S16 32) (k0_hw95 : k0_chk95 v27 v192), ∀ a x, ((![v27, v192] : Fin 2 → IVec S16 32) a x).toNat < S256x257.size a := fun v27 v192 k0_hw95 => k0_hw95

def k0_chk96 (v150 : IVec S16 32) (v193 : IVec S16 32) : Prop :=
  (∀ a x, ((![v193, v150] : Fin 2 → IVec S16 32) a x).toNat < S16x256.size a)
theorem k0_idx96_inb : ∀ (v150 : IVec S16 32) (v193 : IVec S16 32) (k0_hw96 : k0_chk96 v150 v193), ∀ a x, ((![v193, v150] : Fin 2 → IVec S16 32) a x).toNat < S16x256.size a := fun v150 v193 k0_hw96 => k0_hw96

def k0_chk97 (v27 : IVec S16 32) (v195 : IVec S16 32) : Prop :=
  (∀ a x, ((![v27, v195] : Fin 2 → IVec S16 32) a x).toNat < S256x257.size a)
theorem k0_idx97_inb : ∀ (v27 : IVec S16 32) (v195 : IVec S16 32) (k0_hw97 : k0_chk97 v27 v195), ∀ a x, ((![v27, v195] : Fin 2 → IVec S16 32) a x).toNat < S256x257.size a := fun v27 v195 k0_hw97 => k0_hw97

def k0_chk98 (v150 : IVec S16 32) (v196 : IVec S16 32) : Prop :=
  (∀ a x, ((![v196, v150] : Fin 2 → IVec S16 32) a x).toNat < S16x256.size a)
theorem k0_idx98_inb : ∀ (v150 : IVec S16 32) (v196 : IVec S16 32) (k0_hw98 : k0_chk98 v150 v196), ∀ a x, ((![v196, v150] : Fin 2 → IVec S16 32) a x).toNat < S16x256.size a := fun v150 v196 k0_hw98 => k0_hw98

def k0_chk99 (v27 : IVec S16 32) (v198 : IVec S16 32) : Prop :=
  (∀ a x, ((![v27, v198] : Fin 2 → IVec S16 32) a x).toNat < S256x257.size a)
theorem k0_idx99_inb : ∀ (v27 : IVec S16 32) (v198 : IVec S16 32) (k0_hw99 : k0_chk99 v27 v198), ∀ a x, ((![v27, v198] : Fin 2 → IVec S16 32) a x).toNat < S256x257.size a := fun v27 v198 k0_hw99 => k0_hw99

def k0_chk100 (v202 : IVec S16 32) (v204 : IVec S16 32) : Prop :=
  (∀ a x, ((![v202, v204] : Fin 2 → IVec S16 32) a x).toNat < S44x128.size a)
theorem k0_idx100_inb : ∀ (v202 : IVec S16 32) (v204 : IVec S16 32) (k0_hw100 : k0_chk100 v202 v204), ∀ a x, ((![v202, v204] : Fin 2 → IVec S16 32) a x).toNat < S44x128.size a := fun v202 v204 k0_hw100 => k0_hw100

def k0_chk101 (v205 : IVec S16 32) (v206 : IVec S16 32) : Prop :=
  (∀ a x, ((![v206, v205] : Fin 2 → IVec S16 32) a x).toNat < S16x256.size a)
theorem k0_idx101_inb : ∀ (v205 : IVec S16 32) (v206 : IVec S16 32) (k0_hw101 : k0_chk101 v205 v206), ∀ a x, ((![v206, v205] : Fin 2 → IVec S16 32) a x).toNat < S16x256.size a := fun v205 v206 k0_hw101 => k0_hw101

def k0_chk102 (v27 : IVec S16 32) (v208 : IVec S16 32) : Prop :=
  (∀ a x, ((![v27, v208] : Fin 2 → IVec S16 32) a x).toNat < S256x257.size a)
theorem k0_idx102_inb : ∀ (v27 : IVec S16 32) (v208 : IVec S16 32) (k0_hw102 : k0_chk102 v27 v208), ∀ a x, ((![v27, v208] : Fin 2 → IVec S16 32) a x).toNat < S256x257.size a := fun v27 v208 k0_hw102 => k0_hw102

def k0_chk103 (v205 : IVec S16 32) (v209 : IVec S16 32) : Prop :=
  (∀ a x, ((![v209, v205] : Fin 2 → IVec S16 32) a x).toNat < S16x256.size a)
theorem k0_idx103_inb : ∀ (v205 : IVec S16 32) (v209 : IVec S16 32) (k0_hw103 : k0_chk103 v205 v209), ∀ a x, ((![v209, v205] : Fin 2 → IVec S16 32) a x).toNat < S16x256.size a := fun v205 v209 k0_hw103 => k0_hw103

def k0_chk104 (v27 : IVec S16 32) (v211 : IVec S16 32) : Prop :=
  (∀ a x, ((![v27, v211] : Fin 2 → IVec S16 32) a x).toNat < S256x257.size a)
theorem k0_idx104_inb : ∀ (v27 : IVec S16 32) (v211 : IVec S16 32) (k0_hw104 : k0_chk104 v27 v211), ∀ a x, ((![v27, v211] : Fin 2 → IVec S16 32) a x).toNat < S256x257.size a := fun v27 v211 k0_hw104 => k0_hw104

def k0_chk105 (v205 : IVec S16 32) (v212 : IVec S16 32) : Prop :=
  (∀ a x, ((![v212, v205] : Fin 2 → IVec S16 32) a x).toNat < S16x256.size a)
theorem k0_idx105_inb : ∀ (v205 : IVec S16 32) (v212 : IVec S16 32) (k0_hw105 : k0_chk105 v205 v212), ∀ a x, ((![v212, v205] : Fin 2 → IVec S16 32) a x).toNat < S16x256.size a := fun v205 v212 k0_hw105 => k0_hw105

def k0_chk106 (v27 : IVec S16 32) (v214 : IVec S16 32) : Prop :=
  (∀ a x, ((![v27, v214] : Fin 2 → IVec S16 32) a x).toNat < S256x257.size a)
theorem k0_idx106_inb : ∀ (v27 : IVec S16 32) (v214 : IVec S16 32) (k0_hw106 : k0_chk106 v27 v214), ∀ a x, ((![v27, v214] : Fin 2 → IVec S16 32) a x).toNat < S256x257.size a := fun v27 v214 k0_hw106 => k0_hw106

def k0_chk107 (v205 : IVec S16 32) (v215 : IVec S16 32) : Prop :=
  (∀ a x, ((![v215, v205] : Fin 2 → IVec S16 32) a x).toNat < S16x256.size a)
theorem k0_idx107_inb : ∀ (v205 : IVec S16 32) (v215 : IVec S16 32) (k0_hw107 : k0_chk107 v205 v215), ∀ a x, ((![v215, v205] : Fin 2 → IVec S16 32) a x).toNat < S16x256.size a := fun v205 v215 k0_hw107 => k0_hw107

def k0_chk108 (v27 : IVec S16 32) (v217 : IVec S16 32) : Prop :=
  (∀ a x, ((![v27, v217] : Fin 2 → IVec S16 32) a x).toNat < S256x257.size a)
theorem k0_idx108_inb : ∀ (v27 : IVec S16 32) (v217 : IVec S16 32) (k0_hw108 : k0_chk108 v27 v217), ∀ a x, ((![v27, v217] : Fin 2 → IVec S16 32) a x).toNat < S256x257.size a := fun v27 v217 k0_hw108 => k0_hw108

def k0_chk109 (v205 : IVec S16 32) (v218 : IVec S16 32) : Prop :=
  (∀ a x, ((![v218, v205] : Fin 2 → IVec S16 32) a x).toNat < S16x256.size a)
theorem k0_idx109_inb : ∀ (v205 : IVec S16 32) (v218 : IVec S16 32) (k0_hw109 : k0_chk109 v205 v218), ∀ a x, ((![v218, v205] : Fin 2 → IVec S16 32) a x).toNat < S16x256.size a := fun v205 v218 k0_hw109 => k0_hw109

def k0_chk110 (v27 : IVec S16 32) (v220 : IVec S16 32) : Prop :=
  (∀ a x, ((![v27, v220] : Fin 2 → IVec S16 32) a x).toNat < S256x257.size a)
theorem k0_idx110_inb : ∀ (v27 : IVec S16 32) (v220 : IVec S16 32) (k0_hw110 : k0_chk110 v27 v220), ∀ a x, ((![v27, v220] : Fin 2 → IVec S16 32) a x).toNat < S256x257.size a := fun v27 v220 k0_hw110 => k0_hw110

def k0_chk111 (v205 : IVec S16 32) (v221 : IVec S16 32) : Prop :=
  (∀ a x, ((![v221, v205] : Fin 2 → IVec S16 32) a x).toNat < S16x256.size a)
theorem k0_idx111_inb : ∀ (v205 : IVec S16 32) (v221 : IVec S16 32) (k0_hw111 : k0_chk111 v205 v221), ∀ a x, ((![v221, v205] : Fin 2 → IVec S16 32) a x).toNat < S16x256.size a := fun v205 v221 k0_hw111 => k0_hw111

def k0_chk112 (v27 : IVec S16 32) (v223 : IVec S16 32) : Prop :=
  (∀ a x, ((![v27, v223] : Fin 2 → IVec S16 32) a x).toNat < S256x257.size a)
theorem k0_idx112_inb : ∀ (v27 : IVec S16 32) (v223 : IVec S16 32) (k0_hw112 : k0_chk112 v27 v223), ∀ a x, ((![v27, v223] : Fin 2 → IVec S16 32) a x).toNat < S256x257.size a := fun v27 v223 k0_hw112 => k0_hw112

def k0_chk113 (v205 : IVec S16 32) (v224 : IVec S16 32) : Prop :=
  (∀ a x, ((![v224, v205] : Fin 2 → IVec S16 32) a x).toNat < S16x256.size a)
theorem k0_idx113_inb : ∀ (v205 : IVec S16 32) (v224 : IVec S16 32) (k0_hw113 : k0_chk113 v205 v224), ∀ a x, ((![v224, v205] : Fin 2 → IVec S16 32) a x).toNat < S16x256.size a := fun v205 v224 k0_hw113 => k0_hw113

def k0_chk114 (v27 : IVec S16 32) (v226 : IVec S16 32) : Prop :=
  (∀ a x, ((![v27, v226] : Fin 2 → IVec S16 32) a x).toNat < S256x257.size a)
theorem k0_idx114_inb : ∀ (v27 : IVec S16 32) (v226 : IVec S16 32) (k0_hw114 : k0_chk114 v27 v226), ∀ a x, ((![v27, v226] : Fin 2 → IVec S16 32) a x).toNat < S256x257.size a := fun v27 v226 k0_hw114 => k0_hw114

def k0_chk115 (v205 : IVec S16 32) (v227 : IVec S16 32) : Prop :=
  (∀ a x, ((![v227, v205] : Fin 2 → IVec S16 32) a x).toNat < S16x256.size a)
theorem k0_idx115_inb : ∀ (v205 : IVec S16 32) (v227 : IVec S16 32) (k0_hw115 : k0_chk115 v205 v227), ∀ a x, ((![v227, v205] : Fin 2 → IVec S16 32) a x).toNat < S16x256.size a := fun v205 v227 k0_hw115 => k0_hw115

def k0_chk116 (v27 : IVec S16 32) (v229 : IVec S16 32) : Prop :=
  (∀ a x, ((![v27, v229] : Fin 2 → IVec S16 32) a x).toNat < S256x257.size a)
theorem k0_idx116_inb : ∀ (v27 : IVec S16 32) (v229 : IVec S16 32) (k0_hw116 : k0_chk116 v27 v229), ∀ a x, ((![v27, v229] : Fin 2 → IVec S16 32) a x).toNat < S256x257.size a := fun v27 v229 k0_hw116 => k0_hw116

def k0_chk117 (v205 : IVec S16 32) (v230 : IVec S16 32) : Prop :=
  (∀ a x, ((![v230, v205] : Fin 2 → IVec S16 32) a x).toNat < S16x256.size a)
theorem k0_idx117_inb : ∀ (v205 : IVec S16 32) (v230 : IVec S16 32) (k0_hw117 : k0_chk117 v205 v230), ∀ a x, ((![v230, v205] : Fin 2 → IVec S16 32) a x).toNat < S16x256.size a := fun v205 v230 k0_hw117 => k0_hw117

def k0_chk118 (v27 : IVec S16 32) (v232 : IVec S16 32) : Prop :=
  (∀ a x, ((![v27, v232] : Fin 2 → IVec S16 32) a x).toNat < S256x257.size a)
theorem k0_idx118_inb : ∀ (v27 : IVec S16 32) (v232 : IVec S16 32) (k0_hw118 : k0_chk118 v27 v232), ∀ a x, ((![v27, v232] : Fin 2 → IVec S16 32) a x).toNat < S256x257.size a := fun v27 v232 k0_hw118 => k0_hw118

def k0_chk119 (v205 : IVec S16 32) (v233 : IVec S16 32) : Prop :=
  (∀ a x, ((![v233, v205] : Fin 2 → IVec S16 32) a x).toNat < S16x256.size a)
theorem k0_idx119_inb : ∀ (v205 : IVec S16 32) (v233 : IVec S16 32) (k0_hw119 : k0_chk119 v205 v233), ∀ a x, ((![v233, v205] : Fin 2 → IVec S16 32) a x).toNat < S16x256.size a := fun v205 v233 k0_hw119 => k0_hw119

def k0_chk120 (v27 : IVec S16 32) (v235 : IVec S16 32) : Prop :=
  (∀ a x, ((![v27, v235] : Fin 2 → IVec S16 32) a x).toNat < S256x257.size a)
theorem k0_idx120_inb : ∀ (v27 : IVec S16 32) (v235 : IVec S16 32) (k0_hw120 : k0_chk120 v27 v235), ∀ a x, ((![v27, v235] : Fin 2 → IVec S16 32) a x).toNat < S256x257.size a := fun v27 v235 k0_hw120 => k0_hw120

def k0_chk121 (v205 : IVec S16 32) (v236 : IVec S16 32) : Prop :=
  (∀ a x, ((![v236, v205] : Fin 2 → IVec S16 32) a x).toNat < S16x256.size a)
theorem k0_idx121_inb : ∀ (v205 : IVec S16 32) (v236 : IVec S16 32) (k0_hw121 : k0_chk121 v205 v236), ∀ a x, ((![v236, v205] : Fin 2 → IVec S16 32) a x).toNat < S16x256.size a := fun v205 v236 k0_hw121 => k0_hw121

def k0_chk122 (v27 : IVec S16 32) (v238 : IVec S16 32) : Prop :=
  (∀ a x, ((![v27, v238] : Fin 2 → IVec S16 32) a x).toNat < S256x257.size a)
theorem k0_idx122_inb : ∀ (v27 : IVec S16 32) (v238 : IVec S16 32) (k0_hw122 : k0_chk122 v27 v238), ∀ a x, ((![v27, v238] : Fin 2 → IVec S16 32) a x).toNat < S256x257.size a := fun v27 v238 k0_hw122 => k0_hw122

def k0_chk123 (v205 : IVec S16 32) (v239 : IVec S16 32) : Prop :=
  (∀ a x, ((![v239, v205] : Fin 2 → IVec S16 32) a x).toNat < S16x256.size a)
theorem k0_idx123_inb : ∀ (v205 : IVec S16 32) (v239 : IVec S16 32) (k0_hw123 : k0_chk123 v205 v239), ∀ a x, ((![v239, v205] : Fin 2 → IVec S16 32) a x).toNat < S16x256.size a := fun v205 v239 k0_hw123 => k0_hw123

def k0_chk124 (v27 : IVec S16 32) (v241 : IVec S16 32) : Prop :=
  (∀ a x, ((![v27, v241] : Fin 2 → IVec S16 32) a x).toNat < S256x257.size a)
theorem k0_idx124_inb : ∀ (v27 : IVec S16 32) (v241 : IVec S16 32) (k0_hw124 : k0_chk124 v27 v241), ∀ a x, ((![v27, v241] : Fin 2 → IVec S16 32) a x).toNat < S256x257.size a := fun v27 v241 k0_hw124 => k0_hw124

def k0_chk125 (v205 : IVec S16 32) (v242 : IVec S16 32) : Prop :=
  (∀ a x, ((![v242, v205] : Fin 2 → IVec S16 32) a x).toNat < S16x256.size a)
theorem k0_idx125_inb : ∀ (v205 : IVec S16 32) (v242 : IVec S16 32) (k0_hw125 : k0_chk125 v205 v242), ∀ a x, ((![v242, v205] : Fin 2 → IVec S16 32) a x).toNat < S16x256.size a := fun v205 v242 k0_hw125 => k0_hw125

def k0_chk126 (v27 : IVec S16 32) (v244 : IVec S16 32) : Prop :=
  (∀ a x, ((![v27, v244] : Fin 2 → IVec S16 32) a x).toNat < S256x257.size a)
theorem k0_idx126_inb : ∀ (v27 : IVec S16 32) (v244 : IVec S16 32) (k0_hw126 : k0_chk126 v27 v244), ∀ a x, ((![v27, v244] : Fin 2 → IVec S16 32) a x).toNat < S256x257.size a := fun v27 v244 k0_hw126 => k0_hw126

def k0_chk127 (v205 : IVec S16 32) (v245 : IVec S16 32) : Prop :=
  (∀ a x, ((![v245, v205] : Fin 2 → IVec S16 32) a x).toNat < S16x256.size a)
theorem k0_idx127_inb : ∀ (v205 : IVec S16 32) (v245 : IVec S16 32) (k0_hw127 : k0_chk127 v205 v245), ∀ a x, ((![v245, v205] : Fin 2 → IVec S16 32) a x).toNat < S16x256.size a := fun v205 v245 k0_hw127 => k0_hw127

def k0_chk128 (v27 : IVec S16 32) (v247 : IVec S16 32) : Prop :=
  (∀ a x, ((![v27, v247] : Fin 2 → IVec S16 32) a x).toNat < S256x257.size a)
theorem k0_idx128_inb : ∀ (v27 : IVec S16 32) (v247 : IVec S16 32) (k0_hw128 : k0_chk128 v27 v247), ∀ a x, ((![v27, v247] : Fin 2 → IVec S16 32) a x).toNat < S256x257.size a := fun v27 v247 k0_hw128 => k0_hw128

def k0_chk129 (v205 : IVec S16 32) (v248 : IVec S16 32) : Prop :=
  (∀ a x, ((![v248, v205] : Fin 2 → IVec S16 32) a x).toNat < S16x256.size a)
theorem k0_idx129_inb : ∀ (v205 : IVec S16 32) (v248 : IVec S16 32) (k0_hw129 : k0_chk129 v205 v248), ∀ a x, ((![v248, v205] : Fin 2 → IVec S16 32) a x).toNat < S16x256.size a := fun v205 v248 k0_hw129 => k0_hw129

def k0_chk130 (v27 : IVec S16 32) (v250 : IVec S16 32) : Prop :=
  (∀ a x, ((![v27, v250] : Fin 2 → IVec S16 32) a x).toNat < S256x257.size a)
theorem k0_idx130_inb : ∀ (v27 : IVec S16 32) (v250 : IVec S16 32) (k0_hw130 : k0_chk130 v27 v250), ∀ a x, ((![v27, v250] : Fin 2 → IVec S16 32) a x).toNat < S256x257.size a := fun v27 v250 k0_hw130 => k0_hw130

def k0_chk131 (v205 : IVec S16 32) (v251 : IVec S16 32) : Prop :=
  (∀ a x, ((![v251, v205] : Fin 2 → IVec S16 32) a x).toNat < S16x256.size a)
theorem k0_idx131_inb : ∀ (v205 : IVec S16 32) (v251 : IVec S16 32) (k0_hw131 : k0_chk131 v205 v251), ∀ a x, ((![v251, v205] : Fin 2 → IVec S16 32) a x).toNat < S16x256.size a := fun v205 v251 k0_hw131 => k0_hw131

def k0_chk132 (v27 : IVec S16 32) (v253 : IVec S16 32) : Prop :=
  (∀ a x, ((![v27, v253] : Fin 2 → IVec S16 32) a x).toNat < S256x257.size a)
theorem k0_idx132_inb : ∀ (v27 : IVec S16 32) (v253 : IVec S16 32) (k0_hw132 : k0_chk132 v27 v253), ∀ a x, ((![v27, v253] : Fin 2 → IVec S16 32) a x).toNat < S256x257.size a := fun v27 v253 k0_hw132 => k0_hw132

def k0_chk133 (v257 : IVec S16 32) (v259 : IVec S16 32) : Prop :=
  (∀ a x, ((![v257, v259] : Fin 2 → IVec S16 32) a x).toNat < S44x128.size a)
theorem k0_idx133_inb : ∀ (v257 : IVec S16 32) (v259 : IVec S16 32) (k0_hw133 : k0_chk133 v257 v259), ∀ a x, ((![v257, v259] : Fin 2 → IVec S16 32) a x).toNat < S44x128.size a := fun v257 v259 k0_hw133 => k0_hw133

def k0_chk134 (v260 : IVec S16 32) (v261 : IVec S16 32) : Prop :=
  (∀ a x, ((![v261, v260] : Fin 2 → IVec S16 32) a x).toNat < S16x256.size a)
theorem k0_idx134_inb : ∀ (v260 : IVec S16 32) (v261 : IVec S16 32) (k0_hw134 : k0_chk134 v260 v261), ∀ a x, ((![v261, v260] : Fin 2 → IVec S16 32) a x).toNat < S16x256.size a := fun v260 v261 k0_hw134 => k0_hw134

def k0_chk135 (v27 : IVec S16 32) (v263 : IVec S16 32) : Prop :=
  (∀ a x, ((![v27, v263] : Fin 2 → IVec S16 32) a x).toNat < S256x257.size a)
theorem k0_idx135_inb : ∀ (v27 : IVec S16 32) (v263 : IVec S16 32) (k0_hw135 : k0_chk135 v27 v263), ∀ a x, ((![v27, v263] : Fin 2 → IVec S16 32) a x).toNat < S256x257.size a := fun v27 v263 k0_hw135 => k0_hw135

def k0_chk136 (v260 : IVec S16 32) (v264 : IVec S16 32) : Prop :=
  (∀ a x, ((![v264, v260] : Fin 2 → IVec S16 32) a x).toNat < S16x256.size a)
theorem k0_idx136_inb : ∀ (v260 : IVec S16 32) (v264 : IVec S16 32) (k0_hw136 : k0_chk136 v260 v264), ∀ a x, ((![v264, v260] : Fin 2 → IVec S16 32) a x).toNat < S16x256.size a := fun v260 v264 k0_hw136 => k0_hw136

def k0_chk137 (v27 : IVec S16 32) (v266 : IVec S16 32) : Prop :=
  (∀ a x, ((![v27, v266] : Fin 2 → IVec S16 32) a x).toNat < S256x257.size a)
theorem k0_idx137_inb : ∀ (v27 : IVec S16 32) (v266 : IVec S16 32) (k0_hw137 : k0_chk137 v27 v266), ∀ a x, ((![v27, v266] : Fin 2 → IVec S16 32) a x).toNat < S256x257.size a := fun v27 v266 k0_hw137 => k0_hw137

def k0_chk138 (v260 : IVec S16 32) (v267 : IVec S16 32) : Prop :=
  (∀ a x, ((![v267, v260] : Fin 2 → IVec S16 32) a x).toNat < S16x256.size a)
theorem k0_idx138_inb : ∀ (v260 : IVec S16 32) (v267 : IVec S16 32) (k0_hw138 : k0_chk138 v260 v267), ∀ a x, ((![v267, v260] : Fin 2 → IVec S16 32) a x).toNat < S16x256.size a := fun v260 v267 k0_hw138 => k0_hw138

def k0_chk139 (v27 : IVec S16 32) (v269 : IVec S16 32) : Prop :=
  (∀ a x, ((![v27, v269] : Fin 2 → IVec S16 32) a x).toNat < S256x257.size a)
theorem k0_idx139_inb : ∀ (v27 : IVec S16 32) (v269 : IVec S16 32) (k0_hw139 : k0_chk139 v27 v269), ∀ a x, ((![v27, v269] : Fin 2 → IVec S16 32) a x).toNat < S256x257.size a := fun v27 v269 k0_hw139 => k0_hw139

def k0_chk140 (v260 : IVec S16 32) (v270 : IVec S16 32) : Prop :=
  (∀ a x, ((![v270, v260] : Fin 2 → IVec S16 32) a x).toNat < S16x256.size a)
theorem k0_idx140_inb : ∀ (v260 : IVec S16 32) (v270 : IVec S16 32) (k0_hw140 : k0_chk140 v260 v270), ∀ a x, ((![v270, v260] : Fin 2 → IVec S16 32) a x).toNat < S16x256.size a := fun v260 v270 k0_hw140 => k0_hw140

def k0_chk141 (v27 : IVec S16 32) (v272 : IVec S16 32) : Prop :=
  (∀ a x, ((![v27, v272] : Fin 2 → IVec S16 32) a x).toNat < S256x257.size a)
theorem k0_idx141_inb : ∀ (v27 : IVec S16 32) (v272 : IVec S16 32) (k0_hw141 : k0_chk141 v27 v272), ∀ a x, ((![v27, v272] : Fin 2 → IVec S16 32) a x).toNat < S256x257.size a := fun v27 v272 k0_hw141 => k0_hw141

def k0_chk142 (v260 : IVec S16 32) (v273 : IVec S16 32) : Prop :=
  (∀ a x, ((![v273, v260] : Fin 2 → IVec S16 32) a x).toNat < S16x256.size a)
theorem k0_idx142_inb : ∀ (v260 : IVec S16 32) (v273 : IVec S16 32) (k0_hw142 : k0_chk142 v260 v273), ∀ a x, ((![v273, v260] : Fin 2 → IVec S16 32) a x).toNat < S16x256.size a := fun v260 v273 k0_hw142 => k0_hw142

def k0_chk143 (v27 : IVec S16 32) (v275 : IVec S16 32) : Prop :=
  (∀ a x, ((![v27, v275] : Fin 2 → IVec S16 32) a x).toNat < S256x257.size a)
theorem k0_idx143_inb : ∀ (v27 : IVec S16 32) (v275 : IVec S16 32) (k0_hw143 : k0_chk143 v27 v275), ∀ a x, ((![v27, v275] : Fin 2 → IVec S16 32) a x).toNat < S256x257.size a := fun v27 v275 k0_hw143 => k0_hw143

def k0_chk144 (v260 : IVec S16 32) (v276 : IVec S16 32) : Prop :=
  (∀ a x, ((![v276, v260] : Fin 2 → IVec S16 32) a x).toNat < S16x256.size a)
theorem k0_idx144_inb : ∀ (v260 : IVec S16 32) (v276 : IVec S16 32) (k0_hw144 : k0_chk144 v260 v276), ∀ a x, ((![v276, v260] : Fin 2 → IVec S16 32) a x).toNat < S16x256.size a := fun v260 v276 k0_hw144 => k0_hw144

def k0_chk145 (v27 : IVec S16 32) (v278 : IVec S16 32) : Prop :=
  (∀ a x, ((![v27, v278] : Fin 2 → IVec S16 32) a x).toNat < S256x257.size a)
theorem k0_idx145_inb : ∀ (v27 : IVec S16 32) (v278 : IVec S16 32) (k0_hw145 : k0_chk145 v27 v278), ∀ a x, ((![v27, v278] : Fin 2 → IVec S16 32) a x).toNat < S256x257.size a := fun v27 v278 k0_hw145 => k0_hw145

def k0_chk146 (v260 : IVec S16 32) (v279 : IVec S16 32) : Prop :=
  (∀ a x, ((![v279, v260] : Fin 2 → IVec S16 32) a x).toNat < S16x256.size a)
theorem k0_idx146_inb : ∀ (v260 : IVec S16 32) (v279 : IVec S16 32) (k0_hw146 : k0_chk146 v260 v279), ∀ a x, ((![v279, v260] : Fin 2 → IVec S16 32) a x).toNat < S16x256.size a := fun v260 v279 k0_hw146 => k0_hw146

def k0_chk147 (v27 : IVec S16 32) (v281 : IVec S16 32) : Prop :=
  (∀ a x, ((![v27, v281] : Fin 2 → IVec S16 32) a x).toNat < S256x257.size a)
theorem k0_idx147_inb : ∀ (v27 : IVec S16 32) (v281 : IVec S16 32) (k0_hw147 : k0_chk147 v27 v281), ∀ a x, ((![v27, v281] : Fin 2 → IVec S16 32) a x).toNat < S256x257.size a := fun v27 v281 k0_hw147 => k0_hw147

def k0_chk148 (v260 : IVec S16 32) (v282 : IVec S16 32) : Prop :=
  (∀ a x, ((![v282, v260] : Fin 2 → IVec S16 32) a x).toNat < S16x256.size a)
theorem k0_idx148_inb : ∀ (v260 : IVec S16 32) (v282 : IVec S16 32) (k0_hw148 : k0_chk148 v260 v282), ∀ a x, ((![v282, v260] : Fin 2 → IVec S16 32) a x).toNat < S16x256.size a := fun v260 v282 k0_hw148 => k0_hw148

def k0_chk149 (v27 : IVec S16 32) (v284 : IVec S16 32) : Prop :=
  (∀ a x, ((![v27, v284] : Fin 2 → IVec S16 32) a x).toNat < S256x257.size a)
theorem k0_idx149_inb : ∀ (v27 : IVec S16 32) (v284 : IVec S16 32) (k0_hw149 : k0_chk149 v27 v284), ∀ a x, ((![v27, v284] : Fin 2 → IVec S16 32) a x).toNat < S256x257.size a := fun v27 v284 k0_hw149 => k0_hw149

def k0_chk150 (v260 : IVec S16 32) (v285 : IVec S16 32) : Prop :=
  (∀ a x, ((![v285, v260] : Fin 2 → IVec S16 32) a x).toNat < S16x256.size a)
theorem k0_idx150_inb : ∀ (v260 : IVec S16 32) (v285 : IVec S16 32) (k0_hw150 : k0_chk150 v260 v285), ∀ a x, ((![v285, v260] : Fin 2 → IVec S16 32) a x).toNat < S16x256.size a := fun v260 v285 k0_hw150 => k0_hw150

def k0_chk151 (v27 : IVec S16 32) (v287 : IVec S16 32) : Prop :=
  (∀ a x, ((![v27, v287] : Fin 2 → IVec S16 32) a x).toNat < S256x257.size a)
theorem k0_idx151_inb : ∀ (v27 : IVec S16 32) (v287 : IVec S16 32) (k0_hw151 : k0_chk151 v27 v287), ∀ a x, ((![v27, v287] : Fin 2 → IVec S16 32) a x).toNat < S256x257.size a := fun v27 v287 k0_hw151 => k0_hw151

def k0_chk152 (v260 : IVec S16 32) (v288 : IVec S16 32) : Prop :=
  (∀ a x, ((![v288, v260] : Fin 2 → IVec S16 32) a x).toNat < S16x256.size a)
theorem k0_idx152_inb : ∀ (v260 : IVec S16 32) (v288 : IVec S16 32) (k0_hw152 : k0_chk152 v260 v288), ∀ a x, ((![v288, v260] : Fin 2 → IVec S16 32) a x).toNat < S16x256.size a := fun v260 v288 k0_hw152 => k0_hw152

def k0_chk153 (v27 : IVec S16 32) (v290 : IVec S16 32) : Prop :=
  (∀ a x, ((![v27, v290] : Fin 2 → IVec S16 32) a x).toNat < S256x257.size a)
theorem k0_idx153_inb : ∀ (v27 : IVec S16 32) (v290 : IVec S16 32) (k0_hw153 : k0_chk153 v27 v290), ∀ a x, ((![v27, v290] : Fin 2 → IVec S16 32) a x).toNat < S256x257.size a := fun v27 v290 k0_hw153 => k0_hw153

def k0_chk154 (v260 : IVec S16 32) (v291 : IVec S16 32) : Prop :=
  (∀ a x, ((![v291, v260] : Fin 2 → IVec S16 32) a x).toNat < S16x256.size a)
theorem k0_idx154_inb : ∀ (v260 : IVec S16 32) (v291 : IVec S16 32) (k0_hw154 : k0_chk154 v260 v291), ∀ a x, ((![v291, v260] : Fin 2 → IVec S16 32) a x).toNat < S16x256.size a := fun v260 v291 k0_hw154 => k0_hw154

def k0_chk155 (v27 : IVec S16 32) (v293 : IVec S16 32) : Prop :=
  (∀ a x, ((![v27, v293] : Fin 2 → IVec S16 32) a x).toNat < S256x257.size a)
theorem k0_idx155_inb : ∀ (v27 : IVec S16 32) (v293 : IVec S16 32) (k0_hw155 : k0_chk155 v27 v293), ∀ a x, ((![v27, v293] : Fin 2 → IVec S16 32) a x).toNat < S256x257.size a := fun v27 v293 k0_hw155 => k0_hw155

def k0_chk156 (v260 : IVec S16 32) (v294 : IVec S16 32) : Prop :=
  (∀ a x, ((![v294, v260] : Fin 2 → IVec S16 32) a x).toNat < S16x256.size a)
theorem k0_idx156_inb : ∀ (v260 : IVec S16 32) (v294 : IVec S16 32) (k0_hw156 : k0_chk156 v260 v294), ∀ a x, ((![v294, v260] : Fin 2 → IVec S16 32) a x).toNat < S16x256.size a := fun v260 v294 k0_hw156 => k0_hw156

def k0_chk157 (v27 : IVec S16 32) (v296 : IVec S16 32) : Prop :=
  (∀ a x, ((![v27, v296] : Fin 2 → IVec S16 32) a x).toNat < S256x257.size a)
theorem k0_idx157_inb : ∀ (v27 : IVec S16 32) (v296 : IVec S16 32) (k0_hw157 : k0_chk157 v27 v296), ∀ a x, ((![v27, v296] : Fin 2 → IVec S16 32) a x).toNat < S256x257.size a := fun v27 v296 k0_hw157 => k0_hw157

def k0_chk158 (v260 : IVec S16 32) (v297 : IVec S16 32) : Prop :=
  (∀ a x, ((![v297, v260] : Fin 2 → IVec S16 32) a x).toNat < S16x256.size a)
theorem k0_idx158_inb : ∀ (v260 : IVec S16 32) (v297 : IVec S16 32) (k0_hw158 : k0_chk158 v260 v297), ∀ a x, ((![v297, v260] : Fin 2 → IVec S16 32) a x).toNat < S16x256.size a := fun v260 v297 k0_hw158 => k0_hw158

def k0_chk159 (v27 : IVec S16 32) (v299 : IVec S16 32) : Prop :=
  (∀ a x, ((![v27, v299] : Fin 2 → IVec S16 32) a x).toNat < S256x257.size a)
theorem k0_idx159_inb : ∀ (v27 : IVec S16 32) (v299 : IVec S16 32) (k0_hw159 : k0_chk159 v27 v299), ∀ a x, ((![v27, v299] : Fin 2 → IVec S16 32) a x).toNat < S256x257.size a := fun v27 v299 k0_hw159 => k0_hw159

def k0_chk160 (v260 : IVec S16 32) (v300 : IVec S16 32) : Prop :=
  (∀ a x, ((![v300, v260] : Fin 2 → IVec S16 32) a x).toNat < S16x256.size a)
theorem k0_idx160_inb : ∀ (v260 : IVec S16 32) (v300 : IVec S16 32) (k0_hw160 : k0_chk160 v260 v300), ∀ a x, ((![v300, v260] : Fin 2 → IVec S16 32) a x).toNat < S16x256.size a := fun v260 v300 k0_hw160 => k0_hw160

def k0_chk161 (v27 : IVec S16 32) (v302 : IVec S16 32) : Prop :=
  (∀ a x, ((![v27, v302] : Fin 2 → IVec S16 32) a x).toNat < S256x257.size a)
theorem k0_idx161_inb : ∀ (v27 : IVec S16 32) (v302 : IVec S16 32) (k0_hw161 : k0_chk161 v27 v302), ∀ a x, ((![v27, v302] : Fin 2 → IVec S16 32) a x).toNat < S256x257.size a := fun v27 v302 k0_hw161 => k0_hw161

def k0_chk162 (v260 : IVec S16 32) (v303 : IVec S16 32) : Prop :=
  (∀ a x, ((![v303, v260] : Fin 2 → IVec S16 32) a x).toNat < S16x256.size a)
theorem k0_idx162_inb : ∀ (v260 : IVec S16 32) (v303 : IVec S16 32) (k0_hw162 : k0_chk162 v260 v303), ∀ a x, ((![v303, v260] : Fin 2 → IVec S16 32) a x).toNat < S16x256.size a := fun v260 v303 k0_hw162 => k0_hw162

def k0_chk163 (v27 : IVec S16 32) (v305 : IVec S16 32) : Prop :=
  (∀ a x, ((![v27, v305] : Fin 2 → IVec S16 32) a x).toNat < S256x257.size a)
theorem k0_idx163_inb : ∀ (v27 : IVec S16 32) (v305 : IVec S16 32) (k0_hw163 : k0_chk163 v27 v305), ∀ a x, ((![v27, v305] : Fin 2 → IVec S16 32) a x).toNat < S256x257.size a := fun v27 v305 k0_hw163 => k0_hw163

def k0_chk164 (v260 : IVec S16 32) (v306 : IVec S16 32) : Prop :=
  (∀ a x, ((![v306, v260] : Fin 2 → IVec S16 32) a x).toNat < S16x256.size a)
theorem k0_idx164_inb : ∀ (v260 : IVec S16 32) (v306 : IVec S16 32) (k0_hw164 : k0_chk164 v260 v306), ∀ a x, ((![v306, v260] : Fin 2 → IVec S16 32) a x).toNat < S16x256.size a := fun v260 v306 k0_hw164 => k0_hw164

def k0_chk165 (v27 : IVec S16 32) (v308 : IVec S16 32) : Prop :=
  (∀ a x, ((![v27, v308] : Fin 2 → IVec S16 32) a x).toNat < S256x257.size a)
theorem k0_idx165_inb : ∀ (v27 : IVec S16 32) (v308 : IVec S16 32) (k0_hw165 : k0_chk165 v27 v308), ∀ a x, ((![v27, v308] : Fin 2 → IVec S16 32) a x).toNat < S256x257.size a := fun v27 v308 k0_hw165 => k0_hw165

def k0_chk166 (v312 : IVec S16 32) (v314 : IVec S16 32) : Prop :=
  (∀ a x, ((![v312, v314] : Fin 2 → IVec S16 32) a x).toNat < S44x128.size a)
theorem k0_idx166_inb : ∀ (v312 : IVec S16 32) (v314 : IVec S16 32) (k0_hw166 : k0_chk166 v312 v314), ∀ a x, ((![v312, v314] : Fin 2 → IVec S16 32) a x).toNat < S44x128.size a := fun v312 v314 k0_hw166 => k0_hw166

def k0_chk167 (v315 : IVec S16 32) (v316 : IVec S16 32) : Prop :=
  (∀ a x, ((![v316, v315] : Fin 2 → IVec S16 32) a x).toNat < S16x256.size a)
theorem k0_idx167_inb : ∀ (v315 : IVec S16 32) (v316 : IVec S16 32) (k0_hw167 : k0_chk167 v315 v316), ∀ a x, ((![v316, v315] : Fin 2 → IVec S16 32) a x).toNat < S16x256.size a := fun v315 v316 k0_hw167 => k0_hw167

def k0_chk168 (v27 : IVec S16 32) (v318 : IVec S16 32) : Prop :=
  (∀ a x, ((![v27, v318] : Fin 2 → IVec S16 32) a x).toNat < S256x257.size a)
theorem k0_idx168_inb : ∀ (v27 : IVec S16 32) (v318 : IVec S16 32) (k0_hw168 : k0_chk168 v27 v318), ∀ a x, ((![v27, v318] : Fin 2 → IVec S16 32) a x).toNat < S256x257.size a := fun v27 v318 k0_hw168 => k0_hw168

def k0_chk169 (v315 : IVec S16 32) (v319 : IVec S16 32) : Prop :=
  (∀ a x, ((![v319, v315] : Fin 2 → IVec S16 32) a x).toNat < S16x256.size a)
theorem k0_idx169_inb : ∀ (v315 : IVec S16 32) (v319 : IVec S16 32) (k0_hw169 : k0_chk169 v315 v319), ∀ a x, ((![v319, v315] : Fin 2 → IVec S16 32) a x).toNat < S16x256.size a := fun v315 v319 k0_hw169 => k0_hw169

def k0_chk170 (v27 : IVec S16 32) (v321 : IVec S16 32) : Prop :=
  (∀ a x, ((![v27, v321] : Fin 2 → IVec S16 32) a x).toNat < S256x257.size a)
theorem k0_idx170_inb : ∀ (v27 : IVec S16 32) (v321 : IVec S16 32) (k0_hw170 : k0_chk170 v27 v321), ∀ a x, ((![v27, v321] : Fin 2 → IVec S16 32) a x).toNat < S256x257.size a := fun v27 v321 k0_hw170 => k0_hw170

def k0_chk171 (v315 : IVec S16 32) (v322 : IVec S16 32) : Prop :=
  (∀ a x, ((![v322, v315] : Fin 2 → IVec S16 32) a x).toNat < S16x256.size a)
theorem k0_idx171_inb : ∀ (v315 : IVec S16 32) (v322 : IVec S16 32) (k0_hw171 : k0_chk171 v315 v322), ∀ a x, ((![v322, v315] : Fin 2 → IVec S16 32) a x).toNat < S16x256.size a := fun v315 v322 k0_hw171 => k0_hw171

def k0_chk172 (v27 : IVec S16 32) (v324 : IVec S16 32) : Prop :=
  (∀ a x, ((![v27, v324] : Fin 2 → IVec S16 32) a x).toNat < S256x257.size a)
theorem k0_idx172_inb : ∀ (v27 : IVec S16 32) (v324 : IVec S16 32) (k0_hw172 : k0_chk172 v27 v324), ∀ a x, ((![v27, v324] : Fin 2 → IVec S16 32) a x).toNat < S256x257.size a := fun v27 v324 k0_hw172 => k0_hw172

def k0_chk173 (v315 : IVec S16 32) (v325 : IVec S16 32) : Prop :=
  (∀ a x, ((![v325, v315] : Fin 2 → IVec S16 32) a x).toNat < S16x256.size a)
theorem k0_idx173_inb : ∀ (v315 : IVec S16 32) (v325 : IVec S16 32) (k0_hw173 : k0_chk173 v315 v325), ∀ a x, ((![v325, v315] : Fin 2 → IVec S16 32) a x).toNat < S16x256.size a := fun v315 v325 k0_hw173 => k0_hw173

def k0_chk174 (v27 : IVec S16 32) (v327 : IVec S16 32) : Prop :=
  (∀ a x, ((![v27, v327] : Fin 2 → IVec S16 32) a x).toNat < S256x257.size a)
theorem k0_idx174_inb : ∀ (v27 : IVec S16 32) (v327 : IVec S16 32) (k0_hw174 : k0_chk174 v27 v327), ∀ a x, ((![v27, v327] : Fin 2 → IVec S16 32) a x).toNat < S256x257.size a := fun v27 v327 k0_hw174 => k0_hw174

def k0_chk175 (v315 : IVec S16 32) (v328 : IVec S16 32) : Prop :=
  (∀ a x, ((![v328, v315] : Fin 2 → IVec S16 32) a x).toNat < S16x256.size a)
theorem k0_idx175_inb : ∀ (v315 : IVec S16 32) (v328 : IVec S16 32) (k0_hw175 : k0_chk175 v315 v328), ∀ a x, ((![v328, v315] : Fin 2 → IVec S16 32) a x).toNat < S16x256.size a := fun v315 v328 k0_hw175 => k0_hw175

def k0_chk176 (v27 : IVec S16 32) (v330 : IVec S16 32) : Prop :=
  (∀ a x, ((![v27, v330] : Fin 2 → IVec S16 32) a x).toNat < S256x257.size a)
theorem k0_idx176_inb : ∀ (v27 : IVec S16 32) (v330 : IVec S16 32) (k0_hw176 : k0_chk176 v27 v330), ∀ a x, ((![v27, v330] : Fin 2 → IVec S16 32) a x).toNat < S256x257.size a := fun v27 v330 k0_hw176 => k0_hw176

def k0_chk177 (v315 : IVec S16 32) (v331 : IVec S16 32) : Prop :=
  (∀ a x, ((![v331, v315] : Fin 2 → IVec S16 32) a x).toNat < S16x256.size a)
theorem k0_idx177_inb : ∀ (v315 : IVec S16 32) (v331 : IVec S16 32) (k0_hw177 : k0_chk177 v315 v331), ∀ a x, ((![v331, v315] : Fin 2 → IVec S16 32) a x).toNat < S16x256.size a := fun v315 v331 k0_hw177 => k0_hw177

def k0_chk178 (v27 : IVec S16 32) (v333 : IVec S16 32) : Prop :=
  (∀ a x, ((![v27, v333] : Fin 2 → IVec S16 32) a x).toNat < S256x257.size a)
theorem k0_idx178_inb : ∀ (v27 : IVec S16 32) (v333 : IVec S16 32) (k0_hw178 : k0_chk178 v27 v333), ∀ a x, ((![v27, v333] : Fin 2 → IVec S16 32) a x).toNat < S256x257.size a := fun v27 v333 k0_hw178 => k0_hw178

def k0_chk179 (v315 : IVec S16 32) (v334 : IVec S16 32) : Prop :=
  (∀ a x, ((![v334, v315] : Fin 2 → IVec S16 32) a x).toNat < S16x256.size a)
theorem k0_idx179_inb : ∀ (v315 : IVec S16 32) (v334 : IVec S16 32) (k0_hw179 : k0_chk179 v315 v334), ∀ a x, ((![v334, v315] : Fin 2 → IVec S16 32) a x).toNat < S16x256.size a := fun v315 v334 k0_hw179 => k0_hw179

def k0_chk180 (v27 : IVec S16 32) (v336 : IVec S16 32) : Prop :=
  (∀ a x, ((![v27, v336] : Fin 2 → IVec S16 32) a x).toNat < S256x257.size a)
theorem k0_idx180_inb : ∀ (v27 : IVec S16 32) (v336 : IVec S16 32) (k0_hw180 : k0_chk180 v27 v336), ∀ a x, ((![v27, v336] : Fin 2 → IVec S16 32) a x).toNat < S256x257.size a := fun v27 v336 k0_hw180 => k0_hw180

def k0_chk181 (v315 : IVec S16 32) (v337 : IVec S16 32) : Prop :=
  (∀ a x, ((![v337, v315] : Fin 2 → IVec S16 32) a x).toNat < S16x256.size a)
theorem k0_idx181_inb : ∀ (v315 : IVec S16 32) (v337 : IVec S16 32) (k0_hw181 : k0_chk181 v315 v337), ∀ a x, ((![v337, v315] : Fin 2 → IVec S16 32) a x).toNat < S16x256.size a := fun v315 v337 k0_hw181 => k0_hw181

def k0_chk182 (v27 : IVec S16 32) (v339 : IVec S16 32) : Prop :=
  (∀ a x, ((![v27, v339] : Fin 2 → IVec S16 32) a x).toNat < S256x257.size a)
theorem k0_idx182_inb : ∀ (v27 : IVec S16 32) (v339 : IVec S16 32) (k0_hw182 : k0_chk182 v27 v339), ∀ a x, ((![v27, v339] : Fin 2 → IVec S16 32) a x).toNat < S256x257.size a := fun v27 v339 k0_hw182 => k0_hw182

def k0_chk183 (v315 : IVec S16 32) (v340 : IVec S16 32) : Prop :=
  (∀ a x, ((![v340, v315] : Fin 2 → IVec S16 32) a x).toNat < S16x256.size a)
theorem k0_idx183_inb : ∀ (v315 : IVec S16 32) (v340 : IVec S16 32) (k0_hw183 : k0_chk183 v315 v340), ∀ a x, ((![v340, v315] : Fin 2 → IVec S16 32) a x).toNat < S16x256.size a := fun v315 v340 k0_hw183 => k0_hw183

def k0_chk184 (v27 : IVec S16 32) (v342 : IVec S16 32) : Prop :=
  (∀ a x, ((![v27, v342] : Fin 2 → IVec S16 32) a x).toNat < S256x257.size a)
theorem k0_idx184_inb : ∀ (v27 : IVec S16 32) (v342 : IVec S16 32) (k0_hw184 : k0_chk184 v27 v342), ∀ a x, ((![v27, v342] : Fin 2 → IVec S16 32) a x).toNat < S256x257.size a := fun v27 v342 k0_hw184 => k0_hw184

def k0_chk185 (v315 : IVec S16 32) (v343 : IVec S16 32) : Prop :=
  (∀ a x, ((![v343, v315] : Fin 2 → IVec S16 32) a x).toNat < S16x256.size a)
theorem k0_idx185_inb : ∀ (v315 : IVec S16 32) (v343 : IVec S16 32) (k0_hw185 : k0_chk185 v315 v343), ∀ a x, ((![v343, v315] : Fin 2 → IVec S16 32) a x).toNat < S16x256.size a := fun v315 v343 k0_hw185 => k0_hw185

def k0_chk186 (v27 : IVec S16 32) (v345 : IVec S16 32) : Prop :=
  (∀ a x, ((![v27, v345] : Fin 2 → IVec S16 32) a x).toNat < S256x257.size a)
theorem k0_idx186_inb : ∀ (v27 : IVec S16 32) (v345 : IVec S16 32) (k0_hw186 : k0_chk186 v27 v345), ∀ a x, ((![v27, v345] : Fin 2 → IVec S16 32) a x).toNat < S256x257.size a := fun v27 v345 k0_hw186 => k0_hw186

def k0_chk187 (v315 : IVec S16 32) (v346 : IVec S16 32) : Prop :=
  (∀ a x, ((![v346, v315] : Fin 2 → IVec S16 32) a x).toNat < S16x256.size a)
theorem k0_idx187_inb : ∀ (v315 : IVec S16 32) (v346 : IVec S16 32) (k0_hw187 : k0_chk187 v315 v346), ∀ a x, ((![v346, v315] : Fin 2 → IVec S16 32) a x).toNat < S16x256.size a := fun v315 v346 k0_hw187 => k0_hw187

def k0_chk188 (v27 : IVec S16 32) (v348 : IVec S16 32) : Prop :=
  (∀ a x, ((![v27, v348] : Fin 2 → IVec S16 32) a x).toNat < S256x257.size a)
theorem k0_idx188_inb : ∀ (v27 : IVec S16 32) (v348 : IVec S16 32) (k0_hw188 : k0_chk188 v27 v348), ∀ a x, ((![v27, v348] : Fin 2 → IVec S16 32) a x).toNat < S256x257.size a := fun v27 v348 k0_hw188 => k0_hw188

def k0_chk189 (v315 : IVec S16 32) (v349 : IVec S16 32) : Prop :=
  (∀ a x, ((![v349, v315] : Fin 2 → IVec S16 32) a x).toNat < S16x256.size a)
theorem k0_idx189_inb : ∀ (v315 : IVec S16 32) (v349 : IVec S16 32) (k0_hw189 : k0_chk189 v315 v349), ∀ a x, ((![v349, v315] : Fin 2 → IVec S16 32) a x).toNat < S16x256.size a := fun v315 v349 k0_hw189 => k0_hw189

def k0_chk190 (v27 : IVec S16 32) (v351 : IVec S16 32) : Prop :=
  (∀ a x, ((![v27, v351] : Fin 2 → IVec S16 32) a x).toNat < S256x257.size a)
theorem k0_idx190_inb : ∀ (v27 : IVec S16 32) (v351 : IVec S16 32) (k0_hw190 : k0_chk190 v27 v351), ∀ a x, ((![v27, v351] : Fin 2 → IVec S16 32) a x).toNat < S256x257.size a := fun v27 v351 k0_hw190 => k0_hw190

def k0_chk191 (v315 : IVec S16 32) (v352 : IVec S16 32) : Prop :=
  (∀ a x, ((![v352, v315] : Fin 2 → IVec S16 32) a x).toNat < S16x256.size a)
theorem k0_idx191_inb : ∀ (v315 : IVec S16 32) (v352 : IVec S16 32) (k0_hw191 : k0_chk191 v315 v352), ∀ a x, ((![v352, v315] : Fin 2 → IVec S16 32) a x).toNat < S16x256.size a := fun v315 v352 k0_hw191 => k0_hw191

def k0_chk192 (v27 : IVec S16 32) (v354 : IVec S16 32) : Prop :=
  (∀ a x, ((![v27, v354] : Fin 2 → IVec S16 32) a x).toNat < S256x257.size a)
theorem k0_idx192_inb : ∀ (v27 : IVec S16 32) (v354 : IVec S16 32) (k0_hw192 : k0_chk192 v27 v354), ∀ a x, ((![v27, v354] : Fin 2 → IVec S16 32) a x).toNat < S256x257.size a := fun v27 v354 k0_hw192 => k0_hw192

def k0_chk193 (v315 : IVec S16 32) (v355 : IVec S16 32) : Prop :=
  (∀ a x, ((![v355, v315] : Fin 2 → IVec S16 32) a x).toNat < S16x256.size a)
theorem k0_idx193_inb : ∀ (v315 : IVec S16 32) (v355 : IVec S16 32) (k0_hw193 : k0_chk193 v315 v355), ∀ a x, ((![v355, v315] : Fin 2 → IVec S16 32) a x).toNat < S16x256.size a := fun v315 v355 k0_hw193 => k0_hw193

def k0_chk194 (v27 : IVec S16 32) (v357 : IVec S16 32) : Prop :=
  (∀ a x, ((![v27, v357] : Fin 2 → IVec S16 32) a x).toNat < S256x257.size a)
theorem k0_idx194_inb : ∀ (v27 : IVec S16 32) (v357 : IVec S16 32) (k0_hw194 : k0_chk194 v27 v357), ∀ a x, ((![v27, v357] : Fin 2 → IVec S16 32) a x).toNat < S256x257.size a := fun v27 v357 k0_hw194 => k0_hw194

def k0_chk195 (v315 : IVec S16 32) (v358 : IVec S16 32) : Prop :=
  (∀ a x, ((![v358, v315] : Fin 2 → IVec S16 32) a x).toNat < S16x256.size a)
theorem k0_idx195_inb : ∀ (v315 : IVec S16 32) (v358 : IVec S16 32) (k0_hw195 : k0_chk195 v315 v358), ∀ a x, ((![v358, v315] : Fin 2 → IVec S16 32) a x).toNat < S16x256.size a := fun v315 v358 k0_hw195 => k0_hw195

def k0_chk196 (v27 : IVec S16 32) (v360 : IVec S16 32) : Prop :=
  (∀ a x, ((![v27, v360] : Fin 2 → IVec S16 32) a x).toNat < S256x257.size a)
theorem k0_idx196_inb : ∀ (v27 : IVec S16 32) (v360 : IVec S16 32) (k0_hw196 : k0_chk196 v27 v360), ∀ a x, ((![v27, v360] : Fin 2 → IVec S16 32) a x).toNat < S256x257.size a := fun v27 v360 k0_hw196 => k0_hw196

def k0_chk197 (v315 : IVec S16 32) (v361 : IVec S16 32) : Prop :=
  (∀ a x, ((![v361, v315] : Fin 2 → IVec S16 32) a x).toNat < S16x256.size a)
theorem k0_idx197_inb : ∀ (v315 : IVec S16 32) (v361 : IVec S16 32) (k0_hw197 : k0_chk197 v315 v361), ∀ a x, ((![v361, v315] : Fin 2 → IVec S16 32) a x).toNat < S16x256.size a := fun v315 v361 k0_hw197 => k0_hw197

def k0_chk198 (v27 : IVec S16 32) (v363 : IVec S16 32) : Prop :=
  (∀ a x, ((![v27, v363] : Fin 2 → IVec S16 32) a x).toNat < S256x257.size a)
theorem k0_idx198_inb : ∀ (v27 : IVec S16 32) (v363 : IVec S16 32) (k0_hw198 : k0_chk198 v27 v363), ∀ a x, ((![v27, v363] : Fin 2 → IVec S16 32) a x).toNat < S256x257.size a := fun v27 v363 k0_hw198 => k0_hw198

def k0_chk199 (v367 : IVec S16 32) (v369 : IVec S16 32) : Prop :=
  (∀ a x, ((![v367, v369] : Fin 2 → IVec S16 32) a x).toNat < S44x128.size a)
theorem k0_idx199_inb : ∀ (v367 : IVec S16 32) (v369 : IVec S16 32) (k0_hw199 : k0_chk199 v367 v369), ∀ a x, ((![v367, v369] : Fin 2 → IVec S16 32) a x).toNat < S44x128.size a := fun v367 v369 k0_hw199 => k0_hw199

def k0_chk200 (v370 : IVec S16 32) (v371 : IVec S16 32) : Prop :=
  (∀ a x, ((![v371, v370] : Fin 2 → IVec S16 32) a x).toNat < S16x256.size a)
theorem k0_idx200_inb : ∀ (v370 : IVec S16 32) (v371 : IVec S16 32) (k0_hw200 : k0_chk200 v370 v371), ∀ a x, ((![v371, v370] : Fin 2 → IVec S16 32) a x).toNat < S16x256.size a := fun v370 v371 k0_hw200 => k0_hw200

def k0_chk201 (v27 : IVec S16 32) (v373 : IVec S16 32) : Prop :=
  (∀ a x, ((![v27, v373] : Fin 2 → IVec S16 32) a x).toNat < S256x257.size a)
theorem k0_idx201_inb : ∀ (v27 : IVec S16 32) (v373 : IVec S16 32) (k0_hw201 : k0_chk201 v27 v373), ∀ a x, ((![v27, v373] : Fin 2 → IVec S16 32) a x).toNat < S256x257.size a := fun v27 v373 k0_hw201 => k0_hw201

def k0_chk202 (v370 : IVec S16 32) (v374 : IVec S16 32) : Prop :=
  (∀ a x, ((![v374, v370] : Fin 2 → IVec S16 32) a x).toNat < S16x256.size a)
theorem k0_idx202_inb : ∀ (v370 : IVec S16 32) (v374 : IVec S16 32) (k0_hw202 : k0_chk202 v370 v374), ∀ a x, ((![v374, v370] : Fin 2 → IVec S16 32) a x).toNat < S16x256.size a := fun v370 v374 k0_hw202 => k0_hw202

def k0_chk203 (v27 : IVec S16 32) (v376 : IVec S16 32) : Prop :=
  (∀ a x, ((![v27, v376] : Fin 2 → IVec S16 32) a x).toNat < S256x257.size a)
theorem k0_idx203_inb : ∀ (v27 : IVec S16 32) (v376 : IVec S16 32) (k0_hw203 : k0_chk203 v27 v376), ∀ a x, ((![v27, v376] : Fin 2 → IVec S16 32) a x).toNat < S256x257.size a := fun v27 v376 k0_hw203 => k0_hw203

def k0_chk204 (v370 : IVec S16 32) (v377 : IVec S16 32) : Prop :=
  (∀ a x, ((![v377, v370] : Fin 2 → IVec S16 32) a x).toNat < S16x256.size a)
theorem k0_idx204_inb : ∀ (v370 : IVec S16 32) (v377 : IVec S16 32) (k0_hw204 : k0_chk204 v370 v377), ∀ a x, ((![v377, v370] : Fin 2 → IVec S16 32) a x).toNat < S16x256.size a := fun v370 v377 k0_hw204 => k0_hw204

def k0_chk205 (v27 : IVec S16 32) (v379 : IVec S16 32) : Prop :=
  (∀ a x, ((![v27, v379] : Fin 2 → IVec S16 32) a x).toNat < S256x257.size a)
theorem k0_idx205_inb : ∀ (v27 : IVec S16 32) (v379 : IVec S16 32) (k0_hw205 : k0_chk205 v27 v379), ∀ a x, ((![v27, v379] : Fin 2 → IVec S16 32) a x).toNat < S256x257.size a := fun v27 v379 k0_hw205 => k0_hw205

def k0_chk206 (v370 : IVec S16 32) (v380 : IVec S16 32) : Prop :=
  (∀ a x, ((![v380, v370] : Fin 2 → IVec S16 32) a x).toNat < S16x256.size a)
theorem k0_idx206_inb : ∀ (v370 : IVec S16 32) (v380 : IVec S16 32) (k0_hw206 : k0_chk206 v370 v380), ∀ a x, ((![v380, v370] : Fin 2 → IVec S16 32) a x).toNat < S16x256.size a := fun v370 v380 k0_hw206 => k0_hw206

def k0_chk207 (v27 : IVec S16 32) (v382 : IVec S16 32) : Prop :=
  (∀ a x, ((![v27, v382] : Fin 2 → IVec S16 32) a x).toNat < S256x257.size a)
theorem k0_idx207_inb : ∀ (v27 : IVec S16 32) (v382 : IVec S16 32) (k0_hw207 : k0_chk207 v27 v382), ∀ a x, ((![v27, v382] : Fin 2 → IVec S16 32) a x).toNat < S256x257.size a := fun v27 v382 k0_hw207 => k0_hw207

def k0_chk208 (v370 : IVec S16 32) (v383 : IVec S16 32) : Prop :=
  (∀ a x, ((![v383, v370] : Fin 2 → IVec S16 32) a x).toNat < S16x256.size a)
theorem k0_idx208_inb : ∀ (v370 : IVec S16 32) (v383 : IVec S16 32) (k0_hw208 : k0_chk208 v370 v383), ∀ a x, ((![v383, v370] : Fin 2 → IVec S16 32) a x).toNat < S16x256.size a := fun v370 v383 k0_hw208 => k0_hw208

def k0_chk209 (v27 : IVec S16 32) (v385 : IVec S16 32) : Prop :=
  (∀ a x, ((![v27, v385] : Fin 2 → IVec S16 32) a x).toNat < S256x257.size a)
theorem k0_idx209_inb : ∀ (v27 : IVec S16 32) (v385 : IVec S16 32) (k0_hw209 : k0_chk209 v27 v385), ∀ a x, ((![v27, v385] : Fin 2 → IVec S16 32) a x).toNat < S256x257.size a := fun v27 v385 k0_hw209 => k0_hw209

def k0_chk210 (v370 : IVec S16 32) (v386 : IVec S16 32) : Prop :=
  (∀ a x, ((![v386, v370] : Fin 2 → IVec S16 32) a x).toNat < S16x256.size a)
theorem k0_idx210_inb : ∀ (v370 : IVec S16 32) (v386 : IVec S16 32) (k0_hw210 : k0_chk210 v370 v386), ∀ a x, ((![v386, v370] : Fin 2 → IVec S16 32) a x).toNat < S16x256.size a := fun v370 v386 k0_hw210 => k0_hw210

def k0_chk211 (v27 : IVec S16 32) (v388 : IVec S16 32) : Prop :=
  (∀ a x, ((![v27, v388] : Fin 2 → IVec S16 32) a x).toNat < S256x257.size a)
theorem k0_idx211_inb : ∀ (v27 : IVec S16 32) (v388 : IVec S16 32) (k0_hw211 : k0_chk211 v27 v388), ∀ a x, ((![v27, v388] : Fin 2 → IVec S16 32) a x).toNat < S256x257.size a := fun v27 v388 k0_hw211 => k0_hw211

def k0_chk212 (v370 : IVec S16 32) (v389 : IVec S16 32) : Prop :=
  (∀ a x, ((![v389, v370] : Fin 2 → IVec S16 32) a x).toNat < S16x256.size a)
theorem k0_idx212_inb : ∀ (v370 : IVec S16 32) (v389 : IVec S16 32) (k0_hw212 : k0_chk212 v370 v389), ∀ a x, ((![v389, v370] : Fin 2 → IVec S16 32) a x).toNat < S16x256.size a := fun v370 v389 k0_hw212 => k0_hw212

def k0_chk213 (v27 : IVec S16 32) (v391 : IVec S16 32) : Prop :=
  (∀ a x, ((![v27, v391] : Fin 2 → IVec S16 32) a x).toNat < S256x257.size a)
theorem k0_idx213_inb : ∀ (v27 : IVec S16 32) (v391 : IVec S16 32) (k0_hw213 : k0_chk213 v27 v391), ∀ a x, ((![v27, v391] : Fin 2 → IVec S16 32) a x).toNat < S256x257.size a := fun v27 v391 k0_hw213 => k0_hw213

def k0_chk214 (v370 : IVec S16 32) (v392 : IVec S16 32) : Prop :=
  (∀ a x, ((![v392, v370] : Fin 2 → IVec S16 32) a x).toNat < S16x256.size a)
theorem k0_idx214_inb : ∀ (v370 : IVec S16 32) (v392 : IVec S16 32) (k0_hw214 : k0_chk214 v370 v392), ∀ a x, ((![v392, v370] : Fin 2 → IVec S16 32) a x).toNat < S16x256.size a := fun v370 v392 k0_hw214 => k0_hw214

def k0_chk215 (v27 : IVec S16 32) (v394 : IVec S16 32) : Prop :=
  (∀ a x, ((![v27, v394] : Fin 2 → IVec S16 32) a x).toNat < S256x257.size a)
theorem k0_idx215_inb : ∀ (v27 : IVec S16 32) (v394 : IVec S16 32) (k0_hw215 : k0_chk215 v27 v394), ∀ a x, ((![v27, v394] : Fin 2 → IVec S16 32) a x).toNat < S256x257.size a := fun v27 v394 k0_hw215 => k0_hw215

def k0_chk216 (v370 : IVec S16 32) (v395 : IVec S16 32) : Prop :=
  (∀ a x, ((![v395, v370] : Fin 2 → IVec S16 32) a x).toNat < S16x256.size a)
theorem k0_idx216_inb : ∀ (v370 : IVec S16 32) (v395 : IVec S16 32) (k0_hw216 : k0_chk216 v370 v395), ∀ a x, ((![v395, v370] : Fin 2 → IVec S16 32) a x).toNat < S16x256.size a := fun v370 v395 k0_hw216 => k0_hw216

def k0_chk217 (v27 : IVec S16 32) (v397 : IVec S16 32) : Prop :=
  (∀ a x, ((![v27, v397] : Fin 2 → IVec S16 32) a x).toNat < S256x257.size a)
theorem k0_idx217_inb : ∀ (v27 : IVec S16 32) (v397 : IVec S16 32) (k0_hw217 : k0_chk217 v27 v397), ∀ a x, ((![v27, v397] : Fin 2 → IVec S16 32) a x).toNat < S256x257.size a := fun v27 v397 k0_hw217 => k0_hw217

def k0_chk218 (v370 : IVec S16 32) (v398 : IVec S16 32) : Prop :=
  (∀ a x, ((![v398, v370] : Fin 2 → IVec S16 32) a x).toNat < S16x256.size a)
theorem k0_idx218_inb : ∀ (v370 : IVec S16 32) (v398 : IVec S16 32) (k0_hw218 : k0_chk218 v370 v398), ∀ a x, ((![v398, v370] : Fin 2 → IVec S16 32) a x).toNat < S16x256.size a := fun v370 v398 k0_hw218 => k0_hw218

def k0_chk219 (v27 : IVec S16 32) (v400 : IVec S16 32) : Prop :=
  (∀ a x, ((![v27, v400] : Fin 2 → IVec S16 32) a x).toNat < S256x257.size a)
theorem k0_idx219_inb : ∀ (v27 : IVec S16 32) (v400 : IVec S16 32) (k0_hw219 : k0_chk219 v27 v400), ∀ a x, ((![v27, v400] : Fin 2 → IVec S16 32) a x).toNat < S256x257.size a := fun v27 v400 k0_hw219 => k0_hw219

def k0_chk220 (v370 : IVec S16 32) (v401 : IVec S16 32) : Prop :=
  (∀ a x, ((![v401, v370] : Fin 2 → IVec S16 32) a x).toNat < S16x256.size a)
theorem k0_idx220_inb : ∀ (v370 : IVec S16 32) (v401 : IVec S16 32) (k0_hw220 : k0_chk220 v370 v401), ∀ a x, ((![v401, v370] : Fin 2 → IVec S16 32) a x).toNat < S16x256.size a := fun v370 v401 k0_hw220 => k0_hw220

def k0_chk221 (v27 : IVec S16 32) (v403 : IVec S16 32) : Prop :=
  (∀ a x, ((![v27, v403] : Fin 2 → IVec S16 32) a x).toNat < S256x257.size a)
theorem k0_idx221_inb : ∀ (v27 : IVec S16 32) (v403 : IVec S16 32) (k0_hw221 : k0_chk221 v27 v403), ∀ a x, ((![v27, v403] : Fin 2 → IVec S16 32) a x).toNat < S256x257.size a := fun v27 v403 k0_hw221 => k0_hw221

def k0_chk222 (v370 : IVec S16 32) (v404 : IVec S16 32) : Prop :=
  (∀ a x, ((![v404, v370] : Fin 2 → IVec S16 32) a x).toNat < S16x256.size a)
theorem k0_idx222_inb : ∀ (v370 : IVec S16 32) (v404 : IVec S16 32) (k0_hw222 : k0_chk222 v370 v404), ∀ a x, ((![v404, v370] : Fin 2 → IVec S16 32) a x).toNat < S16x256.size a := fun v370 v404 k0_hw222 => k0_hw222

def k0_chk223 (v27 : IVec S16 32) (v406 : IVec S16 32) : Prop :=
  (∀ a x, ((![v27, v406] : Fin 2 → IVec S16 32) a x).toNat < S256x257.size a)
theorem k0_idx223_inb : ∀ (v27 : IVec S16 32) (v406 : IVec S16 32) (k0_hw223 : k0_chk223 v27 v406), ∀ a x, ((![v27, v406] : Fin 2 → IVec S16 32) a x).toNat < S256x257.size a := fun v27 v406 k0_hw223 => k0_hw223

def k0_chk224 (v370 : IVec S16 32) (v407 : IVec S16 32) : Prop :=
  (∀ a x, ((![v407, v370] : Fin 2 → IVec S16 32) a x).toNat < S16x256.size a)
theorem k0_idx224_inb : ∀ (v370 : IVec S16 32) (v407 : IVec S16 32) (k0_hw224 : k0_chk224 v370 v407), ∀ a x, ((![v407, v370] : Fin 2 → IVec S16 32) a x).toNat < S16x256.size a := fun v370 v407 k0_hw224 => k0_hw224

def k0_chk225 (v27 : IVec S16 32) (v409 : IVec S16 32) : Prop :=
  (∀ a x, ((![v27, v409] : Fin 2 → IVec S16 32) a x).toNat < S256x257.size a)
theorem k0_idx225_inb : ∀ (v27 : IVec S16 32) (v409 : IVec S16 32) (k0_hw225 : k0_chk225 v27 v409), ∀ a x, ((![v27, v409] : Fin 2 → IVec S16 32) a x).toNat < S256x257.size a := fun v27 v409 k0_hw225 => k0_hw225

def k0_chk226 (v370 : IVec S16 32) (v410 : IVec S16 32) : Prop :=
  (∀ a x, ((![v410, v370] : Fin 2 → IVec S16 32) a x).toNat < S16x256.size a)
theorem k0_idx226_inb : ∀ (v370 : IVec S16 32) (v410 : IVec S16 32) (k0_hw226 : k0_chk226 v370 v410), ∀ a x, ((![v410, v370] : Fin 2 → IVec S16 32) a x).toNat < S16x256.size a := fun v370 v410 k0_hw226 => k0_hw226

def k0_chk227 (v27 : IVec S16 32) (v412 : IVec S16 32) : Prop :=
  (∀ a x, ((![v27, v412] : Fin 2 → IVec S16 32) a x).toNat < S256x257.size a)
theorem k0_idx227_inb : ∀ (v27 : IVec S16 32) (v412 : IVec S16 32) (k0_hw227 : k0_chk227 v27 v412), ∀ a x, ((![v27, v412] : Fin 2 → IVec S16 32) a x).toNat < S256x257.size a := fun v27 v412 k0_hw227 => k0_hw227

def k0_chk228 (v370 : IVec S16 32) (v413 : IVec S16 32) : Prop :=
  (∀ a x, ((![v413, v370] : Fin 2 → IVec S16 32) a x).toNat < S16x256.size a)
theorem k0_idx228_inb : ∀ (v370 : IVec S16 32) (v413 : IVec S16 32) (k0_hw228 : k0_chk228 v370 v413), ∀ a x, ((![v413, v370] : Fin 2 → IVec S16 32) a x).toNat < S16x256.size a := fun v370 v413 k0_hw228 => k0_hw228

def k0_chk229 (v27 : IVec S16 32) (v415 : IVec S16 32) : Prop :=
  (∀ a x, ((![v27, v415] : Fin 2 → IVec S16 32) a x).toNat < S256x257.size a)
theorem k0_idx229_inb : ∀ (v27 : IVec S16 32) (v415 : IVec S16 32) (k0_hw229 : k0_chk229 v27 v415), ∀ a x, ((![v27, v415] : Fin 2 → IVec S16 32) a x).toNat < S256x257.size a := fun v27 v415 k0_hw229 => k0_hw229

def k0_chk230 (v370 : IVec S16 32) (v416 : IVec S16 32) : Prop :=
  (∀ a x, ((![v416, v370] : Fin 2 → IVec S16 32) a x).toNat < S16x256.size a)
theorem k0_idx230_inb : ∀ (v370 : IVec S16 32) (v416 : IVec S16 32) (k0_hw230 : k0_chk230 v370 v416), ∀ a x, ((![v416, v370] : Fin 2 → IVec S16 32) a x).toNat < S16x256.size a := fun v370 v416 k0_hw230 => k0_hw230

def k0_chk231 (v27 : IVec S16 32) (v418 : IVec S16 32) : Prop :=
  (∀ a x, ((![v27, v418] : Fin 2 → IVec S16 32) a x).toNat < S256x257.size a)
theorem k0_idx231_inb : ∀ (v27 : IVec S16 32) (v418 : IVec S16 32) (k0_hw231 : k0_chk231 v27 v418), ∀ a x, ((![v27, v418] : Fin 2 → IVec S16 32) a x).toNat < S256x257.size a := fun v27 v418 k0_hw231 => k0_hw231

def k0_chk232 (v422 : IVec S16 32) (v424 : IVec S16 32) : Prop :=
  (∀ a x, ((![v422, v424] : Fin 2 → IVec S16 32) a x).toNat < S44x128.size a)
theorem k0_idx232_inb : ∀ (v422 : IVec S16 32) (v424 : IVec S16 32) (k0_hw232 : k0_chk232 v422 v424), ∀ a x, ((![v422, v424] : Fin 2 → IVec S16 32) a x).toNat < S44x128.size a := fun v422 v424 k0_hw232 => k0_hw232

def k0_chk233 (v425 : IVec S16 32) (v426 : IVec S16 32) : Prop :=
  (∀ a x, ((![v426, v425] : Fin 2 → IVec S16 32) a x).toNat < S16x256.size a)
theorem k0_idx233_inb : ∀ (v425 : IVec S16 32) (v426 : IVec S16 32) (k0_hw233 : k0_chk233 v425 v426), ∀ a x, ((![v426, v425] : Fin 2 → IVec S16 32) a x).toNat < S16x256.size a := fun v425 v426 k0_hw233 => k0_hw233

def k0_chk234 (v27 : IVec S16 32) (v428 : IVec S16 32) : Prop :=
  (∀ a x, ((![v27, v428] : Fin 2 → IVec S16 32) a x).toNat < S256x257.size a)
theorem k0_idx234_inb : ∀ (v27 : IVec S16 32) (v428 : IVec S16 32) (k0_hw234 : k0_chk234 v27 v428), ∀ a x, ((![v27, v428] : Fin 2 → IVec S16 32) a x).toNat < S256x257.size a := fun v27 v428 k0_hw234 => k0_hw234

def k0_chk235 (v425 : IVec S16 32) (v429 : IVec S16 32) : Prop :=
  (∀ a x, ((![v429, v425] : Fin 2 → IVec S16 32) a x).toNat < S16x256.size a)
theorem k0_idx235_inb : ∀ (v425 : IVec S16 32) (v429 : IVec S16 32) (k0_hw235 : k0_chk235 v425 v429), ∀ a x, ((![v429, v425] : Fin 2 → IVec S16 32) a x).toNat < S16x256.size a := fun v425 v429 k0_hw235 => k0_hw235

def k0_chk236 (v27 : IVec S16 32) (v431 : IVec S16 32) : Prop :=
  (∀ a x, ((![v27, v431] : Fin 2 → IVec S16 32) a x).toNat < S256x257.size a)
theorem k0_idx236_inb : ∀ (v27 : IVec S16 32) (v431 : IVec S16 32) (k0_hw236 : k0_chk236 v27 v431), ∀ a x, ((![v27, v431] : Fin 2 → IVec S16 32) a x).toNat < S256x257.size a := fun v27 v431 k0_hw236 => k0_hw236

def k0_chk237 (v425 : IVec S16 32) (v432 : IVec S16 32) : Prop :=
  (∀ a x, ((![v432, v425] : Fin 2 → IVec S16 32) a x).toNat < S16x256.size a)
theorem k0_idx237_inb : ∀ (v425 : IVec S16 32) (v432 : IVec S16 32) (k0_hw237 : k0_chk237 v425 v432), ∀ a x, ((![v432, v425] : Fin 2 → IVec S16 32) a x).toNat < S16x256.size a := fun v425 v432 k0_hw237 => k0_hw237

def k0_chk238 (v27 : IVec S16 32) (v434 : IVec S16 32) : Prop :=
  (∀ a x, ((![v27, v434] : Fin 2 → IVec S16 32) a x).toNat < S256x257.size a)
theorem k0_idx238_inb : ∀ (v27 : IVec S16 32) (v434 : IVec S16 32) (k0_hw238 : k0_chk238 v27 v434), ∀ a x, ((![v27, v434] : Fin 2 → IVec S16 32) a x).toNat < S256x257.size a := fun v27 v434 k0_hw238 => k0_hw238

def k0_chk239 (v425 : IVec S16 32) (v435 : IVec S16 32) : Prop :=
  (∀ a x, ((![v435, v425] : Fin 2 → IVec S16 32) a x).toNat < S16x256.size a)
theorem k0_idx239_inb : ∀ (v425 : IVec S16 32) (v435 : IVec S16 32) (k0_hw239 : k0_chk239 v425 v435), ∀ a x, ((![v435, v425] : Fin 2 → IVec S16 32) a x).toNat < S16x256.size a := fun v425 v435 k0_hw239 => k0_hw239

def k0_chk240 (v27 : IVec S16 32) (v437 : IVec S16 32) : Prop :=
  (∀ a x, ((![v27, v437] : Fin 2 → IVec S16 32) a x).toNat < S256x257.size a)
theorem k0_idx240_inb : ∀ (v27 : IVec S16 32) (v437 : IVec S16 32) (k0_hw240 : k0_chk240 v27 v437), ∀ a x, ((![v27, v437] : Fin 2 → IVec S16 32) a x).toNat < S256x257.size a := fun v27 v437 k0_hw240 => k0_hw240

def k0_chk241 (v425 : IVec S16 32) (v438 : IVec S16 32) : Prop :=
  (∀ a x, ((![v438, v425] : Fin 2 → IVec S16 32) a x).toNat < S16x256.size a)
theorem k0_idx241_inb : ∀ (v425 : IVec S16 32) (v438 : IVec S16 32) (k0_hw241 : k0_chk241 v425 v438), ∀ a x, ((![v438, v425] : Fin 2 → IVec S16 32) a x).toNat < S16x256.size a := fun v425 v438 k0_hw241 => k0_hw241

def k0_chk242 (v27 : IVec S16 32) (v440 : IVec S16 32) : Prop :=
  (∀ a x, ((![v27, v440] : Fin 2 → IVec S16 32) a x).toNat < S256x257.size a)
theorem k0_idx242_inb : ∀ (v27 : IVec S16 32) (v440 : IVec S16 32) (k0_hw242 : k0_chk242 v27 v440), ∀ a x, ((![v27, v440] : Fin 2 → IVec S16 32) a x).toNat < S256x257.size a := fun v27 v440 k0_hw242 => k0_hw242

def k0_chk243 (v425 : IVec S16 32) (v441 : IVec S16 32) : Prop :=
  (∀ a x, ((![v441, v425] : Fin 2 → IVec S16 32) a x).toNat < S16x256.size a)
theorem k0_idx243_inb : ∀ (v425 : IVec S16 32) (v441 : IVec S16 32) (k0_hw243 : k0_chk243 v425 v441), ∀ a x, ((![v441, v425] : Fin 2 → IVec S16 32) a x).toNat < S16x256.size a := fun v425 v441 k0_hw243 => k0_hw243

def k0_chk244 (v27 : IVec S16 32) (v443 : IVec S16 32) : Prop :=
  (∀ a x, ((![v27, v443] : Fin 2 → IVec S16 32) a x).toNat < S256x257.size a)
theorem k0_idx244_inb : ∀ (v27 : IVec S16 32) (v443 : IVec S16 32) (k0_hw244 : k0_chk244 v27 v443), ∀ a x, ((![v27, v443] : Fin 2 → IVec S16 32) a x).toNat < S256x257.size a := fun v27 v443 k0_hw244 => k0_hw244

def k0_chk245 (v425 : IVec S16 32) (v444 : IVec S16 32) : Prop :=
  (∀ a x, ((![v444, v425] : Fin 2 → IVec S16 32) a x).toNat < S16x256.size a)
theorem k0_idx245_inb : ∀ (v425 : IVec S16 32) (v444 : IVec S16 32) (k0_hw245 : k0_chk245 v425 v444), ∀ a x, ((![v444, v425] : Fin 2 → IVec S16 32) a x).toNat < S16x256.size a := fun v425 v444 k0_hw245 => k0_hw245

def k0_chk246 (v27 : IVec S16 32) (v446 : IVec S16 32) : Prop :=
  (∀ a x, ((![v27, v446] : Fin 2 → IVec S16 32) a x).toNat < S256x257.size a)
theorem k0_idx246_inb : ∀ (v27 : IVec S16 32) (v446 : IVec S16 32) (k0_hw246 : k0_chk246 v27 v446), ∀ a x, ((![v27, v446] : Fin 2 → IVec S16 32) a x).toNat < S256x257.size a := fun v27 v446 k0_hw246 => k0_hw246

def k0_chk247 (v425 : IVec S16 32) (v447 : IVec S16 32) : Prop :=
  (∀ a x, ((![v447, v425] : Fin 2 → IVec S16 32) a x).toNat < S16x256.size a)
theorem k0_idx247_inb : ∀ (v425 : IVec S16 32) (v447 : IVec S16 32) (k0_hw247 : k0_chk247 v425 v447), ∀ a x, ((![v447, v425] : Fin 2 → IVec S16 32) a x).toNat < S16x256.size a := fun v425 v447 k0_hw247 => k0_hw247

def k0_chk248 (v27 : IVec S16 32) (v449 : IVec S16 32) : Prop :=
  (∀ a x, ((![v27, v449] : Fin 2 → IVec S16 32) a x).toNat < S256x257.size a)
theorem k0_idx248_inb : ∀ (v27 : IVec S16 32) (v449 : IVec S16 32) (k0_hw248 : k0_chk248 v27 v449), ∀ a x, ((![v27, v449] : Fin 2 → IVec S16 32) a x).toNat < S256x257.size a := fun v27 v449 k0_hw248 => k0_hw248

def k0_chk249 (v425 : IVec S16 32) (v450 : IVec S16 32) : Prop :=
  (∀ a x, ((![v450, v425] : Fin 2 → IVec S16 32) a x).toNat < S16x256.size a)
theorem k0_idx249_inb : ∀ (v425 : IVec S16 32) (v450 : IVec S16 32) (k0_hw249 : k0_chk249 v425 v450), ∀ a x, ((![v450, v425] : Fin 2 → IVec S16 32) a x).toNat < S16x256.size a := fun v425 v450 k0_hw249 => k0_hw249

def k0_chk250 (v27 : IVec S16 32) (v452 : IVec S16 32) : Prop :=
  (∀ a x, ((![v27, v452] : Fin 2 → IVec S16 32) a x).toNat < S256x257.size a)
theorem k0_idx250_inb : ∀ (v27 : IVec S16 32) (v452 : IVec S16 32) (k0_hw250 : k0_chk250 v27 v452), ∀ a x, ((![v27, v452] : Fin 2 → IVec S16 32) a x).toNat < S256x257.size a := fun v27 v452 k0_hw250 => k0_hw250

def k0_chk251 (v425 : IVec S16 32) (v453 : IVec S16 32) : Prop :=
  (∀ a x, ((![v453, v425] : Fin 2 → IVec S16 32) a x).toNat < S16x256.size a)
theorem k0_idx251_inb : ∀ (v425 : IVec S16 32) (v453 : IVec S16 32) (k0_hw251 : k0_chk251 v425 v453), ∀ a x, ((![v453, v425] : Fin 2 → IVec S16 32) a x).toNat < S16x256.size a := fun v425 v453 k0_hw251 => k0_hw251

def k0_chk252 (v27 : IVec S16 32) (v455 : IVec S16 32) : Prop :=
  (∀ a x, ((![v27, v455] : Fin 2 → IVec S16 32) a x).toNat < S256x257.size a)
theorem k0_idx252_inb : ∀ (v27 : IVec S16 32) (v455 : IVec S16 32) (k0_hw252 : k0_chk252 v27 v455), ∀ a x, ((![v27, v455] : Fin 2 → IVec S16 32) a x).toNat < S256x257.size a := fun v27 v455 k0_hw252 => k0_hw252

def k0_chk253 (v425 : IVec S16 32) (v456 : IVec S16 32) : Prop :=
  (∀ a x, ((![v456, v425] : Fin 2 → IVec S16 32) a x).toNat < S16x256.size a)
theorem k0_idx253_inb : ∀ (v425 : IVec S16 32) (v456 : IVec S16 32) (k0_hw253 : k0_chk253 v425 v456), ∀ a x, ((![v456, v425] : Fin 2 → IVec S16 32) a x).toNat < S16x256.size a := fun v425 v456 k0_hw253 => k0_hw253

def k0_chk254 (v27 : IVec S16 32) (v458 : IVec S16 32) : Prop :=
  (∀ a x, ((![v27, v458] : Fin 2 → IVec S16 32) a x).toNat < S256x257.size a)
theorem k0_idx254_inb : ∀ (v27 : IVec S16 32) (v458 : IVec S16 32) (k0_hw254 : k0_chk254 v27 v458), ∀ a x, ((![v27, v458] : Fin 2 → IVec S16 32) a x).toNat < S256x257.size a := fun v27 v458 k0_hw254 => k0_hw254

def k0_chk255 (v425 : IVec S16 32) (v459 : IVec S16 32) : Prop :=
  (∀ a x, ((![v459, v425] : Fin 2 → IVec S16 32) a x).toNat < S16x256.size a)
theorem k0_idx255_inb : ∀ (v425 : IVec S16 32) (v459 : IVec S16 32) (k0_hw255 : k0_chk255 v425 v459), ∀ a x, ((![v459, v425] : Fin 2 → IVec S16 32) a x).toNat < S16x256.size a := fun v425 v459 k0_hw255 => k0_hw255

def k0_chk256 (v27 : IVec S16 32) (v461 : IVec S16 32) : Prop :=
  (∀ a x, ((![v27, v461] : Fin 2 → IVec S16 32) a x).toNat < S256x257.size a)
theorem k0_idx256_inb : ∀ (v27 : IVec S16 32) (v461 : IVec S16 32) (k0_hw256 : k0_chk256 v27 v461), ∀ a x, ((![v27, v461] : Fin 2 → IVec S16 32) a x).toNat < S256x257.size a := fun v27 v461 k0_hw256 => k0_hw256

def k0_chk257 (v425 : IVec S16 32) (v462 : IVec S16 32) : Prop :=
  (∀ a x, ((![v462, v425] : Fin 2 → IVec S16 32) a x).toNat < S16x256.size a)
theorem k0_idx257_inb : ∀ (v425 : IVec S16 32) (v462 : IVec S16 32) (k0_hw257 : k0_chk257 v425 v462), ∀ a x, ((![v462, v425] : Fin 2 → IVec S16 32) a x).toNat < S16x256.size a := fun v425 v462 k0_hw257 => k0_hw257

def k0_chk258 (v27 : IVec S16 32) (v464 : IVec S16 32) : Prop :=
  (∀ a x, ((![v27, v464] : Fin 2 → IVec S16 32) a x).toNat < S256x257.size a)
theorem k0_idx258_inb : ∀ (v27 : IVec S16 32) (v464 : IVec S16 32) (k0_hw258 : k0_chk258 v27 v464), ∀ a x, ((![v27, v464] : Fin 2 → IVec S16 32) a x).toNat < S256x257.size a := fun v27 v464 k0_hw258 => k0_hw258

def k0_chk259 (v425 : IVec S16 32) (v465 : IVec S16 32) : Prop :=
  (∀ a x, ((![v465, v425] : Fin 2 → IVec S16 32) a x).toNat < S16x256.size a)
theorem k0_idx259_inb : ∀ (v425 : IVec S16 32) (v465 : IVec S16 32) (k0_hw259 : k0_chk259 v425 v465), ∀ a x, ((![v465, v425] : Fin 2 → IVec S16 32) a x).toNat < S16x256.size a := fun v425 v465 k0_hw259 => k0_hw259

def k0_chk260 (v27 : IVec S16 32) (v467 : IVec S16 32) : Prop :=
  (∀ a x, ((![v27, v467] : Fin 2 → IVec S16 32) a x).toNat < S256x257.size a)
theorem k0_idx260_inb : ∀ (v27 : IVec S16 32) (v467 : IVec S16 32) (k0_hw260 : k0_chk260 v27 v467), ∀ a x, ((![v27, v467] : Fin 2 → IVec S16 32) a x).toNat < S256x257.size a := fun v27 v467 k0_hw260 => k0_hw260

def k0_chk261 (v425 : IVec S16 32) (v468 : IVec S16 32) : Prop :=
  (∀ a x, ((![v468, v425] : Fin 2 → IVec S16 32) a x).toNat < S16x256.size a)
theorem k0_idx261_inb : ∀ (v425 : IVec S16 32) (v468 : IVec S16 32) (k0_hw261 : k0_chk261 v425 v468), ∀ a x, ((![v468, v425] : Fin 2 → IVec S16 32) a x).toNat < S16x256.size a := fun v425 v468 k0_hw261 => k0_hw261

def k0_chk262 (v27 : IVec S16 32) (v470 : IVec S16 32) : Prop :=
  (∀ a x, ((![v27, v470] : Fin 2 → IVec S16 32) a x).toNat < S256x257.size a)
theorem k0_idx262_inb : ∀ (v27 : IVec S16 32) (v470 : IVec S16 32) (k0_hw262 : k0_chk262 v27 v470), ∀ a x, ((![v27, v470] : Fin 2 → IVec S16 32) a x).toNat < S256x257.size a := fun v27 v470 k0_hw262 => k0_hw262

def k0_chk263 (v425 : IVec S16 32) (v471 : IVec S16 32) : Prop :=
  (∀ a x, ((![v471, v425] : Fin 2 → IVec S16 32) a x).toNat < S16x256.size a)
theorem k0_idx263_inb : ∀ (v425 : IVec S16 32) (v471 : IVec S16 32) (k0_hw263 : k0_chk263 v425 v471), ∀ a x, ((![v471, v425] : Fin 2 → IVec S16 32) a x).toNat < S16x256.size a := fun v425 v471 k0_hw263 => k0_hw263

def k0_chk264 (v27 : IVec S16 32) (v473 : IVec S16 32) : Prop :=
  (∀ a x, ((![v27, v473] : Fin 2 → IVec S16 32) a x).toNat < S256x257.size a)
theorem k0_idx264_inb : ∀ (v27 : IVec S16 32) (v473 : IVec S16 32) (k0_hw264 : k0_chk264 v27 v473), ∀ a x, ((![v27, v473] : Fin 2 → IVec S16 32) a x).toNat < S256x257.size a := fun v27 v473 k0_hw264 => k0_hw264

def k0_chk265 (v477 : IVec S16 32) (v479 : IVec S16 32) : Prop :=
  (∀ a x, ((![v477, v479] : Fin 2 → IVec S16 32) a x).toNat < S44x128.size a)
theorem k0_idx265_inb : ∀ (v477 : IVec S16 32) (v479 : IVec S16 32) (k0_hw265 : k0_chk265 v477 v479), ∀ a x, ((![v477, v479] : Fin 2 → IVec S16 32) a x).toNat < S44x128.size a := fun v477 v479 k0_hw265 => k0_hw265

def k0_chk266 (v480 : IVec S16 32) (v481 : IVec S16 32) : Prop :=
  (∀ a x, ((![v481, v480] : Fin 2 → IVec S16 32) a x).toNat < S16x256.size a)
theorem k0_idx266_inb : ∀ (v480 : IVec S16 32) (v481 : IVec S16 32) (k0_hw266 : k0_chk266 v480 v481), ∀ a x, ((![v481, v480] : Fin 2 → IVec S16 32) a x).toNat < S16x256.size a := fun v480 v481 k0_hw266 => k0_hw266

def k0_chk267 (v27 : IVec S16 32) (v483 : IVec S16 32) : Prop :=
  (∀ a x, ((![v27, v483] : Fin 2 → IVec S16 32) a x).toNat < S256x257.size a)
theorem k0_idx267_inb : ∀ (v27 : IVec S16 32) (v483 : IVec S16 32) (k0_hw267 : k0_chk267 v27 v483), ∀ a x, ((![v27, v483] : Fin 2 → IVec S16 32) a x).toNat < S256x257.size a := fun v27 v483 k0_hw267 => k0_hw267

def k0_chk268 (v480 : IVec S16 32) (v484 : IVec S16 32) : Prop :=
  (∀ a x, ((![v484, v480] : Fin 2 → IVec S16 32) a x).toNat < S16x256.size a)
theorem k0_idx268_inb : ∀ (v480 : IVec S16 32) (v484 : IVec S16 32) (k0_hw268 : k0_chk268 v480 v484), ∀ a x, ((![v484, v480] : Fin 2 → IVec S16 32) a x).toNat < S16x256.size a := fun v480 v484 k0_hw268 => k0_hw268

def k0_chk269 (v27 : IVec S16 32) (v486 : IVec S16 32) : Prop :=
  (∀ a x, ((![v27, v486] : Fin 2 → IVec S16 32) a x).toNat < S256x257.size a)
theorem k0_idx269_inb : ∀ (v27 : IVec S16 32) (v486 : IVec S16 32) (k0_hw269 : k0_chk269 v27 v486), ∀ a x, ((![v27, v486] : Fin 2 → IVec S16 32) a x).toNat < S256x257.size a := fun v27 v486 k0_hw269 => k0_hw269

def k0_chk270 (v480 : IVec S16 32) (v487 : IVec S16 32) : Prop :=
  (∀ a x, ((![v487, v480] : Fin 2 → IVec S16 32) a x).toNat < S16x256.size a)
theorem k0_idx270_inb : ∀ (v480 : IVec S16 32) (v487 : IVec S16 32) (k0_hw270 : k0_chk270 v480 v487), ∀ a x, ((![v487, v480] : Fin 2 → IVec S16 32) a x).toNat < S16x256.size a := fun v480 v487 k0_hw270 => k0_hw270

def k0_chk271 (v27 : IVec S16 32) (v489 : IVec S16 32) : Prop :=
  (∀ a x, ((![v27, v489] : Fin 2 → IVec S16 32) a x).toNat < S256x257.size a)
theorem k0_idx271_inb : ∀ (v27 : IVec S16 32) (v489 : IVec S16 32) (k0_hw271 : k0_chk271 v27 v489), ∀ a x, ((![v27, v489] : Fin 2 → IVec S16 32) a x).toNat < S256x257.size a := fun v27 v489 k0_hw271 => k0_hw271

def k0_chk272 (v480 : IVec S16 32) (v490 : IVec S16 32) : Prop :=
  (∀ a x, ((![v490, v480] : Fin 2 → IVec S16 32) a x).toNat < S16x256.size a)
theorem k0_idx272_inb : ∀ (v480 : IVec S16 32) (v490 : IVec S16 32) (k0_hw272 : k0_chk272 v480 v490), ∀ a x, ((![v490, v480] : Fin 2 → IVec S16 32) a x).toNat < S16x256.size a := fun v480 v490 k0_hw272 => k0_hw272

def k0_chk273 (v27 : IVec S16 32) (v492 : IVec S16 32) : Prop :=
  (∀ a x, ((![v27, v492] : Fin 2 → IVec S16 32) a x).toNat < S256x257.size a)
theorem k0_idx273_inb : ∀ (v27 : IVec S16 32) (v492 : IVec S16 32) (k0_hw273 : k0_chk273 v27 v492), ∀ a x, ((![v27, v492] : Fin 2 → IVec S16 32) a x).toNat < S256x257.size a := fun v27 v492 k0_hw273 => k0_hw273

def k0_chk274 (v480 : IVec S16 32) (v493 : IVec S16 32) : Prop :=
  (∀ a x, ((![v493, v480] : Fin 2 → IVec S16 32) a x).toNat < S16x256.size a)
theorem k0_idx274_inb : ∀ (v480 : IVec S16 32) (v493 : IVec S16 32) (k0_hw274 : k0_chk274 v480 v493), ∀ a x, ((![v493, v480] : Fin 2 → IVec S16 32) a x).toNat < S16x256.size a := fun v480 v493 k0_hw274 => k0_hw274

def k0_chk275 (v27 : IVec S16 32) (v495 : IVec S16 32) : Prop :=
  (∀ a x, ((![v27, v495] : Fin 2 → IVec S16 32) a x).toNat < S256x257.size a)
theorem k0_idx275_inb : ∀ (v27 : IVec S16 32) (v495 : IVec S16 32) (k0_hw275 : k0_chk275 v27 v495), ∀ a x, ((![v27, v495] : Fin 2 → IVec S16 32) a x).toNat < S256x257.size a := fun v27 v495 k0_hw275 => k0_hw275

def k0_chk276 (v480 : IVec S16 32) (v496 : IVec S16 32) : Prop :=
  (∀ a x, ((![v496, v480] : Fin 2 → IVec S16 32) a x).toNat < S16x256.size a)
theorem k0_idx276_inb : ∀ (v480 : IVec S16 32) (v496 : IVec S16 32) (k0_hw276 : k0_chk276 v480 v496), ∀ a x, ((![v496, v480] : Fin 2 → IVec S16 32) a x).toNat < S16x256.size a := fun v480 v496 k0_hw276 => k0_hw276

def k0_chk277 (v27 : IVec S16 32) (v498 : IVec S16 32) : Prop :=
  (∀ a x, ((![v27, v498] : Fin 2 → IVec S16 32) a x).toNat < S256x257.size a)
theorem k0_idx277_inb : ∀ (v27 : IVec S16 32) (v498 : IVec S16 32) (k0_hw277 : k0_chk277 v27 v498), ∀ a x, ((![v27, v498] : Fin 2 → IVec S16 32) a x).toNat < S256x257.size a := fun v27 v498 k0_hw277 => k0_hw277

def k0_chk278 (v480 : IVec S16 32) (v499 : IVec S16 32) : Prop :=
  (∀ a x, ((![v499, v480] : Fin 2 → IVec S16 32) a x).toNat < S16x256.size a)
theorem k0_idx278_inb : ∀ (v480 : IVec S16 32) (v499 : IVec S16 32) (k0_hw278 : k0_chk278 v480 v499), ∀ a x, ((![v499, v480] : Fin 2 → IVec S16 32) a x).toNat < S16x256.size a := fun v480 v499 k0_hw278 => k0_hw278

def k0_chk279 (v27 : IVec S16 32) (v501 : IVec S16 32) : Prop :=
  (∀ a x, ((![v27, v501] : Fin 2 → IVec S16 32) a x).toNat < S256x257.size a)
theorem k0_idx279_inb : ∀ (v27 : IVec S16 32) (v501 : IVec S16 32) (k0_hw279 : k0_chk279 v27 v501), ∀ a x, ((![v27, v501] : Fin 2 → IVec S16 32) a x).toNat < S256x257.size a := fun v27 v501 k0_hw279 => k0_hw279

def k0_chk280 (v480 : IVec S16 32) (v502 : IVec S16 32) : Prop :=
  (∀ a x, ((![v502, v480] : Fin 2 → IVec S16 32) a x).toNat < S16x256.size a)
theorem k0_idx280_inb : ∀ (v480 : IVec S16 32) (v502 : IVec S16 32) (k0_hw280 : k0_chk280 v480 v502), ∀ a x, ((![v502, v480] : Fin 2 → IVec S16 32) a x).toNat < S16x256.size a := fun v480 v502 k0_hw280 => k0_hw280

def k0_chk281 (v27 : IVec S16 32) (v504 : IVec S16 32) : Prop :=
  (∀ a x, ((![v27, v504] : Fin 2 → IVec S16 32) a x).toNat < S256x257.size a)
theorem k0_idx281_inb : ∀ (v27 : IVec S16 32) (v504 : IVec S16 32) (k0_hw281 : k0_chk281 v27 v504), ∀ a x, ((![v27, v504] : Fin 2 → IVec S16 32) a x).toNat < S256x257.size a := fun v27 v504 k0_hw281 => k0_hw281

def k0_chk282 (v480 : IVec S16 32) (v505 : IVec S16 32) : Prop :=
  (∀ a x, ((![v505, v480] : Fin 2 → IVec S16 32) a x).toNat < S16x256.size a)
theorem k0_idx282_inb : ∀ (v480 : IVec S16 32) (v505 : IVec S16 32) (k0_hw282 : k0_chk282 v480 v505), ∀ a x, ((![v505, v480] : Fin 2 → IVec S16 32) a x).toNat < S16x256.size a := fun v480 v505 k0_hw282 => k0_hw282

def k0_chk283 (v27 : IVec S16 32) (v507 : IVec S16 32) : Prop :=
  (∀ a x, ((![v27, v507] : Fin 2 → IVec S16 32) a x).toNat < S256x257.size a)
theorem k0_idx283_inb : ∀ (v27 : IVec S16 32) (v507 : IVec S16 32) (k0_hw283 : k0_chk283 v27 v507), ∀ a x, ((![v27, v507] : Fin 2 → IVec S16 32) a x).toNat < S256x257.size a := fun v27 v507 k0_hw283 => k0_hw283

def k0_chk284 (v480 : IVec S16 32) (v508 : IVec S16 32) : Prop :=
  (∀ a x, ((![v508, v480] : Fin 2 → IVec S16 32) a x).toNat < S16x256.size a)
theorem k0_idx284_inb : ∀ (v480 : IVec S16 32) (v508 : IVec S16 32) (k0_hw284 : k0_chk284 v480 v508), ∀ a x, ((![v508, v480] : Fin 2 → IVec S16 32) a x).toNat < S16x256.size a := fun v480 v508 k0_hw284 => k0_hw284

def k0_chk285 (v27 : IVec S16 32) (v510 : IVec S16 32) : Prop :=
  (∀ a x, ((![v27, v510] : Fin 2 → IVec S16 32) a x).toNat < S256x257.size a)
theorem k0_idx285_inb : ∀ (v27 : IVec S16 32) (v510 : IVec S16 32) (k0_hw285 : k0_chk285 v27 v510), ∀ a x, ((![v27, v510] : Fin 2 → IVec S16 32) a x).toNat < S256x257.size a := fun v27 v510 k0_hw285 => k0_hw285

def k0_chk286 (v480 : IVec S16 32) (v511 : IVec S16 32) : Prop :=
  (∀ a x, ((![v511, v480] : Fin 2 → IVec S16 32) a x).toNat < S16x256.size a)
theorem k0_idx286_inb : ∀ (v480 : IVec S16 32) (v511 : IVec S16 32) (k0_hw286 : k0_chk286 v480 v511), ∀ a x, ((![v511, v480] : Fin 2 → IVec S16 32) a x).toNat < S16x256.size a := fun v480 v511 k0_hw286 => k0_hw286

def k0_chk287 (v27 : IVec S16 32) (v513 : IVec S16 32) : Prop :=
  (∀ a x, ((![v27, v513] : Fin 2 → IVec S16 32) a x).toNat < S256x257.size a)
theorem k0_idx287_inb : ∀ (v27 : IVec S16 32) (v513 : IVec S16 32) (k0_hw287 : k0_chk287 v27 v513), ∀ a x, ((![v27, v513] : Fin 2 → IVec S16 32) a x).toNat < S256x257.size a := fun v27 v513 k0_hw287 => k0_hw287

def k0_chk288 (v480 : IVec S16 32) (v514 : IVec S16 32) : Prop :=
  (∀ a x, ((![v514, v480] : Fin 2 → IVec S16 32) a x).toNat < S16x256.size a)
theorem k0_idx288_inb : ∀ (v480 : IVec S16 32) (v514 : IVec S16 32) (k0_hw288 : k0_chk288 v480 v514), ∀ a x, ((![v514, v480] : Fin 2 → IVec S16 32) a x).toNat < S16x256.size a := fun v480 v514 k0_hw288 => k0_hw288

def k0_chk289 (v27 : IVec S16 32) (v516 : IVec S16 32) : Prop :=
  (∀ a x, ((![v27, v516] : Fin 2 → IVec S16 32) a x).toNat < S256x257.size a)
theorem k0_idx289_inb : ∀ (v27 : IVec S16 32) (v516 : IVec S16 32) (k0_hw289 : k0_chk289 v27 v516), ∀ a x, ((![v27, v516] : Fin 2 → IVec S16 32) a x).toNat < S256x257.size a := fun v27 v516 k0_hw289 => k0_hw289

def k0_chk290 (v480 : IVec S16 32) (v517 : IVec S16 32) : Prop :=
  (∀ a x, ((![v517, v480] : Fin 2 → IVec S16 32) a x).toNat < S16x256.size a)
theorem k0_idx290_inb : ∀ (v480 : IVec S16 32) (v517 : IVec S16 32) (k0_hw290 : k0_chk290 v480 v517), ∀ a x, ((![v517, v480] : Fin 2 → IVec S16 32) a x).toNat < S16x256.size a := fun v480 v517 k0_hw290 => k0_hw290

def k0_chk291 (v27 : IVec S16 32) (v519 : IVec S16 32) : Prop :=
  (∀ a x, ((![v27, v519] : Fin 2 → IVec S16 32) a x).toNat < S256x257.size a)
theorem k0_idx291_inb : ∀ (v27 : IVec S16 32) (v519 : IVec S16 32) (k0_hw291 : k0_chk291 v27 v519), ∀ a x, ((![v27, v519] : Fin 2 → IVec S16 32) a x).toNat < S256x257.size a := fun v27 v519 k0_hw291 => k0_hw291

def k0_chk292 (v480 : IVec S16 32) (v520 : IVec S16 32) : Prop :=
  (∀ a x, ((![v520, v480] : Fin 2 → IVec S16 32) a x).toNat < S16x256.size a)
theorem k0_idx292_inb : ∀ (v480 : IVec S16 32) (v520 : IVec S16 32) (k0_hw292 : k0_chk292 v480 v520), ∀ a x, ((![v520, v480] : Fin 2 → IVec S16 32) a x).toNat < S16x256.size a := fun v480 v520 k0_hw292 => k0_hw292

def k0_chk293 (v27 : IVec S16 32) (v522 : IVec S16 32) : Prop :=
  (∀ a x, ((![v27, v522] : Fin 2 → IVec S16 32) a x).toNat < S256x257.size a)
theorem k0_idx293_inb : ∀ (v27 : IVec S16 32) (v522 : IVec S16 32) (k0_hw293 : k0_chk293 v27 v522), ∀ a x, ((![v27, v522] : Fin 2 → IVec S16 32) a x).toNat < S256x257.size a := fun v27 v522 k0_hw293 => k0_hw293

def k0_chk294 (v480 : IVec S16 32) (v523 : IVec S16 32) : Prop :=
  (∀ a x, ((![v523, v480] : Fin 2 → IVec S16 32) a x).toNat < S16x256.size a)
theorem k0_idx294_inb : ∀ (v480 : IVec S16 32) (v523 : IVec S16 32) (k0_hw294 : k0_chk294 v480 v523), ∀ a x, ((![v523, v480] : Fin 2 → IVec S16 32) a x).toNat < S16x256.size a := fun v480 v523 k0_hw294 => k0_hw294

def k0_chk295 (v27 : IVec S16 32) (v525 : IVec S16 32) : Prop :=
  (∀ a x, ((![v27, v525] : Fin 2 → IVec S16 32) a x).toNat < S256x257.size a)
theorem k0_idx295_inb : ∀ (v27 : IVec S16 32) (v525 : IVec S16 32) (k0_hw295 : k0_chk295 v27 v525), ∀ a x, ((![v27, v525] : Fin 2 → IVec S16 32) a x).toNat < S256x257.size a := fun v27 v525 k0_hw295 => k0_hw295

def k0_chk296 (v480 : IVec S16 32) (v526 : IVec S16 32) : Prop :=
  (∀ a x, ((![v526, v480] : Fin 2 → IVec S16 32) a x).toNat < S16x256.size a)
theorem k0_idx296_inb : ∀ (v480 : IVec S16 32) (v526 : IVec S16 32) (k0_hw296 : k0_chk296 v480 v526), ∀ a x, ((![v526, v480] : Fin 2 → IVec S16 32) a x).toNat < S16x256.size a := fun v480 v526 k0_hw296 => k0_hw296

def k0_chk297 (v27 : IVec S16 32) (v528 : IVec S16 32) : Prop :=
  (∀ a x, ((![v27, v528] : Fin 2 → IVec S16 32) a x).toNat < S256x257.size a)
theorem k0_idx297_inb : ∀ (v27 : IVec S16 32) (v528 : IVec S16 32) (k0_hw297 : k0_chk297 v27 v528), ∀ a x, ((![v27, v528] : Fin 2 → IVec S16 32) a x).toNat < S256x257.size a := fun v27 v528 k0_hw297 => k0_hw297

def k0_chk298 (v532 : IVec S16 32) (v534 : IVec S16 32) : Prop :=
  (∀ a x, ((![v532, v534] : Fin 2 → IVec S16 32) a x).toNat < S44x128.size a)
theorem k0_idx298_inb : ∀ (v532 : IVec S16 32) (v534 : IVec S16 32) (k0_hw298 : k0_chk298 v532 v534), ∀ a x, ((![v532, v534] : Fin 2 → IVec S16 32) a x).toNat < S44x128.size a := fun v532 v534 k0_hw298 => k0_hw298

def k0_chk299 (v535 : IVec S16 32) (v536 : IVec S16 32) : Prop :=
  (∀ a x, ((![v536, v535] : Fin 2 → IVec S16 32) a x).toNat < S16x256.size a)
theorem k0_idx299_inb : ∀ (v535 : IVec S16 32) (v536 : IVec S16 32) (k0_hw299 : k0_chk299 v535 v536), ∀ a x, ((![v536, v535] : Fin 2 → IVec S16 32) a x).toNat < S16x256.size a := fun v535 v536 k0_hw299 => k0_hw299

def k0_chk300 (v27 : IVec S16 32) (v538 : IVec S16 32) : Prop :=
  (∀ a x, ((![v27, v538] : Fin 2 → IVec S16 32) a x).toNat < S256x257.size a)
theorem k0_idx300_inb : ∀ (v27 : IVec S16 32) (v538 : IVec S16 32) (k0_hw300 : k0_chk300 v27 v538), ∀ a x, ((![v27, v538] : Fin 2 → IVec S16 32) a x).toNat < S256x257.size a := fun v27 v538 k0_hw300 => k0_hw300

def k0_chk301 (v535 : IVec S16 32) (v539 : IVec S16 32) : Prop :=
  (∀ a x, ((![v539, v535] : Fin 2 → IVec S16 32) a x).toNat < S16x256.size a)
theorem k0_idx301_inb : ∀ (v535 : IVec S16 32) (v539 : IVec S16 32) (k0_hw301 : k0_chk301 v535 v539), ∀ a x, ((![v539, v535] : Fin 2 → IVec S16 32) a x).toNat < S16x256.size a := fun v535 v539 k0_hw301 => k0_hw301

def k0_chk302 (v27 : IVec S16 32) (v541 : IVec S16 32) : Prop :=
  (∀ a x, ((![v27, v541] : Fin 2 → IVec S16 32) a x).toNat < S256x257.size a)
theorem k0_idx302_inb : ∀ (v27 : IVec S16 32) (v541 : IVec S16 32) (k0_hw302 : k0_chk302 v27 v541), ∀ a x, ((![v27, v541] : Fin 2 → IVec S16 32) a x).toNat < S256x257.size a := fun v27 v541 k0_hw302 => k0_hw302

def k0_chk303 (v535 : IVec S16 32) (v542 : IVec S16 32) : Prop :=
  (∀ a x, ((![v542, v535] : Fin 2 → IVec S16 32) a x).toNat < S16x256.size a)
theorem k0_idx303_inb : ∀ (v535 : IVec S16 32) (v542 : IVec S16 32) (k0_hw303 : k0_chk303 v535 v542), ∀ a x, ((![v542, v535] : Fin 2 → IVec S16 32) a x).toNat < S16x256.size a := fun v535 v542 k0_hw303 => k0_hw303

def k0_chk304 (v27 : IVec S16 32) (v544 : IVec S16 32) : Prop :=
  (∀ a x, ((![v27, v544] : Fin 2 → IVec S16 32) a x).toNat < S256x257.size a)
theorem k0_idx304_inb : ∀ (v27 : IVec S16 32) (v544 : IVec S16 32) (k0_hw304 : k0_chk304 v27 v544), ∀ a x, ((![v27, v544] : Fin 2 → IVec S16 32) a x).toNat < S256x257.size a := fun v27 v544 k0_hw304 => k0_hw304

def k0_chk305 (v535 : IVec S16 32) (v545 : IVec S16 32) : Prop :=
  (∀ a x, ((![v545, v535] : Fin 2 → IVec S16 32) a x).toNat < S16x256.size a)
theorem k0_idx305_inb : ∀ (v535 : IVec S16 32) (v545 : IVec S16 32) (k0_hw305 : k0_chk305 v535 v545), ∀ a x, ((![v545, v535] : Fin 2 → IVec S16 32) a x).toNat < S16x256.size a := fun v535 v545 k0_hw305 => k0_hw305

def k0_chk306 (v27 : IVec S16 32) (v547 : IVec S16 32) : Prop :=
  (∀ a x, ((![v27, v547] : Fin 2 → IVec S16 32) a x).toNat < S256x257.size a)
theorem k0_idx306_inb : ∀ (v27 : IVec S16 32) (v547 : IVec S16 32) (k0_hw306 : k0_chk306 v27 v547), ∀ a x, ((![v27, v547] : Fin 2 → IVec S16 32) a x).toNat < S256x257.size a := fun v27 v547 k0_hw306 => k0_hw306

def k0_chk307 (v535 : IVec S16 32) (v548 : IVec S16 32) : Prop :=
  (∀ a x, ((![v548, v535] : Fin 2 → IVec S16 32) a x).toNat < S16x256.size a)
theorem k0_idx307_inb : ∀ (v535 : IVec S16 32) (v548 : IVec S16 32) (k0_hw307 : k0_chk307 v535 v548), ∀ a x, ((![v548, v535] : Fin 2 → IVec S16 32) a x).toNat < S16x256.size a := fun v535 v548 k0_hw307 => k0_hw307

def k0_chk308 (v27 : IVec S16 32) (v550 : IVec S16 32) : Prop :=
  (∀ a x, ((![v27, v550] : Fin 2 → IVec S16 32) a x).toNat < S256x257.size a)
theorem k0_idx308_inb : ∀ (v27 : IVec S16 32) (v550 : IVec S16 32) (k0_hw308 : k0_chk308 v27 v550), ∀ a x, ((![v27, v550] : Fin 2 → IVec S16 32) a x).toNat < S256x257.size a := fun v27 v550 k0_hw308 => k0_hw308

def k0_chk309 (v535 : IVec S16 32) (v551 : IVec S16 32) : Prop :=
  (∀ a x, ((![v551, v535] : Fin 2 → IVec S16 32) a x).toNat < S16x256.size a)
theorem k0_idx309_inb : ∀ (v535 : IVec S16 32) (v551 : IVec S16 32) (k0_hw309 : k0_chk309 v535 v551), ∀ a x, ((![v551, v535] : Fin 2 → IVec S16 32) a x).toNat < S16x256.size a := fun v535 v551 k0_hw309 => k0_hw309

def k0_chk310 (v27 : IVec S16 32) (v553 : IVec S16 32) : Prop :=
  (∀ a x, ((![v27, v553] : Fin 2 → IVec S16 32) a x).toNat < S256x257.size a)
theorem k0_idx310_inb : ∀ (v27 : IVec S16 32) (v553 : IVec S16 32) (k0_hw310 : k0_chk310 v27 v553), ∀ a x, ((![v27, v553] : Fin 2 → IVec S16 32) a x).toNat < S256x257.size a := fun v27 v553 k0_hw310 => k0_hw310

def k0_chk311 (v535 : IVec S16 32) (v554 : IVec S16 32) : Prop :=
  (∀ a x, ((![v554, v535] : Fin 2 → IVec S16 32) a x).toNat < S16x256.size a)
theorem k0_idx311_inb : ∀ (v535 : IVec S16 32) (v554 : IVec S16 32) (k0_hw311 : k0_chk311 v535 v554), ∀ a x, ((![v554, v535] : Fin 2 → IVec S16 32) a x).toNat < S16x256.size a := fun v535 v554 k0_hw311 => k0_hw311

def k0_chk312 (v27 : IVec S16 32) (v556 : IVec S16 32) : Prop :=
  (∀ a x, ((![v27, v556] : Fin 2 → IVec S16 32) a x).toNat < S256x257.size a)
theorem k0_idx312_inb : ∀ (v27 : IVec S16 32) (v556 : IVec S16 32) (k0_hw312 : k0_chk312 v27 v556), ∀ a x, ((![v27, v556] : Fin 2 → IVec S16 32) a x).toNat < S256x257.size a := fun v27 v556 k0_hw312 => k0_hw312

def k0_chk313 (v535 : IVec S16 32) (v557 : IVec S16 32) : Prop :=
  (∀ a x, ((![v557, v535] : Fin 2 → IVec S16 32) a x).toNat < S16x256.size a)
theorem k0_idx313_inb : ∀ (v535 : IVec S16 32) (v557 : IVec S16 32) (k0_hw313 : k0_chk313 v535 v557), ∀ a x, ((![v557, v535] : Fin 2 → IVec S16 32) a x).toNat < S16x256.size a := fun v535 v557 k0_hw313 => k0_hw313

def k0_chk314 (v27 : IVec S16 32) (v559 : IVec S16 32) : Prop :=
  (∀ a x, ((![v27, v559] : Fin 2 → IVec S16 32) a x).toNat < S256x257.size a)
theorem k0_idx314_inb : ∀ (v27 : IVec S16 32) (v559 : IVec S16 32) (k0_hw314 : k0_chk314 v27 v559), ∀ a x, ((![v27, v559] : Fin 2 → IVec S16 32) a x).toNat < S256x257.size a := fun v27 v559 k0_hw314 => k0_hw314

def k0_chk315 (v535 : IVec S16 32) (v560 : IVec S16 32) : Prop :=
  (∀ a x, ((![v560, v535] : Fin 2 → IVec S16 32) a x).toNat < S16x256.size a)
theorem k0_idx315_inb : ∀ (v535 : IVec S16 32) (v560 : IVec S16 32) (k0_hw315 : k0_chk315 v535 v560), ∀ a x, ((![v560, v535] : Fin 2 → IVec S16 32) a x).toNat < S16x256.size a := fun v535 v560 k0_hw315 => k0_hw315

def k0_chk316 (v27 : IVec S16 32) (v562 : IVec S16 32) : Prop :=
  (∀ a x, ((![v27, v562] : Fin 2 → IVec S16 32) a x).toNat < S256x257.size a)
theorem k0_idx316_inb : ∀ (v27 : IVec S16 32) (v562 : IVec S16 32) (k0_hw316 : k0_chk316 v27 v562), ∀ a x, ((![v27, v562] : Fin 2 → IVec S16 32) a x).toNat < S256x257.size a := fun v27 v562 k0_hw316 => k0_hw316

def k0_chk317 (v535 : IVec S16 32) (v563 : IVec S16 32) : Prop :=
  (∀ a x, ((![v563, v535] : Fin 2 → IVec S16 32) a x).toNat < S16x256.size a)
theorem k0_idx317_inb : ∀ (v535 : IVec S16 32) (v563 : IVec S16 32) (k0_hw317 : k0_chk317 v535 v563), ∀ a x, ((![v563, v535] : Fin 2 → IVec S16 32) a x).toNat < S16x256.size a := fun v535 v563 k0_hw317 => k0_hw317

def k0_chk318 (v27 : IVec S16 32) (v565 : IVec S16 32) : Prop :=
  (∀ a x, ((![v27, v565] : Fin 2 → IVec S16 32) a x).toNat < S256x257.size a)
theorem k0_idx318_inb : ∀ (v27 : IVec S16 32) (v565 : IVec S16 32) (k0_hw318 : k0_chk318 v27 v565), ∀ a x, ((![v27, v565] : Fin 2 → IVec S16 32) a x).toNat < S256x257.size a := fun v27 v565 k0_hw318 => k0_hw318

def k0_chk319 (v535 : IVec S16 32) (v566 : IVec S16 32) : Prop :=
  (∀ a x, ((![v566, v535] : Fin 2 → IVec S16 32) a x).toNat < S16x256.size a)
theorem k0_idx319_inb : ∀ (v535 : IVec S16 32) (v566 : IVec S16 32) (k0_hw319 : k0_chk319 v535 v566), ∀ a x, ((![v566, v535] : Fin 2 → IVec S16 32) a x).toNat < S16x256.size a := fun v535 v566 k0_hw319 => k0_hw319

def k0_chk320 (v27 : IVec S16 32) (v568 : IVec S16 32) : Prop :=
  (∀ a x, ((![v27, v568] : Fin 2 → IVec S16 32) a x).toNat < S256x257.size a)
theorem k0_idx320_inb : ∀ (v27 : IVec S16 32) (v568 : IVec S16 32) (k0_hw320 : k0_chk320 v27 v568), ∀ a x, ((![v27, v568] : Fin 2 → IVec S16 32) a x).toNat < S256x257.size a := fun v27 v568 k0_hw320 => k0_hw320

def k0_chk321 (v535 : IVec S16 32) (v569 : IVec S16 32) : Prop :=
  (∀ a x, ((![v569, v535] : Fin 2 → IVec S16 32) a x).toNat < S16x256.size a)
theorem k0_idx321_inb : ∀ (v535 : IVec S16 32) (v569 : IVec S16 32) (k0_hw321 : k0_chk321 v535 v569), ∀ a x, ((![v569, v535] : Fin 2 → IVec S16 32) a x).toNat < S16x256.size a := fun v535 v569 k0_hw321 => k0_hw321

def k0_chk322 (v27 : IVec S16 32) (v571 : IVec S16 32) : Prop :=
  (∀ a x, ((![v27, v571] : Fin 2 → IVec S16 32) a x).toNat < S256x257.size a)
theorem k0_idx322_inb : ∀ (v27 : IVec S16 32) (v571 : IVec S16 32) (k0_hw322 : k0_chk322 v27 v571), ∀ a x, ((![v27, v571] : Fin 2 → IVec S16 32) a x).toNat < S256x257.size a := fun v27 v571 k0_hw322 => k0_hw322

def k0_chk323 (v535 : IVec S16 32) (v572 : IVec S16 32) : Prop :=
  (∀ a x, ((![v572, v535] : Fin 2 → IVec S16 32) a x).toNat < S16x256.size a)
theorem k0_idx323_inb : ∀ (v535 : IVec S16 32) (v572 : IVec S16 32) (k0_hw323 : k0_chk323 v535 v572), ∀ a x, ((![v572, v535] : Fin 2 → IVec S16 32) a x).toNat < S16x256.size a := fun v535 v572 k0_hw323 => k0_hw323

def k0_chk324 (v27 : IVec S16 32) (v574 : IVec S16 32) : Prop :=
  (∀ a x, ((![v27, v574] : Fin 2 → IVec S16 32) a x).toNat < S256x257.size a)
theorem k0_idx324_inb : ∀ (v27 : IVec S16 32) (v574 : IVec S16 32) (k0_hw324 : k0_chk324 v27 v574), ∀ a x, ((![v27, v574] : Fin 2 → IVec S16 32) a x).toNat < S256x257.size a := fun v27 v574 k0_hw324 => k0_hw324

def k0_chk325 (v535 : IVec S16 32) (v575 : IVec S16 32) : Prop :=
  (∀ a x, ((![v575, v535] : Fin 2 → IVec S16 32) a x).toNat < S16x256.size a)
theorem k0_idx325_inb : ∀ (v535 : IVec S16 32) (v575 : IVec S16 32) (k0_hw325 : k0_chk325 v535 v575), ∀ a x, ((![v575, v535] : Fin 2 → IVec S16 32) a x).toNat < S16x256.size a := fun v535 v575 k0_hw325 => k0_hw325

def k0_chk326 (v27 : IVec S16 32) (v577 : IVec S16 32) : Prop :=
  (∀ a x, ((![v27, v577] : Fin 2 → IVec S16 32) a x).toNat < S256x257.size a)
theorem k0_idx326_inb : ∀ (v27 : IVec S16 32) (v577 : IVec S16 32) (k0_hw326 : k0_chk326 v27 v577), ∀ a x, ((![v27, v577] : Fin 2 → IVec S16 32) a x).toNat < S256x257.size a := fun v27 v577 k0_hw326 => k0_hw326

def k0_chk327 (v535 : IVec S16 32) (v578 : IVec S16 32) : Prop :=
  (∀ a x, ((![v578, v535] : Fin 2 → IVec S16 32) a x).toNat < S16x256.size a)
theorem k0_idx327_inb : ∀ (v535 : IVec S16 32) (v578 : IVec S16 32) (k0_hw327 : k0_chk327 v535 v578), ∀ a x, ((![v578, v535] : Fin 2 → IVec S16 32) a x).toNat < S16x256.size a := fun v535 v578 k0_hw327 => k0_hw327

def k0_chk328 (v27 : IVec S16 32) (v580 : IVec S16 32) : Prop :=
  (∀ a x, ((![v27, v580] : Fin 2 → IVec S16 32) a x).toNat < S256x257.size a)
theorem k0_idx328_inb : ∀ (v27 : IVec S16 32) (v580 : IVec S16 32) (k0_hw328 : k0_chk328 v27 v580), ∀ a x, ((![v27, v580] : Fin 2 → IVec S16 32) a x).toNat < S256x257.size a := fun v27 v580 k0_hw328 => k0_hw328

def k0_chk329 (v535 : IVec S16 32) (v581 : IVec S16 32) : Prop :=
  (∀ a x, ((![v581, v535] : Fin 2 → IVec S16 32) a x).toNat < S16x256.size a)
theorem k0_idx329_inb : ∀ (v535 : IVec S16 32) (v581 : IVec S16 32) (k0_hw329 : k0_chk329 v535 v581), ∀ a x, ((![v581, v535] : Fin 2 → IVec S16 32) a x).toNat < S16x256.size a := fun v535 v581 k0_hw329 => k0_hw329

def k0_chk330 (v27 : IVec S16 32) (v583 : IVec S16 32) : Prop :=
  (∀ a x, ((![v27, v583] : Fin 2 → IVec S16 32) a x).toNat < S256x257.size a)
theorem k0_idx330_inb : ∀ (v27 : IVec S16 32) (v583 : IVec S16 32) (k0_hw330 : k0_chk330 v27 v583), ∀ a x, ((![v27, v583] : Fin 2 → IVec S16 32) a x).toNat < S256x257.size a := fun v27 v583 k0_hw330 => k0_hw330

def k0_chk331 (v587 : IVec S16 32) (v589 : IVec S16 32) : Prop :=
  (∀ a x, ((![v587, v589] : Fin 2 → IVec S16 32) a x).toNat < S44x128.size a)
theorem k0_idx331_inb : ∀ (v587 : IVec S16 32) (v589 : IVec S16 32) (k0_hw331 : k0_chk331 v587 v589), ∀ a x, ((![v587, v589] : Fin 2 → IVec S16 32) a x).toNat < S44x128.size a := fun v587 v589 k0_hw331 => k0_hw331

def k0_chk332 (v590 : IVec S16 32) (v591 : IVec S16 32) : Prop :=
  (∀ a x, ((![v591, v590] : Fin 2 → IVec S16 32) a x).toNat < S16x256.size a)
theorem k0_idx332_inb : ∀ (v590 : IVec S16 32) (v591 : IVec S16 32) (k0_hw332 : k0_chk332 v590 v591), ∀ a x, ((![v591, v590] : Fin 2 → IVec S16 32) a x).toNat < S16x256.size a := fun v590 v591 k0_hw332 => k0_hw332

def k0_chk333 (v27 : IVec S16 32) (v593 : IVec S16 32) : Prop :=
  (∀ a x, ((![v27, v593] : Fin 2 → IVec S16 32) a x).toNat < S256x257.size a)
theorem k0_idx333_inb : ∀ (v27 : IVec S16 32) (v593 : IVec S16 32) (k0_hw333 : k0_chk333 v27 v593), ∀ a x, ((![v27, v593] : Fin 2 → IVec S16 32) a x).toNat < S256x257.size a := fun v27 v593 k0_hw333 => k0_hw333

def k0_chk334 (v590 : IVec S16 32) (v594 : IVec S16 32) : Prop :=
  (∀ a x, ((![v594, v590] : Fin 2 → IVec S16 32) a x).toNat < S16x256.size a)
theorem k0_idx334_inb : ∀ (v590 : IVec S16 32) (v594 : IVec S16 32) (k0_hw334 : k0_chk334 v590 v594), ∀ a x, ((![v594, v590] : Fin 2 → IVec S16 32) a x).toNat < S16x256.size a := fun v590 v594 k0_hw334 => k0_hw334

def k0_chk335 (v27 : IVec S16 32) (v596 : IVec S16 32) : Prop :=
  (∀ a x, ((![v27, v596] : Fin 2 → IVec S16 32) a x).toNat < S256x257.size a)
theorem k0_idx335_inb : ∀ (v27 : IVec S16 32) (v596 : IVec S16 32) (k0_hw335 : k0_chk335 v27 v596), ∀ a x, ((![v27, v596] : Fin 2 → IVec S16 32) a x).toNat < S256x257.size a := fun v27 v596 k0_hw335 => k0_hw335

def k0_chk336 (v590 : IVec S16 32) (v597 : IVec S16 32) : Prop :=
  (∀ a x, ((![v597, v590] : Fin 2 → IVec S16 32) a x).toNat < S16x256.size a)
theorem k0_idx336_inb : ∀ (v590 : IVec S16 32) (v597 : IVec S16 32) (k0_hw336 : k0_chk336 v590 v597), ∀ a x, ((![v597, v590] : Fin 2 → IVec S16 32) a x).toNat < S16x256.size a := fun v590 v597 k0_hw336 => k0_hw336

def k0_chk337 (v27 : IVec S16 32) (v599 : IVec S16 32) : Prop :=
  (∀ a x, ((![v27, v599] : Fin 2 → IVec S16 32) a x).toNat < S256x257.size a)
theorem k0_idx337_inb : ∀ (v27 : IVec S16 32) (v599 : IVec S16 32) (k0_hw337 : k0_chk337 v27 v599), ∀ a x, ((![v27, v599] : Fin 2 → IVec S16 32) a x).toNat < S256x257.size a := fun v27 v599 k0_hw337 => k0_hw337

def k0_chk338 (v590 : IVec S16 32) (v600 : IVec S16 32) : Prop :=
  (∀ a x, ((![v600, v590] : Fin 2 → IVec S16 32) a x).toNat < S16x256.size a)
theorem k0_idx338_inb : ∀ (v590 : IVec S16 32) (v600 : IVec S16 32) (k0_hw338 : k0_chk338 v590 v600), ∀ a x, ((![v600, v590] : Fin 2 → IVec S16 32) a x).toNat < S16x256.size a := fun v590 v600 k0_hw338 => k0_hw338

def k0_chk339 (v27 : IVec S16 32) (v602 : IVec S16 32) : Prop :=
  (∀ a x, ((![v27, v602] : Fin 2 → IVec S16 32) a x).toNat < S256x257.size a)
theorem k0_idx339_inb : ∀ (v27 : IVec S16 32) (v602 : IVec S16 32) (k0_hw339 : k0_chk339 v27 v602), ∀ a x, ((![v27, v602] : Fin 2 → IVec S16 32) a x).toNat < S256x257.size a := fun v27 v602 k0_hw339 => k0_hw339

def k0_chk340 (v590 : IVec S16 32) (v603 : IVec S16 32) : Prop :=
  (∀ a x, ((![v603, v590] : Fin 2 → IVec S16 32) a x).toNat < S16x256.size a)
theorem k0_idx340_inb : ∀ (v590 : IVec S16 32) (v603 : IVec S16 32) (k0_hw340 : k0_chk340 v590 v603), ∀ a x, ((![v603, v590] : Fin 2 → IVec S16 32) a x).toNat < S16x256.size a := fun v590 v603 k0_hw340 => k0_hw340

def k0_chk341 (v27 : IVec S16 32) (v605 : IVec S16 32) : Prop :=
  (∀ a x, ((![v27, v605] : Fin 2 → IVec S16 32) a x).toNat < S256x257.size a)
theorem k0_idx341_inb : ∀ (v27 : IVec S16 32) (v605 : IVec S16 32) (k0_hw341 : k0_chk341 v27 v605), ∀ a x, ((![v27, v605] : Fin 2 → IVec S16 32) a x).toNat < S256x257.size a := fun v27 v605 k0_hw341 => k0_hw341

def k0_chk342 (v590 : IVec S16 32) (v606 : IVec S16 32) : Prop :=
  (∀ a x, ((![v606, v590] : Fin 2 → IVec S16 32) a x).toNat < S16x256.size a)
theorem k0_idx342_inb : ∀ (v590 : IVec S16 32) (v606 : IVec S16 32) (k0_hw342 : k0_chk342 v590 v606), ∀ a x, ((![v606, v590] : Fin 2 → IVec S16 32) a x).toNat < S16x256.size a := fun v590 v606 k0_hw342 => k0_hw342

def k0_chk343 (v27 : IVec S16 32) (v608 : IVec S16 32) : Prop :=
  (∀ a x, ((![v27, v608] : Fin 2 → IVec S16 32) a x).toNat < S256x257.size a)
theorem k0_idx343_inb : ∀ (v27 : IVec S16 32) (v608 : IVec S16 32) (k0_hw343 : k0_chk343 v27 v608), ∀ a x, ((![v27, v608] : Fin 2 → IVec S16 32) a x).toNat < S256x257.size a := fun v27 v608 k0_hw343 => k0_hw343

def k0_chk344 (v590 : IVec S16 32) (v609 : IVec S16 32) : Prop :=
  (∀ a x, ((![v609, v590] : Fin 2 → IVec S16 32) a x).toNat < S16x256.size a)
theorem k0_idx344_inb : ∀ (v590 : IVec S16 32) (v609 : IVec S16 32) (k0_hw344 : k0_chk344 v590 v609), ∀ a x, ((![v609, v590] : Fin 2 → IVec S16 32) a x).toNat < S16x256.size a := fun v590 v609 k0_hw344 => k0_hw344

def k0_chk345 (v27 : IVec S16 32) (v611 : IVec S16 32) : Prop :=
  (∀ a x, ((![v27, v611] : Fin 2 → IVec S16 32) a x).toNat < S256x257.size a)
theorem k0_idx345_inb : ∀ (v27 : IVec S16 32) (v611 : IVec S16 32) (k0_hw345 : k0_chk345 v27 v611), ∀ a x, ((![v27, v611] : Fin 2 → IVec S16 32) a x).toNat < S256x257.size a := fun v27 v611 k0_hw345 => k0_hw345

def k0_chk346 (v590 : IVec S16 32) (v612 : IVec S16 32) : Prop :=
  (∀ a x, ((![v612, v590] : Fin 2 → IVec S16 32) a x).toNat < S16x256.size a)
theorem k0_idx346_inb : ∀ (v590 : IVec S16 32) (v612 : IVec S16 32) (k0_hw346 : k0_chk346 v590 v612), ∀ a x, ((![v612, v590] : Fin 2 → IVec S16 32) a x).toNat < S16x256.size a := fun v590 v612 k0_hw346 => k0_hw346

def k0_chk347 (v27 : IVec S16 32) (v614 : IVec S16 32) : Prop :=
  (∀ a x, ((![v27, v614] : Fin 2 → IVec S16 32) a x).toNat < S256x257.size a)
theorem k0_idx347_inb : ∀ (v27 : IVec S16 32) (v614 : IVec S16 32) (k0_hw347 : k0_chk347 v27 v614), ∀ a x, ((![v27, v614] : Fin 2 → IVec S16 32) a x).toNat < S256x257.size a := fun v27 v614 k0_hw347 => k0_hw347

def k0_chk348 (v590 : IVec S16 32) (v615 : IVec S16 32) : Prop :=
  (∀ a x, ((![v615, v590] : Fin 2 → IVec S16 32) a x).toNat < S16x256.size a)
theorem k0_idx348_inb : ∀ (v590 : IVec S16 32) (v615 : IVec S16 32) (k0_hw348 : k0_chk348 v590 v615), ∀ a x, ((![v615, v590] : Fin 2 → IVec S16 32) a x).toNat < S16x256.size a := fun v590 v615 k0_hw348 => k0_hw348

def k0_chk349 (v27 : IVec S16 32) (v617 : IVec S16 32) : Prop :=
  (∀ a x, ((![v27, v617] : Fin 2 → IVec S16 32) a x).toNat < S256x257.size a)
theorem k0_idx349_inb : ∀ (v27 : IVec S16 32) (v617 : IVec S16 32) (k0_hw349 : k0_chk349 v27 v617), ∀ a x, ((![v27, v617] : Fin 2 → IVec S16 32) a x).toNat < S256x257.size a := fun v27 v617 k0_hw349 => k0_hw349

def k0_chk350 (v590 : IVec S16 32) (v618 : IVec S16 32) : Prop :=
  (∀ a x, ((![v618, v590] : Fin 2 → IVec S16 32) a x).toNat < S16x256.size a)
theorem k0_idx350_inb : ∀ (v590 : IVec S16 32) (v618 : IVec S16 32) (k0_hw350 : k0_chk350 v590 v618), ∀ a x, ((![v618, v590] : Fin 2 → IVec S16 32) a x).toNat < S16x256.size a := fun v590 v618 k0_hw350 => k0_hw350

def k0_chk351 (v27 : IVec S16 32) (v620 : IVec S16 32) : Prop :=
  (∀ a x, ((![v27, v620] : Fin 2 → IVec S16 32) a x).toNat < S256x257.size a)
theorem k0_idx351_inb : ∀ (v27 : IVec S16 32) (v620 : IVec S16 32) (k0_hw351 : k0_chk351 v27 v620), ∀ a x, ((![v27, v620] : Fin 2 → IVec S16 32) a x).toNat < S256x257.size a := fun v27 v620 k0_hw351 => k0_hw351

def k0_chk352 (v590 : IVec S16 32) (v621 : IVec S16 32) : Prop :=
  (∀ a x, ((![v621, v590] : Fin 2 → IVec S16 32) a x).toNat < S16x256.size a)
theorem k0_idx352_inb : ∀ (v590 : IVec S16 32) (v621 : IVec S16 32) (k0_hw352 : k0_chk352 v590 v621), ∀ a x, ((![v621, v590] : Fin 2 → IVec S16 32) a x).toNat < S16x256.size a := fun v590 v621 k0_hw352 => k0_hw352

def k0_chk353 (v27 : IVec S16 32) (v623 : IVec S16 32) : Prop :=
  (∀ a x, ((![v27, v623] : Fin 2 → IVec S16 32) a x).toNat < S256x257.size a)
theorem k0_idx353_inb : ∀ (v27 : IVec S16 32) (v623 : IVec S16 32) (k0_hw353 : k0_chk353 v27 v623), ∀ a x, ((![v27, v623] : Fin 2 → IVec S16 32) a x).toNat < S256x257.size a := fun v27 v623 k0_hw353 => k0_hw353

def k0_chk354 (v590 : IVec S16 32) (v624 : IVec S16 32) : Prop :=
  (∀ a x, ((![v624, v590] : Fin 2 → IVec S16 32) a x).toNat < S16x256.size a)
theorem k0_idx354_inb : ∀ (v590 : IVec S16 32) (v624 : IVec S16 32) (k0_hw354 : k0_chk354 v590 v624), ∀ a x, ((![v624, v590] : Fin 2 → IVec S16 32) a x).toNat < S16x256.size a := fun v590 v624 k0_hw354 => k0_hw354

def k0_chk355 (v27 : IVec S16 32) (v626 : IVec S16 32) : Prop :=
  (∀ a x, ((![v27, v626] : Fin 2 → IVec S16 32) a x).toNat < S256x257.size a)
theorem k0_idx355_inb : ∀ (v27 : IVec S16 32) (v626 : IVec S16 32) (k0_hw355 : k0_chk355 v27 v626), ∀ a x, ((![v27, v626] : Fin 2 → IVec S16 32) a x).toNat < S256x257.size a := fun v27 v626 k0_hw355 => k0_hw355

def k0_chk356 (v590 : IVec S16 32) (v627 : IVec S16 32) : Prop :=
  (∀ a x, ((![v627, v590] : Fin 2 → IVec S16 32) a x).toNat < S16x256.size a)
theorem k0_idx356_inb : ∀ (v590 : IVec S16 32) (v627 : IVec S16 32) (k0_hw356 : k0_chk356 v590 v627), ∀ a x, ((![v627, v590] : Fin 2 → IVec S16 32) a x).toNat < S16x256.size a := fun v590 v627 k0_hw356 => k0_hw356

def k0_chk357 (v27 : IVec S16 32) (v629 : IVec S16 32) : Prop :=
  (∀ a x, ((![v27, v629] : Fin 2 → IVec S16 32) a x).toNat < S256x257.size a)
theorem k0_idx357_inb : ∀ (v27 : IVec S16 32) (v629 : IVec S16 32) (k0_hw357 : k0_chk357 v27 v629), ∀ a x, ((![v27, v629] : Fin 2 → IVec S16 32) a x).toNat < S256x257.size a := fun v27 v629 k0_hw357 => k0_hw357

def k0_chk358 (v590 : IVec S16 32) (v630 : IVec S16 32) : Prop :=
  (∀ a x, ((![v630, v590] : Fin 2 → IVec S16 32) a x).toNat < S16x256.size a)
theorem k0_idx358_inb : ∀ (v590 : IVec S16 32) (v630 : IVec S16 32) (k0_hw358 : k0_chk358 v590 v630), ∀ a x, ((![v630, v590] : Fin 2 → IVec S16 32) a x).toNat < S16x256.size a := fun v590 v630 k0_hw358 => k0_hw358

def k0_chk359 (v27 : IVec S16 32) (v632 : IVec S16 32) : Prop :=
  (∀ a x, ((![v27, v632] : Fin 2 → IVec S16 32) a x).toNat < S256x257.size a)
theorem k0_idx359_inb : ∀ (v27 : IVec S16 32) (v632 : IVec S16 32) (k0_hw359 : k0_chk359 v27 v632), ∀ a x, ((![v27, v632] : Fin 2 → IVec S16 32) a x).toNat < S256x257.size a := fun v27 v632 k0_hw359 => k0_hw359

def k0_chk360 (v590 : IVec S16 32) (v633 : IVec S16 32) : Prop :=
  (∀ a x, ((![v633, v590] : Fin 2 → IVec S16 32) a x).toNat < S16x256.size a)
theorem k0_idx360_inb : ∀ (v590 : IVec S16 32) (v633 : IVec S16 32) (k0_hw360 : k0_chk360 v590 v633), ∀ a x, ((![v633, v590] : Fin 2 → IVec S16 32) a x).toNat < S16x256.size a := fun v590 v633 k0_hw360 => k0_hw360

def k0_chk361 (v27 : IVec S16 32) (v635 : IVec S16 32) : Prop :=
  (∀ a x, ((![v27, v635] : Fin 2 → IVec S16 32) a x).toNat < S256x257.size a)
theorem k0_idx361_inb : ∀ (v27 : IVec S16 32) (v635 : IVec S16 32) (k0_hw361 : k0_chk361 v27 v635), ∀ a x, ((![v27, v635] : Fin 2 → IVec S16 32) a x).toNat < S256x257.size a := fun v27 v635 k0_hw361 => k0_hw361

def k0_chk362 (v590 : IVec S16 32) (v636 : IVec S16 32) : Prop :=
  (∀ a x, ((![v636, v590] : Fin 2 → IVec S16 32) a x).toNat < S16x256.size a)
theorem k0_idx362_inb : ∀ (v590 : IVec S16 32) (v636 : IVec S16 32) (k0_hw362 : k0_chk362 v590 v636), ∀ a x, ((![v636, v590] : Fin 2 → IVec S16 32) a x).toNat < S16x256.size a := fun v590 v636 k0_hw362 => k0_hw362

def k0_chk363 (v27 : IVec S16 32) (v638 : IVec S16 32) : Prop :=
  (∀ a x, ((![v27, v638] : Fin 2 → IVec S16 32) a x).toNat < S256x257.size a)
theorem k0_idx363_inb : ∀ (v27 : IVec S16 32) (v638 : IVec S16 32) (k0_hw363 : k0_chk363 v27 v638), ∀ a x, ((![v27, v638] : Fin 2 → IVec S16 32) a x).toNat < S256x257.size a := fun v27 v638 k0_hw363 => k0_hw363
@[reducible] def k0_t3_loop (k0_t1 : Fin k0_t1_loop.trips) : Scf.Loop 32 :=
  let c0_i32_9 : BitVec 32 := 0#32
  let c0_i32_0 : BitVec 32 := 0#32
  let c1_i32 : BitVec 32 := 1#32
  let arg8 : BitVec 32 := Scf.iv c0_i32_0 c1_i32 k0_t1
  let c1_i32_3 : BitVec 32 := 1#32
  let v7 : BitVec 32 := Scalar.addi arg8 c1_i32_3
  let c16_i32_4 : BitVec 32 := 16#32
  let v8 : BitVec 32 := Scalar.muli v7 c16_i32_4
  let c16_i32 : BitVec 32 := 16#32
  let v6 : BitVec 32 := Scalar.muli arg8 c16_i32
  let v9 : BitVec 32 := Scalar.subi v8 v6
  let c1_i32_5 : BitVec 32 := 1#32
  let c1_i32_6 : BitVec 32 := 1#32
  let v10 : BitVec 32 := Scalar.subi c1_i32_5 c1_i32_6
  let v11 : BitVec 32 := Scalar.addi v9 v10
  let c1_i32_7 : BitVec 32 := 1#32
  let v12 : BitVec 32 := Scalar.divsi v11 c1_i32_7
  let v13 : BitVec 32 := Scalar.subi v12 c0_i32_9
  let c1_i32_10 : BitVec 32 := 1#32
  let v15 : BitVec 32 := Scalar.divsi v13 c1_i32_10
  let v16 : BitVec 32 := Scalar.muli v15 c1_i32_10
  let v17 : BitVec 32 := Scalar.addi c0_i32_9 v16
  let v14 : BitVec 32 := Scalar.addi c0_i32_9 v13
  let c1_i32_12 : BitVec 32 := 1#32
  ⟨v17, v14, c1_i32_12⟩

def k0_chk364 (k0_t1 : Fin k0_t1_loop.trips) (k0_t3 : Fin (k0_t3_loop k0_t1).trips) (v37 : IVec S16 32) (v39 : IVec S16 32) : Prop :=
  (∀ a x, ((![v37, v39] : Fin 2 → IVec S16 32) a x).toNat < S44x128.size a)
theorem k0_idx364_inb : ∀ (k0_t1 : Fin k0_t1_loop.trips) (k0_t3 : Fin (k0_t3_loop k0_t1).trips) (v37 : IVec S16 32) (v39 : IVec S16 32) (k0_hw364 : k0_chk364 k0_t1 k0_t3 v37 v39), ∀ a x, ((![v37, v39] : Fin 2 → IVec S16 32) a x).toNat < S44x128.size a := fun k0_t1 k0_t3 v37 v39 k0_hw364 => k0_hw364

def k0_chk365 (k0_t1 : Fin k0_t1_loop.trips) (k0_t3 : Fin (k0_t3_loop k0_t1).trips) (v40 : IVec S16 32) (v41 : IVec S16 32) : Prop :=
  (∀ a x, ((![v41, v40] : Fin 2 → IVec S16 32) a x).toNat < S16x256.size a)
theorem k0_idx365_inb : ∀ (k0_t1 : Fin k0_t1_loop.trips) (k0_t3 : Fin (k0_t3_loop k0_t1).trips) (v40 : IVec S16 32) (v41 : IVec S16 32) (k0_hw365 : k0_chk365 k0_t1 k0_t3 v40 v41), ∀ a x, ((![v41, v40] : Fin 2 → IVec S16 32) a x).toNat < S16x256.size a := fun k0_t1 k0_t3 v40 v41 k0_hw365 => k0_hw365

def k0_chk366 (k0_t1 : Fin k0_t1_loop.trips) (k0_t3 : Fin (k0_t3_loop k0_t1).trips) (v27 : IVec S16 32) (v43 : IVec S16 32) : Prop :=
  (∀ a x, ((![v27, v43] : Fin 2 → IVec S16 32) a x).toNat < S256x257.size a)
theorem k0_idx366_inb : ∀ (k0_t1 : Fin k0_t1_loop.trips) (k0_t3 : Fin (k0_t3_loop k0_t1).trips) (v27 : IVec S16 32) (v43 : IVec S16 32) (k0_hw366 : k0_chk366 k0_t1 k0_t3 v27 v43), ∀ a x, ((![v27, v43] : Fin 2 → IVec S16 32) a x).toNat < S256x257.size a := fun k0_t1 k0_t3 v27 v43 k0_hw366 => k0_hw366

def k0_chk367 (k0_t1 : Fin k0_t1_loop.trips) (k0_t3 : Fin (k0_t3_loop k0_t1).trips) (v40 : IVec S16 32) (v44 : IVec S16 32) : Prop :=
  (∀ a x, ((![v44, v40] : Fin 2 → IVec S16 32) a x).toNat < S16x256.size a)
theorem k0_idx367_inb : ∀ (k0_t1 : Fin k0_t1_loop.trips) (k0_t3 : Fin (k0_t3_loop k0_t1).trips) (v40 : IVec S16 32) (v44 : IVec S16 32) (k0_hw367 : k0_chk367 k0_t1 k0_t3 v40 v44), ∀ a x, ((![v44, v40] : Fin 2 → IVec S16 32) a x).toNat < S16x256.size a := fun k0_t1 k0_t3 v40 v44 k0_hw367 => k0_hw367

def k0_chk368 (k0_t1 : Fin k0_t1_loop.trips) (k0_t3 : Fin (k0_t3_loop k0_t1).trips) (v27 : IVec S16 32) (v46 : IVec S16 32) : Prop :=
  (∀ a x, ((![v27, v46] : Fin 2 → IVec S16 32) a x).toNat < S256x257.size a)
theorem k0_idx368_inb : ∀ (k0_t1 : Fin k0_t1_loop.trips) (k0_t3 : Fin (k0_t3_loop k0_t1).trips) (v27 : IVec S16 32) (v46 : IVec S16 32) (k0_hw368 : k0_chk368 k0_t1 k0_t3 v27 v46), ∀ a x, ((![v27, v46] : Fin 2 → IVec S16 32) a x).toNat < S256x257.size a := fun k0_t1 k0_t3 v27 v46 k0_hw368 => k0_hw368

def k0_chk369 (k0_t1 : Fin k0_t1_loop.trips) (k0_t3 : Fin (k0_t3_loop k0_t1).trips) (v40 : IVec S16 32) (v47 : IVec S16 32) : Prop :=
  (∀ a x, ((![v47, v40] : Fin 2 → IVec S16 32) a x).toNat < S16x256.size a)
theorem k0_idx369_inb : ∀ (k0_t1 : Fin k0_t1_loop.trips) (k0_t3 : Fin (k0_t3_loop k0_t1).trips) (v40 : IVec S16 32) (v47 : IVec S16 32) (k0_hw369 : k0_chk369 k0_t1 k0_t3 v40 v47), ∀ a x, ((![v47, v40] : Fin 2 → IVec S16 32) a x).toNat < S16x256.size a := fun k0_t1 k0_t3 v40 v47 k0_hw369 => k0_hw369

def k0_chk370 (k0_t1 : Fin k0_t1_loop.trips) (k0_t3 : Fin (k0_t3_loop k0_t1).trips) (v27 : IVec S16 32) (v49 : IVec S16 32) : Prop :=
  (∀ a x, ((![v27, v49] : Fin 2 → IVec S16 32) a x).toNat < S256x257.size a)
theorem k0_idx370_inb : ∀ (k0_t1 : Fin k0_t1_loop.trips) (k0_t3 : Fin (k0_t3_loop k0_t1).trips) (v27 : IVec S16 32) (v49 : IVec S16 32) (k0_hw370 : k0_chk370 k0_t1 k0_t3 v27 v49), ∀ a x, ((![v27, v49] : Fin 2 → IVec S16 32) a x).toNat < S256x257.size a := fun k0_t1 k0_t3 v27 v49 k0_hw370 => k0_hw370

def k0_chk371 (k0_t1 : Fin k0_t1_loop.trips) (k0_t3 : Fin (k0_t3_loop k0_t1).trips) (v40 : IVec S16 32) (v50 : IVec S16 32) : Prop :=
  (∀ a x, ((![v50, v40] : Fin 2 → IVec S16 32) a x).toNat < S16x256.size a)
theorem k0_idx371_inb : ∀ (k0_t1 : Fin k0_t1_loop.trips) (k0_t3 : Fin (k0_t3_loop k0_t1).trips) (v40 : IVec S16 32) (v50 : IVec S16 32) (k0_hw371 : k0_chk371 k0_t1 k0_t3 v40 v50), ∀ a x, ((![v50, v40] : Fin 2 → IVec S16 32) a x).toNat < S16x256.size a := fun k0_t1 k0_t3 v40 v50 k0_hw371 => k0_hw371

def k0_chk372 (k0_t1 : Fin k0_t1_loop.trips) (k0_t3 : Fin (k0_t3_loop k0_t1).trips) (v27 : IVec S16 32) (v52 : IVec S16 32) : Prop :=
  (∀ a x, ((![v27, v52] : Fin 2 → IVec S16 32) a x).toNat < S256x257.size a)
theorem k0_idx372_inb : ∀ (k0_t1 : Fin k0_t1_loop.trips) (k0_t3 : Fin (k0_t3_loop k0_t1).trips) (v27 : IVec S16 32) (v52 : IVec S16 32) (k0_hw372 : k0_chk372 k0_t1 k0_t3 v27 v52), ∀ a x, ((![v27, v52] : Fin 2 → IVec S16 32) a x).toNat < S256x257.size a := fun k0_t1 k0_t3 v27 v52 k0_hw372 => k0_hw372

def k0_chk373 (k0_t1 : Fin k0_t1_loop.trips) (k0_t3 : Fin (k0_t3_loop k0_t1).trips) (v40 : IVec S16 32) (v53 : IVec S16 32) : Prop :=
  (∀ a x, ((![v53, v40] : Fin 2 → IVec S16 32) a x).toNat < S16x256.size a)
theorem k0_idx373_inb : ∀ (k0_t1 : Fin k0_t1_loop.trips) (k0_t3 : Fin (k0_t3_loop k0_t1).trips) (v40 : IVec S16 32) (v53 : IVec S16 32) (k0_hw373 : k0_chk373 k0_t1 k0_t3 v40 v53), ∀ a x, ((![v53, v40] : Fin 2 → IVec S16 32) a x).toNat < S16x256.size a := fun k0_t1 k0_t3 v40 v53 k0_hw373 => k0_hw373

def k0_chk374 (k0_t1 : Fin k0_t1_loop.trips) (k0_t3 : Fin (k0_t3_loop k0_t1).trips) (v27 : IVec S16 32) (v55 : IVec S16 32) : Prop :=
  (∀ a x, ((![v27, v55] : Fin 2 → IVec S16 32) a x).toNat < S256x257.size a)
theorem k0_idx374_inb : ∀ (k0_t1 : Fin k0_t1_loop.trips) (k0_t3 : Fin (k0_t3_loop k0_t1).trips) (v27 : IVec S16 32) (v55 : IVec S16 32) (k0_hw374 : k0_chk374 k0_t1 k0_t3 v27 v55), ∀ a x, ((![v27, v55] : Fin 2 → IVec S16 32) a x).toNat < S256x257.size a := fun k0_t1 k0_t3 v27 v55 k0_hw374 => k0_hw374

def k0_chk375 (k0_t1 : Fin k0_t1_loop.trips) (k0_t3 : Fin (k0_t3_loop k0_t1).trips) (v40 : IVec S16 32) (v56 : IVec S16 32) : Prop :=
  (∀ a x, ((![v56, v40] : Fin 2 → IVec S16 32) a x).toNat < S16x256.size a)
theorem k0_idx375_inb : ∀ (k0_t1 : Fin k0_t1_loop.trips) (k0_t3 : Fin (k0_t3_loop k0_t1).trips) (v40 : IVec S16 32) (v56 : IVec S16 32) (k0_hw375 : k0_chk375 k0_t1 k0_t3 v40 v56), ∀ a x, ((![v56, v40] : Fin 2 → IVec S16 32) a x).toNat < S16x256.size a := fun k0_t1 k0_t3 v40 v56 k0_hw375 => k0_hw375

def k0_chk376 (k0_t1 : Fin k0_t1_loop.trips) (k0_t3 : Fin (k0_t3_loop k0_t1).trips) (v27 : IVec S16 32) (v58 : IVec S16 32) : Prop :=
  (∀ a x, ((![v27, v58] : Fin 2 → IVec S16 32) a x).toNat < S256x257.size a)
theorem k0_idx376_inb : ∀ (k0_t1 : Fin k0_t1_loop.trips) (k0_t3 : Fin (k0_t3_loop k0_t1).trips) (v27 : IVec S16 32) (v58 : IVec S16 32) (k0_hw376 : k0_chk376 k0_t1 k0_t3 v27 v58), ∀ a x, ((![v27, v58] : Fin 2 → IVec S16 32) a x).toNat < S256x257.size a := fun k0_t1 k0_t3 v27 v58 k0_hw376 => k0_hw376

def k0_chk377 (k0_t1 : Fin k0_t1_loop.trips) (k0_t3 : Fin (k0_t3_loop k0_t1).trips) (v40 : IVec S16 32) (v59 : IVec S16 32) : Prop :=
  (∀ a x, ((![v59, v40] : Fin 2 → IVec S16 32) a x).toNat < S16x256.size a)
theorem k0_idx377_inb : ∀ (k0_t1 : Fin k0_t1_loop.trips) (k0_t3 : Fin (k0_t3_loop k0_t1).trips) (v40 : IVec S16 32) (v59 : IVec S16 32) (k0_hw377 : k0_chk377 k0_t1 k0_t3 v40 v59), ∀ a x, ((![v59, v40] : Fin 2 → IVec S16 32) a x).toNat < S16x256.size a := fun k0_t1 k0_t3 v40 v59 k0_hw377 => k0_hw377

def k0_chk378 (k0_t1 : Fin k0_t1_loop.trips) (k0_t3 : Fin (k0_t3_loop k0_t1).trips) (v27 : IVec S16 32) (v61 : IVec S16 32) : Prop :=
  (∀ a x, ((![v27, v61] : Fin 2 → IVec S16 32) a x).toNat < S256x257.size a)
theorem k0_idx378_inb : ∀ (k0_t1 : Fin k0_t1_loop.trips) (k0_t3 : Fin (k0_t3_loop k0_t1).trips) (v27 : IVec S16 32) (v61 : IVec S16 32) (k0_hw378 : k0_chk378 k0_t1 k0_t3 v27 v61), ∀ a x, ((![v27, v61] : Fin 2 → IVec S16 32) a x).toNat < S256x257.size a := fun k0_t1 k0_t3 v27 v61 k0_hw378 => k0_hw378

def k0_chk379 (k0_t1 : Fin k0_t1_loop.trips) (k0_t3 : Fin (k0_t3_loop k0_t1).trips) (v40 : IVec S16 32) (v62 : IVec S16 32) : Prop :=
  (∀ a x, ((![v62, v40] : Fin 2 → IVec S16 32) a x).toNat < S16x256.size a)
theorem k0_idx379_inb : ∀ (k0_t1 : Fin k0_t1_loop.trips) (k0_t3 : Fin (k0_t3_loop k0_t1).trips) (v40 : IVec S16 32) (v62 : IVec S16 32) (k0_hw379 : k0_chk379 k0_t1 k0_t3 v40 v62), ∀ a x, ((![v62, v40] : Fin 2 → IVec S16 32) a x).toNat < S16x256.size a := fun k0_t1 k0_t3 v40 v62 k0_hw379 => k0_hw379

def k0_chk380 (k0_t1 : Fin k0_t1_loop.trips) (k0_t3 : Fin (k0_t3_loop k0_t1).trips) (v27 : IVec S16 32) (v64 : IVec S16 32) : Prop :=
  (∀ a x, ((![v27, v64] : Fin 2 → IVec S16 32) a x).toNat < S256x257.size a)
theorem k0_idx380_inb : ∀ (k0_t1 : Fin k0_t1_loop.trips) (k0_t3 : Fin (k0_t3_loop k0_t1).trips) (v27 : IVec S16 32) (v64 : IVec S16 32) (k0_hw380 : k0_chk380 k0_t1 k0_t3 v27 v64), ∀ a x, ((![v27, v64] : Fin 2 → IVec S16 32) a x).toNat < S256x257.size a := fun k0_t1 k0_t3 v27 v64 k0_hw380 => k0_hw380

def k0_chk381 (k0_t1 : Fin k0_t1_loop.trips) (k0_t3 : Fin (k0_t3_loop k0_t1).trips) (v40 : IVec S16 32) (v65 : IVec S16 32) : Prop :=
  (∀ a x, ((![v65, v40] : Fin 2 → IVec S16 32) a x).toNat < S16x256.size a)
theorem k0_idx381_inb : ∀ (k0_t1 : Fin k0_t1_loop.trips) (k0_t3 : Fin (k0_t3_loop k0_t1).trips) (v40 : IVec S16 32) (v65 : IVec S16 32) (k0_hw381 : k0_chk381 k0_t1 k0_t3 v40 v65), ∀ a x, ((![v65, v40] : Fin 2 → IVec S16 32) a x).toNat < S16x256.size a := fun k0_t1 k0_t3 v40 v65 k0_hw381 => k0_hw381

def k0_chk382 (k0_t1 : Fin k0_t1_loop.trips) (k0_t3 : Fin (k0_t3_loop k0_t1).trips) (v27 : IVec S16 32) (v67 : IVec S16 32) : Prop :=
  (∀ a x, ((![v27, v67] : Fin 2 → IVec S16 32) a x).toNat < S256x257.size a)
theorem k0_idx382_inb : ∀ (k0_t1 : Fin k0_t1_loop.trips) (k0_t3 : Fin (k0_t3_loop k0_t1).trips) (v27 : IVec S16 32) (v67 : IVec S16 32) (k0_hw382 : k0_chk382 k0_t1 k0_t3 v27 v67), ∀ a x, ((![v27, v67] : Fin 2 → IVec S16 32) a x).toNat < S256x257.size a := fun k0_t1 k0_t3 v27 v67 k0_hw382 => k0_hw382

def k0_chk383 (k0_t1 : Fin k0_t1_loop.trips) (k0_t3 : Fin (k0_t3_loop k0_t1).trips) (v40 : IVec S16 32) (v68 : IVec S16 32) : Prop :=
  (∀ a x, ((![v68, v40] : Fin 2 → IVec S16 32) a x).toNat < S16x256.size a)
theorem k0_idx383_inb : ∀ (k0_t1 : Fin k0_t1_loop.trips) (k0_t3 : Fin (k0_t3_loop k0_t1).trips) (v40 : IVec S16 32) (v68 : IVec S16 32) (k0_hw383 : k0_chk383 k0_t1 k0_t3 v40 v68), ∀ a x, ((![v68, v40] : Fin 2 → IVec S16 32) a x).toNat < S16x256.size a := fun k0_t1 k0_t3 v40 v68 k0_hw383 => k0_hw383

def k0_chk384 (k0_t1 : Fin k0_t1_loop.trips) (k0_t3 : Fin (k0_t3_loop k0_t1).trips) (v27 : IVec S16 32) (v70 : IVec S16 32) : Prop :=
  (∀ a x, ((![v27, v70] : Fin 2 → IVec S16 32) a x).toNat < S256x257.size a)
theorem k0_idx384_inb : ∀ (k0_t1 : Fin k0_t1_loop.trips) (k0_t3 : Fin (k0_t3_loop k0_t1).trips) (v27 : IVec S16 32) (v70 : IVec S16 32) (k0_hw384 : k0_chk384 k0_t1 k0_t3 v27 v70), ∀ a x, ((![v27, v70] : Fin 2 → IVec S16 32) a x).toNat < S256x257.size a := fun k0_t1 k0_t3 v27 v70 k0_hw384 => k0_hw384

def k0_chk385 (k0_t1 : Fin k0_t1_loop.trips) (k0_t3 : Fin (k0_t3_loop k0_t1).trips) (v40 : IVec S16 32) (v71 : IVec S16 32) : Prop :=
  (∀ a x, ((![v71, v40] : Fin 2 → IVec S16 32) a x).toNat < S16x256.size a)
theorem k0_idx385_inb : ∀ (k0_t1 : Fin k0_t1_loop.trips) (k0_t3 : Fin (k0_t3_loop k0_t1).trips) (v40 : IVec S16 32) (v71 : IVec S16 32) (k0_hw385 : k0_chk385 k0_t1 k0_t3 v40 v71), ∀ a x, ((![v71, v40] : Fin 2 → IVec S16 32) a x).toNat < S16x256.size a := fun k0_t1 k0_t3 v40 v71 k0_hw385 => k0_hw385

def k0_chk386 (k0_t1 : Fin k0_t1_loop.trips) (k0_t3 : Fin (k0_t3_loop k0_t1).trips) (v27 : IVec S16 32) (v73 : IVec S16 32) : Prop :=
  (∀ a x, ((![v27, v73] : Fin 2 → IVec S16 32) a x).toNat < S256x257.size a)
theorem k0_idx386_inb : ∀ (k0_t1 : Fin k0_t1_loop.trips) (k0_t3 : Fin (k0_t3_loop k0_t1).trips) (v27 : IVec S16 32) (v73 : IVec S16 32) (k0_hw386 : k0_chk386 k0_t1 k0_t3 v27 v73), ∀ a x, ((![v27, v73] : Fin 2 → IVec S16 32) a x).toNat < S256x257.size a := fun k0_t1 k0_t3 v27 v73 k0_hw386 => k0_hw386

def k0_chk387 (k0_t1 : Fin k0_t1_loop.trips) (k0_t3 : Fin (k0_t3_loop k0_t1).trips) (v40 : IVec S16 32) (v74 : IVec S16 32) : Prop :=
  (∀ a x, ((![v74, v40] : Fin 2 → IVec S16 32) a x).toNat < S16x256.size a)
theorem k0_idx387_inb : ∀ (k0_t1 : Fin k0_t1_loop.trips) (k0_t3 : Fin (k0_t3_loop k0_t1).trips) (v40 : IVec S16 32) (v74 : IVec S16 32) (k0_hw387 : k0_chk387 k0_t1 k0_t3 v40 v74), ∀ a x, ((![v74, v40] : Fin 2 → IVec S16 32) a x).toNat < S16x256.size a := fun k0_t1 k0_t3 v40 v74 k0_hw387 => k0_hw387

def k0_chk388 (k0_t1 : Fin k0_t1_loop.trips) (k0_t3 : Fin (k0_t3_loop k0_t1).trips) (v27 : IVec S16 32) (v76 : IVec S16 32) : Prop :=
  (∀ a x, ((![v27, v76] : Fin 2 → IVec S16 32) a x).toNat < S256x257.size a)
theorem k0_idx388_inb : ∀ (k0_t1 : Fin k0_t1_loop.trips) (k0_t3 : Fin (k0_t3_loop k0_t1).trips) (v27 : IVec S16 32) (v76 : IVec S16 32) (k0_hw388 : k0_chk388 k0_t1 k0_t3 v27 v76), ∀ a x, ((![v27, v76] : Fin 2 → IVec S16 32) a x).toNat < S256x257.size a := fun k0_t1 k0_t3 v27 v76 k0_hw388 => k0_hw388

def k0_chk389 (k0_t1 : Fin k0_t1_loop.trips) (k0_t3 : Fin (k0_t3_loop k0_t1).trips) (v40 : IVec S16 32) (v77 : IVec S16 32) : Prop :=
  (∀ a x, ((![v77, v40] : Fin 2 → IVec S16 32) a x).toNat < S16x256.size a)
theorem k0_idx389_inb : ∀ (k0_t1 : Fin k0_t1_loop.trips) (k0_t3 : Fin (k0_t3_loop k0_t1).trips) (v40 : IVec S16 32) (v77 : IVec S16 32) (k0_hw389 : k0_chk389 k0_t1 k0_t3 v40 v77), ∀ a x, ((![v77, v40] : Fin 2 → IVec S16 32) a x).toNat < S16x256.size a := fun k0_t1 k0_t3 v40 v77 k0_hw389 => k0_hw389

def k0_chk390 (k0_t1 : Fin k0_t1_loop.trips) (k0_t3 : Fin (k0_t3_loop k0_t1).trips) (v27 : IVec S16 32) (v79 : IVec S16 32) : Prop :=
  (∀ a x, ((![v27, v79] : Fin 2 → IVec S16 32) a x).toNat < S256x257.size a)
theorem k0_idx390_inb : ∀ (k0_t1 : Fin k0_t1_loop.trips) (k0_t3 : Fin (k0_t3_loop k0_t1).trips) (v27 : IVec S16 32) (v79 : IVec S16 32) (k0_hw390 : k0_chk390 k0_t1 k0_t3 v27 v79), ∀ a x, ((![v27, v79] : Fin 2 → IVec S16 32) a x).toNat < S256x257.size a := fun k0_t1 k0_t3 v27 v79 k0_hw390 => k0_hw390

def k0_chk391 (k0_t1 : Fin k0_t1_loop.trips) (k0_t3 : Fin (k0_t3_loop k0_t1).trips) (v40 : IVec S16 32) (v80 : IVec S16 32) : Prop :=
  (∀ a x, ((![v80, v40] : Fin 2 → IVec S16 32) a x).toNat < S16x256.size a)
theorem k0_idx391_inb : ∀ (k0_t1 : Fin k0_t1_loop.trips) (k0_t3 : Fin (k0_t3_loop k0_t1).trips) (v40 : IVec S16 32) (v80 : IVec S16 32) (k0_hw391 : k0_chk391 k0_t1 k0_t3 v40 v80), ∀ a x, ((![v80, v40] : Fin 2 → IVec S16 32) a x).toNat < S16x256.size a := fun k0_t1 k0_t3 v40 v80 k0_hw391 => k0_hw391

def k0_chk392 (k0_t1 : Fin k0_t1_loop.trips) (k0_t3 : Fin (k0_t3_loop k0_t1).trips) (v27 : IVec S16 32) (v82 : IVec S16 32) : Prop :=
  (∀ a x, ((![v27, v82] : Fin 2 → IVec S16 32) a x).toNat < S256x257.size a)
theorem k0_idx392_inb : ∀ (k0_t1 : Fin k0_t1_loop.trips) (k0_t3 : Fin (k0_t3_loop k0_t1).trips) (v27 : IVec S16 32) (v82 : IVec S16 32) (k0_hw392 : k0_chk392 k0_t1 k0_t3 v27 v82), ∀ a x, ((![v27, v82] : Fin 2 → IVec S16 32) a x).toNat < S256x257.size a := fun k0_t1 k0_t3 v27 v82 k0_hw392 => k0_hw392

def k0_chk393 (k0_t1 : Fin k0_t1_loop.trips) (k0_t3 : Fin (k0_t3_loop k0_t1).trips) (v40 : IVec S16 32) (v83 : IVec S16 32) : Prop :=
  (∀ a x, ((![v83, v40] : Fin 2 → IVec S16 32) a x).toNat < S16x256.size a)
theorem k0_idx393_inb : ∀ (k0_t1 : Fin k0_t1_loop.trips) (k0_t3 : Fin (k0_t3_loop k0_t1).trips) (v40 : IVec S16 32) (v83 : IVec S16 32) (k0_hw393 : k0_chk393 k0_t1 k0_t3 v40 v83), ∀ a x, ((![v83, v40] : Fin 2 → IVec S16 32) a x).toNat < S16x256.size a := fun k0_t1 k0_t3 v40 v83 k0_hw393 => k0_hw393

def k0_chk394 (k0_t1 : Fin k0_t1_loop.trips) (k0_t3 : Fin (k0_t3_loop k0_t1).trips) (v27 : IVec S16 32) (v85 : IVec S16 32) : Prop :=
  (∀ a x, ((![v27, v85] : Fin 2 → IVec S16 32) a x).toNat < S256x257.size a)
theorem k0_idx394_inb : ∀ (k0_t1 : Fin k0_t1_loop.trips) (k0_t3 : Fin (k0_t3_loop k0_t1).trips) (v27 : IVec S16 32) (v85 : IVec S16 32) (k0_hw394 : k0_chk394 k0_t1 k0_t3 v27 v85), ∀ a x, ((![v27, v85] : Fin 2 → IVec S16 32) a x).toNat < S256x257.size a := fun k0_t1 k0_t3 v27 v85 k0_hw394 => k0_hw394

def k0_chk395 (k0_t1 : Fin k0_t1_loop.trips) (k0_t3 : Fin (k0_t3_loop k0_t1).trips) (v40 : IVec S16 32) (v86 : IVec S16 32) : Prop :=
  (∀ a x, ((![v86, v40] : Fin 2 → IVec S16 32) a x).toNat < S16x256.size a)
theorem k0_idx395_inb : ∀ (k0_t1 : Fin k0_t1_loop.trips) (k0_t3 : Fin (k0_t3_loop k0_t1).trips) (v40 : IVec S16 32) (v86 : IVec S16 32) (k0_hw395 : k0_chk395 k0_t1 k0_t3 v40 v86), ∀ a x, ((![v86, v40] : Fin 2 → IVec S16 32) a x).toNat < S16x256.size a := fun k0_t1 k0_t3 v40 v86 k0_hw395 => k0_hw395

def k0_chk396 (k0_t1 : Fin k0_t1_loop.trips) (k0_t3 : Fin (k0_t3_loop k0_t1).trips) (v27 : IVec S16 32) (v88 : IVec S16 32) : Prop :=
  (∀ a x, ((![v27, v88] : Fin 2 → IVec S16 32) a x).toNat < S256x257.size a)
theorem k0_idx396_inb : ∀ (k0_t1 : Fin k0_t1_loop.trips) (k0_t3 : Fin (k0_t3_loop k0_t1).trips) (v27 : IVec S16 32) (v88 : IVec S16 32) (k0_hw396 : k0_chk396 k0_t1 k0_t3 v27 v88), ∀ a x, ((![v27, v88] : Fin 2 → IVec S16 32) a x).toNat < S256x257.size a := fun k0_t1 k0_t3 v27 v88 k0_hw396 => k0_hw396

def k0_chk397 (k0_t1 : Fin k0_t1_loop.trips) (k0_t3 : Fin (k0_t3_loop k0_t1).trips) (v92 : IVec S16 32) (v94 : IVec S16 32) : Prop :=
  (∀ a x, ((![v92, v94] : Fin 2 → IVec S16 32) a x).toNat < S44x128.size a)
theorem k0_idx397_inb : ∀ (k0_t1 : Fin k0_t1_loop.trips) (k0_t3 : Fin (k0_t3_loop k0_t1).trips) (v92 : IVec S16 32) (v94 : IVec S16 32) (k0_hw397 : k0_chk397 k0_t1 k0_t3 v92 v94), ∀ a x, ((![v92, v94] : Fin 2 → IVec S16 32) a x).toNat < S44x128.size a := fun k0_t1 k0_t3 v92 v94 k0_hw397 => k0_hw397

def k0_chk398 (k0_t1 : Fin k0_t1_loop.trips) (k0_t3 : Fin (k0_t3_loop k0_t1).trips) (v95 : IVec S16 32) (v96 : IVec S16 32) : Prop :=
  (∀ a x, ((![v96, v95] : Fin 2 → IVec S16 32) a x).toNat < S16x256.size a)
theorem k0_idx398_inb : ∀ (k0_t1 : Fin k0_t1_loop.trips) (k0_t3 : Fin (k0_t3_loop k0_t1).trips) (v95 : IVec S16 32) (v96 : IVec S16 32) (k0_hw398 : k0_chk398 k0_t1 k0_t3 v95 v96), ∀ a x, ((![v96, v95] : Fin 2 → IVec S16 32) a x).toNat < S16x256.size a := fun k0_t1 k0_t3 v95 v96 k0_hw398 => k0_hw398

def k0_chk399 (k0_t1 : Fin k0_t1_loop.trips) (k0_t3 : Fin (k0_t3_loop k0_t1).trips) (v27 : IVec S16 32) (v98 : IVec S16 32) : Prop :=
  (∀ a x, ((![v27, v98] : Fin 2 → IVec S16 32) a x).toNat < S256x257.size a)
theorem k0_idx399_inb : ∀ (k0_t1 : Fin k0_t1_loop.trips) (k0_t3 : Fin (k0_t3_loop k0_t1).trips) (v27 : IVec S16 32) (v98 : IVec S16 32) (k0_hw399 : k0_chk399 k0_t1 k0_t3 v27 v98), ∀ a x, ((![v27, v98] : Fin 2 → IVec S16 32) a x).toNat < S256x257.size a := fun k0_t1 k0_t3 v27 v98 k0_hw399 => k0_hw399

def k0_chk400 (k0_t1 : Fin k0_t1_loop.trips) (k0_t3 : Fin (k0_t3_loop k0_t1).trips) (v95 : IVec S16 32) (v99 : IVec S16 32) : Prop :=
  (∀ a x, ((![v99, v95] : Fin 2 → IVec S16 32) a x).toNat < S16x256.size a)
theorem k0_idx400_inb : ∀ (k0_t1 : Fin k0_t1_loop.trips) (k0_t3 : Fin (k0_t3_loop k0_t1).trips) (v95 : IVec S16 32) (v99 : IVec S16 32) (k0_hw400 : k0_chk400 k0_t1 k0_t3 v95 v99), ∀ a x, ((![v99, v95] : Fin 2 → IVec S16 32) a x).toNat < S16x256.size a := fun k0_t1 k0_t3 v95 v99 k0_hw400 => k0_hw400

def k0_chk401 (k0_t1 : Fin k0_t1_loop.trips) (k0_t3 : Fin (k0_t3_loop k0_t1).trips) (v27 : IVec S16 32) (v101 : IVec S16 32) : Prop :=
  (∀ a x, ((![v27, v101] : Fin 2 → IVec S16 32) a x).toNat < S256x257.size a)
theorem k0_idx401_inb : ∀ (k0_t1 : Fin k0_t1_loop.trips) (k0_t3 : Fin (k0_t3_loop k0_t1).trips) (v27 : IVec S16 32) (v101 : IVec S16 32) (k0_hw401 : k0_chk401 k0_t1 k0_t3 v27 v101), ∀ a x, ((![v27, v101] : Fin 2 → IVec S16 32) a x).toNat < S256x257.size a := fun k0_t1 k0_t3 v27 v101 k0_hw401 => k0_hw401

def k0_chk402 (k0_t1 : Fin k0_t1_loop.trips) (k0_t3 : Fin (k0_t3_loop k0_t1).trips) (v95 : IVec S16 32) (v102 : IVec S16 32) : Prop :=
  (∀ a x, ((![v102, v95] : Fin 2 → IVec S16 32) a x).toNat < S16x256.size a)
theorem k0_idx402_inb : ∀ (k0_t1 : Fin k0_t1_loop.trips) (k0_t3 : Fin (k0_t3_loop k0_t1).trips) (v95 : IVec S16 32) (v102 : IVec S16 32) (k0_hw402 : k0_chk402 k0_t1 k0_t3 v95 v102), ∀ a x, ((![v102, v95] : Fin 2 → IVec S16 32) a x).toNat < S16x256.size a := fun k0_t1 k0_t3 v95 v102 k0_hw402 => k0_hw402

def k0_chk403 (k0_t1 : Fin k0_t1_loop.trips) (k0_t3 : Fin (k0_t3_loop k0_t1).trips) (v27 : IVec S16 32) (v104 : IVec S16 32) : Prop :=
  (∀ a x, ((![v27, v104] : Fin 2 → IVec S16 32) a x).toNat < S256x257.size a)
theorem k0_idx403_inb : ∀ (k0_t1 : Fin k0_t1_loop.trips) (k0_t3 : Fin (k0_t3_loop k0_t1).trips) (v27 : IVec S16 32) (v104 : IVec S16 32) (k0_hw403 : k0_chk403 k0_t1 k0_t3 v27 v104), ∀ a x, ((![v27, v104] : Fin 2 → IVec S16 32) a x).toNat < S256x257.size a := fun k0_t1 k0_t3 v27 v104 k0_hw403 => k0_hw403

def k0_chk404 (k0_t1 : Fin k0_t1_loop.trips) (k0_t3 : Fin (k0_t3_loop k0_t1).trips) (v95 : IVec S16 32) (v105 : IVec S16 32) : Prop :=
  (∀ a x, ((![v105, v95] : Fin 2 → IVec S16 32) a x).toNat < S16x256.size a)
theorem k0_idx404_inb : ∀ (k0_t1 : Fin k0_t1_loop.trips) (k0_t3 : Fin (k0_t3_loop k0_t1).trips) (v95 : IVec S16 32) (v105 : IVec S16 32) (k0_hw404 : k0_chk404 k0_t1 k0_t3 v95 v105), ∀ a x, ((![v105, v95] : Fin 2 → IVec S16 32) a x).toNat < S16x256.size a := fun k0_t1 k0_t3 v95 v105 k0_hw404 => k0_hw404

def k0_chk405 (k0_t1 : Fin k0_t1_loop.trips) (k0_t3 : Fin (k0_t3_loop k0_t1).trips) (v27 : IVec S16 32) (v107 : IVec S16 32) : Prop :=
  (∀ a x, ((![v27, v107] : Fin 2 → IVec S16 32) a x).toNat < S256x257.size a)
theorem k0_idx405_inb : ∀ (k0_t1 : Fin k0_t1_loop.trips) (k0_t3 : Fin (k0_t3_loop k0_t1).trips) (v27 : IVec S16 32) (v107 : IVec S16 32) (k0_hw405 : k0_chk405 k0_t1 k0_t3 v27 v107), ∀ a x, ((![v27, v107] : Fin 2 → IVec S16 32) a x).toNat < S256x257.size a := fun k0_t1 k0_t3 v27 v107 k0_hw405 => k0_hw405

def k0_chk406 (k0_t1 : Fin k0_t1_loop.trips) (k0_t3 : Fin (k0_t3_loop k0_t1).trips) (v95 : IVec S16 32) (v108 : IVec S16 32) : Prop :=
  (∀ a x, ((![v108, v95] : Fin 2 → IVec S16 32) a x).toNat < S16x256.size a)
theorem k0_idx406_inb : ∀ (k0_t1 : Fin k0_t1_loop.trips) (k0_t3 : Fin (k0_t3_loop k0_t1).trips) (v95 : IVec S16 32) (v108 : IVec S16 32) (k0_hw406 : k0_chk406 k0_t1 k0_t3 v95 v108), ∀ a x, ((![v108, v95] : Fin 2 → IVec S16 32) a x).toNat < S16x256.size a := fun k0_t1 k0_t3 v95 v108 k0_hw406 => k0_hw406

def k0_chk407 (k0_t1 : Fin k0_t1_loop.trips) (k0_t3 : Fin (k0_t3_loop k0_t1).trips) (v27 : IVec S16 32) (v110 : IVec S16 32) : Prop :=
  (∀ a x, ((![v27, v110] : Fin 2 → IVec S16 32) a x).toNat < S256x257.size a)
theorem k0_idx407_inb : ∀ (k0_t1 : Fin k0_t1_loop.trips) (k0_t3 : Fin (k0_t3_loop k0_t1).trips) (v27 : IVec S16 32) (v110 : IVec S16 32) (k0_hw407 : k0_chk407 k0_t1 k0_t3 v27 v110), ∀ a x, ((![v27, v110] : Fin 2 → IVec S16 32) a x).toNat < S256x257.size a := fun k0_t1 k0_t3 v27 v110 k0_hw407 => k0_hw407

def k0_chk408 (k0_t1 : Fin k0_t1_loop.trips) (k0_t3 : Fin (k0_t3_loop k0_t1).trips) (v95 : IVec S16 32) (v111 : IVec S16 32) : Prop :=
  (∀ a x, ((![v111, v95] : Fin 2 → IVec S16 32) a x).toNat < S16x256.size a)
theorem k0_idx408_inb : ∀ (k0_t1 : Fin k0_t1_loop.trips) (k0_t3 : Fin (k0_t3_loop k0_t1).trips) (v95 : IVec S16 32) (v111 : IVec S16 32) (k0_hw408 : k0_chk408 k0_t1 k0_t3 v95 v111), ∀ a x, ((![v111, v95] : Fin 2 → IVec S16 32) a x).toNat < S16x256.size a := fun k0_t1 k0_t3 v95 v111 k0_hw408 => k0_hw408

def k0_chk409 (k0_t1 : Fin k0_t1_loop.trips) (k0_t3 : Fin (k0_t3_loop k0_t1).trips) (v27 : IVec S16 32) (v113 : IVec S16 32) : Prop :=
  (∀ a x, ((![v27, v113] : Fin 2 → IVec S16 32) a x).toNat < S256x257.size a)
theorem k0_idx409_inb : ∀ (k0_t1 : Fin k0_t1_loop.trips) (k0_t3 : Fin (k0_t3_loop k0_t1).trips) (v27 : IVec S16 32) (v113 : IVec S16 32) (k0_hw409 : k0_chk409 k0_t1 k0_t3 v27 v113), ∀ a x, ((![v27, v113] : Fin 2 → IVec S16 32) a x).toNat < S256x257.size a := fun k0_t1 k0_t3 v27 v113 k0_hw409 => k0_hw409

def k0_chk410 (k0_t1 : Fin k0_t1_loop.trips) (k0_t3 : Fin (k0_t3_loop k0_t1).trips) (v95 : IVec S16 32) (v114 : IVec S16 32) : Prop :=
  (∀ a x, ((![v114, v95] : Fin 2 → IVec S16 32) a x).toNat < S16x256.size a)
theorem k0_idx410_inb : ∀ (k0_t1 : Fin k0_t1_loop.trips) (k0_t3 : Fin (k0_t3_loop k0_t1).trips) (v95 : IVec S16 32) (v114 : IVec S16 32) (k0_hw410 : k0_chk410 k0_t1 k0_t3 v95 v114), ∀ a x, ((![v114, v95] : Fin 2 → IVec S16 32) a x).toNat < S16x256.size a := fun k0_t1 k0_t3 v95 v114 k0_hw410 => k0_hw410

def k0_chk411 (k0_t1 : Fin k0_t1_loop.trips) (k0_t3 : Fin (k0_t3_loop k0_t1).trips) (v27 : IVec S16 32) (v116 : IVec S16 32) : Prop :=
  (∀ a x, ((![v27, v116] : Fin 2 → IVec S16 32) a x).toNat < S256x257.size a)
theorem k0_idx411_inb : ∀ (k0_t1 : Fin k0_t1_loop.trips) (k0_t3 : Fin (k0_t3_loop k0_t1).trips) (v27 : IVec S16 32) (v116 : IVec S16 32) (k0_hw411 : k0_chk411 k0_t1 k0_t3 v27 v116), ∀ a x, ((![v27, v116] : Fin 2 → IVec S16 32) a x).toNat < S256x257.size a := fun k0_t1 k0_t3 v27 v116 k0_hw411 => k0_hw411

def k0_chk412 (k0_t1 : Fin k0_t1_loop.trips) (k0_t3 : Fin (k0_t3_loop k0_t1).trips) (v95 : IVec S16 32) (v117 : IVec S16 32) : Prop :=
  (∀ a x, ((![v117, v95] : Fin 2 → IVec S16 32) a x).toNat < S16x256.size a)
theorem k0_idx412_inb : ∀ (k0_t1 : Fin k0_t1_loop.trips) (k0_t3 : Fin (k0_t3_loop k0_t1).trips) (v95 : IVec S16 32) (v117 : IVec S16 32) (k0_hw412 : k0_chk412 k0_t1 k0_t3 v95 v117), ∀ a x, ((![v117, v95] : Fin 2 → IVec S16 32) a x).toNat < S16x256.size a := fun k0_t1 k0_t3 v95 v117 k0_hw412 => k0_hw412

def k0_chk413 (k0_t1 : Fin k0_t1_loop.trips) (k0_t3 : Fin (k0_t3_loop k0_t1).trips) (v27 : IVec S16 32) (v119 : IVec S16 32) : Prop :=
  (∀ a x, ((![v27, v119] : Fin 2 → IVec S16 32) a x).toNat < S256x257.size a)
theorem k0_idx413_inb : ∀ (k0_t1 : Fin k0_t1_loop.trips) (k0_t3 : Fin (k0_t3_loop k0_t1).trips) (v27 : IVec S16 32) (v119 : IVec S16 32) (k0_hw413 : k0_chk413 k0_t1 k0_t3 v27 v119), ∀ a x, ((![v27, v119] : Fin 2 → IVec S16 32) a x).toNat < S256x257.size a := fun k0_t1 k0_t3 v27 v119 k0_hw413 => k0_hw413

def k0_chk414 (k0_t1 : Fin k0_t1_loop.trips) (k0_t3 : Fin (k0_t3_loop k0_t1).trips) (v95 : IVec S16 32) (v120 : IVec S16 32) : Prop :=
  (∀ a x, ((![v120, v95] : Fin 2 → IVec S16 32) a x).toNat < S16x256.size a)
theorem k0_idx414_inb : ∀ (k0_t1 : Fin k0_t1_loop.trips) (k0_t3 : Fin (k0_t3_loop k0_t1).trips) (v95 : IVec S16 32) (v120 : IVec S16 32) (k0_hw414 : k0_chk414 k0_t1 k0_t3 v95 v120), ∀ a x, ((![v120, v95] : Fin 2 → IVec S16 32) a x).toNat < S16x256.size a := fun k0_t1 k0_t3 v95 v120 k0_hw414 => k0_hw414

def k0_chk415 (k0_t1 : Fin k0_t1_loop.trips) (k0_t3 : Fin (k0_t3_loop k0_t1).trips) (v27 : IVec S16 32) (v122 : IVec S16 32) : Prop :=
  (∀ a x, ((![v27, v122] : Fin 2 → IVec S16 32) a x).toNat < S256x257.size a)
theorem k0_idx415_inb : ∀ (k0_t1 : Fin k0_t1_loop.trips) (k0_t3 : Fin (k0_t3_loop k0_t1).trips) (v27 : IVec S16 32) (v122 : IVec S16 32) (k0_hw415 : k0_chk415 k0_t1 k0_t3 v27 v122), ∀ a x, ((![v27, v122] : Fin 2 → IVec S16 32) a x).toNat < S256x257.size a := fun k0_t1 k0_t3 v27 v122 k0_hw415 => k0_hw415

def k0_chk416 (k0_t1 : Fin k0_t1_loop.trips) (k0_t3 : Fin (k0_t3_loop k0_t1).trips) (v95 : IVec S16 32) (v123 : IVec S16 32) : Prop :=
  (∀ a x, ((![v123, v95] : Fin 2 → IVec S16 32) a x).toNat < S16x256.size a)
theorem k0_idx416_inb : ∀ (k0_t1 : Fin k0_t1_loop.trips) (k0_t3 : Fin (k0_t3_loop k0_t1).trips) (v95 : IVec S16 32) (v123 : IVec S16 32) (k0_hw416 : k0_chk416 k0_t1 k0_t3 v95 v123), ∀ a x, ((![v123, v95] : Fin 2 → IVec S16 32) a x).toNat < S16x256.size a := fun k0_t1 k0_t3 v95 v123 k0_hw416 => k0_hw416

def k0_chk417 (k0_t1 : Fin k0_t1_loop.trips) (k0_t3 : Fin (k0_t3_loop k0_t1).trips) (v27 : IVec S16 32) (v125 : IVec S16 32) : Prop :=
  (∀ a x, ((![v27, v125] : Fin 2 → IVec S16 32) a x).toNat < S256x257.size a)
theorem k0_idx417_inb : ∀ (k0_t1 : Fin k0_t1_loop.trips) (k0_t3 : Fin (k0_t3_loop k0_t1).trips) (v27 : IVec S16 32) (v125 : IVec S16 32) (k0_hw417 : k0_chk417 k0_t1 k0_t3 v27 v125), ∀ a x, ((![v27, v125] : Fin 2 → IVec S16 32) a x).toNat < S256x257.size a := fun k0_t1 k0_t3 v27 v125 k0_hw417 => k0_hw417

def k0_chk418 (k0_t1 : Fin k0_t1_loop.trips) (k0_t3 : Fin (k0_t3_loop k0_t1).trips) (v95 : IVec S16 32) (v126 : IVec S16 32) : Prop :=
  (∀ a x, ((![v126, v95] : Fin 2 → IVec S16 32) a x).toNat < S16x256.size a)
theorem k0_idx418_inb : ∀ (k0_t1 : Fin k0_t1_loop.trips) (k0_t3 : Fin (k0_t3_loop k0_t1).trips) (v95 : IVec S16 32) (v126 : IVec S16 32) (k0_hw418 : k0_chk418 k0_t1 k0_t3 v95 v126), ∀ a x, ((![v126, v95] : Fin 2 → IVec S16 32) a x).toNat < S16x256.size a := fun k0_t1 k0_t3 v95 v126 k0_hw418 => k0_hw418

def k0_chk419 (k0_t1 : Fin k0_t1_loop.trips) (k0_t3 : Fin (k0_t3_loop k0_t1).trips) (v27 : IVec S16 32) (v128 : IVec S16 32) : Prop :=
  (∀ a x, ((![v27, v128] : Fin 2 → IVec S16 32) a x).toNat < S256x257.size a)
theorem k0_idx419_inb : ∀ (k0_t1 : Fin k0_t1_loop.trips) (k0_t3 : Fin (k0_t3_loop k0_t1).trips) (v27 : IVec S16 32) (v128 : IVec S16 32) (k0_hw419 : k0_chk419 k0_t1 k0_t3 v27 v128), ∀ a x, ((![v27, v128] : Fin 2 → IVec S16 32) a x).toNat < S256x257.size a := fun k0_t1 k0_t3 v27 v128 k0_hw419 => k0_hw419

def k0_chk420 (k0_t1 : Fin k0_t1_loop.trips) (k0_t3 : Fin (k0_t3_loop k0_t1).trips) (v95 : IVec S16 32) (v129 : IVec S16 32) : Prop :=
  (∀ a x, ((![v129, v95] : Fin 2 → IVec S16 32) a x).toNat < S16x256.size a)
theorem k0_idx420_inb : ∀ (k0_t1 : Fin k0_t1_loop.trips) (k0_t3 : Fin (k0_t3_loop k0_t1).trips) (v95 : IVec S16 32) (v129 : IVec S16 32) (k0_hw420 : k0_chk420 k0_t1 k0_t3 v95 v129), ∀ a x, ((![v129, v95] : Fin 2 → IVec S16 32) a x).toNat < S16x256.size a := fun k0_t1 k0_t3 v95 v129 k0_hw420 => k0_hw420

def k0_chk421 (k0_t1 : Fin k0_t1_loop.trips) (k0_t3 : Fin (k0_t3_loop k0_t1).trips) (v27 : IVec S16 32) (v131 : IVec S16 32) : Prop :=
  (∀ a x, ((![v27, v131] : Fin 2 → IVec S16 32) a x).toNat < S256x257.size a)
theorem k0_idx421_inb : ∀ (k0_t1 : Fin k0_t1_loop.trips) (k0_t3 : Fin (k0_t3_loop k0_t1).trips) (v27 : IVec S16 32) (v131 : IVec S16 32) (k0_hw421 : k0_chk421 k0_t1 k0_t3 v27 v131), ∀ a x, ((![v27, v131] : Fin 2 → IVec S16 32) a x).toNat < S256x257.size a := fun k0_t1 k0_t3 v27 v131 k0_hw421 => k0_hw421

def k0_chk422 (k0_t1 : Fin k0_t1_loop.trips) (k0_t3 : Fin (k0_t3_loop k0_t1).trips) (v95 : IVec S16 32) (v132 : IVec S16 32) : Prop :=
  (∀ a x, ((![v132, v95] : Fin 2 → IVec S16 32) a x).toNat < S16x256.size a)
theorem k0_idx422_inb : ∀ (k0_t1 : Fin k0_t1_loop.trips) (k0_t3 : Fin (k0_t3_loop k0_t1).trips) (v95 : IVec S16 32) (v132 : IVec S16 32) (k0_hw422 : k0_chk422 k0_t1 k0_t3 v95 v132), ∀ a x, ((![v132, v95] : Fin 2 → IVec S16 32) a x).toNat < S16x256.size a := fun k0_t1 k0_t3 v95 v132 k0_hw422 => k0_hw422

def k0_chk423 (k0_t1 : Fin k0_t1_loop.trips) (k0_t3 : Fin (k0_t3_loop k0_t1).trips) (v27 : IVec S16 32) (v134 : IVec S16 32) : Prop :=
  (∀ a x, ((![v27, v134] : Fin 2 → IVec S16 32) a x).toNat < S256x257.size a)
theorem k0_idx423_inb : ∀ (k0_t1 : Fin k0_t1_loop.trips) (k0_t3 : Fin (k0_t3_loop k0_t1).trips) (v27 : IVec S16 32) (v134 : IVec S16 32) (k0_hw423 : k0_chk423 k0_t1 k0_t3 v27 v134), ∀ a x, ((![v27, v134] : Fin 2 → IVec S16 32) a x).toNat < S256x257.size a := fun k0_t1 k0_t3 v27 v134 k0_hw423 => k0_hw423

def k0_chk424 (k0_t1 : Fin k0_t1_loop.trips) (k0_t3 : Fin (k0_t3_loop k0_t1).trips) (v95 : IVec S16 32) (v135 : IVec S16 32) : Prop :=
  (∀ a x, ((![v135, v95] : Fin 2 → IVec S16 32) a x).toNat < S16x256.size a)
theorem k0_idx424_inb : ∀ (k0_t1 : Fin k0_t1_loop.trips) (k0_t3 : Fin (k0_t3_loop k0_t1).trips) (v95 : IVec S16 32) (v135 : IVec S16 32) (k0_hw424 : k0_chk424 k0_t1 k0_t3 v95 v135), ∀ a x, ((![v135, v95] : Fin 2 → IVec S16 32) a x).toNat < S16x256.size a := fun k0_t1 k0_t3 v95 v135 k0_hw424 => k0_hw424

def k0_chk425 (k0_t1 : Fin k0_t1_loop.trips) (k0_t3 : Fin (k0_t3_loop k0_t1).trips) (v27 : IVec S16 32) (v137 : IVec S16 32) : Prop :=
  (∀ a x, ((![v27, v137] : Fin 2 → IVec S16 32) a x).toNat < S256x257.size a)
theorem k0_idx425_inb : ∀ (k0_t1 : Fin k0_t1_loop.trips) (k0_t3 : Fin (k0_t3_loop k0_t1).trips) (v27 : IVec S16 32) (v137 : IVec S16 32) (k0_hw425 : k0_chk425 k0_t1 k0_t3 v27 v137), ∀ a x, ((![v27, v137] : Fin 2 → IVec S16 32) a x).toNat < S256x257.size a := fun k0_t1 k0_t3 v27 v137 k0_hw425 => k0_hw425

def k0_chk426 (k0_t1 : Fin k0_t1_loop.trips) (k0_t3 : Fin (k0_t3_loop k0_t1).trips) (v95 : IVec S16 32) (v138 : IVec S16 32) : Prop :=
  (∀ a x, ((![v138, v95] : Fin 2 → IVec S16 32) a x).toNat < S16x256.size a)
theorem k0_idx426_inb : ∀ (k0_t1 : Fin k0_t1_loop.trips) (k0_t3 : Fin (k0_t3_loop k0_t1).trips) (v95 : IVec S16 32) (v138 : IVec S16 32) (k0_hw426 : k0_chk426 k0_t1 k0_t3 v95 v138), ∀ a x, ((![v138, v95] : Fin 2 → IVec S16 32) a x).toNat < S16x256.size a := fun k0_t1 k0_t3 v95 v138 k0_hw426 => k0_hw426

def k0_chk427 (k0_t1 : Fin k0_t1_loop.trips) (k0_t3 : Fin (k0_t3_loop k0_t1).trips) (v27 : IVec S16 32) (v140 : IVec S16 32) : Prop :=
  (∀ a x, ((![v27, v140] : Fin 2 → IVec S16 32) a x).toNat < S256x257.size a)
theorem k0_idx427_inb : ∀ (k0_t1 : Fin k0_t1_loop.trips) (k0_t3 : Fin (k0_t3_loop k0_t1).trips) (v27 : IVec S16 32) (v140 : IVec S16 32) (k0_hw427 : k0_chk427 k0_t1 k0_t3 v27 v140), ∀ a x, ((![v27, v140] : Fin 2 → IVec S16 32) a x).toNat < S256x257.size a := fun k0_t1 k0_t3 v27 v140 k0_hw427 => k0_hw427

def k0_chk428 (k0_t1 : Fin k0_t1_loop.trips) (k0_t3 : Fin (k0_t3_loop k0_t1).trips) (v95 : IVec S16 32) (v141 : IVec S16 32) : Prop :=
  (∀ a x, ((![v141, v95] : Fin 2 → IVec S16 32) a x).toNat < S16x256.size a)
theorem k0_idx428_inb : ∀ (k0_t1 : Fin k0_t1_loop.trips) (k0_t3 : Fin (k0_t3_loop k0_t1).trips) (v95 : IVec S16 32) (v141 : IVec S16 32) (k0_hw428 : k0_chk428 k0_t1 k0_t3 v95 v141), ∀ a x, ((![v141, v95] : Fin 2 → IVec S16 32) a x).toNat < S16x256.size a := fun k0_t1 k0_t3 v95 v141 k0_hw428 => k0_hw428

def k0_chk429 (k0_t1 : Fin k0_t1_loop.trips) (k0_t3 : Fin (k0_t3_loop k0_t1).trips) (v27 : IVec S16 32) (v143 : IVec S16 32) : Prop :=
  (∀ a x, ((![v27, v143] : Fin 2 → IVec S16 32) a x).toNat < S256x257.size a)
theorem k0_idx429_inb : ∀ (k0_t1 : Fin k0_t1_loop.trips) (k0_t3 : Fin (k0_t3_loop k0_t1).trips) (v27 : IVec S16 32) (v143 : IVec S16 32) (k0_hw429 : k0_chk429 k0_t1 k0_t3 v27 v143), ∀ a x, ((![v27, v143] : Fin 2 → IVec S16 32) a x).toNat < S256x257.size a := fun k0_t1 k0_t3 v27 v143 k0_hw429 => k0_hw429

def k0_chk430 (k0_t1 : Fin k0_t1_loop.trips) (k0_t3 : Fin (k0_t3_loop k0_t1).trips) (v147 : IVec S16 32) (v149 : IVec S16 32) : Prop :=
  (∀ a x, ((![v147, v149] : Fin 2 → IVec S16 32) a x).toNat < S44x128.size a)
theorem k0_idx430_inb : ∀ (k0_t1 : Fin k0_t1_loop.trips) (k0_t3 : Fin (k0_t3_loop k0_t1).trips) (v147 : IVec S16 32) (v149 : IVec S16 32) (k0_hw430 : k0_chk430 k0_t1 k0_t3 v147 v149), ∀ a x, ((![v147, v149] : Fin 2 → IVec S16 32) a x).toNat < S44x128.size a := fun k0_t1 k0_t3 v147 v149 k0_hw430 => k0_hw430

def k0_chk431 (k0_t1 : Fin k0_t1_loop.trips) (k0_t3 : Fin (k0_t3_loop k0_t1).trips) (v150 : IVec S16 32) (v151 : IVec S16 32) : Prop :=
  (∀ a x, ((![v151, v150] : Fin 2 → IVec S16 32) a x).toNat < S16x256.size a)
theorem k0_idx431_inb : ∀ (k0_t1 : Fin k0_t1_loop.trips) (k0_t3 : Fin (k0_t3_loop k0_t1).trips) (v150 : IVec S16 32) (v151 : IVec S16 32) (k0_hw431 : k0_chk431 k0_t1 k0_t3 v150 v151), ∀ a x, ((![v151, v150] : Fin 2 → IVec S16 32) a x).toNat < S16x256.size a := fun k0_t1 k0_t3 v150 v151 k0_hw431 => k0_hw431

def k0_chk432 (k0_t1 : Fin k0_t1_loop.trips) (k0_t3 : Fin (k0_t3_loop k0_t1).trips) (v27 : IVec S16 32) (v153 : IVec S16 32) : Prop :=
  (∀ a x, ((![v27, v153] : Fin 2 → IVec S16 32) a x).toNat < S256x257.size a)
theorem k0_idx432_inb : ∀ (k0_t1 : Fin k0_t1_loop.trips) (k0_t3 : Fin (k0_t3_loop k0_t1).trips) (v27 : IVec S16 32) (v153 : IVec S16 32) (k0_hw432 : k0_chk432 k0_t1 k0_t3 v27 v153), ∀ a x, ((![v27, v153] : Fin 2 → IVec S16 32) a x).toNat < S256x257.size a := fun k0_t1 k0_t3 v27 v153 k0_hw432 => k0_hw432

def k0_chk433 (k0_t1 : Fin k0_t1_loop.trips) (k0_t3 : Fin (k0_t3_loop k0_t1).trips) (v150 : IVec S16 32) (v154 : IVec S16 32) : Prop :=
  (∀ a x, ((![v154, v150] : Fin 2 → IVec S16 32) a x).toNat < S16x256.size a)
theorem k0_idx433_inb : ∀ (k0_t1 : Fin k0_t1_loop.trips) (k0_t3 : Fin (k0_t3_loop k0_t1).trips) (v150 : IVec S16 32) (v154 : IVec S16 32) (k0_hw433 : k0_chk433 k0_t1 k0_t3 v150 v154), ∀ a x, ((![v154, v150] : Fin 2 → IVec S16 32) a x).toNat < S16x256.size a := fun k0_t1 k0_t3 v150 v154 k0_hw433 => k0_hw433

def k0_chk434 (k0_t1 : Fin k0_t1_loop.trips) (k0_t3 : Fin (k0_t3_loop k0_t1).trips) (v27 : IVec S16 32) (v156 : IVec S16 32) : Prop :=
  (∀ a x, ((![v27, v156] : Fin 2 → IVec S16 32) a x).toNat < S256x257.size a)
theorem k0_idx434_inb : ∀ (k0_t1 : Fin k0_t1_loop.trips) (k0_t3 : Fin (k0_t3_loop k0_t1).trips) (v27 : IVec S16 32) (v156 : IVec S16 32) (k0_hw434 : k0_chk434 k0_t1 k0_t3 v27 v156), ∀ a x, ((![v27, v156] : Fin 2 → IVec S16 32) a x).toNat < S256x257.size a := fun k0_t1 k0_t3 v27 v156 k0_hw434 => k0_hw434

def k0_chk435 (k0_t1 : Fin k0_t1_loop.trips) (k0_t3 : Fin (k0_t3_loop k0_t1).trips) (v150 : IVec S16 32) (v157 : IVec S16 32) : Prop :=
  (∀ a x, ((![v157, v150] : Fin 2 → IVec S16 32) a x).toNat < S16x256.size a)
theorem k0_idx435_inb : ∀ (k0_t1 : Fin k0_t1_loop.trips) (k0_t3 : Fin (k0_t3_loop k0_t1).trips) (v150 : IVec S16 32) (v157 : IVec S16 32) (k0_hw435 : k0_chk435 k0_t1 k0_t3 v150 v157), ∀ a x, ((![v157, v150] : Fin 2 → IVec S16 32) a x).toNat < S16x256.size a := fun k0_t1 k0_t3 v150 v157 k0_hw435 => k0_hw435

def k0_chk436 (k0_t1 : Fin k0_t1_loop.trips) (k0_t3 : Fin (k0_t3_loop k0_t1).trips) (v27 : IVec S16 32) (v159 : IVec S16 32) : Prop :=
  (∀ a x, ((![v27, v159] : Fin 2 → IVec S16 32) a x).toNat < S256x257.size a)
theorem k0_idx436_inb : ∀ (k0_t1 : Fin k0_t1_loop.trips) (k0_t3 : Fin (k0_t3_loop k0_t1).trips) (v27 : IVec S16 32) (v159 : IVec S16 32) (k0_hw436 : k0_chk436 k0_t1 k0_t3 v27 v159), ∀ a x, ((![v27, v159] : Fin 2 → IVec S16 32) a x).toNat < S256x257.size a := fun k0_t1 k0_t3 v27 v159 k0_hw436 => k0_hw436

def k0_chk437 (k0_t1 : Fin k0_t1_loop.trips) (k0_t3 : Fin (k0_t3_loop k0_t1).trips) (v150 : IVec S16 32) (v160 : IVec S16 32) : Prop :=
  (∀ a x, ((![v160, v150] : Fin 2 → IVec S16 32) a x).toNat < S16x256.size a)
theorem k0_idx437_inb : ∀ (k0_t1 : Fin k0_t1_loop.trips) (k0_t3 : Fin (k0_t3_loop k0_t1).trips) (v150 : IVec S16 32) (v160 : IVec S16 32) (k0_hw437 : k0_chk437 k0_t1 k0_t3 v150 v160), ∀ a x, ((![v160, v150] : Fin 2 → IVec S16 32) a x).toNat < S16x256.size a := fun k0_t1 k0_t3 v150 v160 k0_hw437 => k0_hw437

def k0_chk438 (k0_t1 : Fin k0_t1_loop.trips) (k0_t3 : Fin (k0_t3_loop k0_t1).trips) (v27 : IVec S16 32) (v162 : IVec S16 32) : Prop :=
  (∀ a x, ((![v27, v162] : Fin 2 → IVec S16 32) a x).toNat < S256x257.size a)
theorem k0_idx438_inb : ∀ (k0_t1 : Fin k0_t1_loop.trips) (k0_t3 : Fin (k0_t3_loop k0_t1).trips) (v27 : IVec S16 32) (v162 : IVec S16 32) (k0_hw438 : k0_chk438 k0_t1 k0_t3 v27 v162), ∀ a x, ((![v27, v162] : Fin 2 → IVec S16 32) a x).toNat < S256x257.size a := fun k0_t1 k0_t3 v27 v162 k0_hw438 => k0_hw438

def k0_chk439 (k0_t1 : Fin k0_t1_loop.trips) (k0_t3 : Fin (k0_t3_loop k0_t1).trips) (v150 : IVec S16 32) (v163 : IVec S16 32) : Prop :=
  (∀ a x, ((![v163, v150] : Fin 2 → IVec S16 32) a x).toNat < S16x256.size a)
theorem k0_idx439_inb : ∀ (k0_t1 : Fin k0_t1_loop.trips) (k0_t3 : Fin (k0_t3_loop k0_t1).trips) (v150 : IVec S16 32) (v163 : IVec S16 32) (k0_hw439 : k0_chk439 k0_t1 k0_t3 v150 v163), ∀ a x, ((![v163, v150] : Fin 2 → IVec S16 32) a x).toNat < S16x256.size a := fun k0_t1 k0_t3 v150 v163 k0_hw439 => k0_hw439

def k0_chk440 (k0_t1 : Fin k0_t1_loop.trips) (k0_t3 : Fin (k0_t3_loop k0_t1).trips) (v27 : IVec S16 32) (v165 : IVec S16 32) : Prop :=
  (∀ a x, ((![v27, v165] : Fin 2 → IVec S16 32) a x).toNat < S256x257.size a)
theorem k0_idx440_inb : ∀ (k0_t1 : Fin k0_t1_loop.trips) (k0_t3 : Fin (k0_t3_loop k0_t1).trips) (v27 : IVec S16 32) (v165 : IVec S16 32) (k0_hw440 : k0_chk440 k0_t1 k0_t3 v27 v165), ∀ a x, ((![v27, v165] : Fin 2 → IVec S16 32) a x).toNat < S256x257.size a := fun k0_t1 k0_t3 v27 v165 k0_hw440 => k0_hw440

def k0_chk441 (k0_t1 : Fin k0_t1_loop.trips) (k0_t3 : Fin (k0_t3_loop k0_t1).trips) (v150 : IVec S16 32) (v166 : IVec S16 32) : Prop :=
  (∀ a x, ((![v166, v150] : Fin 2 → IVec S16 32) a x).toNat < S16x256.size a)
theorem k0_idx441_inb : ∀ (k0_t1 : Fin k0_t1_loop.trips) (k0_t3 : Fin (k0_t3_loop k0_t1).trips) (v150 : IVec S16 32) (v166 : IVec S16 32) (k0_hw441 : k0_chk441 k0_t1 k0_t3 v150 v166), ∀ a x, ((![v166, v150] : Fin 2 → IVec S16 32) a x).toNat < S16x256.size a := fun k0_t1 k0_t3 v150 v166 k0_hw441 => k0_hw441

def k0_chk442 (k0_t1 : Fin k0_t1_loop.trips) (k0_t3 : Fin (k0_t3_loop k0_t1).trips) (v27 : IVec S16 32) (v168 : IVec S16 32) : Prop :=
  (∀ a x, ((![v27, v168] : Fin 2 → IVec S16 32) a x).toNat < S256x257.size a)
theorem k0_idx442_inb : ∀ (k0_t1 : Fin k0_t1_loop.trips) (k0_t3 : Fin (k0_t3_loop k0_t1).trips) (v27 : IVec S16 32) (v168 : IVec S16 32) (k0_hw442 : k0_chk442 k0_t1 k0_t3 v27 v168), ∀ a x, ((![v27, v168] : Fin 2 → IVec S16 32) a x).toNat < S256x257.size a := fun k0_t1 k0_t3 v27 v168 k0_hw442 => k0_hw442

def k0_chk443 (k0_t1 : Fin k0_t1_loop.trips) (k0_t3 : Fin (k0_t3_loop k0_t1).trips) (v150 : IVec S16 32) (v169 : IVec S16 32) : Prop :=
  (∀ a x, ((![v169, v150] : Fin 2 → IVec S16 32) a x).toNat < S16x256.size a)
theorem k0_idx443_inb : ∀ (k0_t1 : Fin k0_t1_loop.trips) (k0_t3 : Fin (k0_t3_loop k0_t1).trips) (v150 : IVec S16 32) (v169 : IVec S16 32) (k0_hw443 : k0_chk443 k0_t1 k0_t3 v150 v169), ∀ a x, ((![v169, v150] : Fin 2 → IVec S16 32) a x).toNat < S16x256.size a := fun k0_t1 k0_t3 v150 v169 k0_hw443 => k0_hw443

def k0_chk444 (k0_t1 : Fin k0_t1_loop.trips) (k0_t3 : Fin (k0_t3_loop k0_t1).trips) (v27 : IVec S16 32) (v171 : IVec S16 32) : Prop :=
  (∀ a x, ((![v27, v171] : Fin 2 → IVec S16 32) a x).toNat < S256x257.size a)
theorem k0_idx444_inb : ∀ (k0_t1 : Fin k0_t1_loop.trips) (k0_t3 : Fin (k0_t3_loop k0_t1).trips) (v27 : IVec S16 32) (v171 : IVec S16 32) (k0_hw444 : k0_chk444 k0_t1 k0_t3 v27 v171), ∀ a x, ((![v27, v171] : Fin 2 → IVec S16 32) a x).toNat < S256x257.size a := fun k0_t1 k0_t3 v27 v171 k0_hw444 => k0_hw444

def k0_chk445 (k0_t1 : Fin k0_t1_loop.trips) (k0_t3 : Fin (k0_t3_loop k0_t1).trips) (v150 : IVec S16 32) (v172 : IVec S16 32) : Prop :=
  (∀ a x, ((![v172, v150] : Fin 2 → IVec S16 32) a x).toNat < S16x256.size a)
theorem k0_idx445_inb : ∀ (k0_t1 : Fin k0_t1_loop.trips) (k0_t3 : Fin (k0_t3_loop k0_t1).trips) (v150 : IVec S16 32) (v172 : IVec S16 32) (k0_hw445 : k0_chk445 k0_t1 k0_t3 v150 v172), ∀ a x, ((![v172, v150] : Fin 2 → IVec S16 32) a x).toNat < S16x256.size a := fun k0_t1 k0_t3 v150 v172 k0_hw445 => k0_hw445

def k0_chk446 (k0_t1 : Fin k0_t1_loop.trips) (k0_t3 : Fin (k0_t3_loop k0_t1).trips) (v27 : IVec S16 32) (v174 : IVec S16 32) : Prop :=
  (∀ a x, ((![v27, v174] : Fin 2 → IVec S16 32) a x).toNat < S256x257.size a)
theorem k0_idx446_inb : ∀ (k0_t1 : Fin k0_t1_loop.trips) (k0_t3 : Fin (k0_t3_loop k0_t1).trips) (v27 : IVec S16 32) (v174 : IVec S16 32) (k0_hw446 : k0_chk446 k0_t1 k0_t3 v27 v174), ∀ a x, ((![v27, v174] : Fin 2 → IVec S16 32) a x).toNat < S256x257.size a := fun k0_t1 k0_t3 v27 v174 k0_hw446 => k0_hw446

def k0_chk447 (k0_t1 : Fin k0_t1_loop.trips) (k0_t3 : Fin (k0_t3_loop k0_t1).trips) (v150 : IVec S16 32) (v175 : IVec S16 32) : Prop :=
  (∀ a x, ((![v175, v150] : Fin 2 → IVec S16 32) a x).toNat < S16x256.size a)
theorem k0_idx447_inb : ∀ (k0_t1 : Fin k0_t1_loop.trips) (k0_t3 : Fin (k0_t3_loop k0_t1).trips) (v150 : IVec S16 32) (v175 : IVec S16 32) (k0_hw447 : k0_chk447 k0_t1 k0_t3 v150 v175), ∀ a x, ((![v175, v150] : Fin 2 → IVec S16 32) a x).toNat < S16x256.size a := fun k0_t1 k0_t3 v150 v175 k0_hw447 => k0_hw447

def k0_chk448 (k0_t1 : Fin k0_t1_loop.trips) (k0_t3 : Fin (k0_t3_loop k0_t1).trips) (v27 : IVec S16 32) (v177 : IVec S16 32) : Prop :=
  (∀ a x, ((![v27, v177] : Fin 2 → IVec S16 32) a x).toNat < S256x257.size a)
theorem k0_idx448_inb : ∀ (k0_t1 : Fin k0_t1_loop.trips) (k0_t3 : Fin (k0_t3_loop k0_t1).trips) (v27 : IVec S16 32) (v177 : IVec S16 32) (k0_hw448 : k0_chk448 k0_t1 k0_t3 v27 v177), ∀ a x, ((![v27, v177] : Fin 2 → IVec S16 32) a x).toNat < S256x257.size a := fun k0_t1 k0_t3 v27 v177 k0_hw448 => k0_hw448

def k0_chk449 (k0_t1 : Fin k0_t1_loop.trips) (k0_t3 : Fin (k0_t3_loop k0_t1).trips) (v150 : IVec S16 32) (v178 : IVec S16 32) : Prop :=
  (∀ a x, ((![v178, v150] : Fin 2 → IVec S16 32) a x).toNat < S16x256.size a)
theorem k0_idx449_inb : ∀ (k0_t1 : Fin k0_t1_loop.trips) (k0_t3 : Fin (k0_t3_loop k0_t1).trips) (v150 : IVec S16 32) (v178 : IVec S16 32) (k0_hw449 : k0_chk449 k0_t1 k0_t3 v150 v178), ∀ a x, ((![v178, v150] : Fin 2 → IVec S16 32) a x).toNat < S16x256.size a := fun k0_t1 k0_t3 v150 v178 k0_hw449 => k0_hw449

def k0_chk450 (k0_t1 : Fin k0_t1_loop.trips) (k0_t3 : Fin (k0_t3_loop k0_t1).trips) (v27 : IVec S16 32) (v180 : IVec S16 32) : Prop :=
  (∀ a x, ((![v27, v180] : Fin 2 → IVec S16 32) a x).toNat < S256x257.size a)
theorem k0_idx450_inb : ∀ (k0_t1 : Fin k0_t1_loop.trips) (k0_t3 : Fin (k0_t3_loop k0_t1).trips) (v27 : IVec S16 32) (v180 : IVec S16 32) (k0_hw450 : k0_chk450 k0_t1 k0_t3 v27 v180), ∀ a x, ((![v27, v180] : Fin 2 → IVec S16 32) a x).toNat < S256x257.size a := fun k0_t1 k0_t3 v27 v180 k0_hw450 => k0_hw450

def k0_chk451 (k0_t1 : Fin k0_t1_loop.trips) (k0_t3 : Fin (k0_t3_loop k0_t1).trips) (v150 : IVec S16 32) (v181 : IVec S16 32) : Prop :=
  (∀ a x, ((![v181, v150] : Fin 2 → IVec S16 32) a x).toNat < S16x256.size a)
theorem k0_idx451_inb : ∀ (k0_t1 : Fin k0_t1_loop.trips) (k0_t3 : Fin (k0_t3_loop k0_t1).trips) (v150 : IVec S16 32) (v181 : IVec S16 32) (k0_hw451 : k0_chk451 k0_t1 k0_t3 v150 v181), ∀ a x, ((![v181, v150] : Fin 2 → IVec S16 32) a x).toNat < S16x256.size a := fun k0_t1 k0_t3 v150 v181 k0_hw451 => k0_hw451

def k0_chk452 (k0_t1 : Fin k0_t1_loop.trips) (k0_t3 : Fin (k0_t3_loop k0_t1).trips) (v27 : IVec S16 32) (v183 : IVec S16 32) : Prop :=
  (∀ a x, ((![v27, v183] : Fin 2 → IVec S16 32) a x).toNat < S256x257.size a)
theorem k0_idx452_inb : ∀ (k0_t1 : Fin k0_t1_loop.trips) (k0_t3 : Fin (k0_t3_loop k0_t1).trips) (v27 : IVec S16 32) (v183 : IVec S16 32) (k0_hw452 : k0_chk452 k0_t1 k0_t3 v27 v183), ∀ a x, ((![v27, v183] : Fin 2 → IVec S16 32) a x).toNat < S256x257.size a := fun k0_t1 k0_t3 v27 v183 k0_hw452 => k0_hw452

def k0_chk453 (k0_t1 : Fin k0_t1_loop.trips) (k0_t3 : Fin (k0_t3_loop k0_t1).trips) (v150 : IVec S16 32) (v184 : IVec S16 32) : Prop :=
  (∀ a x, ((![v184, v150] : Fin 2 → IVec S16 32) a x).toNat < S16x256.size a)
theorem k0_idx453_inb : ∀ (k0_t1 : Fin k0_t1_loop.trips) (k0_t3 : Fin (k0_t3_loop k0_t1).trips) (v150 : IVec S16 32) (v184 : IVec S16 32) (k0_hw453 : k0_chk453 k0_t1 k0_t3 v150 v184), ∀ a x, ((![v184, v150] : Fin 2 → IVec S16 32) a x).toNat < S16x256.size a := fun k0_t1 k0_t3 v150 v184 k0_hw453 => k0_hw453

def k0_chk454 (k0_t1 : Fin k0_t1_loop.trips) (k0_t3 : Fin (k0_t3_loop k0_t1).trips) (v27 : IVec S16 32) (v186 : IVec S16 32) : Prop :=
  (∀ a x, ((![v27, v186] : Fin 2 → IVec S16 32) a x).toNat < S256x257.size a)
theorem k0_idx454_inb : ∀ (k0_t1 : Fin k0_t1_loop.trips) (k0_t3 : Fin (k0_t3_loop k0_t1).trips) (v27 : IVec S16 32) (v186 : IVec S16 32) (k0_hw454 : k0_chk454 k0_t1 k0_t3 v27 v186), ∀ a x, ((![v27, v186] : Fin 2 → IVec S16 32) a x).toNat < S256x257.size a := fun k0_t1 k0_t3 v27 v186 k0_hw454 => k0_hw454

def k0_chk455 (k0_t1 : Fin k0_t1_loop.trips) (k0_t3 : Fin (k0_t3_loop k0_t1).trips) (v150 : IVec S16 32) (v187 : IVec S16 32) : Prop :=
  (∀ a x, ((![v187, v150] : Fin 2 → IVec S16 32) a x).toNat < S16x256.size a)
theorem k0_idx455_inb : ∀ (k0_t1 : Fin k0_t1_loop.trips) (k0_t3 : Fin (k0_t3_loop k0_t1).trips) (v150 : IVec S16 32) (v187 : IVec S16 32) (k0_hw455 : k0_chk455 k0_t1 k0_t3 v150 v187), ∀ a x, ((![v187, v150] : Fin 2 → IVec S16 32) a x).toNat < S16x256.size a := fun k0_t1 k0_t3 v150 v187 k0_hw455 => k0_hw455

def k0_chk456 (k0_t1 : Fin k0_t1_loop.trips) (k0_t3 : Fin (k0_t3_loop k0_t1).trips) (v27 : IVec S16 32) (v189 : IVec S16 32) : Prop :=
  (∀ a x, ((![v27, v189] : Fin 2 → IVec S16 32) a x).toNat < S256x257.size a)
theorem k0_idx456_inb : ∀ (k0_t1 : Fin k0_t1_loop.trips) (k0_t3 : Fin (k0_t3_loop k0_t1).trips) (v27 : IVec S16 32) (v189 : IVec S16 32) (k0_hw456 : k0_chk456 k0_t1 k0_t3 v27 v189), ∀ a x, ((![v27, v189] : Fin 2 → IVec S16 32) a x).toNat < S256x257.size a := fun k0_t1 k0_t3 v27 v189 k0_hw456 => k0_hw456

def k0_chk457 (k0_t1 : Fin k0_t1_loop.trips) (k0_t3 : Fin (k0_t3_loop k0_t1).trips) (v150 : IVec S16 32) (v190 : IVec S16 32) : Prop :=
  (∀ a x, ((![v190, v150] : Fin 2 → IVec S16 32) a x).toNat < S16x256.size a)
theorem k0_idx457_inb : ∀ (k0_t1 : Fin k0_t1_loop.trips) (k0_t3 : Fin (k0_t3_loop k0_t1).trips) (v150 : IVec S16 32) (v190 : IVec S16 32) (k0_hw457 : k0_chk457 k0_t1 k0_t3 v150 v190), ∀ a x, ((![v190, v150] : Fin 2 → IVec S16 32) a x).toNat < S16x256.size a := fun k0_t1 k0_t3 v150 v190 k0_hw457 => k0_hw457

def k0_chk458 (k0_t1 : Fin k0_t1_loop.trips) (k0_t3 : Fin (k0_t3_loop k0_t1).trips) (v27 : IVec S16 32) (v192 : IVec S16 32) : Prop :=
  (∀ a x, ((![v27, v192] : Fin 2 → IVec S16 32) a x).toNat < S256x257.size a)
theorem k0_idx458_inb : ∀ (k0_t1 : Fin k0_t1_loop.trips) (k0_t3 : Fin (k0_t3_loop k0_t1).trips) (v27 : IVec S16 32) (v192 : IVec S16 32) (k0_hw458 : k0_chk458 k0_t1 k0_t3 v27 v192), ∀ a x, ((![v27, v192] : Fin 2 → IVec S16 32) a x).toNat < S256x257.size a := fun k0_t1 k0_t3 v27 v192 k0_hw458 => k0_hw458

def k0_chk459 (k0_t1 : Fin k0_t1_loop.trips) (k0_t3 : Fin (k0_t3_loop k0_t1).trips) (v150 : IVec S16 32) (v193 : IVec S16 32) : Prop :=
  (∀ a x, ((![v193, v150] : Fin 2 → IVec S16 32) a x).toNat < S16x256.size a)
theorem k0_idx459_inb : ∀ (k0_t1 : Fin k0_t1_loop.trips) (k0_t3 : Fin (k0_t3_loop k0_t1).trips) (v150 : IVec S16 32) (v193 : IVec S16 32) (k0_hw459 : k0_chk459 k0_t1 k0_t3 v150 v193), ∀ a x, ((![v193, v150] : Fin 2 → IVec S16 32) a x).toNat < S16x256.size a := fun k0_t1 k0_t3 v150 v193 k0_hw459 => k0_hw459

def k0_chk460 (k0_t1 : Fin k0_t1_loop.trips) (k0_t3 : Fin (k0_t3_loop k0_t1).trips) (v27 : IVec S16 32) (v195 : IVec S16 32) : Prop :=
  (∀ a x, ((![v27, v195] : Fin 2 → IVec S16 32) a x).toNat < S256x257.size a)
theorem k0_idx460_inb : ∀ (k0_t1 : Fin k0_t1_loop.trips) (k0_t3 : Fin (k0_t3_loop k0_t1).trips) (v27 : IVec S16 32) (v195 : IVec S16 32) (k0_hw460 : k0_chk460 k0_t1 k0_t3 v27 v195), ∀ a x, ((![v27, v195] : Fin 2 → IVec S16 32) a x).toNat < S256x257.size a := fun k0_t1 k0_t3 v27 v195 k0_hw460 => k0_hw460

def k0_chk461 (k0_t1 : Fin k0_t1_loop.trips) (k0_t3 : Fin (k0_t3_loop k0_t1).trips) (v150 : IVec S16 32) (v196 : IVec S16 32) : Prop :=
  (∀ a x, ((![v196, v150] : Fin 2 → IVec S16 32) a x).toNat < S16x256.size a)
theorem k0_idx461_inb : ∀ (k0_t1 : Fin k0_t1_loop.trips) (k0_t3 : Fin (k0_t3_loop k0_t1).trips) (v150 : IVec S16 32) (v196 : IVec S16 32) (k0_hw461 : k0_chk461 k0_t1 k0_t3 v150 v196), ∀ a x, ((![v196, v150] : Fin 2 → IVec S16 32) a x).toNat < S16x256.size a := fun k0_t1 k0_t3 v150 v196 k0_hw461 => k0_hw461

def k0_chk462 (k0_t1 : Fin k0_t1_loop.trips) (k0_t3 : Fin (k0_t3_loop k0_t1).trips) (v27 : IVec S16 32) (v198 : IVec S16 32) : Prop :=
  (∀ a x, ((![v27, v198] : Fin 2 → IVec S16 32) a x).toNat < S256x257.size a)
theorem k0_idx462_inb : ∀ (k0_t1 : Fin k0_t1_loop.trips) (k0_t3 : Fin (k0_t3_loop k0_t1).trips) (v27 : IVec S16 32) (v198 : IVec S16 32) (k0_hw462 : k0_chk462 k0_t1 k0_t3 v27 v198), ∀ a x, ((![v27, v198] : Fin 2 → IVec S16 32) a x).toNat < S256x257.size a := fun k0_t1 k0_t3 v27 v198 k0_hw462 => k0_hw462

def k0_chk463 (k0_t1 : Fin k0_t1_loop.trips) (k0_t3 : Fin (k0_t3_loop k0_t1).trips) (v202 : IVec S16 32) (v204 : IVec S16 32) : Prop :=
  (∀ a x, ((![v202, v204] : Fin 2 → IVec S16 32) a x).toNat < S44x128.size a)
theorem k0_idx463_inb : ∀ (k0_t1 : Fin k0_t1_loop.trips) (k0_t3 : Fin (k0_t3_loop k0_t1).trips) (v202 : IVec S16 32) (v204 : IVec S16 32) (k0_hw463 : k0_chk463 k0_t1 k0_t3 v202 v204), ∀ a x, ((![v202, v204] : Fin 2 → IVec S16 32) a x).toNat < S44x128.size a := fun k0_t1 k0_t3 v202 v204 k0_hw463 => k0_hw463

def k0_chk464 (k0_t1 : Fin k0_t1_loop.trips) (k0_t3 : Fin (k0_t3_loop k0_t1).trips) (v205 : IVec S16 32) (v206 : IVec S16 32) : Prop :=
  (∀ a x, ((![v206, v205] : Fin 2 → IVec S16 32) a x).toNat < S16x256.size a)
theorem k0_idx464_inb : ∀ (k0_t1 : Fin k0_t1_loop.trips) (k0_t3 : Fin (k0_t3_loop k0_t1).trips) (v205 : IVec S16 32) (v206 : IVec S16 32) (k0_hw464 : k0_chk464 k0_t1 k0_t3 v205 v206), ∀ a x, ((![v206, v205] : Fin 2 → IVec S16 32) a x).toNat < S16x256.size a := fun k0_t1 k0_t3 v205 v206 k0_hw464 => k0_hw464

def k0_chk465 (k0_t1 : Fin k0_t1_loop.trips) (k0_t3 : Fin (k0_t3_loop k0_t1).trips) (v27 : IVec S16 32) (v208 : IVec S16 32) : Prop :=
  (∀ a x, ((![v27, v208] : Fin 2 → IVec S16 32) a x).toNat < S256x257.size a)
theorem k0_idx465_inb : ∀ (k0_t1 : Fin k0_t1_loop.trips) (k0_t3 : Fin (k0_t3_loop k0_t1).trips) (v27 : IVec S16 32) (v208 : IVec S16 32) (k0_hw465 : k0_chk465 k0_t1 k0_t3 v27 v208), ∀ a x, ((![v27, v208] : Fin 2 → IVec S16 32) a x).toNat < S256x257.size a := fun k0_t1 k0_t3 v27 v208 k0_hw465 => k0_hw465

def k0_chk466 (k0_t1 : Fin k0_t1_loop.trips) (k0_t3 : Fin (k0_t3_loop k0_t1).trips) (v205 : IVec S16 32) (v209 : IVec S16 32) : Prop :=
  (∀ a x, ((![v209, v205] : Fin 2 → IVec S16 32) a x).toNat < S16x256.size a)
theorem k0_idx466_inb : ∀ (k0_t1 : Fin k0_t1_loop.trips) (k0_t3 : Fin (k0_t3_loop k0_t1).trips) (v205 : IVec S16 32) (v209 : IVec S16 32) (k0_hw466 : k0_chk466 k0_t1 k0_t3 v205 v209), ∀ a x, ((![v209, v205] : Fin 2 → IVec S16 32) a x).toNat < S16x256.size a := fun k0_t1 k0_t3 v205 v209 k0_hw466 => k0_hw466

def k0_chk467 (k0_t1 : Fin k0_t1_loop.trips) (k0_t3 : Fin (k0_t3_loop k0_t1).trips) (v27 : IVec S16 32) (v211 : IVec S16 32) : Prop :=
  (∀ a x, ((![v27, v211] : Fin 2 → IVec S16 32) a x).toNat < S256x257.size a)
theorem k0_idx467_inb : ∀ (k0_t1 : Fin k0_t1_loop.trips) (k0_t3 : Fin (k0_t3_loop k0_t1).trips) (v27 : IVec S16 32) (v211 : IVec S16 32) (k0_hw467 : k0_chk467 k0_t1 k0_t3 v27 v211), ∀ a x, ((![v27, v211] : Fin 2 → IVec S16 32) a x).toNat < S256x257.size a := fun k0_t1 k0_t3 v27 v211 k0_hw467 => k0_hw467

def k0_chk468 (k0_t1 : Fin k0_t1_loop.trips) (k0_t3 : Fin (k0_t3_loop k0_t1).trips) (v205 : IVec S16 32) (v212 : IVec S16 32) : Prop :=
  (∀ a x, ((![v212, v205] : Fin 2 → IVec S16 32) a x).toNat < S16x256.size a)
theorem k0_idx468_inb : ∀ (k0_t1 : Fin k0_t1_loop.trips) (k0_t3 : Fin (k0_t3_loop k0_t1).trips) (v205 : IVec S16 32) (v212 : IVec S16 32) (k0_hw468 : k0_chk468 k0_t1 k0_t3 v205 v212), ∀ a x, ((![v212, v205] : Fin 2 → IVec S16 32) a x).toNat < S16x256.size a := fun k0_t1 k0_t3 v205 v212 k0_hw468 => k0_hw468

def k0_chk469 (k0_t1 : Fin k0_t1_loop.trips) (k0_t3 : Fin (k0_t3_loop k0_t1).trips) (v27 : IVec S16 32) (v214 : IVec S16 32) : Prop :=
  (∀ a x, ((![v27, v214] : Fin 2 → IVec S16 32) a x).toNat < S256x257.size a)
theorem k0_idx469_inb : ∀ (k0_t1 : Fin k0_t1_loop.trips) (k0_t3 : Fin (k0_t3_loop k0_t1).trips) (v27 : IVec S16 32) (v214 : IVec S16 32) (k0_hw469 : k0_chk469 k0_t1 k0_t3 v27 v214), ∀ a x, ((![v27, v214] : Fin 2 → IVec S16 32) a x).toNat < S256x257.size a := fun k0_t1 k0_t3 v27 v214 k0_hw469 => k0_hw469

def k0_chk470 (k0_t1 : Fin k0_t1_loop.trips) (k0_t3 : Fin (k0_t3_loop k0_t1).trips) (v205 : IVec S16 32) (v215 : IVec S16 32) : Prop :=
  (∀ a x, ((![v215, v205] : Fin 2 → IVec S16 32) a x).toNat < S16x256.size a)
theorem k0_idx470_inb : ∀ (k0_t1 : Fin k0_t1_loop.trips) (k0_t3 : Fin (k0_t3_loop k0_t1).trips) (v205 : IVec S16 32) (v215 : IVec S16 32) (k0_hw470 : k0_chk470 k0_t1 k0_t3 v205 v215), ∀ a x, ((![v215, v205] : Fin 2 → IVec S16 32) a x).toNat < S16x256.size a := fun k0_t1 k0_t3 v205 v215 k0_hw470 => k0_hw470

def k0_chk471 (k0_t1 : Fin k0_t1_loop.trips) (k0_t3 : Fin (k0_t3_loop k0_t1).trips) (v27 : IVec S16 32) (v217 : IVec S16 32) : Prop :=
  (∀ a x, ((![v27, v217] : Fin 2 → IVec S16 32) a x).toNat < S256x257.size a)
theorem k0_idx471_inb : ∀ (k0_t1 : Fin k0_t1_loop.trips) (k0_t3 : Fin (k0_t3_loop k0_t1).trips) (v27 : IVec S16 32) (v217 : IVec S16 32) (k0_hw471 : k0_chk471 k0_t1 k0_t3 v27 v217), ∀ a x, ((![v27, v217] : Fin 2 → IVec S16 32) a x).toNat < S256x257.size a := fun k0_t1 k0_t3 v27 v217 k0_hw471 => k0_hw471

def k0_chk472 (k0_t1 : Fin k0_t1_loop.trips) (k0_t3 : Fin (k0_t3_loop k0_t1).trips) (v205 : IVec S16 32) (v218 : IVec S16 32) : Prop :=
  (∀ a x, ((![v218, v205] : Fin 2 → IVec S16 32) a x).toNat < S16x256.size a)
theorem k0_idx472_inb : ∀ (k0_t1 : Fin k0_t1_loop.trips) (k0_t3 : Fin (k0_t3_loop k0_t1).trips) (v205 : IVec S16 32) (v218 : IVec S16 32) (k0_hw472 : k0_chk472 k0_t1 k0_t3 v205 v218), ∀ a x, ((![v218, v205] : Fin 2 → IVec S16 32) a x).toNat < S16x256.size a := fun k0_t1 k0_t3 v205 v218 k0_hw472 => k0_hw472

def k0_chk473 (k0_t1 : Fin k0_t1_loop.trips) (k0_t3 : Fin (k0_t3_loop k0_t1).trips) (v27 : IVec S16 32) (v220 : IVec S16 32) : Prop :=
  (∀ a x, ((![v27, v220] : Fin 2 → IVec S16 32) a x).toNat < S256x257.size a)
theorem k0_idx473_inb : ∀ (k0_t1 : Fin k0_t1_loop.trips) (k0_t3 : Fin (k0_t3_loop k0_t1).trips) (v27 : IVec S16 32) (v220 : IVec S16 32) (k0_hw473 : k0_chk473 k0_t1 k0_t3 v27 v220), ∀ a x, ((![v27, v220] : Fin 2 → IVec S16 32) a x).toNat < S256x257.size a := fun k0_t1 k0_t3 v27 v220 k0_hw473 => k0_hw473

def k0_chk474 (k0_t1 : Fin k0_t1_loop.trips) (k0_t3 : Fin (k0_t3_loop k0_t1).trips) (v205 : IVec S16 32) (v221 : IVec S16 32) : Prop :=
  (∀ a x, ((![v221, v205] : Fin 2 → IVec S16 32) a x).toNat < S16x256.size a)
theorem k0_idx474_inb : ∀ (k0_t1 : Fin k0_t1_loop.trips) (k0_t3 : Fin (k0_t3_loop k0_t1).trips) (v205 : IVec S16 32) (v221 : IVec S16 32) (k0_hw474 : k0_chk474 k0_t1 k0_t3 v205 v221), ∀ a x, ((![v221, v205] : Fin 2 → IVec S16 32) a x).toNat < S16x256.size a := fun k0_t1 k0_t3 v205 v221 k0_hw474 => k0_hw474

def k0_chk475 (k0_t1 : Fin k0_t1_loop.trips) (k0_t3 : Fin (k0_t3_loop k0_t1).trips) (v27 : IVec S16 32) (v223 : IVec S16 32) : Prop :=
  (∀ a x, ((![v27, v223] : Fin 2 → IVec S16 32) a x).toNat < S256x257.size a)
theorem k0_idx475_inb : ∀ (k0_t1 : Fin k0_t1_loop.trips) (k0_t3 : Fin (k0_t3_loop k0_t1).trips) (v27 : IVec S16 32) (v223 : IVec S16 32) (k0_hw475 : k0_chk475 k0_t1 k0_t3 v27 v223), ∀ a x, ((![v27, v223] : Fin 2 → IVec S16 32) a x).toNat < S256x257.size a := fun k0_t1 k0_t3 v27 v223 k0_hw475 => k0_hw475

def k0_chk476 (k0_t1 : Fin k0_t1_loop.trips) (k0_t3 : Fin (k0_t3_loop k0_t1).trips) (v205 : IVec S16 32) (v224 : IVec S16 32) : Prop :=
  (∀ a x, ((![v224, v205] : Fin 2 → IVec S16 32) a x).toNat < S16x256.size a)
theorem k0_idx476_inb : ∀ (k0_t1 : Fin k0_t1_loop.trips) (k0_t3 : Fin (k0_t3_loop k0_t1).trips) (v205 : IVec S16 32) (v224 : IVec S16 32) (k0_hw476 : k0_chk476 k0_t1 k0_t3 v205 v224), ∀ a x, ((![v224, v205] : Fin 2 → IVec S16 32) a x).toNat < S16x256.size a := fun k0_t1 k0_t3 v205 v224 k0_hw476 => k0_hw476

def k0_chk477 (k0_t1 : Fin k0_t1_loop.trips) (k0_t3 : Fin (k0_t3_loop k0_t1).trips) (v27 : IVec S16 32) (v226 : IVec S16 32) : Prop :=
  (∀ a x, ((![v27, v226] : Fin 2 → IVec S16 32) a x).toNat < S256x257.size a)
theorem k0_idx477_inb : ∀ (k0_t1 : Fin k0_t1_loop.trips) (k0_t3 : Fin (k0_t3_loop k0_t1).trips) (v27 : IVec S16 32) (v226 : IVec S16 32) (k0_hw477 : k0_chk477 k0_t1 k0_t3 v27 v226), ∀ a x, ((![v27, v226] : Fin 2 → IVec S16 32) a x).toNat < S256x257.size a := fun k0_t1 k0_t3 v27 v226 k0_hw477 => k0_hw477

def k0_chk478 (k0_t1 : Fin k0_t1_loop.trips) (k0_t3 : Fin (k0_t3_loop k0_t1).trips) (v205 : IVec S16 32) (v227 : IVec S16 32) : Prop :=
  (∀ a x, ((![v227, v205] : Fin 2 → IVec S16 32) a x).toNat < S16x256.size a)
theorem k0_idx478_inb : ∀ (k0_t1 : Fin k0_t1_loop.trips) (k0_t3 : Fin (k0_t3_loop k0_t1).trips) (v205 : IVec S16 32) (v227 : IVec S16 32) (k0_hw478 : k0_chk478 k0_t1 k0_t3 v205 v227), ∀ a x, ((![v227, v205] : Fin 2 → IVec S16 32) a x).toNat < S16x256.size a := fun k0_t1 k0_t3 v205 v227 k0_hw478 => k0_hw478

def k0_chk479 (k0_t1 : Fin k0_t1_loop.trips) (k0_t3 : Fin (k0_t3_loop k0_t1).trips) (v27 : IVec S16 32) (v229 : IVec S16 32) : Prop :=
  (∀ a x, ((![v27, v229] : Fin 2 → IVec S16 32) a x).toNat < S256x257.size a)
theorem k0_idx479_inb : ∀ (k0_t1 : Fin k0_t1_loop.trips) (k0_t3 : Fin (k0_t3_loop k0_t1).trips) (v27 : IVec S16 32) (v229 : IVec S16 32) (k0_hw479 : k0_chk479 k0_t1 k0_t3 v27 v229), ∀ a x, ((![v27, v229] : Fin 2 → IVec S16 32) a x).toNat < S256x257.size a := fun k0_t1 k0_t3 v27 v229 k0_hw479 => k0_hw479

def k0_chk480 (k0_t1 : Fin k0_t1_loop.trips) (k0_t3 : Fin (k0_t3_loop k0_t1).trips) (v205 : IVec S16 32) (v230 : IVec S16 32) : Prop :=
  (∀ a x, ((![v230, v205] : Fin 2 → IVec S16 32) a x).toNat < S16x256.size a)
theorem k0_idx480_inb : ∀ (k0_t1 : Fin k0_t1_loop.trips) (k0_t3 : Fin (k0_t3_loop k0_t1).trips) (v205 : IVec S16 32) (v230 : IVec S16 32) (k0_hw480 : k0_chk480 k0_t1 k0_t3 v205 v230), ∀ a x, ((![v230, v205] : Fin 2 → IVec S16 32) a x).toNat < S16x256.size a := fun k0_t1 k0_t3 v205 v230 k0_hw480 => k0_hw480

def k0_chk481 (k0_t1 : Fin k0_t1_loop.trips) (k0_t3 : Fin (k0_t3_loop k0_t1).trips) (v27 : IVec S16 32) (v232 : IVec S16 32) : Prop :=
  (∀ a x, ((![v27, v232] : Fin 2 → IVec S16 32) a x).toNat < S256x257.size a)
theorem k0_idx481_inb : ∀ (k0_t1 : Fin k0_t1_loop.trips) (k0_t3 : Fin (k0_t3_loop k0_t1).trips) (v27 : IVec S16 32) (v232 : IVec S16 32) (k0_hw481 : k0_chk481 k0_t1 k0_t3 v27 v232), ∀ a x, ((![v27, v232] : Fin 2 → IVec S16 32) a x).toNat < S256x257.size a := fun k0_t1 k0_t3 v27 v232 k0_hw481 => k0_hw481

def k0_chk482 (k0_t1 : Fin k0_t1_loop.trips) (k0_t3 : Fin (k0_t3_loop k0_t1).trips) (v205 : IVec S16 32) (v233 : IVec S16 32) : Prop :=
  (∀ a x, ((![v233, v205] : Fin 2 → IVec S16 32) a x).toNat < S16x256.size a)
theorem k0_idx482_inb : ∀ (k0_t1 : Fin k0_t1_loop.trips) (k0_t3 : Fin (k0_t3_loop k0_t1).trips) (v205 : IVec S16 32) (v233 : IVec S16 32) (k0_hw482 : k0_chk482 k0_t1 k0_t3 v205 v233), ∀ a x, ((![v233, v205] : Fin 2 → IVec S16 32) a x).toNat < S16x256.size a := fun k0_t1 k0_t3 v205 v233 k0_hw482 => k0_hw482

def k0_chk483 (k0_t1 : Fin k0_t1_loop.trips) (k0_t3 : Fin (k0_t3_loop k0_t1).trips) (v27 : IVec S16 32) (v235 : IVec S16 32) : Prop :=
  (∀ a x, ((![v27, v235] : Fin 2 → IVec S16 32) a x).toNat < S256x257.size a)
theorem k0_idx483_inb : ∀ (k0_t1 : Fin k0_t1_loop.trips) (k0_t3 : Fin (k0_t3_loop k0_t1).trips) (v27 : IVec S16 32) (v235 : IVec S16 32) (k0_hw483 : k0_chk483 k0_t1 k0_t3 v27 v235), ∀ a x, ((![v27, v235] : Fin 2 → IVec S16 32) a x).toNat < S256x257.size a := fun k0_t1 k0_t3 v27 v235 k0_hw483 => k0_hw483

def k0_chk484 (k0_t1 : Fin k0_t1_loop.trips) (k0_t3 : Fin (k0_t3_loop k0_t1).trips) (v205 : IVec S16 32) (v236 : IVec S16 32) : Prop :=
  (∀ a x, ((![v236, v205] : Fin 2 → IVec S16 32) a x).toNat < S16x256.size a)
theorem k0_idx484_inb : ∀ (k0_t1 : Fin k0_t1_loop.trips) (k0_t3 : Fin (k0_t3_loop k0_t1).trips) (v205 : IVec S16 32) (v236 : IVec S16 32) (k0_hw484 : k0_chk484 k0_t1 k0_t3 v205 v236), ∀ a x, ((![v236, v205] : Fin 2 → IVec S16 32) a x).toNat < S16x256.size a := fun k0_t1 k0_t3 v205 v236 k0_hw484 => k0_hw484

def k0_chk485 (k0_t1 : Fin k0_t1_loop.trips) (k0_t3 : Fin (k0_t3_loop k0_t1).trips) (v27 : IVec S16 32) (v238 : IVec S16 32) : Prop :=
  (∀ a x, ((![v27, v238] : Fin 2 → IVec S16 32) a x).toNat < S256x257.size a)
theorem k0_idx485_inb : ∀ (k0_t1 : Fin k0_t1_loop.trips) (k0_t3 : Fin (k0_t3_loop k0_t1).trips) (v27 : IVec S16 32) (v238 : IVec S16 32) (k0_hw485 : k0_chk485 k0_t1 k0_t3 v27 v238), ∀ a x, ((![v27, v238] : Fin 2 → IVec S16 32) a x).toNat < S256x257.size a := fun k0_t1 k0_t3 v27 v238 k0_hw485 => k0_hw485

def k0_chk486 (k0_t1 : Fin k0_t1_loop.trips) (k0_t3 : Fin (k0_t3_loop k0_t1).trips) (v205 : IVec S16 32) (v239 : IVec S16 32) : Prop :=
  (∀ a x, ((![v239, v205] : Fin 2 → IVec S16 32) a x).toNat < S16x256.size a)
theorem k0_idx486_inb : ∀ (k0_t1 : Fin k0_t1_loop.trips) (k0_t3 : Fin (k0_t3_loop k0_t1).trips) (v205 : IVec S16 32) (v239 : IVec S16 32) (k0_hw486 : k0_chk486 k0_t1 k0_t3 v205 v239), ∀ a x, ((![v239, v205] : Fin 2 → IVec S16 32) a x).toNat < S16x256.size a := fun k0_t1 k0_t3 v205 v239 k0_hw486 => k0_hw486

def k0_chk487 (k0_t1 : Fin k0_t1_loop.trips) (k0_t3 : Fin (k0_t3_loop k0_t1).trips) (v27 : IVec S16 32) (v241 : IVec S16 32) : Prop :=
  (∀ a x, ((![v27, v241] : Fin 2 → IVec S16 32) a x).toNat < S256x257.size a)
theorem k0_idx487_inb : ∀ (k0_t1 : Fin k0_t1_loop.trips) (k0_t3 : Fin (k0_t3_loop k0_t1).trips) (v27 : IVec S16 32) (v241 : IVec S16 32) (k0_hw487 : k0_chk487 k0_t1 k0_t3 v27 v241), ∀ a x, ((![v27, v241] : Fin 2 → IVec S16 32) a x).toNat < S256x257.size a := fun k0_t1 k0_t3 v27 v241 k0_hw487 => k0_hw487

def k0_chk488 (k0_t1 : Fin k0_t1_loop.trips) (k0_t3 : Fin (k0_t3_loop k0_t1).trips) (v205 : IVec S16 32) (v242 : IVec S16 32) : Prop :=
  (∀ a x, ((![v242, v205] : Fin 2 → IVec S16 32) a x).toNat < S16x256.size a)
theorem k0_idx488_inb : ∀ (k0_t1 : Fin k0_t1_loop.trips) (k0_t3 : Fin (k0_t3_loop k0_t1).trips) (v205 : IVec S16 32) (v242 : IVec S16 32) (k0_hw488 : k0_chk488 k0_t1 k0_t3 v205 v242), ∀ a x, ((![v242, v205] : Fin 2 → IVec S16 32) a x).toNat < S16x256.size a := fun k0_t1 k0_t3 v205 v242 k0_hw488 => k0_hw488

def k0_chk489 (k0_t1 : Fin k0_t1_loop.trips) (k0_t3 : Fin (k0_t3_loop k0_t1).trips) (v27 : IVec S16 32) (v244 : IVec S16 32) : Prop :=
  (∀ a x, ((![v27, v244] : Fin 2 → IVec S16 32) a x).toNat < S256x257.size a)
theorem k0_idx489_inb : ∀ (k0_t1 : Fin k0_t1_loop.trips) (k0_t3 : Fin (k0_t3_loop k0_t1).trips) (v27 : IVec S16 32) (v244 : IVec S16 32) (k0_hw489 : k0_chk489 k0_t1 k0_t3 v27 v244), ∀ a x, ((![v27, v244] : Fin 2 → IVec S16 32) a x).toNat < S256x257.size a := fun k0_t1 k0_t3 v27 v244 k0_hw489 => k0_hw489

def k0_chk490 (k0_t1 : Fin k0_t1_loop.trips) (k0_t3 : Fin (k0_t3_loop k0_t1).trips) (v205 : IVec S16 32) (v245 : IVec S16 32) : Prop :=
  (∀ a x, ((![v245, v205] : Fin 2 → IVec S16 32) a x).toNat < S16x256.size a)
theorem k0_idx490_inb : ∀ (k0_t1 : Fin k0_t1_loop.trips) (k0_t3 : Fin (k0_t3_loop k0_t1).trips) (v205 : IVec S16 32) (v245 : IVec S16 32) (k0_hw490 : k0_chk490 k0_t1 k0_t3 v205 v245), ∀ a x, ((![v245, v205] : Fin 2 → IVec S16 32) a x).toNat < S16x256.size a := fun k0_t1 k0_t3 v205 v245 k0_hw490 => k0_hw490

def k0_chk491 (k0_t1 : Fin k0_t1_loop.trips) (k0_t3 : Fin (k0_t3_loop k0_t1).trips) (v27 : IVec S16 32) (v247 : IVec S16 32) : Prop :=
  (∀ a x, ((![v27, v247] : Fin 2 → IVec S16 32) a x).toNat < S256x257.size a)
theorem k0_idx491_inb : ∀ (k0_t1 : Fin k0_t1_loop.trips) (k0_t3 : Fin (k0_t3_loop k0_t1).trips) (v27 : IVec S16 32) (v247 : IVec S16 32) (k0_hw491 : k0_chk491 k0_t1 k0_t3 v27 v247), ∀ a x, ((![v27, v247] : Fin 2 → IVec S16 32) a x).toNat < S256x257.size a := fun k0_t1 k0_t3 v27 v247 k0_hw491 => k0_hw491

def k0_chk492 (k0_t1 : Fin k0_t1_loop.trips) (k0_t3 : Fin (k0_t3_loop k0_t1).trips) (v205 : IVec S16 32) (v248 : IVec S16 32) : Prop :=
  (∀ a x, ((![v248, v205] : Fin 2 → IVec S16 32) a x).toNat < S16x256.size a)
theorem k0_idx492_inb : ∀ (k0_t1 : Fin k0_t1_loop.trips) (k0_t3 : Fin (k0_t3_loop k0_t1).trips) (v205 : IVec S16 32) (v248 : IVec S16 32) (k0_hw492 : k0_chk492 k0_t1 k0_t3 v205 v248), ∀ a x, ((![v248, v205] : Fin 2 → IVec S16 32) a x).toNat < S16x256.size a := fun k0_t1 k0_t3 v205 v248 k0_hw492 => k0_hw492

def k0_chk493 (k0_t1 : Fin k0_t1_loop.trips) (k0_t3 : Fin (k0_t3_loop k0_t1).trips) (v27 : IVec S16 32) (v250 : IVec S16 32) : Prop :=
  (∀ a x, ((![v27, v250] : Fin 2 → IVec S16 32) a x).toNat < S256x257.size a)
theorem k0_idx493_inb : ∀ (k0_t1 : Fin k0_t1_loop.trips) (k0_t3 : Fin (k0_t3_loop k0_t1).trips) (v27 : IVec S16 32) (v250 : IVec S16 32) (k0_hw493 : k0_chk493 k0_t1 k0_t3 v27 v250), ∀ a x, ((![v27, v250] : Fin 2 → IVec S16 32) a x).toNat < S256x257.size a := fun k0_t1 k0_t3 v27 v250 k0_hw493 => k0_hw493

def k0_chk494 (k0_t1 : Fin k0_t1_loop.trips) (k0_t3 : Fin (k0_t3_loop k0_t1).trips) (v205 : IVec S16 32) (v251 : IVec S16 32) : Prop :=
  (∀ a x, ((![v251, v205] : Fin 2 → IVec S16 32) a x).toNat < S16x256.size a)
theorem k0_idx494_inb : ∀ (k0_t1 : Fin k0_t1_loop.trips) (k0_t3 : Fin (k0_t3_loop k0_t1).trips) (v205 : IVec S16 32) (v251 : IVec S16 32) (k0_hw494 : k0_chk494 k0_t1 k0_t3 v205 v251), ∀ a x, ((![v251, v205] : Fin 2 → IVec S16 32) a x).toNat < S16x256.size a := fun k0_t1 k0_t3 v205 v251 k0_hw494 => k0_hw494

def k0_chk495 (k0_t1 : Fin k0_t1_loop.trips) (k0_t3 : Fin (k0_t3_loop k0_t1).trips) (v27 : IVec S16 32) (v253 : IVec S16 32) : Prop :=
  (∀ a x, ((![v27, v253] : Fin 2 → IVec S16 32) a x).toNat < S256x257.size a)
theorem k0_idx495_inb : ∀ (k0_t1 : Fin k0_t1_loop.trips) (k0_t3 : Fin (k0_t3_loop k0_t1).trips) (v27 : IVec S16 32) (v253 : IVec S16 32) (k0_hw495 : k0_chk495 k0_t1 k0_t3 v27 v253), ∀ a x, ((![v27, v253] : Fin 2 → IVec S16 32) a x).toNat < S256x257.size a := fun k0_t1 k0_t3 v27 v253 k0_hw495 => k0_hw495

def k0_chk496 (k0_t1 : Fin k0_t1_loop.trips) (k0_t3 : Fin (k0_t3_loop k0_t1).trips) (v257 : IVec S16 32) (v259 : IVec S16 32) : Prop :=
  (∀ a x, ((![v257, v259] : Fin 2 → IVec S16 32) a x).toNat < S44x128.size a)
theorem k0_idx496_inb : ∀ (k0_t1 : Fin k0_t1_loop.trips) (k0_t3 : Fin (k0_t3_loop k0_t1).trips) (v257 : IVec S16 32) (v259 : IVec S16 32) (k0_hw496 : k0_chk496 k0_t1 k0_t3 v257 v259), ∀ a x, ((![v257, v259] : Fin 2 → IVec S16 32) a x).toNat < S44x128.size a := fun k0_t1 k0_t3 v257 v259 k0_hw496 => k0_hw496

def k0_chk497 (k0_t1 : Fin k0_t1_loop.trips) (k0_t3 : Fin (k0_t3_loop k0_t1).trips) (v260 : IVec S16 32) (v261 : IVec S16 32) : Prop :=
  (∀ a x, ((![v261, v260] : Fin 2 → IVec S16 32) a x).toNat < S16x256.size a)
theorem k0_idx497_inb : ∀ (k0_t1 : Fin k0_t1_loop.trips) (k0_t3 : Fin (k0_t3_loop k0_t1).trips) (v260 : IVec S16 32) (v261 : IVec S16 32) (k0_hw497 : k0_chk497 k0_t1 k0_t3 v260 v261), ∀ a x, ((![v261, v260] : Fin 2 → IVec S16 32) a x).toNat < S16x256.size a := fun k0_t1 k0_t3 v260 v261 k0_hw497 => k0_hw497

def k0_chk498 (k0_t1 : Fin k0_t1_loop.trips) (k0_t3 : Fin (k0_t3_loop k0_t1).trips) (v27 : IVec S16 32) (v263 : IVec S16 32) : Prop :=
  (∀ a x, ((![v27, v263] : Fin 2 → IVec S16 32) a x).toNat < S256x257.size a)
theorem k0_idx498_inb : ∀ (k0_t1 : Fin k0_t1_loop.trips) (k0_t3 : Fin (k0_t3_loop k0_t1).trips) (v27 : IVec S16 32) (v263 : IVec S16 32) (k0_hw498 : k0_chk498 k0_t1 k0_t3 v27 v263), ∀ a x, ((![v27, v263] : Fin 2 → IVec S16 32) a x).toNat < S256x257.size a := fun k0_t1 k0_t3 v27 v263 k0_hw498 => k0_hw498

def k0_chk499 (k0_t1 : Fin k0_t1_loop.trips) (k0_t3 : Fin (k0_t3_loop k0_t1).trips) (v260 : IVec S16 32) (v264 : IVec S16 32) : Prop :=
  (∀ a x, ((![v264, v260] : Fin 2 → IVec S16 32) a x).toNat < S16x256.size a)
theorem k0_idx499_inb : ∀ (k0_t1 : Fin k0_t1_loop.trips) (k0_t3 : Fin (k0_t3_loop k0_t1).trips) (v260 : IVec S16 32) (v264 : IVec S16 32) (k0_hw499 : k0_chk499 k0_t1 k0_t3 v260 v264), ∀ a x, ((![v264, v260] : Fin 2 → IVec S16 32) a x).toNat < S16x256.size a := fun k0_t1 k0_t3 v260 v264 k0_hw499 => k0_hw499

def k0_chk500 (k0_t1 : Fin k0_t1_loop.trips) (k0_t3 : Fin (k0_t3_loop k0_t1).trips) (v27 : IVec S16 32) (v266 : IVec S16 32) : Prop :=
  (∀ a x, ((![v27, v266] : Fin 2 → IVec S16 32) a x).toNat < S256x257.size a)
theorem k0_idx500_inb : ∀ (k0_t1 : Fin k0_t1_loop.trips) (k0_t3 : Fin (k0_t3_loop k0_t1).trips) (v27 : IVec S16 32) (v266 : IVec S16 32) (k0_hw500 : k0_chk500 k0_t1 k0_t3 v27 v266), ∀ a x, ((![v27, v266] : Fin 2 → IVec S16 32) a x).toNat < S256x257.size a := fun k0_t1 k0_t3 v27 v266 k0_hw500 => k0_hw500

def k0_chk501 (k0_t1 : Fin k0_t1_loop.trips) (k0_t3 : Fin (k0_t3_loop k0_t1).trips) (v260 : IVec S16 32) (v267 : IVec S16 32) : Prop :=
  (∀ a x, ((![v267, v260] : Fin 2 → IVec S16 32) a x).toNat < S16x256.size a)
theorem k0_idx501_inb : ∀ (k0_t1 : Fin k0_t1_loop.trips) (k0_t3 : Fin (k0_t3_loop k0_t1).trips) (v260 : IVec S16 32) (v267 : IVec S16 32) (k0_hw501 : k0_chk501 k0_t1 k0_t3 v260 v267), ∀ a x, ((![v267, v260] : Fin 2 → IVec S16 32) a x).toNat < S16x256.size a := fun k0_t1 k0_t3 v260 v267 k0_hw501 => k0_hw501

def k0_chk502 (k0_t1 : Fin k0_t1_loop.trips) (k0_t3 : Fin (k0_t3_loop k0_t1).trips) (v27 : IVec S16 32) (v269 : IVec S16 32) : Prop :=
  (∀ a x, ((![v27, v269] : Fin 2 → IVec S16 32) a x).toNat < S256x257.size a)
theorem k0_idx502_inb : ∀ (k0_t1 : Fin k0_t1_loop.trips) (k0_t3 : Fin (k0_t3_loop k0_t1).trips) (v27 : IVec S16 32) (v269 : IVec S16 32) (k0_hw502 : k0_chk502 k0_t1 k0_t3 v27 v269), ∀ a x, ((![v27, v269] : Fin 2 → IVec S16 32) a x).toNat < S256x257.size a := fun k0_t1 k0_t3 v27 v269 k0_hw502 => k0_hw502

def k0_chk503 (k0_t1 : Fin k0_t1_loop.trips) (k0_t3 : Fin (k0_t3_loop k0_t1).trips) (v260 : IVec S16 32) (v270 : IVec S16 32) : Prop :=
  (∀ a x, ((![v270, v260] : Fin 2 → IVec S16 32) a x).toNat < S16x256.size a)
theorem k0_idx503_inb : ∀ (k0_t1 : Fin k0_t1_loop.trips) (k0_t3 : Fin (k0_t3_loop k0_t1).trips) (v260 : IVec S16 32) (v270 : IVec S16 32) (k0_hw503 : k0_chk503 k0_t1 k0_t3 v260 v270), ∀ a x, ((![v270, v260] : Fin 2 → IVec S16 32) a x).toNat < S16x256.size a := fun k0_t1 k0_t3 v260 v270 k0_hw503 => k0_hw503

def k0_chk504 (k0_t1 : Fin k0_t1_loop.trips) (k0_t3 : Fin (k0_t3_loop k0_t1).trips) (v27 : IVec S16 32) (v272 : IVec S16 32) : Prop :=
  (∀ a x, ((![v27, v272] : Fin 2 → IVec S16 32) a x).toNat < S256x257.size a)
theorem k0_idx504_inb : ∀ (k0_t1 : Fin k0_t1_loop.trips) (k0_t3 : Fin (k0_t3_loop k0_t1).trips) (v27 : IVec S16 32) (v272 : IVec S16 32) (k0_hw504 : k0_chk504 k0_t1 k0_t3 v27 v272), ∀ a x, ((![v27, v272] : Fin 2 → IVec S16 32) a x).toNat < S256x257.size a := fun k0_t1 k0_t3 v27 v272 k0_hw504 => k0_hw504

def k0_chk505 (k0_t1 : Fin k0_t1_loop.trips) (k0_t3 : Fin (k0_t3_loop k0_t1).trips) (v260 : IVec S16 32) (v273 : IVec S16 32) : Prop :=
  (∀ a x, ((![v273, v260] : Fin 2 → IVec S16 32) a x).toNat < S16x256.size a)
theorem k0_idx505_inb : ∀ (k0_t1 : Fin k0_t1_loop.trips) (k0_t3 : Fin (k0_t3_loop k0_t1).trips) (v260 : IVec S16 32) (v273 : IVec S16 32) (k0_hw505 : k0_chk505 k0_t1 k0_t3 v260 v273), ∀ a x, ((![v273, v260] : Fin 2 → IVec S16 32) a x).toNat < S16x256.size a := fun k0_t1 k0_t3 v260 v273 k0_hw505 => k0_hw505

def k0_chk506 (k0_t1 : Fin k0_t1_loop.trips) (k0_t3 : Fin (k0_t3_loop k0_t1).trips) (v27 : IVec S16 32) (v275 : IVec S16 32) : Prop :=
  (∀ a x, ((![v27, v275] : Fin 2 → IVec S16 32) a x).toNat < S256x257.size a)
theorem k0_idx506_inb : ∀ (k0_t1 : Fin k0_t1_loop.trips) (k0_t3 : Fin (k0_t3_loop k0_t1).trips) (v27 : IVec S16 32) (v275 : IVec S16 32) (k0_hw506 : k0_chk506 k0_t1 k0_t3 v27 v275), ∀ a x, ((![v27, v275] : Fin 2 → IVec S16 32) a x).toNat < S256x257.size a := fun k0_t1 k0_t3 v27 v275 k0_hw506 => k0_hw506

def k0_chk507 (k0_t1 : Fin k0_t1_loop.trips) (k0_t3 : Fin (k0_t3_loop k0_t1).trips) (v260 : IVec S16 32) (v276 : IVec S16 32) : Prop :=
  (∀ a x, ((![v276, v260] : Fin 2 → IVec S16 32) a x).toNat < S16x256.size a)
theorem k0_idx507_inb : ∀ (k0_t1 : Fin k0_t1_loop.trips) (k0_t3 : Fin (k0_t3_loop k0_t1).trips) (v260 : IVec S16 32) (v276 : IVec S16 32) (k0_hw507 : k0_chk507 k0_t1 k0_t3 v260 v276), ∀ a x, ((![v276, v260] : Fin 2 → IVec S16 32) a x).toNat < S16x256.size a := fun k0_t1 k0_t3 v260 v276 k0_hw507 => k0_hw507

def k0_chk508 (k0_t1 : Fin k0_t1_loop.trips) (k0_t3 : Fin (k0_t3_loop k0_t1).trips) (v27 : IVec S16 32) (v278 : IVec S16 32) : Prop :=
  (∀ a x, ((![v27, v278] : Fin 2 → IVec S16 32) a x).toNat < S256x257.size a)
theorem k0_idx508_inb : ∀ (k0_t1 : Fin k0_t1_loop.trips) (k0_t3 : Fin (k0_t3_loop k0_t1).trips) (v27 : IVec S16 32) (v278 : IVec S16 32) (k0_hw508 : k0_chk508 k0_t1 k0_t3 v27 v278), ∀ a x, ((![v27, v278] : Fin 2 → IVec S16 32) a x).toNat < S256x257.size a := fun k0_t1 k0_t3 v27 v278 k0_hw508 => k0_hw508

def k0_chk509 (k0_t1 : Fin k0_t1_loop.trips) (k0_t3 : Fin (k0_t3_loop k0_t1).trips) (v260 : IVec S16 32) (v279 : IVec S16 32) : Prop :=
  (∀ a x, ((![v279, v260] : Fin 2 → IVec S16 32) a x).toNat < S16x256.size a)
theorem k0_idx509_inb : ∀ (k0_t1 : Fin k0_t1_loop.trips) (k0_t3 : Fin (k0_t3_loop k0_t1).trips) (v260 : IVec S16 32) (v279 : IVec S16 32) (k0_hw509 : k0_chk509 k0_t1 k0_t3 v260 v279), ∀ a x, ((![v279, v260] : Fin 2 → IVec S16 32) a x).toNat < S16x256.size a := fun k0_t1 k0_t3 v260 v279 k0_hw509 => k0_hw509

def k0_chk510 (k0_t1 : Fin k0_t1_loop.trips) (k0_t3 : Fin (k0_t3_loop k0_t1).trips) (v27 : IVec S16 32) (v281 : IVec S16 32) : Prop :=
  (∀ a x, ((![v27, v281] : Fin 2 → IVec S16 32) a x).toNat < S256x257.size a)
theorem k0_idx510_inb : ∀ (k0_t1 : Fin k0_t1_loop.trips) (k0_t3 : Fin (k0_t3_loop k0_t1).trips) (v27 : IVec S16 32) (v281 : IVec S16 32) (k0_hw510 : k0_chk510 k0_t1 k0_t3 v27 v281), ∀ a x, ((![v27, v281] : Fin 2 → IVec S16 32) a x).toNat < S256x257.size a := fun k0_t1 k0_t3 v27 v281 k0_hw510 => k0_hw510

def k0_chk511 (k0_t1 : Fin k0_t1_loop.trips) (k0_t3 : Fin (k0_t3_loop k0_t1).trips) (v260 : IVec S16 32) (v282 : IVec S16 32) : Prop :=
  (∀ a x, ((![v282, v260] : Fin 2 → IVec S16 32) a x).toNat < S16x256.size a)
theorem k0_idx511_inb : ∀ (k0_t1 : Fin k0_t1_loop.trips) (k0_t3 : Fin (k0_t3_loop k0_t1).trips) (v260 : IVec S16 32) (v282 : IVec S16 32) (k0_hw511 : k0_chk511 k0_t1 k0_t3 v260 v282), ∀ a x, ((![v282, v260] : Fin 2 → IVec S16 32) a x).toNat < S16x256.size a := fun k0_t1 k0_t3 v260 v282 k0_hw511 => k0_hw511

def k0_chk512 (k0_t1 : Fin k0_t1_loop.trips) (k0_t3 : Fin (k0_t3_loop k0_t1).trips) (v27 : IVec S16 32) (v284 : IVec S16 32) : Prop :=
  (∀ a x, ((![v27, v284] : Fin 2 → IVec S16 32) a x).toNat < S256x257.size a)
theorem k0_idx512_inb : ∀ (k0_t1 : Fin k0_t1_loop.trips) (k0_t3 : Fin (k0_t3_loop k0_t1).trips) (v27 : IVec S16 32) (v284 : IVec S16 32) (k0_hw512 : k0_chk512 k0_t1 k0_t3 v27 v284), ∀ a x, ((![v27, v284] : Fin 2 → IVec S16 32) a x).toNat < S256x257.size a := fun k0_t1 k0_t3 v27 v284 k0_hw512 => k0_hw512

def k0_chk513 (k0_t1 : Fin k0_t1_loop.trips) (k0_t3 : Fin (k0_t3_loop k0_t1).trips) (v260 : IVec S16 32) (v285 : IVec S16 32) : Prop :=
  (∀ a x, ((![v285, v260] : Fin 2 → IVec S16 32) a x).toNat < S16x256.size a)
theorem k0_idx513_inb : ∀ (k0_t1 : Fin k0_t1_loop.trips) (k0_t3 : Fin (k0_t3_loop k0_t1).trips) (v260 : IVec S16 32) (v285 : IVec S16 32) (k0_hw513 : k0_chk513 k0_t1 k0_t3 v260 v285), ∀ a x, ((![v285, v260] : Fin 2 → IVec S16 32) a x).toNat < S16x256.size a := fun k0_t1 k0_t3 v260 v285 k0_hw513 => k0_hw513

def k0_chk514 (k0_t1 : Fin k0_t1_loop.trips) (k0_t3 : Fin (k0_t3_loop k0_t1).trips) (v27 : IVec S16 32) (v287 : IVec S16 32) : Prop :=
  (∀ a x, ((![v27, v287] : Fin 2 → IVec S16 32) a x).toNat < S256x257.size a)
theorem k0_idx514_inb : ∀ (k0_t1 : Fin k0_t1_loop.trips) (k0_t3 : Fin (k0_t3_loop k0_t1).trips) (v27 : IVec S16 32) (v287 : IVec S16 32) (k0_hw514 : k0_chk514 k0_t1 k0_t3 v27 v287), ∀ a x, ((![v27, v287] : Fin 2 → IVec S16 32) a x).toNat < S256x257.size a := fun k0_t1 k0_t3 v27 v287 k0_hw514 => k0_hw514

def k0_chk515 (k0_t1 : Fin k0_t1_loop.trips) (k0_t3 : Fin (k0_t3_loop k0_t1).trips) (v260 : IVec S16 32) (v288 : IVec S16 32) : Prop :=
  (∀ a x, ((![v288, v260] : Fin 2 → IVec S16 32) a x).toNat < S16x256.size a)
theorem k0_idx515_inb : ∀ (k0_t1 : Fin k0_t1_loop.trips) (k0_t3 : Fin (k0_t3_loop k0_t1).trips) (v260 : IVec S16 32) (v288 : IVec S16 32) (k0_hw515 : k0_chk515 k0_t1 k0_t3 v260 v288), ∀ a x, ((![v288, v260] : Fin 2 → IVec S16 32) a x).toNat < S16x256.size a := fun k0_t1 k0_t3 v260 v288 k0_hw515 => k0_hw515

def k0_chk516 (k0_t1 : Fin k0_t1_loop.trips) (k0_t3 : Fin (k0_t3_loop k0_t1).trips) (v27 : IVec S16 32) (v290 : IVec S16 32) : Prop :=
  (∀ a x, ((![v27, v290] : Fin 2 → IVec S16 32) a x).toNat < S256x257.size a)
theorem k0_idx516_inb : ∀ (k0_t1 : Fin k0_t1_loop.trips) (k0_t3 : Fin (k0_t3_loop k0_t1).trips) (v27 : IVec S16 32) (v290 : IVec S16 32) (k0_hw516 : k0_chk516 k0_t1 k0_t3 v27 v290), ∀ a x, ((![v27, v290] : Fin 2 → IVec S16 32) a x).toNat < S256x257.size a := fun k0_t1 k0_t3 v27 v290 k0_hw516 => k0_hw516

def k0_chk517 (k0_t1 : Fin k0_t1_loop.trips) (k0_t3 : Fin (k0_t3_loop k0_t1).trips) (v260 : IVec S16 32) (v291 : IVec S16 32) : Prop :=
  (∀ a x, ((![v291, v260] : Fin 2 → IVec S16 32) a x).toNat < S16x256.size a)
theorem k0_idx517_inb : ∀ (k0_t1 : Fin k0_t1_loop.trips) (k0_t3 : Fin (k0_t3_loop k0_t1).trips) (v260 : IVec S16 32) (v291 : IVec S16 32) (k0_hw517 : k0_chk517 k0_t1 k0_t3 v260 v291), ∀ a x, ((![v291, v260] : Fin 2 → IVec S16 32) a x).toNat < S16x256.size a := fun k0_t1 k0_t3 v260 v291 k0_hw517 => k0_hw517

def k0_chk518 (k0_t1 : Fin k0_t1_loop.trips) (k0_t3 : Fin (k0_t3_loop k0_t1).trips) (v27 : IVec S16 32) (v293 : IVec S16 32) : Prop :=
  (∀ a x, ((![v27, v293] : Fin 2 → IVec S16 32) a x).toNat < S256x257.size a)
theorem k0_idx518_inb : ∀ (k0_t1 : Fin k0_t1_loop.trips) (k0_t3 : Fin (k0_t3_loop k0_t1).trips) (v27 : IVec S16 32) (v293 : IVec S16 32) (k0_hw518 : k0_chk518 k0_t1 k0_t3 v27 v293), ∀ a x, ((![v27, v293] : Fin 2 → IVec S16 32) a x).toNat < S256x257.size a := fun k0_t1 k0_t3 v27 v293 k0_hw518 => k0_hw518

def k0_chk519 (k0_t1 : Fin k0_t1_loop.trips) (k0_t3 : Fin (k0_t3_loop k0_t1).trips) (v260 : IVec S16 32) (v294 : IVec S16 32) : Prop :=
  (∀ a x, ((![v294, v260] : Fin 2 → IVec S16 32) a x).toNat < S16x256.size a)
theorem k0_idx519_inb : ∀ (k0_t1 : Fin k0_t1_loop.trips) (k0_t3 : Fin (k0_t3_loop k0_t1).trips) (v260 : IVec S16 32) (v294 : IVec S16 32) (k0_hw519 : k0_chk519 k0_t1 k0_t3 v260 v294), ∀ a x, ((![v294, v260] : Fin 2 → IVec S16 32) a x).toNat < S16x256.size a := fun k0_t1 k0_t3 v260 v294 k0_hw519 => k0_hw519

def k0_chk520 (k0_t1 : Fin k0_t1_loop.trips) (k0_t3 : Fin (k0_t3_loop k0_t1).trips) (v27 : IVec S16 32) (v296 : IVec S16 32) : Prop :=
  (∀ a x, ((![v27, v296] : Fin 2 → IVec S16 32) a x).toNat < S256x257.size a)
theorem k0_idx520_inb : ∀ (k0_t1 : Fin k0_t1_loop.trips) (k0_t3 : Fin (k0_t3_loop k0_t1).trips) (v27 : IVec S16 32) (v296 : IVec S16 32) (k0_hw520 : k0_chk520 k0_t1 k0_t3 v27 v296), ∀ a x, ((![v27, v296] : Fin 2 → IVec S16 32) a x).toNat < S256x257.size a := fun k0_t1 k0_t3 v27 v296 k0_hw520 => k0_hw520

def k0_chk521 (k0_t1 : Fin k0_t1_loop.trips) (k0_t3 : Fin (k0_t3_loop k0_t1).trips) (v260 : IVec S16 32) (v297 : IVec S16 32) : Prop :=
  (∀ a x, ((![v297, v260] : Fin 2 → IVec S16 32) a x).toNat < S16x256.size a)
theorem k0_idx521_inb : ∀ (k0_t1 : Fin k0_t1_loop.trips) (k0_t3 : Fin (k0_t3_loop k0_t1).trips) (v260 : IVec S16 32) (v297 : IVec S16 32) (k0_hw521 : k0_chk521 k0_t1 k0_t3 v260 v297), ∀ a x, ((![v297, v260] : Fin 2 → IVec S16 32) a x).toNat < S16x256.size a := fun k0_t1 k0_t3 v260 v297 k0_hw521 => k0_hw521

def k0_chk522 (k0_t1 : Fin k0_t1_loop.trips) (k0_t3 : Fin (k0_t3_loop k0_t1).trips) (v27 : IVec S16 32) (v299 : IVec S16 32) : Prop :=
  (∀ a x, ((![v27, v299] : Fin 2 → IVec S16 32) a x).toNat < S256x257.size a)
theorem k0_idx522_inb : ∀ (k0_t1 : Fin k0_t1_loop.trips) (k0_t3 : Fin (k0_t3_loop k0_t1).trips) (v27 : IVec S16 32) (v299 : IVec S16 32) (k0_hw522 : k0_chk522 k0_t1 k0_t3 v27 v299), ∀ a x, ((![v27, v299] : Fin 2 → IVec S16 32) a x).toNat < S256x257.size a := fun k0_t1 k0_t3 v27 v299 k0_hw522 => k0_hw522

def k0_chk523 (k0_t1 : Fin k0_t1_loop.trips) (k0_t3 : Fin (k0_t3_loop k0_t1).trips) (v260 : IVec S16 32) (v300 : IVec S16 32) : Prop :=
  (∀ a x, ((![v300, v260] : Fin 2 → IVec S16 32) a x).toNat < S16x256.size a)
theorem k0_idx523_inb : ∀ (k0_t1 : Fin k0_t1_loop.trips) (k0_t3 : Fin (k0_t3_loop k0_t1).trips) (v260 : IVec S16 32) (v300 : IVec S16 32) (k0_hw523 : k0_chk523 k0_t1 k0_t3 v260 v300), ∀ a x, ((![v300, v260] : Fin 2 → IVec S16 32) a x).toNat < S16x256.size a := fun k0_t1 k0_t3 v260 v300 k0_hw523 => k0_hw523

def k0_chk524 (k0_t1 : Fin k0_t1_loop.trips) (k0_t3 : Fin (k0_t3_loop k0_t1).trips) (v27 : IVec S16 32) (v302 : IVec S16 32) : Prop :=
  (∀ a x, ((![v27, v302] : Fin 2 → IVec S16 32) a x).toNat < S256x257.size a)
theorem k0_idx524_inb : ∀ (k0_t1 : Fin k0_t1_loop.trips) (k0_t3 : Fin (k0_t3_loop k0_t1).trips) (v27 : IVec S16 32) (v302 : IVec S16 32) (k0_hw524 : k0_chk524 k0_t1 k0_t3 v27 v302), ∀ a x, ((![v27, v302] : Fin 2 → IVec S16 32) a x).toNat < S256x257.size a := fun k0_t1 k0_t3 v27 v302 k0_hw524 => k0_hw524

def k0_chk525 (k0_t1 : Fin k0_t1_loop.trips) (k0_t3 : Fin (k0_t3_loop k0_t1).trips) (v260 : IVec S16 32) (v303 : IVec S16 32) : Prop :=
  (∀ a x, ((![v303, v260] : Fin 2 → IVec S16 32) a x).toNat < S16x256.size a)
theorem k0_idx525_inb : ∀ (k0_t1 : Fin k0_t1_loop.trips) (k0_t3 : Fin (k0_t3_loop k0_t1).trips) (v260 : IVec S16 32) (v303 : IVec S16 32) (k0_hw525 : k0_chk525 k0_t1 k0_t3 v260 v303), ∀ a x, ((![v303, v260] : Fin 2 → IVec S16 32) a x).toNat < S16x256.size a := fun k0_t1 k0_t3 v260 v303 k0_hw525 => k0_hw525

def k0_chk526 (k0_t1 : Fin k0_t1_loop.trips) (k0_t3 : Fin (k0_t3_loop k0_t1).trips) (v27 : IVec S16 32) (v305 : IVec S16 32) : Prop :=
  (∀ a x, ((![v27, v305] : Fin 2 → IVec S16 32) a x).toNat < S256x257.size a)
theorem k0_idx526_inb : ∀ (k0_t1 : Fin k0_t1_loop.trips) (k0_t3 : Fin (k0_t3_loop k0_t1).trips) (v27 : IVec S16 32) (v305 : IVec S16 32) (k0_hw526 : k0_chk526 k0_t1 k0_t3 v27 v305), ∀ a x, ((![v27, v305] : Fin 2 → IVec S16 32) a x).toNat < S256x257.size a := fun k0_t1 k0_t3 v27 v305 k0_hw526 => k0_hw526

def k0_chk527 (k0_t1 : Fin k0_t1_loop.trips) (k0_t3 : Fin (k0_t3_loop k0_t1).trips) (v260 : IVec S16 32) (v306 : IVec S16 32) : Prop :=
  (∀ a x, ((![v306, v260] : Fin 2 → IVec S16 32) a x).toNat < S16x256.size a)
theorem k0_idx527_inb : ∀ (k0_t1 : Fin k0_t1_loop.trips) (k0_t3 : Fin (k0_t3_loop k0_t1).trips) (v260 : IVec S16 32) (v306 : IVec S16 32) (k0_hw527 : k0_chk527 k0_t1 k0_t3 v260 v306), ∀ a x, ((![v306, v260] : Fin 2 → IVec S16 32) a x).toNat < S16x256.size a := fun k0_t1 k0_t3 v260 v306 k0_hw527 => k0_hw527

def k0_chk528 (k0_t1 : Fin k0_t1_loop.trips) (k0_t3 : Fin (k0_t3_loop k0_t1).trips) (v27 : IVec S16 32) (v308 : IVec S16 32) : Prop :=
  (∀ a x, ((![v27, v308] : Fin 2 → IVec S16 32) a x).toNat < S256x257.size a)
theorem k0_idx528_inb : ∀ (k0_t1 : Fin k0_t1_loop.trips) (k0_t3 : Fin (k0_t3_loop k0_t1).trips) (v27 : IVec S16 32) (v308 : IVec S16 32) (k0_hw528 : k0_chk528 k0_t1 k0_t3 v27 v308), ∀ a x, ((![v27, v308] : Fin 2 → IVec S16 32) a x).toNat < S256x257.size a := fun k0_t1 k0_t3 v27 v308 k0_hw528 => k0_hw528

def k0_chk529 (k0_t1 : Fin k0_t1_loop.trips) (k0_t3 : Fin (k0_t3_loop k0_t1).trips) (v312 : IVec S16 32) (v314 : IVec S16 32) : Prop :=
  (∀ a x, ((![v312, v314] : Fin 2 → IVec S16 32) a x).toNat < S44x128.size a)
theorem k0_idx529_inb : ∀ (k0_t1 : Fin k0_t1_loop.trips) (k0_t3 : Fin (k0_t3_loop k0_t1).trips) (v312 : IVec S16 32) (v314 : IVec S16 32) (k0_hw529 : k0_chk529 k0_t1 k0_t3 v312 v314), ∀ a x, ((![v312, v314] : Fin 2 → IVec S16 32) a x).toNat < S44x128.size a := fun k0_t1 k0_t3 v312 v314 k0_hw529 => k0_hw529

def k0_chk530 (k0_t1 : Fin k0_t1_loop.trips) (k0_t3 : Fin (k0_t3_loop k0_t1).trips) (v315 : IVec S16 32) (v316 : IVec S16 32) : Prop :=
  (∀ a x, ((![v316, v315] : Fin 2 → IVec S16 32) a x).toNat < S16x256.size a)
theorem k0_idx530_inb : ∀ (k0_t1 : Fin k0_t1_loop.trips) (k0_t3 : Fin (k0_t3_loop k0_t1).trips) (v315 : IVec S16 32) (v316 : IVec S16 32) (k0_hw530 : k0_chk530 k0_t1 k0_t3 v315 v316), ∀ a x, ((![v316, v315] : Fin 2 → IVec S16 32) a x).toNat < S16x256.size a := fun k0_t1 k0_t3 v315 v316 k0_hw530 => k0_hw530

def k0_chk531 (k0_t1 : Fin k0_t1_loop.trips) (k0_t3 : Fin (k0_t3_loop k0_t1).trips) (v27 : IVec S16 32) (v318 : IVec S16 32) : Prop :=
  (∀ a x, ((![v27, v318] : Fin 2 → IVec S16 32) a x).toNat < S256x257.size a)
theorem k0_idx531_inb : ∀ (k0_t1 : Fin k0_t1_loop.trips) (k0_t3 : Fin (k0_t3_loop k0_t1).trips) (v27 : IVec S16 32) (v318 : IVec S16 32) (k0_hw531 : k0_chk531 k0_t1 k0_t3 v27 v318), ∀ a x, ((![v27, v318] : Fin 2 → IVec S16 32) a x).toNat < S256x257.size a := fun k0_t1 k0_t3 v27 v318 k0_hw531 => k0_hw531

def k0_chk532 (k0_t1 : Fin k0_t1_loop.trips) (k0_t3 : Fin (k0_t3_loop k0_t1).trips) (v315 : IVec S16 32) (v319 : IVec S16 32) : Prop :=
  (∀ a x, ((![v319, v315] : Fin 2 → IVec S16 32) a x).toNat < S16x256.size a)
theorem k0_idx532_inb : ∀ (k0_t1 : Fin k0_t1_loop.trips) (k0_t3 : Fin (k0_t3_loop k0_t1).trips) (v315 : IVec S16 32) (v319 : IVec S16 32) (k0_hw532 : k0_chk532 k0_t1 k0_t3 v315 v319), ∀ a x, ((![v319, v315] : Fin 2 → IVec S16 32) a x).toNat < S16x256.size a := fun k0_t1 k0_t3 v315 v319 k0_hw532 => k0_hw532

def k0_chk533 (k0_t1 : Fin k0_t1_loop.trips) (k0_t3 : Fin (k0_t3_loop k0_t1).trips) (v27 : IVec S16 32) (v321 : IVec S16 32) : Prop :=
  (∀ a x, ((![v27, v321] : Fin 2 → IVec S16 32) a x).toNat < S256x257.size a)
theorem k0_idx533_inb : ∀ (k0_t1 : Fin k0_t1_loop.trips) (k0_t3 : Fin (k0_t3_loop k0_t1).trips) (v27 : IVec S16 32) (v321 : IVec S16 32) (k0_hw533 : k0_chk533 k0_t1 k0_t3 v27 v321), ∀ a x, ((![v27, v321] : Fin 2 → IVec S16 32) a x).toNat < S256x257.size a := fun k0_t1 k0_t3 v27 v321 k0_hw533 => k0_hw533

def k0_chk534 (k0_t1 : Fin k0_t1_loop.trips) (k0_t3 : Fin (k0_t3_loop k0_t1).trips) (v315 : IVec S16 32) (v322 : IVec S16 32) : Prop :=
  (∀ a x, ((![v322, v315] : Fin 2 → IVec S16 32) a x).toNat < S16x256.size a)
theorem k0_idx534_inb : ∀ (k0_t1 : Fin k0_t1_loop.trips) (k0_t3 : Fin (k0_t3_loop k0_t1).trips) (v315 : IVec S16 32) (v322 : IVec S16 32) (k0_hw534 : k0_chk534 k0_t1 k0_t3 v315 v322), ∀ a x, ((![v322, v315] : Fin 2 → IVec S16 32) a x).toNat < S16x256.size a := fun k0_t1 k0_t3 v315 v322 k0_hw534 => k0_hw534

def k0_chk535 (k0_t1 : Fin k0_t1_loop.trips) (k0_t3 : Fin (k0_t3_loop k0_t1).trips) (v27 : IVec S16 32) (v324 : IVec S16 32) : Prop :=
  (∀ a x, ((![v27, v324] : Fin 2 → IVec S16 32) a x).toNat < S256x257.size a)
theorem k0_idx535_inb : ∀ (k0_t1 : Fin k0_t1_loop.trips) (k0_t3 : Fin (k0_t3_loop k0_t1).trips) (v27 : IVec S16 32) (v324 : IVec S16 32) (k0_hw535 : k0_chk535 k0_t1 k0_t3 v27 v324), ∀ a x, ((![v27, v324] : Fin 2 → IVec S16 32) a x).toNat < S256x257.size a := fun k0_t1 k0_t3 v27 v324 k0_hw535 => k0_hw535

def k0_chk536 (k0_t1 : Fin k0_t1_loop.trips) (k0_t3 : Fin (k0_t3_loop k0_t1).trips) (v315 : IVec S16 32) (v325 : IVec S16 32) : Prop :=
  (∀ a x, ((![v325, v315] : Fin 2 → IVec S16 32) a x).toNat < S16x256.size a)
theorem k0_idx536_inb : ∀ (k0_t1 : Fin k0_t1_loop.trips) (k0_t3 : Fin (k0_t3_loop k0_t1).trips) (v315 : IVec S16 32) (v325 : IVec S16 32) (k0_hw536 : k0_chk536 k0_t1 k0_t3 v315 v325), ∀ a x, ((![v325, v315] : Fin 2 → IVec S16 32) a x).toNat < S16x256.size a := fun k0_t1 k0_t3 v315 v325 k0_hw536 => k0_hw536

def k0_chk537 (k0_t1 : Fin k0_t1_loop.trips) (k0_t3 : Fin (k0_t3_loop k0_t1).trips) (v27 : IVec S16 32) (v327 : IVec S16 32) : Prop :=
  (∀ a x, ((![v27, v327] : Fin 2 → IVec S16 32) a x).toNat < S256x257.size a)
theorem k0_idx537_inb : ∀ (k0_t1 : Fin k0_t1_loop.trips) (k0_t3 : Fin (k0_t3_loop k0_t1).trips) (v27 : IVec S16 32) (v327 : IVec S16 32) (k0_hw537 : k0_chk537 k0_t1 k0_t3 v27 v327), ∀ a x, ((![v27, v327] : Fin 2 → IVec S16 32) a x).toNat < S256x257.size a := fun k0_t1 k0_t3 v27 v327 k0_hw537 => k0_hw537

def k0_chk538 (k0_t1 : Fin k0_t1_loop.trips) (k0_t3 : Fin (k0_t3_loop k0_t1).trips) (v315 : IVec S16 32) (v328 : IVec S16 32) : Prop :=
  (∀ a x, ((![v328, v315] : Fin 2 → IVec S16 32) a x).toNat < S16x256.size a)
theorem k0_idx538_inb : ∀ (k0_t1 : Fin k0_t1_loop.trips) (k0_t3 : Fin (k0_t3_loop k0_t1).trips) (v315 : IVec S16 32) (v328 : IVec S16 32) (k0_hw538 : k0_chk538 k0_t1 k0_t3 v315 v328), ∀ a x, ((![v328, v315] : Fin 2 → IVec S16 32) a x).toNat < S16x256.size a := fun k0_t1 k0_t3 v315 v328 k0_hw538 => k0_hw538

def k0_chk539 (k0_t1 : Fin k0_t1_loop.trips) (k0_t3 : Fin (k0_t3_loop k0_t1).trips) (v27 : IVec S16 32) (v330 : IVec S16 32) : Prop :=
  (∀ a x, ((![v27, v330] : Fin 2 → IVec S16 32) a x).toNat < S256x257.size a)
theorem k0_idx539_inb : ∀ (k0_t1 : Fin k0_t1_loop.trips) (k0_t3 : Fin (k0_t3_loop k0_t1).trips) (v27 : IVec S16 32) (v330 : IVec S16 32) (k0_hw539 : k0_chk539 k0_t1 k0_t3 v27 v330), ∀ a x, ((![v27, v330] : Fin 2 → IVec S16 32) a x).toNat < S256x257.size a := fun k0_t1 k0_t3 v27 v330 k0_hw539 => k0_hw539

def k0_chk540 (k0_t1 : Fin k0_t1_loop.trips) (k0_t3 : Fin (k0_t3_loop k0_t1).trips) (v315 : IVec S16 32) (v331 : IVec S16 32) : Prop :=
  (∀ a x, ((![v331, v315] : Fin 2 → IVec S16 32) a x).toNat < S16x256.size a)
theorem k0_idx540_inb : ∀ (k0_t1 : Fin k0_t1_loop.trips) (k0_t3 : Fin (k0_t3_loop k0_t1).trips) (v315 : IVec S16 32) (v331 : IVec S16 32) (k0_hw540 : k0_chk540 k0_t1 k0_t3 v315 v331), ∀ a x, ((![v331, v315] : Fin 2 → IVec S16 32) a x).toNat < S16x256.size a := fun k0_t1 k0_t3 v315 v331 k0_hw540 => k0_hw540

def k0_chk541 (k0_t1 : Fin k0_t1_loop.trips) (k0_t3 : Fin (k0_t3_loop k0_t1).trips) (v27 : IVec S16 32) (v333 : IVec S16 32) : Prop :=
  (∀ a x, ((![v27, v333] : Fin 2 → IVec S16 32) a x).toNat < S256x257.size a)
theorem k0_idx541_inb : ∀ (k0_t1 : Fin k0_t1_loop.trips) (k0_t3 : Fin (k0_t3_loop k0_t1).trips) (v27 : IVec S16 32) (v333 : IVec S16 32) (k0_hw541 : k0_chk541 k0_t1 k0_t3 v27 v333), ∀ a x, ((![v27, v333] : Fin 2 → IVec S16 32) a x).toNat < S256x257.size a := fun k0_t1 k0_t3 v27 v333 k0_hw541 => k0_hw541

def k0_chk542 (k0_t1 : Fin k0_t1_loop.trips) (k0_t3 : Fin (k0_t3_loop k0_t1).trips) (v315 : IVec S16 32) (v334 : IVec S16 32) : Prop :=
  (∀ a x, ((![v334, v315] : Fin 2 → IVec S16 32) a x).toNat < S16x256.size a)
theorem k0_idx542_inb : ∀ (k0_t1 : Fin k0_t1_loop.trips) (k0_t3 : Fin (k0_t3_loop k0_t1).trips) (v315 : IVec S16 32) (v334 : IVec S16 32) (k0_hw542 : k0_chk542 k0_t1 k0_t3 v315 v334), ∀ a x, ((![v334, v315] : Fin 2 → IVec S16 32) a x).toNat < S16x256.size a := fun k0_t1 k0_t3 v315 v334 k0_hw542 => k0_hw542

def k0_chk543 (k0_t1 : Fin k0_t1_loop.trips) (k0_t3 : Fin (k0_t3_loop k0_t1).trips) (v27 : IVec S16 32) (v336 : IVec S16 32) : Prop :=
  (∀ a x, ((![v27, v336] : Fin 2 → IVec S16 32) a x).toNat < S256x257.size a)
theorem k0_idx543_inb : ∀ (k0_t1 : Fin k0_t1_loop.trips) (k0_t3 : Fin (k0_t3_loop k0_t1).trips) (v27 : IVec S16 32) (v336 : IVec S16 32) (k0_hw543 : k0_chk543 k0_t1 k0_t3 v27 v336), ∀ a x, ((![v27, v336] : Fin 2 → IVec S16 32) a x).toNat < S256x257.size a := fun k0_t1 k0_t3 v27 v336 k0_hw543 => k0_hw543

def k0_chk544 (k0_t1 : Fin k0_t1_loop.trips) (k0_t3 : Fin (k0_t3_loop k0_t1).trips) (v315 : IVec S16 32) (v337 : IVec S16 32) : Prop :=
  (∀ a x, ((![v337, v315] : Fin 2 → IVec S16 32) a x).toNat < S16x256.size a)
theorem k0_idx544_inb : ∀ (k0_t1 : Fin k0_t1_loop.trips) (k0_t3 : Fin (k0_t3_loop k0_t1).trips) (v315 : IVec S16 32) (v337 : IVec S16 32) (k0_hw544 : k0_chk544 k0_t1 k0_t3 v315 v337), ∀ a x, ((![v337, v315] : Fin 2 → IVec S16 32) a x).toNat < S16x256.size a := fun k0_t1 k0_t3 v315 v337 k0_hw544 => k0_hw544

def k0_chk545 (k0_t1 : Fin k0_t1_loop.trips) (k0_t3 : Fin (k0_t3_loop k0_t1).trips) (v27 : IVec S16 32) (v339 : IVec S16 32) : Prop :=
  (∀ a x, ((![v27, v339] : Fin 2 → IVec S16 32) a x).toNat < S256x257.size a)
theorem k0_idx545_inb : ∀ (k0_t1 : Fin k0_t1_loop.trips) (k0_t3 : Fin (k0_t3_loop k0_t1).trips) (v27 : IVec S16 32) (v339 : IVec S16 32) (k0_hw545 : k0_chk545 k0_t1 k0_t3 v27 v339), ∀ a x, ((![v27, v339] : Fin 2 → IVec S16 32) a x).toNat < S256x257.size a := fun k0_t1 k0_t3 v27 v339 k0_hw545 => k0_hw545

def k0_chk546 (k0_t1 : Fin k0_t1_loop.trips) (k0_t3 : Fin (k0_t3_loop k0_t1).trips) (v315 : IVec S16 32) (v340 : IVec S16 32) : Prop :=
  (∀ a x, ((![v340, v315] : Fin 2 → IVec S16 32) a x).toNat < S16x256.size a)
theorem k0_idx546_inb : ∀ (k0_t1 : Fin k0_t1_loop.trips) (k0_t3 : Fin (k0_t3_loop k0_t1).trips) (v315 : IVec S16 32) (v340 : IVec S16 32) (k0_hw546 : k0_chk546 k0_t1 k0_t3 v315 v340), ∀ a x, ((![v340, v315] : Fin 2 → IVec S16 32) a x).toNat < S16x256.size a := fun k0_t1 k0_t3 v315 v340 k0_hw546 => k0_hw546

def k0_chk547 (k0_t1 : Fin k0_t1_loop.trips) (k0_t3 : Fin (k0_t3_loop k0_t1).trips) (v27 : IVec S16 32) (v342 : IVec S16 32) : Prop :=
  (∀ a x, ((![v27, v342] : Fin 2 → IVec S16 32) a x).toNat < S256x257.size a)
theorem k0_idx547_inb : ∀ (k0_t1 : Fin k0_t1_loop.trips) (k0_t3 : Fin (k0_t3_loop k0_t1).trips) (v27 : IVec S16 32) (v342 : IVec S16 32) (k0_hw547 : k0_chk547 k0_t1 k0_t3 v27 v342), ∀ a x, ((![v27, v342] : Fin 2 → IVec S16 32) a x).toNat < S256x257.size a := fun k0_t1 k0_t3 v27 v342 k0_hw547 => k0_hw547

def k0_chk548 (k0_t1 : Fin k0_t1_loop.trips) (k0_t3 : Fin (k0_t3_loop k0_t1).trips) (v315 : IVec S16 32) (v343 : IVec S16 32) : Prop :=
  (∀ a x, ((![v343, v315] : Fin 2 → IVec S16 32) a x).toNat < S16x256.size a)
theorem k0_idx548_inb : ∀ (k0_t1 : Fin k0_t1_loop.trips) (k0_t3 : Fin (k0_t3_loop k0_t1).trips) (v315 : IVec S16 32) (v343 : IVec S16 32) (k0_hw548 : k0_chk548 k0_t1 k0_t3 v315 v343), ∀ a x, ((![v343, v315] : Fin 2 → IVec S16 32) a x).toNat < S16x256.size a := fun k0_t1 k0_t3 v315 v343 k0_hw548 => k0_hw548

def k0_chk549 (k0_t1 : Fin k0_t1_loop.trips) (k0_t3 : Fin (k0_t3_loop k0_t1).trips) (v27 : IVec S16 32) (v345 : IVec S16 32) : Prop :=
  (∀ a x, ((![v27, v345] : Fin 2 → IVec S16 32) a x).toNat < S256x257.size a)
theorem k0_idx549_inb : ∀ (k0_t1 : Fin k0_t1_loop.trips) (k0_t3 : Fin (k0_t3_loop k0_t1).trips) (v27 : IVec S16 32) (v345 : IVec S16 32) (k0_hw549 : k0_chk549 k0_t1 k0_t3 v27 v345), ∀ a x, ((![v27, v345] : Fin 2 → IVec S16 32) a x).toNat < S256x257.size a := fun k0_t1 k0_t3 v27 v345 k0_hw549 => k0_hw549

def k0_chk550 (k0_t1 : Fin k0_t1_loop.trips) (k0_t3 : Fin (k0_t3_loop k0_t1).trips) (v315 : IVec S16 32) (v346 : IVec S16 32) : Prop :=
  (∀ a x, ((![v346, v315] : Fin 2 → IVec S16 32) a x).toNat < S16x256.size a)
theorem k0_idx550_inb : ∀ (k0_t1 : Fin k0_t1_loop.trips) (k0_t3 : Fin (k0_t3_loop k0_t1).trips) (v315 : IVec S16 32) (v346 : IVec S16 32) (k0_hw550 : k0_chk550 k0_t1 k0_t3 v315 v346), ∀ a x, ((![v346, v315] : Fin 2 → IVec S16 32) a x).toNat < S16x256.size a := fun k0_t1 k0_t3 v315 v346 k0_hw550 => k0_hw550

def k0_chk551 (k0_t1 : Fin k0_t1_loop.trips) (k0_t3 : Fin (k0_t3_loop k0_t1).trips) (v27 : IVec S16 32) (v348 : IVec S16 32) : Prop :=
  (∀ a x, ((![v27, v348] : Fin 2 → IVec S16 32) a x).toNat < S256x257.size a)
theorem k0_idx551_inb : ∀ (k0_t1 : Fin k0_t1_loop.trips) (k0_t3 : Fin (k0_t3_loop k0_t1).trips) (v27 : IVec S16 32) (v348 : IVec S16 32) (k0_hw551 : k0_chk551 k0_t1 k0_t3 v27 v348), ∀ a x, ((![v27, v348] : Fin 2 → IVec S16 32) a x).toNat < S256x257.size a := fun k0_t1 k0_t3 v27 v348 k0_hw551 => k0_hw551

def k0_chk552 (k0_t1 : Fin k0_t1_loop.trips) (k0_t3 : Fin (k0_t3_loop k0_t1).trips) (v315 : IVec S16 32) (v349 : IVec S16 32) : Prop :=
  (∀ a x, ((![v349, v315] : Fin 2 → IVec S16 32) a x).toNat < S16x256.size a)
theorem k0_idx552_inb : ∀ (k0_t1 : Fin k0_t1_loop.trips) (k0_t3 : Fin (k0_t3_loop k0_t1).trips) (v315 : IVec S16 32) (v349 : IVec S16 32) (k0_hw552 : k0_chk552 k0_t1 k0_t3 v315 v349), ∀ a x, ((![v349, v315] : Fin 2 → IVec S16 32) a x).toNat < S16x256.size a := fun k0_t1 k0_t3 v315 v349 k0_hw552 => k0_hw552

def k0_chk553 (k0_t1 : Fin k0_t1_loop.trips) (k0_t3 : Fin (k0_t3_loop k0_t1).trips) (v27 : IVec S16 32) (v351 : IVec S16 32) : Prop :=
  (∀ a x, ((![v27, v351] : Fin 2 → IVec S16 32) a x).toNat < S256x257.size a)
theorem k0_idx553_inb : ∀ (k0_t1 : Fin k0_t1_loop.trips) (k0_t3 : Fin (k0_t3_loop k0_t1).trips) (v27 : IVec S16 32) (v351 : IVec S16 32) (k0_hw553 : k0_chk553 k0_t1 k0_t3 v27 v351), ∀ a x, ((![v27, v351] : Fin 2 → IVec S16 32) a x).toNat < S256x257.size a := fun k0_t1 k0_t3 v27 v351 k0_hw553 => k0_hw553

def k0_chk554 (k0_t1 : Fin k0_t1_loop.trips) (k0_t3 : Fin (k0_t3_loop k0_t1).trips) (v315 : IVec S16 32) (v352 : IVec S16 32) : Prop :=
  (∀ a x, ((![v352, v315] : Fin 2 → IVec S16 32) a x).toNat < S16x256.size a)
theorem k0_idx554_inb : ∀ (k0_t1 : Fin k0_t1_loop.trips) (k0_t3 : Fin (k0_t3_loop k0_t1).trips) (v315 : IVec S16 32) (v352 : IVec S16 32) (k0_hw554 : k0_chk554 k0_t1 k0_t3 v315 v352), ∀ a x, ((![v352, v315] : Fin 2 → IVec S16 32) a x).toNat < S16x256.size a := fun k0_t1 k0_t3 v315 v352 k0_hw554 => k0_hw554

def k0_chk555 (k0_t1 : Fin k0_t1_loop.trips) (k0_t3 : Fin (k0_t3_loop k0_t1).trips) (v27 : IVec S16 32) (v354 : IVec S16 32) : Prop :=
  (∀ a x, ((![v27, v354] : Fin 2 → IVec S16 32) a x).toNat < S256x257.size a)
theorem k0_idx555_inb : ∀ (k0_t1 : Fin k0_t1_loop.trips) (k0_t3 : Fin (k0_t3_loop k0_t1).trips) (v27 : IVec S16 32) (v354 : IVec S16 32) (k0_hw555 : k0_chk555 k0_t1 k0_t3 v27 v354), ∀ a x, ((![v27, v354] : Fin 2 → IVec S16 32) a x).toNat < S256x257.size a := fun k0_t1 k0_t3 v27 v354 k0_hw555 => k0_hw555

def k0_chk556 (k0_t1 : Fin k0_t1_loop.trips) (k0_t3 : Fin (k0_t3_loop k0_t1).trips) (v315 : IVec S16 32) (v355 : IVec S16 32) : Prop :=
  (∀ a x, ((![v355, v315] : Fin 2 → IVec S16 32) a x).toNat < S16x256.size a)
theorem k0_idx556_inb : ∀ (k0_t1 : Fin k0_t1_loop.trips) (k0_t3 : Fin (k0_t3_loop k0_t1).trips) (v315 : IVec S16 32) (v355 : IVec S16 32) (k0_hw556 : k0_chk556 k0_t1 k0_t3 v315 v355), ∀ a x, ((![v355, v315] : Fin 2 → IVec S16 32) a x).toNat < S16x256.size a := fun k0_t1 k0_t3 v315 v355 k0_hw556 => k0_hw556

def k0_chk557 (k0_t1 : Fin k0_t1_loop.trips) (k0_t3 : Fin (k0_t3_loop k0_t1).trips) (v27 : IVec S16 32) (v357 : IVec S16 32) : Prop :=
  (∀ a x, ((![v27, v357] : Fin 2 → IVec S16 32) a x).toNat < S256x257.size a)
theorem k0_idx557_inb : ∀ (k0_t1 : Fin k0_t1_loop.trips) (k0_t3 : Fin (k0_t3_loop k0_t1).trips) (v27 : IVec S16 32) (v357 : IVec S16 32) (k0_hw557 : k0_chk557 k0_t1 k0_t3 v27 v357), ∀ a x, ((![v27, v357] : Fin 2 → IVec S16 32) a x).toNat < S256x257.size a := fun k0_t1 k0_t3 v27 v357 k0_hw557 => k0_hw557

def k0_chk558 (k0_t1 : Fin k0_t1_loop.trips) (k0_t3 : Fin (k0_t3_loop k0_t1).trips) (v315 : IVec S16 32) (v358 : IVec S16 32) : Prop :=
  (∀ a x, ((![v358, v315] : Fin 2 → IVec S16 32) a x).toNat < S16x256.size a)
theorem k0_idx558_inb : ∀ (k0_t1 : Fin k0_t1_loop.trips) (k0_t3 : Fin (k0_t3_loop k0_t1).trips) (v315 : IVec S16 32) (v358 : IVec S16 32) (k0_hw558 : k0_chk558 k0_t1 k0_t3 v315 v358), ∀ a x, ((![v358, v315] : Fin 2 → IVec S16 32) a x).toNat < S16x256.size a := fun k0_t1 k0_t3 v315 v358 k0_hw558 => k0_hw558

def k0_chk559 (k0_t1 : Fin k0_t1_loop.trips) (k0_t3 : Fin (k0_t3_loop k0_t1).trips) (v27 : IVec S16 32) (v360 : IVec S16 32) : Prop :=
  (∀ a x, ((![v27, v360] : Fin 2 → IVec S16 32) a x).toNat < S256x257.size a)
theorem k0_idx559_inb : ∀ (k0_t1 : Fin k0_t1_loop.trips) (k0_t3 : Fin (k0_t3_loop k0_t1).trips) (v27 : IVec S16 32) (v360 : IVec S16 32) (k0_hw559 : k0_chk559 k0_t1 k0_t3 v27 v360), ∀ a x, ((![v27, v360] : Fin 2 → IVec S16 32) a x).toNat < S256x257.size a := fun k0_t1 k0_t3 v27 v360 k0_hw559 => k0_hw559

def k0_chk560 (k0_t1 : Fin k0_t1_loop.trips) (k0_t3 : Fin (k0_t3_loop k0_t1).trips) (v315 : IVec S16 32) (v361 : IVec S16 32) : Prop :=
  (∀ a x, ((![v361, v315] : Fin 2 → IVec S16 32) a x).toNat < S16x256.size a)
theorem k0_idx560_inb : ∀ (k0_t1 : Fin k0_t1_loop.trips) (k0_t3 : Fin (k0_t3_loop k0_t1).trips) (v315 : IVec S16 32) (v361 : IVec S16 32) (k0_hw560 : k0_chk560 k0_t1 k0_t3 v315 v361), ∀ a x, ((![v361, v315] : Fin 2 → IVec S16 32) a x).toNat < S16x256.size a := fun k0_t1 k0_t3 v315 v361 k0_hw560 => k0_hw560

def k0_chk561 (k0_t1 : Fin k0_t1_loop.trips) (k0_t3 : Fin (k0_t3_loop k0_t1).trips) (v27 : IVec S16 32) (v363 : IVec S16 32) : Prop :=
  (∀ a x, ((![v27, v363] : Fin 2 → IVec S16 32) a x).toNat < S256x257.size a)
theorem k0_idx561_inb : ∀ (k0_t1 : Fin k0_t1_loop.trips) (k0_t3 : Fin (k0_t3_loop k0_t1).trips) (v27 : IVec S16 32) (v363 : IVec S16 32) (k0_hw561 : k0_chk561 k0_t1 k0_t3 v27 v363), ∀ a x, ((![v27, v363] : Fin 2 → IVec S16 32) a x).toNat < S256x257.size a := fun k0_t1 k0_t3 v27 v363 k0_hw561 => k0_hw561

def k0_chk562 (k0_t1 : Fin k0_t1_loop.trips) (k0_t3 : Fin (k0_t3_loop k0_t1).trips) (v367 : IVec S16 32) (v369 : IVec S16 32) : Prop :=
  (∀ a x, ((![v367, v369] : Fin 2 → IVec S16 32) a x).toNat < S44x128.size a)
theorem k0_idx562_inb : ∀ (k0_t1 : Fin k0_t1_loop.trips) (k0_t3 : Fin (k0_t3_loop k0_t1).trips) (v367 : IVec S16 32) (v369 : IVec S16 32) (k0_hw562 : k0_chk562 k0_t1 k0_t3 v367 v369), ∀ a x, ((![v367, v369] : Fin 2 → IVec S16 32) a x).toNat < S44x128.size a := fun k0_t1 k0_t3 v367 v369 k0_hw562 => k0_hw562

def k0_chk563 (k0_t1 : Fin k0_t1_loop.trips) (k0_t3 : Fin (k0_t3_loop k0_t1).trips) (v370 : IVec S16 32) (v371 : IVec S16 32) : Prop :=
  (∀ a x, ((![v371, v370] : Fin 2 → IVec S16 32) a x).toNat < S16x256.size a)
theorem k0_idx563_inb : ∀ (k0_t1 : Fin k0_t1_loop.trips) (k0_t3 : Fin (k0_t3_loop k0_t1).trips) (v370 : IVec S16 32) (v371 : IVec S16 32) (k0_hw563 : k0_chk563 k0_t1 k0_t3 v370 v371), ∀ a x, ((![v371, v370] : Fin 2 → IVec S16 32) a x).toNat < S16x256.size a := fun k0_t1 k0_t3 v370 v371 k0_hw563 => k0_hw563

def k0_chk564 (k0_t1 : Fin k0_t1_loop.trips) (k0_t3 : Fin (k0_t3_loop k0_t1).trips) (v27 : IVec S16 32) (v373 : IVec S16 32) : Prop :=
  (∀ a x, ((![v27, v373] : Fin 2 → IVec S16 32) a x).toNat < S256x257.size a)
theorem k0_idx564_inb : ∀ (k0_t1 : Fin k0_t1_loop.trips) (k0_t3 : Fin (k0_t3_loop k0_t1).trips) (v27 : IVec S16 32) (v373 : IVec S16 32) (k0_hw564 : k0_chk564 k0_t1 k0_t3 v27 v373), ∀ a x, ((![v27, v373] : Fin 2 → IVec S16 32) a x).toNat < S256x257.size a := fun k0_t1 k0_t3 v27 v373 k0_hw564 => k0_hw564

def k0_chk565 (k0_t1 : Fin k0_t1_loop.trips) (k0_t3 : Fin (k0_t3_loop k0_t1).trips) (v370 : IVec S16 32) (v374 : IVec S16 32) : Prop :=
  (∀ a x, ((![v374, v370] : Fin 2 → IVec S16 32) a x).toNat < S16x256.size a)
theorem k0_idx565_inb : ∀ (k0_t1 : Fin k0_t1_loop.trips) (k0_t3 : Fin (k0_t3_loop k0_t1).trips) (v370 : IVec S16 32) (v374 : IVec S16 32) (k0_hw565 : k0_chk565 k0_t1 k0_t3 v370 v374), ∀ a x, ((![v374, v370] : Fin 2 → IVec S16 32) a x).toNat < S16x256.size a := fun k0_t1 k0_t3 v370 v374 k0_hw565 => k0_hw565

def k0_chk566 (k0_t1 : Fin k0_t1_loop.trips) (k0_t3 : Fin (k0_t3_loop k0_t1).trips) (v27 : IVec S16 32) (v376 : IVec S16 32) : Prop :=
  (∀ a x, ((![v27, v376] : Fin 2 → IVec S16 32) a x).toNat < S256x257.size a)
theorem k0_idx566_inb : ∀ (k0_t1 : Fin k0_t1_loop.trips) (k0_t3 : Fin (k0_t3_loop k0_t1).trips) (v27 : IVec S16 32) (v376 : IVec S16 32) (k0_hw566 : k0_chk566 k0_t1 k0_t3 v27 v376), ∀ a x, ((![v27, v376] : Fin 2 → IVec S16 32) a x).toNat < S256x257.size a := fun k0_t1 k0_t3 v27 v376 k0_hw566 => k0_hw566

def k0_chk567 (k0_t1 : Fin k0_t1_loop.trips) (k0_t3 : Fin (k0_t3_loop k0_t1).trips) (v370 : IVec S16 32) (v377 : IVec S16 32) : Prop :=
  (∀ a x, ((![v377, v370] : Fin 2 → IVec S16 32) a x).toNat < S16x256.size a)
theorem k0_idx567_inb : ∀ (k0_t1 : Fin k0_t1_loop.trips) (k0_t3 : Fin (k0_t3_loop k0_t1).trips) (v370 : IVec S16 32) (v377 : IVec S16 32) (k0_hw567 : k0_chk567 k0_t1 k0_t3 v370 v377), ∀ a x, ((![v377, v370] : Fin 2 → IVec S16 32) a x).toNat < S16x256.size a := fun k0_t1 k0_t3 v370 v377 k0_hw567 => k0_hw567

def k0_chk568 (k0_t1 : Fin k0_t1_loop.trips) (k0_t3 : Fin (k0_t3_loop k0_t1).trips) (v27 : IVec S16 32) (v379 : IVec S16 32) : Prop :=
  (∀ a x, ((![v27, v379] : Fin 2 → IVec S16 32) a x).toNat < S256x257.size a)
theorem k0_idx568_inb : ∀ (k0_t1 : Fin k0_t1_loop.trips) (k0_t3 : Fin (k0_t3_loop k0_t1).trips) (v27 : IVec S16 32) (v379 : IVec S16 32) (k0_hw568 : k0_chk568 k0_t1 k0_t3 v27 v379), ∀ a x, ((![v27, v379] : Fin 2 → IVec S16 32) a x).toNat < S256x257.size a := fun k0_t1 k0_t3 v27 v379 k0_hw568 => k0_hw568

def k0_chk569 (k0_t1 : Fin k0_t1_loop.trips) (k0_t3 : Fin (k0_t3_loop k0_t1).trips) (v370 : IVec S16 32) (v380 : IVec S16 32) : Prop :=
  (∀ a x, ((![v380, v370] : Fin 2 → IVec S16 32) a x).toNat < S16x256.size a)
theorem k0_idx569_inb : ∀ (k0_t1 : Fin k0_t1_loop.trips) (k0_t3 : Fin (k0_t3_loop k0_t1).trips) (v370 : IVec S16 32) (v380 : IVec S16 32) (k0_hw569 : k0_chk569 k0_t1 k0_t3 v370 v380), ∀ a x, ((![v380, v370] : Fin 2 → IVec S16 32) a x).toNat < S16x256.size a := fun k0_t1 k0_t3 v370 v380 k0_hw569 => k0_hw569

def k0_chk570 (k0_t1 : Fin k0_t1_loop.trips) (k0_t3 : Fin (k0_t3_loop k0_t1).trips) (v27 : IVec S16 32) (v382 : IVec S16 32) : Prop :=
  (∀ a x, ((![v27, v382] : Fin 2 → IVec S16 32) a x).toNat < S256x257.size a)
theorem k0_idx570_inb : ∀ (k0_t1 : Fin k0_t1_loop.trips) (k0_t3 : Fin (k0_t3_loop k0_t1).trips) (v27 : IVec S16 32) (v382 : IVec S16 32) (k0_hw570 : k0_chk570 k0_t1 k0_t3 v27 v382), ∀ a x, ((![v27, v382] : Fin 2 → IVec S16 32) a x).toNat < S256x257.size a := fun k0_t1 k0_t3 v27 v382 k0_hw570 => k0_hw570

def k0_chk571 (k0_t1 : Fin k0_t1_loop.trips) (k0_t3 : Fin (k0_t3_loop k0_t1).trips) (v370 : IVec S16 32) (v383 : IVec S16 32) : Prop :=
  (∀ a x, ((![v383, v370] : Fin 2 → IVec S16 32) a x).toNat < S16x256.size a)
theorem k0_idx571_inb : ∀ (k0_t1 : Fin k0_t1_loop.trips) (k0_t3 : Fin (k0_t3_loop k0_t1).trips) (v370 : IVec S16 32) (v383 : IVec S16 32) (k0_hw571 : k0_chk571 k0_t1 k0_t3 v370 v383), ∀ a x, ((![v383, v370] : Fin 2 → IVec S16 32) a x).toNat < S16x256.size a := fun k0_t1 k0_t3 v370 v383 k0_hw571 => k0_hw571

def k0_chk572 (k0_t1 : Fin k0_t1_loop.trips) (k0_t3 : Fin (k0_t3_loop k0_t1).trips) (v27 : IVec S16 32) (v385 : IVec S16 32) : Prop :=
  (∀ a x, ((![v27, v385] : Fin 2 → IVec S16 32) a x).toNat < S256x257.size a)
theorem k0_idx572_inb : ∀ (k0_t1 : Fin k0_t1_loop.trips) (k0_t3 : Fin (k0_t3_loop k0_t1).trips) (v27 : IVec S16 32) (v385 : IVec S16 32) (k0_hw572 : k0_chk572 k0_t1 k0_t3 v27 v385), ∀ a x, ((![v27, v385] : Fin 2 → IVec S16 32) a x).toNat < S256x257.size a := fun k0_t1 k0_t3 v27 v385 k0_hw572 => k0_hw572

def k0_chk573 (k0_t1 : Fin k0_t1_loop.trips) (k0_t3 : Fin (k0_t3_loop k0_t1).trips) (v370 : IVec S16 32) (v386 : IVec S16 32) : Prop :=
  (∀ a x, ((![v386, v370] : Fin 2 → IVec S16 32) a x).toNat < S16x256.size a)
theorem k0_idx573_inb : ∀ (k0_t1 : Fin k0_t1_loop.trips) (k0_t3 : Fin (k0_t3_loop k0_t1).trips) (v370 : IVec S16 32) (v386 : IVec S16 32) (k0_hw573 : k0_chk573 k0_t1 k0_t3 v370 v386), ∀ a x, ((![v386, v370] : Fin 2 → IVec S16 32) a x).toNat < S16x256.size a := fun k0_t1 k0_t3 v370 v386 k0_hw573 => k0_hw573

def k0_chk574 (k0_t1 : Fin k0_t1_loop.trips) (k0_t3 : Fin (k0_t3_loop k0_t1).trips) (v27 : IVec S16 32) (v388 : IVec S16 32) : Prop :=
  (∀ a x, ((![v27, v388] : Fin 2 → IVec S16 32) a x).toNat < S256x257.size a)
theorem k0_idx574_inb : ∀ (k0_t1 : Fin k0_t1_loop.trips) (k0_t3 : Fin (k0_t3_loop k0_t1).trips) (v27 : IVec S16 32) (v388 : IVec S16 32) (k0_hw574 : k0_chk574 k0_t1 k0_t3 v27 v388), ∀ a x, ((![v27, v388] : Fin 2 → IVec S16 32) a x).toNat < S256x257.size a := fun k0_t1 k0_t3 v27 v388 k0_hw574 => k0_hw574

def k0_chk575 (k0_t1 : Fin k0_t1_loop.trips) (k0_t3 : Fin (k0_t3_loop k0_t1).trips) (v370 : IVec S16 32) (v389 : IVec S16 32) : Prop :=
  (∀ a x, ((![v389, v370] : Fin 2 → IVec S16 32) a x).toNat < S16x256.size a)
theorem k0_idx575_inb : ∀ (k0_t1 : Fin k0_t1_loop.trips) (k0_t3 : Fin (k0_t3_loop k0_t1).trips) (v370 : IVec S16 32) (v389 : IVec S16 32) (k0_hw575 : k0_chk575 k0_t1 k0_t3 v370 v389), ∀ a x, ((![v389, v370] : Fin 2 → IVec S16 32) a x).toNat < S16x256.size a := fun k0_t1 k0_t3 v370 v389 k0_hw575 => k0_hw575

def k0_chk576 (k0_t1 : Fin k0_t1_loop.trips) (k0_t3 : Fin (k0_t3_loop k0_t1).trips) (v27 : IVec S16 32) (v391 : IVec S16 32) : Prop :=
  (∀ a x, ((![v27, v391] : Fin 2 → IVec S16 32) a x).toNat < S256x257.size a)
theorem k0_idx576_inb : ∀ (k0_t1 : Fin k0_t1_loop.trips) (k0_t3 : Fin (k0_t3_loop k0_t1).trips) (v27 : IVec S16 32) (v391 : IVec S16 32) (k0_hw576 : k0_chk576 k0_t1 k0_t3 v27 v391), ∀ a x, ((![v27, v391] : Fin 2 → IVec S16 32) a x).toNat < S256x257.size a := fun k0_t1 k0_t3 v27 v391 k0_hw576 => k0_hw576

def k0_chk577 (k0_t1 : Fin k0_t1_loop.trips) (k0_t3 : Fin (k0_t3_loop k0_t1).trips) (v370 : IVec S16 32) (v392 : IVec S16 32) : Prop :=
  (∀ a x, ((![v392, v370] : Fin 2 → IVec S16 32) a x).toNat < S16x256.size a)
theorem k0_idx577_inb : ∀ (k0_t1 : Fin k0_t1_loop.trips) (k0_t3 : Fin (k0_t3_loop k0_t1).trips) (v370 : IVec S16 32) (v392 : IVec S16 32) (k0_hw577 : k0_chk577 k0_t1 k0_t3 v370 v392), ∀ a x, ((![v392, v370] : Fin 2 → IVec S16 32) a x).toNat < S16x256.size a := fun k0_t1 k0_t3 v370 v392 k0_hw577 => k0_hw577

def k0_chk578 (k0_t1 : Fin k0_t1_loop.trips) (k0_t3 : Fin (k0_t3_loop k0_t1).trips) (v27 : IVec S16 32) (v394 : IVec S16 32) : Prop :=
  (∀ a x, ((![v27, v394] : Fin 2 → IVec S16 32) a x).toNat < S256x257.size a)
theorem k0_idx578_inb : ∀ (k0_t1 : Fin k0_t1_loop.trips) (k0_t3 : Fin (k0_t3_loop k0_t1).trips) (v27 : IVec S16 32) (v394 : IVec S16 32) (k0_hw578 : k0_chk578 k0_t1 k0_t3 v27 v394), ∀ a x, ((![v27, v394] : Fin 2 → IVec S16 32) a x).toNat < S256x257.size a := fun k0_t1 k0_t3 v27 v394 k0_hw578 => k0_hw578

def k0_chk579 (k0_t1 : Fin k0_t1_loop.trips) (k0_t3 : Fin (k0_t3_loop k0_t1).trips) (v370 : IVec S16 32) (v395 : IVec S16 32) : Prop :=
  (∀ a x, ((![v395, v370] : Fin 2 → IVec S16 32) a x).toNat < S16x256.size a)
theorem k0_idx579_inb : ∀ (k0_t1 : Fin k0_t1_loop.trips) (k0_t3 : Fin (k0_t3_loop k0_t1).trips) (v370 : IVec S16 32) (v395 : IVec S16 32) (k0_hw579 : k0_chk579 k0_t1 k0_t3 v370 v395), ∀ a x, ((![v395, v370] : Fin 2 → IVec S16 32) a x).toNat < S16x256.size a := fun k0_t1 k0_t3 v370 v395 k0_hw579 => k0_hw579

def k0_chk580 (k0_t1 : Fin k0_t1_loop.trips) (k0_t3 : Fin (k0_t3_loop k0_t1).trips) (v27 : IVec S16 32) (v397 : IVec S16 32) : Prop :=
  (∀ a x, ((![v27, v397] : Fin 2 → IVec S16 32) a x).toNat < S256x257.size a)
theorem k0_idx580_inb : ∀ (k0_t1 : Fin k0_t1_loop.trips) (k0_t3 : Fin (k0_t3_loop k0_t1).trips) (v27 : IVec S16 32) (v397 : IVec S16 32) (k0_hw580 : k0_chk580 k0_t1 k0_t3 v27 v397), ∀ a x, ((![v27, v397] : Fin 2 → IVec S16 32) a x).toNat < S256x257.size a := fun k0_t1 k0_t3 v27 v397 k0_hw580 => k0_hw580

def k0_chk581 (k0_t1 : Fin k0_t1_loop.trips) (k0_t3 : Fin (k0_t3_loop k0_t1).trips) (v370 : IVec S16 32) (v398 : IVec S16 32) : Prop :=
  (∀ a x, ((![v398, v370] : Fin 2 → IVec S16 32) a x).toNat < S16x256.size a)
theorem k0_idx581_inb : ∀ (k0_t1 : Fin k0_t1_loop.trips) (k0_t3 : Fin (k0_t3_loop k0_t1).trips) (v370 : IVec S16 32) (v398 : IVec S16 32) (k0_hw581 : k0_chk581 k0_t1 k0_t3 v370 v398), ∀ a x, ((![v398, v370] : Fin 2 → IVec S16 32) a x).toNat < S16x256.size a := fun k0_t1 k0_t3 v370 v398 k0_hw581 => k0_hw581

def k0_chk582 (k0_t1 : Fin k0_t1_loop.trips) (k0_t3 : Fin (k0_t3_loop k0_t1).trips) (v27 : IVec S16 32) (v400 : IVec S16 32) : Prop :=
  (∀ a x, ((![v27, v400] : Fin 2 → IVec S16 32) a x).toNat < S256x257.size a)
theorem k0_idx582_inb : ∀ (k0_t1 : Fin k0_t1_loop.trips) (k0_t3 : Fin (k0_t3_loop k0_t1).trips) (v27 : IVec S16 32) (v400 : IVec S16 32) (k0_hw582 : k0_chk582 k0_t1 k0_t3 v27 v400), ∀ a x, ((![v27, v400] : Fin 2 → IVec S16 32) a x).toNat < S256x257.size a := fun k0_t1 k0_t3 v27 v400 k0_hw582 => k0_hw582

def k0_chk583 (k0_t1 : Fin k0_t1_loop.trips) (k0_t3 : Fin (k0_t3_loop k0_t1).trips) (v370 : IVec S16 32) (v401 : IVec S16 32) : Prop :=
  (∀ a x, ((![v401, v370] : Fin 2 → IVec S16 32) a x).toNat < S16x256.size a)
theorem k0_idx583_inb : ∀ (k0_t1 : Fin k0_t1_loop.trips) (k0_t3 : Fin (k0_t3_loop k0_t1).trips) (v370 : IVec S16 32) (v401 : IVec S16 32) (k0_hw583 : k0_chk583 k0_t1 k0_t3 v370 v401), ∀ a x, ((![v401, v370] : Fin 2 → IVec S16 32) a x).toNat < S16x256.size a := fun k0_t1 k0_t3 v370 v401 k0_hw583 => k0_hw583

def k0_chk584 (k0_t1 : Fin k0_t1_loop.trips) (k0_t3 : Fin (k0_t3_loop k0_t1).trips) (v27 : IVec S16 32) (v403 : IVec S16 32) : Prop :=
  (∀ a x, ((![v27, v403] : Fin 2 → IVec S16 32) a x).toNat < S256x257.size a)
theorem k0_idx584_inb : ∀ (k0_t1 : Fin k0_t1_loop.trips) (k0_t3 : Fin (k0_t3_loop k0_t1).trips) (v27 : IVec S16 32) (v403 : IVec S16 32) (k0_hw584 : k0_chk584 k0_t1 k0_t3 v27 v403), ∀ a x, ((![v27, v403] : Fin 2 → IVec S16 32) a x).toNat < S256x257.size a := fun k0_t1 k0_t3 v27 v403 k0_hw584 => k0_hw584

def k0_chk585 (k0_t1 : Fin k0_t1_loop.trips) (k0_t3 : Fin (k0_t3_loop k0_t1).trips) (v370 : IVec S16 32) (v404 : IVec S16 32) : Prop :=
  (∀ a x, ((![v404, v370] : Fin 2 → IVec S16 32) a x).toNat < S16x256.size a)
theorem k0_idx585_inb : ∀ (k0_t1 : Fin k0_t1_loop.trips) (k0_t3 : Fin (k0_t3_loop k0_t1).trips) (v370 : IVec S16 32) (v404 : IVec S16 32) (k0_hw585 : k0_chk585 k0_t1 k0_t3 v370 v404), ∀ a x, ((![v404, v370] : Fin 2 → IVec S16 32) a x).toNat < S16x256.size a := fun k0_t1 k0_t3 v370 v404 k0_hw585 => k0_hw585

def k0_chk586 (k0_t1 : Fin k0_t1_loop.trips) (k0_t3 : Fin (k0_t3_loop k0_t1).trips) (v27 : IVec S16 32) (v406 : IVec S16 32) : Prop :=
  (∀ a x, ((![v27, v406] : Fin 2 → IVec S16 32) a x).toNat < S256x257.size a)
theorem k0_idx586_inb : ∀ (k0_t1 : Fin k0_t1_loop.trips) (k0_t3 : Fin (k0_t3_loop k0_t1).trips) (v27 : IVec S16 32) (v406 : IVec S16 32) (k0_hw586 : k0_chk586 k0_t1 k0_t3 v27 v406), ∀ a x, ((![v27, v406] : Fin 2 → IVec S16 32) a x).toNat < S256x257.size a := fun k0_t1 k0_t3 v27 v406 k0_hw586 => k0_hw586

def k0_chk587 (k0_t1 : Fin k0_t1_loop.trips) (k0_t3 : Fin (k0_t3_loop k0_t1).trips) (v370 : IVec S16 32) (v407 : IVec S16 32) : Prop :=
  (∀ a x, ((![v407, v370] : Fin 2 → IVec S16 32) a x).toNat < S16x256.size a)
theorem k0_idx587_inb : ∀ (k0_t1 : Fin k0_t1_loop.trips) (k0_t3 : Fin (k0_t3_loop k0_t1).trips) (v370 : IVec S16 32) (v407 : IVec S16 32) (k0_hw587 : k0_chk587 k0_t1 k0_t3 v370 v407), ∀ a x, ((![v407, v370] : Fin 2 → IVec S16 32) a x).toNat < S16x256.size a := fun k0_t1 k0_t3 v370 v407 k0_hw587 => k0_hw587

def k0_chk588 (k0_t1 : Fin k0_t1_loop.trips) (k0_t3 : Fin (k0_t3_loop k0_t1).trips) (v27 : IVec S16 32) (v409 : IVec S16 32) : Prop :=
  (∀ a x, ((![v27, v409] : Fin 2 → IVec S16 32) a x).toNat < S256x257.size a)
theorem k0_idx588_inb : ∀ (k0_t1 : Fin k0_t1_loop.trips) (k0_t3 : Fin (k0_t3_loop k0_t1).trips) (v27 : IVec S16 32) (v409 : IVec S16 32) (k0_hw588 : k0_chk588 k0_t1 k0_t3 v27 v409), ∀ a x, ((![v27, v409] : Fin 2 → IVec S16 32) a x).toNat < S256x257.size a := fun k0_t1 k0_t3 v27 v409 k0_hw588 => k0_hw588

def k0_chk589 (k0_t1 : Fin k0_t1_loop.trips) (k0_t3 : Fin (k0_t3_loop k0_t1).trips) (v370 : IVec S16 32) (v410 : IVec S16 32) : Prop :=
  (∀ a x, ((![v410, v370] : Fin 2 → IVec S16 32) a x).toNat < S16x256.size a)
theorem k0_idx589_inb : ∀ (k0_t1 : Fin k0_t1_loop.trips) (k0_t3 : Fin (k0_t3_loop k0_t1).trips) (v370 : IVec S16 32) (v410 : IVec S16 32) (k0_hw589 : k0_chk589 k0_t1 k0_t3 v370 v410), ∀ a x, ((![v410, v370] : Fin 2 → IVec S16 32) a x).toNat < S16x256.size a := fun k0_t1 k0_t3 v370 v410 k0_hw589 => k0_hw589

def k0_chk590 (k0_t1 : Fin k0_t1_loop.trips) (k0_t3 : Fin (k0_t3_loop k0_t1).trips) (v27 : IVec S16 32) (v412 : IVec S16 32) : Prop :=
  (∀ a x, ((![v27, v412] : Fin 2 → IVec S16 32) a x).toNat < S256x257.size a)
theorem k0_idx590_inb : ∀ (k0_t1 : Fin k0_t1_loop.trips) (k0_t3 : Fin (k0_t3_loop k0_t1).trips) (v27 : IVec S16 32) (v412 : IVec S16 32) (k0_hw590 : k0_chk590 k0_t1 k0_t3 v27 v412), ∀ a x, ((![v27, v412] : Fin 2 → IVec S16 32) a x).toNat < S256x257.size a := fun k0_t1 k0_t3 v27 v412 k0_hw590 => k0_hw590

def k0_chk591 (k0_t1 : Fin k0_t1_loop.trips) (k0_t3 : Fin (k0_t3_loop k0_t1).trips) (v370 : IVec S16 32) (v413 : IVec S16 32) : Prop :=
  (∀ a x, ((![v413, v370] : Fin 2 → IVec S16 32) a x).toNat < S16x256.size a)
theorem k0_idx591_inb : ∀ (k0_t1 : Fin k0_t1_loop.trips) (k0_t3 : Fin (k0_t3_loop k0_t1).trips) (v370 : IVec S16 32) (v413 : IVec S16 32) (k0_hw591 : k0_chk591 k0_t1 k0_t3 v370 v413), ∀ a x, ((![v413, v370] : Fin 2 → IVec S16 32) a x).toNat < S16x256.size a := fun k0_t1 k0_t3 v370 v413 k0_hw591 => k0_hw591

def k0_chk592 (k0_t1 : Fin k0_t1_loop.trips) (k0_t3 : Fin (k0_t3_loop k0_t1).trips) (v27 : IVec S16 32) (v415 : IVec S16 32) : Prop :=
  (∀ a x, ((![v27, v415] : Fin 2 → IVec S16 32) a x).toNat < S256x257.size a)
theorem k0_idx592_inb : ∀ (k0_t1 : Fin k0_t1_loop.trips) (k0_t3 : Fin (k0_t3_loop k0_t1).trips) (v27 : IVec S16 32) (v415 : IVec S16 32) (k0_hw592 : k0_chk592 k0_t1 k0_t3 v27 v415), ∀ a x, ((![v27, v415] : Fin 2 → IVec S16 32) a x).toNat < S256x257.size a := fun k0_t1 k0_t3 v27 v415 k0_hw592 => k0_hw592

def k0_chk593 (k0_t1 : Fin k0_t1_loop.trips) (k0_t3 : Fin (k0_t3_loop k0_t1).trips) (v370 : IVec S16 32) (v416 : IVec S16 32) : Prop :=
  (∀ a x, ((![v416, v370] : Fin 2 → IVec S16 32) a x).toNat < S16x256.size a)
theorem k0_idx593_inb : ∀ (k0_t1 : Fin k0_t1_loop.trips) (k0_t3 : Fin (k0_t3_loop k0_t1).trips) (v370 : IVec S16 32) (v416 : IVec S16 32) (k0_hw593 : k0_chk593 k0_t1 k0_t3 v370 v416), ∀ a x, ((![v416, v370] : Fin 2 → IVec S16 32) a x).toNat < S16x256.size a := fun k0_t1 k0_t3 v370 v416 k0_hw593 => k0_hw593

def k0_chk594 (k0_t1 : Fin k0_t1_loop.trips) (k0_t3 : Fin (k0_t3_loop k0_t1).trips) (v27 : IVec S16 32) (v418 : IVec S16 32) : Prop :=
  (∀ a x, ((![v27, v418] : Fin 2 → IVec S16 32) a x).toNat < S256x257.size a)
theorem k0_idx594_inb : ∀ (k0_t1 : Fin k0_t1_loop.trips) (k0_t3 : Fin (k0_t3_loop k0_t1).trips) (v27 : IVec S16 32) (v418 : IVec S16 32) (k0_hw594 : k0_chk594 k0_t1 k0_t3 v27 v418), ∀ a x, ((![v27, v418] : Fin 2 → IVec S16 32) a x).toNat < S256x257.size a := fun k0_t1 k0_t3 v27 v418 k0_hw594 => k0_hw594

def k0_chk595 (k0_t1 : Fin k0_t1_loop.trips) (k0_t3 : Fin (k0_t3_loop k0_t1).trips) (v422 : IVec S16 32) (v424 : IVec S16 32) : Prop :=
  (∀ a x, ((![v422, v424] : Fin 2 → IVec S16 32) a x).toNat < S44x128.size a)
theorem k0_idx595_inb : ∀ (k0_t1 : Fin k0_t1_loop.trips) (k0_t3 : Fin (k0_t3_loop k0_t1).trips) (v422 : IVec S16 32) (v424 : IVec S16 32) (k0_hw595 : k0_chk595 k0_t1 k0_t3 v422 v424), ∀ a x, ((![v422, v424] : Fin 2 → IVec S16 32) a x).toNat < S44x128.size a := fun k0_t1 k0_t3 v422 v424 k0_hw595 => k0_hw595

def k0_chk596 (k0_t1 : Fin k0_t1_loop.trips) (k0_t3 : Fin (k0_t3_loop k0_t1).trips) (v425 : IVec S16 32) (v426 : IVec S16 32) : Prop :=
  (∀ a x, ((![v426, v425] : Fin 2 → IVec S16 32) a x).toNat < S16x256.size a)
theorem k0_idx596_inb : ∀ (k0_t1 : Fin k0_t1_loop.trips) (k0_t3 : Fin (k0_t3_loop k0_t1).trips) (v425 : IVec S16 32) (v426 : IVec S16 32) (k0_hw596 : k0_chk596 k0_t1 k0_t3 v425 v426), ∀ a x, ((![v426, v425] : Fin 2 → IVec S16 32) a x).toNat < S16x256.size a := fun k0_t1 k0_t3 v425 v426 k0_hw596 => k0_hw596

def k0_chk597 (k0_t1 : Fin k0_t1_loop.trips) (k0_t3 : Fin (k0_t3_loop k0_t1).trips) (v27 : IVec S16 32) (v428 : IVec S16 32) : Prop :=
  (∀ a x, ((![v27, v428] : Fin 2 → IVec S16 32) a x).toNat < S256x257.size a)
theorem k0_idx597_inb : ∀ (k0_t1 : Fin k0_t1_loop.trips) (k0_t3 : Fin (k0_t3_loop k0_t1).trips) (v27 : IVec S16 32) (v428 : IVec S16 32) (k0_hw597 : k0_chk597 k0_t1 k0_t3 v27 v428), ∀ a x, ((![v27, v428] : Fin 2 → IVec S16 32) a x).toNat < S256x257.size a := fun k0_t1 k0_t3 v27 v428 k0_hw597 => k0_hw597

def k0_chk598 (k0_t1 : Fin k0_t1_loop.trips) (k0_t3 : Fin (k0_t3_loop k0_t1).trips) (v425 : IVec S16 32) (v429 : IVec S16 32) : Prop :=
  (∀ a x, ((![v429, v425] : Fin 2 → IVec S16 32) a x).toNat < S16x256.size a)
theorem k0_idx598_inb : ∀ (k0_t1 : Fin k0_t1_loop.trips) (k0_t3 : Fin (k0_t3_loop k0_t1).trips) (v425 : IVec S16 32) (v429 : IVec S16 32) (k0_hw598 : k0_chk598 k0_t1 k0_t3 v425 v429), ∀ a x, ((![v429, v425] : Fin 2 → IVec S16 32) a x).toNat < S16x256.size a := fun k0_t1 k0_t3 v425 v429 k0_hw598 => k0_hw598

def k0_chk599 (k0_t1 : Fin k0_t1_loop.trips) (k0_t3 : Fin (k0_t3_loop k0_t1).trips) (v27 : IVec S16 32) (v431 : IVec S16 32) : Prop :=
  (∀ a x, ((![v27, v431] : Fin 2 → IVec S16 32) a x).toNat < S256x257.size a)
theorem k0_idx599_inb : ∀ (k0_t1 : Fin k0_t1_loop.trips) (k0_t3 : Fin (k0_t3_loop k0_t1).trips) (v27 : IVec S16 32) (v431 : IVec S16 32) (k0_hw599 : k0_chk599 k0_t1 k0_t3 v27 v431), ∀ a x, ((![v27, v431] : Fin 2 → IVec S16 32) a x).toNat < S256x257.size a := fun k0_t1 k0_t3 v27 v431 k0_hw599 => k0_hw599

def k0_chk600 (k0_t1 : Fin k0_t1_loop.trips) (k0_t3 : Fin (k0_t3_loop k0_t1).trips) (v425 : IVec S16 32) (v432 : IVec S16 32) : Prop :=
  (∀ a x, ((![v432, v425] : Fin 2 → IVec S16 32) a x).toNat < S16x256.size a)
theorem k0_idx600_inb : ∀ (k0_t1 : Fin k0_t1_loop.trips) (k0_t3 : Fin (k0_t3_loop k0_t1).trips) (v425 : IVec S16 32) (v432 : IVec S16 32) (k0_hw600 : k0_chk600 k0_t1 k0_t3 v425 v432), ∀ a x, ((![v432, v425] : Fin 2 → IVec S16 32) a x).toNat < S16x256.size a := fun k0_t1 k0_t3 v425 v432 k0_hw600 => k0_hw600

def k0_chk601 (k0_t1 : Fin k0_t1_loop.trips) (k0_t3 : Fin (k0_t3_loop k0_t1).trips) (v27 : IVec S16 32) (v434 : IVec S16 32) : Prop :=
  (∀ a x, ((![v27, v434] : Fin 2 → IVec S16 32) a x).toNat < S256x257.size a)
theorem k0_idx601_inb : ∀ (k0_t1 : Fin k0_t1_loop.trips) (k0_t3 : Fin (k0_t3_loop k0_t1).trips) (v27 : IVec S16 32) (v434 : IVec S16 32) (k0_hw601 : k0_chk601 k0_t1 k0_t3 v27 v434), ∀ a x, ((![v27, v434] : Fin 2 → IVec S16 32) a x).toNat < S256x257.size a := fun k0_t1 k0_t3 v27 v434 k0_hw601 => k0_hw601

def k0_chk602 (k0_t1 : Fin k0_t1_loop.trips) (k0_t3 : Fin (k0_t3_loop k0_t1).trips) (v425 : IVec S16 32) (v435 : IVec S16 32) : Prop :=
  (∀ a x, ((![v435, v425] : Fin 2 → IVec S16 32) a x).toNat < S16x256.size a)
theorem k0_idx602_inb : ∀ (k0_t1 : Fin k0_t1_loop.trips) (k0_t3 : Fin (k0_t3_loop k0_t1).trips) (v425 : IVec S16 32) (v435 : IVec S16 32) (k0_hw602 : k0_chk602 k0_t1 k0_t3 v425 v435), ∀ a x, ((![v435, v425] : Fin 2 → IVec S16 32) a x).toNat < S16x256.size a := fun k0_t1 k0_t3 v425 v435 k0_hw602 => k0_hw602

def k0_chk603 (k0_t1 : Fin k0_t1_loop.trips) (k0_t3 : Fin (k0_t3_loop k0_t1).trips) (v27 : IVec S16 32) (v437 : IVec S16 32) : Prop :=
  (∀ a x, ((![v27, v437] : Fin 2 → IVec S16 32) a x).toNat < S256x257.size a)
theorem k0_idx603_inb : ∀ (k0_t1 : Fin k0_t1_loop.trips) (k0_t3 : Fin (k0_t3_loop k0_t1).trips) (v27 : IVec S16 32) (v437 : IVec S16 32) (k0_hw603 : k0_chk603 k0_t1 k0_t3 v27 v437), ∀ a x, ((![v27, v437] : Fin 2 → IVec S16 32) a x).toNat < S256x257.size a := fun k0_t1 k0_t3 v27 v437 k0_hw603 => k0_hw603

def k0_chk604 (k0_t1 : Fin k0_t1_loop.trips) (k0_t3 : Fin (k0_t3_loop k0_t1).trips) (v425 : IVec S16 32) (v438 : IVec S16 32) : Prop :=
  (∀ a x, ((![v438, v425] : Fin 2 → IVec S16 32) a x).toNat < S16x256.size a)
theorem k0_idx604_inb : ∀ (k0_t1 : Fin k0_t1_loop.trips) (k0_t3 : Fin (k0_t3_loop k0_t1).trips) (v425 : IVec S16 32) (v438 : IVec S16 32) (k0_hw604 : k0_chk604 k0_t1 k0_t3 v425 v438), ∀ a x, ((![v438, v425] : Fin 2 → IVec S16 32) a x).toNat < S16x256.size a := fun k0_t1 k0_t3 v425 v438 k0_hw604 => k0_hw604

def k0_chk605 (k0_t1 : Fin k0_t1_loop.trips) (k0_t3 : Fin (k0_t3_loop k0_t1).trips) (v27 : IVec S16 32) (v440 : IVec S16 32) : Prop :=
  (∀ a x, ((![v27, v440] : Fin 2 → IVec S16 32) a x).toNat < S256x257.size a)
theorem k0_idx605_inb : ∀ (k0_t1 : Fin k0_t1_loop.trips) (k0_t3 : Fin (k0_t3_loop k0_t1).trips) (v27 : IVec S16 32) (v440 : IVec S16 32) (k0_hw605 : k0_chk605 k0_t1 k0_t3 v27 v440), ∀ a x, ((![v27, v440] : Fin 2 → IVec S16 32) a x).toNat < S256x257.size a := fun k0_t1 k0_t3 v27 v440 k0_hw605 => k0_hw605

def k0_chk606 (k0_t1 : Fin k0_t1_loop.trips) (k0_t3 : Fin (k0_t3_loop k0_t1).trips) (v425 : IVec S16 32) (v441 : IVec S16 32) : Prop :=
  (∀ a x, ((![v441, v425] : Fin 2 → IVec S16 32) a x).toNat < S16x256.size a)
theorem k0_idx606_inb : ∀ (k0_t1 : Fin k0_t1_loop.trips) (k0_t3 : Fin (k0_t3_loop k0_t1).trips) (v425 : IVec S16 32) (v441 : IVec S16 32) (k0_hw606 : k0_chk606 k0_t1 k0_t3 v425 v441), ∀ a x, ((![v441, v425] : Fin 2 → IVec S16 32) a x).toNat < S16x256.size a := fun k0_t1 k0_t3 v425 v441 k0_hw606 => k0_hw606

def k0_chk607 (k0_t1 : Fin k0_t1_loop.trips) (k0_t3 : Fin (k0_t3_loop k0_t1).trips) (v27 : IVec S16 32) (v443 : IVec S16 32) : Prop :=
  (∀ a x, ((![v27, v443] : Fin 2 → IVec S16 32) a x).toNat < S256x257.size a)
theorem k0_idx607_inb : ∀ (k0_t1 : Fin k0_t1_loop.trips) (k0_t3 : Fin (k0_t3_loop k0_t1).trips) (v27 : IVec S16 32) (v443 : IVec S16 32) (k0_hw607 : k0_chk607 k0_t1 k0_t3 v27 v443), ∀ a x, ((![v27, v443] : Fin 2 → IVec S16 32) a x).toNat < S256x257.size a := fun k0_t1 k0_t3 v27 v443 k0_hw607 => k0_hw607

def k0_chk608 (k0_t1 : Fin k0_t1_loop.trips) (k0_t3 : Fin (k0_t3_loop k0_t1).trips) (v425 : IVec S16 32) (v444 : IVec S16 32) : Prop :=
  (∀ a x, ((![v444, v425] : Fin 2 → IVec S16 32) a x).toNat < S16x256.size a)
theorem k0_idx608_inb : ∀ (k0_t1 : Fin k0_t1_loop.trips) (k0_t3 : Fin (k0_t3_loop k0_t1).trips) (v425 : IVec S16 32) (v444 : IVec S16 32) (k0_hw608 : k0_chk608 k0_t1 k0_t3 v425 v444), ∀ a x, ((![v444, v425] : Fin 2 → IVec S16 32) a x).toNat < S16x256.size a := fun k0_t1 k0_t3 v425 v444 k0_hw608 => k0_hw608

def k0_chk609 (k0_t1 : Fin k0_t1_loop.trips) (k0_t3 : Fin (k0_t3_loop k0_t1).trips) (v27 : IVec S16 32) (v446 : IVec S16 32) : Prop :=
  (∀ a x, ((![v27, v446] : Fin 2 → IVec S16 32) a x).toNat < S256x257.size a)
theorem k0_idx609_inb : ∀ (k0_t1 : Fin k0_t1_loop.trips) (k0_t3 : Fin (k0_t3_loop k0_t1).trips) (v27 : IVec S16 32) (v446 : IVec S16 32) (k0_hw609 : k0_chk609 k0_t1 k0_t3 v27 v446), ∀ a x, ((![v27, v446] : Fin 2 → IVec S16 32) a x).toNat < S256x257.size a := fun k0_t1 k0_t3 v27 v446 k0_hw609 => k0_hw609

def k0_chk610 (k0_t1 : Fin k0_t1_loop.trips) (k0_t3 : Fin (k0_t3_loop k0_t1).trips) (v425 : IVec S16 32) (v447 : IVec S16 32) : Prop :=
  (∀ a x, ((![v447, v425] : Fin 2 → IVec S16 32) a x).toNat < S16x256.size a)
theorem k0_idx610_inb : ∀ (k0_t1 : Fin k0_t1_loop.trips) (k0_t3 : Fin (k0_t3_loop k0_t1).trips) (v425 : IVec S16 32) (v447 : IVec S16 32) (k0_hw610 : k0_chk610 k0_t1 k0_t3 v425 v447), ∀ a x, ((![v447, v425] : Fin 2 → IVec S16 32) a x).toNat < S16x256.size a := fun k0_t1 k0_t3 v425 v447 k0_hw610 => k0_hw610

def k0_chk611 (k0_t1 : Fin k0_t1_loop.trips) (k0_t3 : Fin (k0_t3_loop k0_t1).trips) (v27 : IVec S16 32) (v449 : IVec S16 32) : Prop :=
  (∀ a x, ((![v27, v449] : Fin 2 → IVec S16 32) a x).toNat < S256x257.size a)
theorem k0_idx611_inb : ∀ (k0_t1 : Fin k0_t1_loop.trips) (k0_t3 : Fin (k0_t3_loop k0_t1).trips) (v27 : IVec S16 32) (v449 : IVec S16 32) (k0_hw611 : k0_chk611 k0_t1 k0_t3 v27 v449), ∀ a x, ((![v27, v449] : Fin 2 → IVec S16 32) a x).toNat < S256x257.size a := fun k0_t1 k0_t3 v27 v449 k0_hw611 => k0_hw611

def k0_chk612 (k0_t1 : Fin k0_t1_loop.trips) (k0_t3 : Fin (k0_t3_loop k0_t1).trips) (v425 : IVec S16 32) (v450 : IVec S16 32) : Prop :=
  (∀ a x, ((![v450, v425] : Fin 2 → IVec S16 32) a x).toNat < S16x256.size a)
theorem k0_idx612_inb : ∀ (k0_t1 : Fin k0_t1_loop.trips) (k0_t3 : Fin (k0_t3_loop k0_t1).trips) (v425 : IVec S16 32) (v450 : IVec S16 32) (k0_hw612 : k0_chk612 k0_t1 k0_t3 v425 v450), ∀ a x, ((![v450, v425] : Fin 2 → IVec S16 32) a x).toNat < S16x256.size a := fun k0_t1 k0_t3 v425 v450 k0_hw612 => k0_hw612

def k0_chk613 (k0_t1 : Fin k0_t1_loop.trips) (k0_t3 : Fin (k0_t3_loop k0_t1).trips) (v27 : IVec S16 32) (v452 : IVec S16 32) : Prop :=
  (∀ a x, ((![v27, v452] : Fin 2 → IVec S16 32) a x).toNat < S256x257.size a)
theorem k0_idx613_inb : ∀ (k0_t1 : Fin k0_t1_loop.trips) (k0_t3 : Fin (k0_t3_loop k0_t1).trips) (v27 : IVec S16 32) (v452 : IVec S16 32) (k0_hw613 : k0_chk613 k0_t1 k0_t3 v27 v452), ∀ a x, ((![v27, v452] : Fin 2 → IVec S16 32) a x).toNat < S256x257.size a := fun k0_t1 k0_t3 v27 v452 k0_hw613 => k0_hw613

def k0_chk614 (k0_t1 : Fin k0_t1_loop.trips) (k0_t3 : Fin (k0_t3_loop k0_t1).trips) (v425 : IVec S16 32) (v453 : IVec S16 32) : Prop :=
  (∀ a x, ((![v453, v425] : Fin 2 → IVec S16 32) a x).toNat < S16x256.size a)
theorem k0_idx614_inb : ∀ (k0_t1 : Fin k0_t1_loop.trips) (k0_t3 : Fin (k0_t3_loop k0_t1).trips) (v425 : IVec S16 32) (v453 : IVec S16 32) (k0_hw614 : k0_chk614 k0_t1 k0_t3 v425 v453), ∀ a x, ((![v453, v425] : Fin 2 → IVec S16 32) a x).toNat < S16x256.size a := fun k0_t1 k0_t3 v425 v453 k0_hw614 => k0_hw614

def k0_chk615 (k0_t1 : Fin k0_t1_loop.trips) (k0_t3 : Fin (k0_t3_loop k0_t1).trips) (v27 : IVec S16 32) (v455 : IVec S16 32) : Prop :=
  (∀ a x, ((![v27, v455] : Fin 2 → IVec S16 32) a x).toNat < S256x257.size a)
theorem k0_idx615_inb : ∀ (k0_t1 : Fin k0_t1_loop.trips) (k0_t3 : Fin (k0_t3_loop k0_t1).trips) (v27 : IVec S16 32) (v455 : IVec S16 32) (k0_hw615 : k0_chk615 k0_t1 k0_t3 v27 v455), ∀ a x, ((![v27, v455] : Fin 2 → IVec S16 32) a x).toNat < S256x257.size a := fun k0_t1 k0_t3 v27 v455 k0_hw615 => k0_hw615

def k0_chk616 (k0_t1 : Fin k0_t1_loop.trips) (k0_t3 : Fin (k0_t3_loop k0_t1).trips) (v425 : IVec S16 32) (v456 : IVec S16 32) : Prop :=
  (∀ a x, ((![v456, v425] : Fin 2 → IVec S16 32) a x).toNat < S16x256.size a)
theorem k0_idx616_inb : ∀ (k0_t1 : Fin k0_t1_loop.trips) (k0_t3 : Fin (k0_t3_loop k0_t1).trips) (v425 : IVec S16 32) (v456 : IVec S16 32) (k0_hw616 : k0_chk616 k0_t1 k0_t3 v425 v456), ∀ a x, ((![v456, v425] : Fin 2 → IVec S16 32) a x).toNat < S16x256.size a := fun k0_t1 k0_t3 v425 v456 k0_hw616 => k0_hw616

def k0_chk617 (k0_t1 : Fin k0_t1_loop.trips) (k0_t3 : Fin (k0_t3_loop k0_t1).trips) (v27 : IVec S16 32) (v458 : IVec S16 32) : Prop :=
  (∀ a x, ((![v27, v458] : Fin 2 → IVec S16 32) a x).toNat < S256x257.size a)
theorem k0_idx617_inb : ∀ (k0_t1 : Fin k0_t1_loop.trips) (k0_t3 : Fin (k0_t3_loop k0_t1).trips) (v27 : IVec S16 32) (v458 : IVec S16 32) (k0_hw617 : k0_chk617 k0_t1 k0_t3 v27 v458), ∀ a x, ((![v27, v458] : Fin 2 → IVec S16 32) a x).toNat < S256x257.size a := fun k0_t1 k0_t3 v27 v458 k0_hw617 => k0_hw617

def k0_chk618 (k0_t1 : Fin k0_t1_loop.trips) (k0_t3 : Fin (k0_t3_loop k0_t1).trips) (v425 : IVec S16 32) (v459 : IVec S16 32) : Prop :=
  (∀ a x, ((![v459, v425] : Fin 2 → IVec S16 32) a x).toNat < S16x256.size a)
theorem k0_idx618_inb : ∀ (k0_t1 : Fin k0_t1_loop.trips) (k0_t3 : Fin (k0_t3_loop k0_t1).trips) (v425 : IVec S16 32) (v459 : IVec S16 32) (k0_hw618 : k0_chk618 k0_t1 k0_t3 v425 v459), ∀ a x, ((![v459, v425] : Fin 2 → IVec S16 32) a x).toNat < S16x256.size a := fun k0_t1 k0_t3 v425 v459 k0_hw618 => k0_hw618

def k0_chk619 (k0_t1 : Fin k0_t1_loop.trips) (k0_t3 : Fin (k0_t3_loop k0_t1).trips) (v27 : IVec S16 32) (v461 : IVec S16 32) : Prop :=
  (∀ a x, ((![v27, v461] : Fin 2 → IVec S16 32) a x).toNat < S256x257.size a)
theorem k0_idx619_inb : ∀ (k0_t1 : Fin k0_t1_loop.trips) (k0_t3 : Fin (k0_t3_loop k0_t1).trips) (v27 : IVec S16 32) (v461 : IVec S16 32) (k0_hw619 : k0_chk619 k0_t1 k0_t3 v27 v461), ∀ a x, ((![v27, v461] : Fin 2 → IVec S16 32) a x).toNat < S256x257.size a := fun k0_t1 k0_t3 v27 v461 k0_hw619 => k0_hw619

def k0_chk620 (k0_t1 : Fin k0_t1_loop.trips) (k0_t3 : Fin (k0_t3_loop k0_t1).trips) (v425 : IVec S16 32) (v462 : IVec S16 32) : Prop :=
  (∀ a x, ((![v462, v425] : Fin 2 → IVec S16 32) a x).toNat < S16x256.size a)
theorem k0_idx620_inb : ∀ (k0_t1 : Fin k0_t1_loop.trips) (k0_t3 : Fin (k0_t3_loop k0_t1).trips) (v425 : IVec S16 32) (v462 : IVec S16 32) (k0_hw620 : k0_chk620 k0_t1 k0_t3 v425 v462), ∀ a x, ((![v462, v425] : Fin 2 → IVec S16 32) a x).toNat < S16x256.size a := fun k0_t1 k0_t3 v425 v462 k0_hw620 => k0_hw620

def k0_chk621 (k0_t1 : Fin k0_t1_loop.trips) (k0_t3 : Fin (k0_t3_loop k0_t1).trips) (v27 : IVec S16 32) (v464 : IVec S16 32) : Prop :=
  (∀ a x, ((![v27, v464] : Fin 2 → IVec S16 32) a x).toNat < S256x257.size a)
theorem k0_idx621_inb : ∀ (k0_t1 : Fin k0_t1_loop.trips) (k0_t3 : Fin (k0_t3_loop k0_t1).trips) (v27 : IVec S16 32) (v464 : IVec S16 32) (k0_hw621 : k0_chk621 k0_t1 k0_t3 v27 v464), ∀ a x, ((![v27, v464] : Fin 2 → IVec S16 32) a x).toNat < S256x257.size a := fun k0_t1 k0_t3 v27 v464 k0_hw621 => k0_hw621

def k0_chk622 (k0_t1 : Fin k0_t1_loop.trips) (k0_t3 : Fin (k0_t3_loop k0_t1).trips) (v425 : IVec S16 32) (v465 : IVec S16 32) : Prop :=
  (∀ a x, ((![v465, v425] : Fin 2 → IVec S16 32) a x).toNat < S16x256.size a)
theorem k0_idx622_inb : ∀ (k0_t1 : Fin k0_t1_loop.trips) (k0_t3 : Fin (k0_t3_loop k0_t1).trips) (v425 : IVec S16 32) (v465 : IVec S16 32) (k0_hw622 : k0_chk622 k0_t1 k0_t3 v425 v465), ∀ a x, ((![v465, v425] : Fin 2 → IVec S16 32) a x).toNat < S16x256.size a := fun k0_t1 k0_t3 v425 v465 k0_hw622 => k0_hw622

def k0_chk623 (k0_t1 : Fin k0_t1_loop.trips) (k0_t3 : Fin (k0_t3_loop k0_t1).trips) (v27 : IVec S16 32) (v467 : IVec S16 32) : Prop :=
  (∀ a x, ((![v27, v467] : Fin 2 → IVec S16 32) a x).toNat < S256x257.size a)
theorem k0_idx623_inb : ∀ (k0_t1 : Fin k0_t1_loop.trips) (k0_t3 : Fin (k0_t3_loop k0_t1).trips) (v27 : IVec S16 32) (v467 : IVec S16 32) (k0_hw623 : k0_chk623 k0_t1 k0_t3 v27 v467), ∀ a x, ((![v27, v467] : Fin 2 → IVec S16 32) a x).toNat < S256x257.size a := fun k0_t1 k0_t3 v27 v467 k0_hw623 => k0_hw623

def k0_chk624 (k0_t1 : Fin k0_t1_loop.trips) (k0_t3 : Fin (k0_t3_loop k0_t1).trips) (v425 : IVec S16 32) (v468 : IVec S16 32) : Prop :=
  (∀ a x, ((![v468, v425] : Fin 2 → IVec S16 32) a x).toNat < S16x256.size a)
theorem k0_idx624_inb : ∀ (k0_t1 : Fin k0_t1_loop.trips) (k0_t3 : Fin (k0_t3_loop k0_t1).trips) (v425 : IVec S16 32) (v468 : IVec S16 32) (k0_hw624 : k0_chk624 k0_t1 k0_t3 v425 v468), ∀ a x, ((![v468, v425] : Fin 2 → IVec S16 32) a x).toNat < S16x256.size a := fun k0_t1 k0_t3 v425 v468 k0_hw624 => k0_hw624

def k0_chk625 (k0_t1 : Fin k0_t1_loop.trips) (k0_t3 : Fin (k0_t3_loop k0_t1).trips) (v27 : IVec S16 32) (v470 : IVec S16 32) : Prop :=
  (∀ a x, ((![v27, v470] : Fin 2 → IVec S16 32) a x).toNat < S256x257.size a)
theorem k0_idx625_inb : ∀ (k0_t1 : Fin k0_t1_loop.trips) (k0_t3 : Fin (k0_t3_loop k0_t1).trips) (v27 : IVec S16 32) (v470 : IVec S16 32) (k0_hw625 : k0_chk625 k0_t1 k0_t3 v27 v470), ∀ a x, ((![v27, v470] : Fin 2 → IVec S16 32) a x).toNat < S256x257.size a := fun k0_t1 k0_t3 v27 v470 k0_hw625 => k0_hw625

def k0_chk626 (k0_t1 : Fin k0_t1_loop.trips) (k0_t3 : Fin (k0_t3_loop k0_t1).trips) (v425 : IVec S16 32) (v471 : IVec S16 32) : Prop :=
  (∀ a x, ((![v471, v425] : Fin 2 → IVec S16 32) a x).toNat < S16x256.size a)
theorem k0_idx626_inb : ∀ (k0_t1 : Fin k0_t1_loop.trips) (k0_t3 : Fin (k0_t3_loop k0_t1).trips) (v425 : IVec S16 32) (v471 : IVec S16 32) (k0_hw626 : k0_chk626 k0_t1 k0_t3 v425 v471), ∀ a x, ((![v471, v425] : Fin 2 → IVec S16 32) a x).toNat < S16x256.size a := fun k0_t1 k0_t3 v425 v471 k0_hw626 => k0_hw626

def k0_chk627 (k0_t1 : Fin k0_t1_loop.trips) (k0_t3 : Fin (k0_t3_loop k0_t1).trips) (v27 : IVec S16 32) (v473 : IVec S16 32) : Prop :=
  (∀ a x, ((![v27, v473] : Fin 2 → IVec S16 32) a x).toNat < S256x257.size a)
theorem k0_idx627_inb : ∀ (k0_t1 : Fin k0_t1_loop.trips) (k0_t3 : Fin (k0_t3_loop k0_t1).trips) (v27 : IVec S16 32) (v473 : IVec S16 32) (k0_hw627 : k0_chk627 k0_t1 k0_t3 v27 v473), ∀ a x, ((![v27, v473] : Fin 2 → IVec S16 32) a x).toNat < S256x257.size a := fun k0_t1 k0_t3 v27 v473 k0_hw627 => k0_hw627

def k0_chk628 (k0_t1 : Fin k0_t1_loop.trips) (k0_t3 : Fin (k0_t3_loop k0_t1).trips) (v477 : IVec S16 32) (v479 : IVec S16 32) : Prop :=
  (∀ a x, ((![v477, v479] : Fin 2 → IVec S16 32) a x).toNat < S44x128.size a)
theorem k0_idx628_inb : ∀ (k0_t1 : Fin k0_t1_loop.trips) (k0_t3 : Fin (k0_t3_loop k0_t1).trips) (v477 : IVec S16 32) (v479 : IVec S16 32) (k0_hw628 : k0_chk628 k0_t1 k0_t3 v477 v479), ∀ a x, ((![v477, v479] : Fin 2 → IVec S16 32) a x).toNat < S44x128.size a := fun k0_t1 k0_t3 v477 v479 k0_hw628 => k0_hw628

def k0_chk629 (k0_t1 : Fin k0_t1_loop.trips) (k0_t3 : Fin (k0_t3_loop k0_t1).trips) (v480 : IVec S16 32) (v481 : IVec S16 32) : Prop :=
  (∀ a x, ((![v481, v480] : Fin 2 → IVec S16 32) a x).toNat < S16x256.size a)
theorem k0_idx629_inb : ∀ (k0_t1 : Fin k0_t1_loop.trips) (k0_t3 : Fin (k0_t3_loop k0_t1).trips) (v480 : IVec S16 32) (v481 : IVec S16 32) (k0_hw629 : k0_chk629 k0_t1 k0_t3 v480 v481), ∀ a x, ((![v481, v480] : Fin 2 → IVec S16 32) a x).toNat < S16x256.size a := fun k0_t1 k0_t3 v480 v481 k0_hw629 => k0_hw629

def k0_chk630 (k0_t1 : Fin k0_t1_loop.trips) (k0_t3 : Fin (k0_t3_loop k0_t1).trips) (v27 : IVec S16 32) (v483 : IVec S16 32) : Prop :=
  (∀ a x, ((![v27, v483] : Fin 2 → IVec S16 32) a x).toNat < S256x257.size a)
theorem k0_idx630_inb : ∀ (k0_t1 : Fin k0_t1_loop.trips) (k0_t3 : Fin (k0_t3_loop k0_t1).trips) (v27 : IVec S16 32) (v483 : IVec S16 32) (k0_hw630 : k0_chk630 k0_t1 k0_t3 v27 v483), ∀ a x, ((![v27, v483] : Fin 2 → IVec S16 32) a x).toNat < S256x257.size a := fun k0_t1 k0_t3 v27 v483 k0_hw630 => k0_hw630

def k0_chk631 (k0_t1 : Fin k0_t1_loop.trips) (k0_t3 : Fin (k0_t3_loop k0_t1).trips) (v480 : IVec S16 32) (v484 : IVec S16 32) : Prop :=
  (∀ a x, ((![v484, v480] : Fin 2 → IVec S16 32) a x).toNat < S16x256.size a)
theorem k0_idx631_inb : ∀ (k0_t1 : Fin k0_t1_loop.trips) (k0_t3 : Fin (k0_t3_loop k0_t1).trips) (v480 : IVec S16 32) (v484 : IVec S16 32) (k0_hw631 : k0_chk631 k0_t1 k0_t3 v480 v484), ∀ a x, ((![v484, v480] : Fin 2 → IVec S16 32) a x).toNat < S16x256.size a := fun k0_t1 k0_t3 v480 v484 k0_hw631 => k0_hw631

def k0_chk632 (k0_t1 : Fin k0_t1_loop.trips) (k0_t3 : Fin (k0_t3_loop k0_t1).trips) (v27 : IVec S16 32) (v486 : IVec S16 32) : Prop :=
  (∀ a x, ((![v27, v486] : Fin 2 → IVec S16 32) a x).toNat < S256x257.size a)
theorem k0_idx632_inb : ∀ (k0_t1 : Fin k0_t1_loop.trips) (k0_t3 : Fin (k0_t3_loop k0_t1).trips) (v27 : IVec S16 32) (v486 : IVec S16 32) (k0_hw632 : k0_chk632 k0_t1 k0_t3 v27 v486), ∀ a x, ((![v27, v486] : Fin 2 → IVec S16 32) a x).toNat < S256x257.size a := fun k0_t1 k0_t3 v27 v486 k0_hw632 => k0_hw632

def k0_chk633 (k0_t1 : Fin k0_t1_loop.trips) (k0_t3 : Fin (k0_t3_loop k0_t1).trips) (v480 : IVec S16 32) (v487 : IVec S16 32) : Prop :=
  (∀ a x, ((![v487, v480] : Fin 2 → IVec S16 32) a x).toNat < S16x256.size a)
theorem k0_idx633_inb : ∀ (k0_t1 : Fin k0_t1_loop.trips) (k0_t3 : Fin (k0_t3_loop k0_t1).trips) (v480 : IVec S16 32) (v487 : IVec S16 32) (k0_hw633 : k0_chk633 k0_t1 k0_t3 v480 v487), ∀ a x, ((![v487, v480] : Fin 2 → IVec S16 32) a x).toNat < S16x256.size a := fun k0_t1 k0_t3 v480 v487 k0_hw633 => k0_hw633

def k0_chk634 (k0_t1 : Fin k0_t1_loop.trips) (k0_t3 : Fin (k0_t3_loop k0_t1).trips) (v27 : IVec S16 32) (v489 : IVec S16 32) : Prop :=
  (∀ a x, ((![v27, v489] : Fin 2 → IVec S16 32) a x).toNat < S256x257.size a)
theorem k0_idx634_inb : ∀ (k0_t1 : Fin k0_t1_loop.trips) (k0_t3 : Fin (k0_t3_loop k0_t1).trips) (v27 : IVec S16 32) (v489 : IVec S16 32) (k0_hw634 : k0_chk634 k0_t1 k0_t3 v27 v489), ∀ a x, ((![v27, v489] : Fin 2 → IVec S16 32) a x).toNat < S256x257.size a := fun k0_t1 k0_t3 v27 v489 k0_hw634 => k0_hw634

def k0_chk635 (k0_t1 : Fin k0_t1_loop.trips) (k0_t3 : Fin (k0_t3_loop k0_t1).trips) (v480 : IVec S16 32) (v490 : IVec S16 32) : Prop :=
  (∀ a x, ((![v490, v480] : Fin 2 → IVec S16 32) a x).toNat < S16x256.size a)
theorem k0_idx635_inb : ∀ (k0_t1 : Fin k0_t1_loop.trips) (k0_t3 : Fin (k0_t3_loop k0_t1).trips) (v480 : IVec S16 32) (v490 : IVec S16 32) (k0_hw635 : k0_chk635 k0_t1 k0_t3 v480 v490), ∀ a x, ((![v490, v480] : Fin 2 → IVec S16 32) a x).toNat < S16x256.size a := fun k0_t1 k0_t3 v480 v490 k0_hw635 => k0_hw635

def k0_chk636 (k0_t1 : Fin k0_t1_loop.trips) (k0_t3 : Fin (k0_t3_loop k0_t1).trips) (v27 : IVec S16 32) (v492 : IVec S16 32) : Prop :=
  (∀ a x, ((![v27, v492] : Fin 2 → IVec S16 32) a x).toNat < S256x257.size a)
theorem k0_idx636_inb : ∀ (k0_t1 : Fin k0_t1_loop.trips) (k0_t3 : Fin (k0_t3_loop k0_t1).trips) (v27 : IVec S16 32) (v492 : IVec S16 32) (k0_hw636 : k0_chk636 k0_t1 k0_t3 v27 v492), ∀ a x, ((![v27, v492] : Fin 2 → IVec S16 32) a x).toNat < S256x257.size a := fun k0_t1 k0_t3 v27 v492 k0_hw636 => k0_hw636

def k0_chk637 (k0_t1 : Fin k0_t1_loop.trips) (k0_t3 : Fin (k0_t3_loop k0_t1).trips) (v480 : IVec S16 32) (v493 : IVec S16 32) : Prop :=
  (∀ a x, ((![v493, v480] : Fin 2 → IVec S16 32) a x).toNat < S16x256.size a)
theorem k0_idx637_inb : ∀ (k0_t1 : Fin k0_t1_loop.trips) (k0_t3 : Fin (k0_t3_loop k0_t1).trips) (v480 : IVec S16 32) (v493 : IVec S16 32) (k0_hw637 : k0_chk637 k0_t1 k0_t3 v480 v493), ∀ a x, ((![v493, v480] : Fin 2 → IVec S16 32) a x).toNat < S16x256.size a := fun k0_t1 k0_t3 v480 v493 k0_hw637 => k0_hw637

def k0_chk638 (k0_t1 : Fin k0_t1_loop.trips) (k0_t3 : Fin (k0_t3_loop k0_t1).trips) (v27 : IVec S16 32) (v495 : IVec S16 32) : Prop :=
  (∀ a x, ((![v27, v495] : Fin 2 → IVec S16 32) a x).toNat < S256x257.size a)
theorem k0_idx638_inb : ∀ (k0_t1 : Fin k0_t1_loop.trips) (k0_t3 : Fin (k0_t3_loop k0_t1).trips) (v27 : IVec S16 32) (v495 : IVec S16 32) (k0_hw638 : k0_chk638 k0_t1 k0_t3 v27 v495), ∀ a x, ((![v27, v495] : Fin 2 → IVec S16 32) a x).toNat < S256x257.size a := fun k0_t1 k0_t3 v27 v495 k0_hw638 => k0_hw638

def k0_chk639 (k0_t1 : Fin k0_t1_loop.trips) (k0_t3 : Fin (k0_t3_loop k0_t1).trips) (v480 : IVec S16 32) (v496 : IVec S16 32) : Prop :=
  (∀ a x, ((![v496, v480] : Fin 2 → IVec S16 32) a x).toNat < S16x256.size a)
theorem k0_idx639_inb : ∀ (k0_t1 : Fin k0_t1_loop.trips) (k0_t3 : Fin (k0_t3_loop k0_t1).trips) (v480 : IVec S16 32) (v496 : IVec S16 32) (k0_hw639 : k0_chk639 k0_t1 k0_t3 v480 v496), ∀ a x, ((![v496, v480] : Fin 2 → IVec S16 32) a x).toNat < S16x256.size a := fun k0_t1 k0_t3 v480 v496 k0_hw639 => k0_hw639

def k0_chk640 (k0_t1 : Fin k0_t1_loop.trips) (k0_t3 : Fin (k0_t3_loop k0_t1).trips) (v27 : IVec S16 32) (v498 : IVec S16 32) : Prop :=
  (∀ a x, ((![v27, v498] : Fin 2 → IVec S16 32) a x).toNat < S256x257.size a)
theorem k0_idx640_inb : ∀ (k0_t1 : Fin k0_t1_loop.trips) (k0_t3 : Fin (k0_t3_loop k0_t1).trips) (v27 : IVec S16 32) (v498 : IVec S16 32) (k0_hw640 : k0_chk640 k0_t1 k0_t3 v27 v498), ∀ a x, ((![v27, v498] : Fin 2 → IVec S16 32) a x).toNat < S256x257.size a := fun k0_t1 k0_t3 v27 v498 k0_hw640 => k0_hw640

def k0_chk641 (k0_t1 : Fin k0_t1_loop.trips) (k0_t3 : Fin (k0_t3_loop k0_t1).trips) (v480 : IVec S16 32) (v499 : IVec S16 32) : Prop :=
  (∀ a x, ((![v499, v480] : Fin 2 → IVec S16 32) a x).toNat < S16x256.size a)
theorem k0_idx641_inb : ∀ (k0_t1 : Fin k0_t1_loop.trips) (k0_t3 : Fin (k0_t3_loop k0_t1).trips) (v480 : IVec S16 32) (v499 : IVec S16 32) (k0_hw641 : k0_chk641 k0_t1 k0_t3 v480 v499), ∀ a x, ((![v499, v480] : Fin 2 → IVec S16 32) a x).toNat < S16x256.size a := fun k0_t1 k0_t3 v480 v499 k0_hw641 => k0_hw641

def k0_chk642 (k0_t1 : Fin k0_t1_loop.trips) (k0_t3 : Fin (k0_t3_loop k0_t1).trips) (v27 : IVec S16 32) (v501 : IVec S16 32) : Prop :=
  (∀ a x, ((![v27, v501] : Fin 2 → IVec S16 32) a x).toNat < S256x257.size a)
theorem k0_idx642_inb : ∀ (k0_t1 : Fin k0_t1_loop.trips) (k0_t3 : Fin (k0_t3_loop k0_t1).trips) (v27 : IVec S16 32) (v501 : IVec S16 32) (k0_hw642 : k0_chk642 k0_t1 k0_t3 v27 v501), ∀ a x, ((![v27, v501] : Fin 2 → IVec S16 32) a x).toNat < S256x257.size a := fun k0_t1 k0_t3 v27 v501 k0_hw642 => k0_hw642

def k0_chk643 (k0_t1 : Fin k0_t1_loop.trips) (k0_t3 : Fin (k0_t3_loop k0_t1).trips) (v480 : IVec S16 32) (v502 : IVec S16 32) : Prop :=
  (∀ a x, ((![v502, v480] : Fin 2 → IVec S16 32) a x).toNat < S16x256.size a)
theorem k0_idx643_inb : ∀ (k0_t1 : Fin k0_t1_loop.trips) (k0_t3 : Fin (k0_t3_loop k0_t1).trips) (v480 : IVec S16 32) (v502 : IVec S16 32) (k0_hw643 : k0_chk643 k0_t1 k0_t3 v480 v502), ∀ a x, ((![v502, v480] : Fin 2 → IVec S16 32) a x).toNat < S16x256.size a := fun k0_t1 k0_t3 v480 v502 k0_hw643 => k0_hw643

def k0_chk644 (k0_t1 : Fin k0_t1_loop.trips) (k0_t3 : Fin (k0_t3_loop k0_t1).trips) (v27 : IVec S16 32) (v504 : IVec S16 32) : Prop :=
  (∀ a x, ((![v27, v504] : Fin 2 → IVec S16 32) a x).toNat < S256x257.size a)
theorem k0_idx644_inb : ∀ (k0_t1 : Fin k0_t1_loop.trips) (k0_t3 : Fin (k0_t3_loop k0_t1).trips) (v27 : IVec S16 32) (v504 : IVec S16 32) (k0_hw644 : k0_chk644 k0_t1 k0_t3 v27 v504), ∀ a x, ((![v27, v504] : Fin 2 → IVec S16 32) a x).toNat < S256x257.size a := fun k0_t1 k0_t3 v27 v504 k0_hw644 => k0_hw644

def k0_chk645 (k0_t1 : Fin k0_t1_loop.trips) (k0_t3 : Fin (k0_t3_loop k0_t1).trips) (v480 : IVec S16 32) (v505 : IVec S16 32) : Prop :=
  (∀ a x, ((![v505, v480] : Fin 2 → IVec S16 32) a x).toNat < S16x256.size a)
theorem k0_idx645_inb : ∀ (k0_t1 : Fin k0_t1_loop.trips) (k0_t3 : Fin (k0_t3_loop k0_t1).trips) (v480 : IVec S16 32) (v505 : IVec S16 32) (k0_hw645 : k0_chk645 k0_t1 k0_t3 v480 v505), ∀ a x, ((![v505, v480] : Fin 2 → IVec S16 32) a x).toNat < S16x256.size a := fun k0_t1 k0_t3 v480 v505 k0_hw645 => k0_hw645

def k0_chk646 (k0_t1 : Fin k0_t1_loop.trips) (k0_t3 : Fin (k0_t3_loop k0_t1).trips) (v27 : IVec S16 32) (v507 : IVec S16 32) : Prop :=
  (∀ a x, ((![v27, v507] : Fin 2 → IVec S16 32) a x).toNat < S256x257.size a)
theorem k0_idx646_inb : ∀ (k0_t1 : Fin k0_t1_loop.trips) (k0_t3 : Fin (k0_t3_loop k0_t1).trips) (v27 : IVec S16 32) (v507 : IVec S16 32) (k0_hw646 : k0_chk646 k0_t1 k0_t3 v27 v507), ∀ a x, ((![v27, v507] : Fin 2 → IVec S16 32) a x).toNat < S256x257.size a := fun k0_t1 k0_t3 v27 v507 k0_hw646 => k0_hw646

def k0_chk647 (k0_t1 : Fin k0_t1_loop.trips) (k0_t3 : Fin (k0_t3_loop k0_t1).trips) (v480 : IVec S16 32) (v508 : IVec S16 32) : Prop :=
  (∀ a x, ((![v508, v480] : Fin 2 → IVec S16 32) a x).toNat < S16x256.size a)
theorem k0_idx647_inb : ∀ (k0_t1 : Fin k0_t1_loop.trips) (k0_t3 : Fin (k0_t3_loop k0_t1).trips) (v480 : IVec S16 32) (v508 : IVec S16 32) (k0_hw647 : k0_chk647 k0_t1 k0_t3 v480 v508), ∀ a x, ((![v508, v480] : Fin 2 → IVec S16 32) a x).toNat < S16x256.size a := fun k0_t1 k0_t3 v480 v508 k0_hw647 => k0_hw647

def k0_chk648 (k0_t1 : Fin k0_t1_loop.trips) (k0_t3 : Fin (k0_t3_loop k0_t1).trips) (v27 : IVec S16 32) (v510 : IVec S16 32) : Prop :=
  (∀ a x, ((![v27, v510] : Fin 2 → IVec S16 32) a x).toNat < S256x257.size a)
theorem k0_idx648_inb : ∀ (k0_t1 : Fin k0_t1_loop.trips) (k0_t3 : Fin (k0_t3_loop k0_t1).trips) (v27 : IVec S16 32) (v510 : IVec S16 32) (k0_hw648 : k0_chk648 k0_t1 k0_t3 v27 v510), ∀ a x, ((![v27, v510] : Fin 2 → IVec S16 32) a x).toNat < S256x257.size a := fun k0_t1 k0_t3 v27 v510 k0_hw648 => k0_hw648

def k0_chk649 (k0_t1 : Fin k0_t1_loop.trips) (k0_t3 : Fin (k0_t3_loop k0_t1).trips) (v480 : IVec S16 32) (v511 : IVec S16 32) : Prop :=
  (∀ a x, ((![v511, v480] : Fin 2 → IVec S16 32) a x).toNat < S16x256.size a)
theorem k0_idx649_inb : ∀ (k0_t1 : Fin k0_t1_loop.trips) (k0_t3 : Fin (k0_t3_loop k0_t1).trips) (v480 : IVec S16 32) (v511 : IVec S16 32) (k0_hw649 : k0_chk649 k0_t1 k0_t3 v480 v511), ∀ a x, ((![v511, v480] : Fin 2 → IVec S16 32) a x).toNat < S16x256.size a := fun k0_t1 k0_t3 v480 v511 k0_hw649 => k0_hw649

def k0_chk650 (k0_t1 : Fin k0_t1_loop.trips) (k0_t3 : Fin (k0_t3_loop k0_t1).trips) (v27 : IVec S16 32) (v513 : IVec S16 32) : Prop :=
  (∀ a x, ((![v27, v513] : Fin 2 → IVec S16 32) a x).toNat < S256x257.size a)
theorem k0_idx650_inb : ∀ (k0_t1 : Fin k0_t1_loop.trips) (k0_t3 : Fin (k0_t3_loop k0_t1).trips) (v27 : IVec S16 32) (v513 : IVec S16 32) (k0_hw650 : k0_chk650 k0_t1 k0_t3 v27 v513), ∀ a x, ((![v27, v513] : Fin 2 → IVec S16 32) a x).toNat < S256x257.size a := fun k0_t1 k0_t3 v27 v513 k0_hw650 => k0_hw650

def k0_chk651 (k0_t1 : Fin k0_t1_loop.trips) (k0_t3 : Fin (k0_t3_loop k0_t1).trips) (v480 : IVec S16 32) (v514 : IVec S16 32) : Prop :=
  (∀ a x, ((![v514, v480] : Fin 2 → IVec S16 32) a x).toNat < S16x256.size a)
theorem k0_idx651_inb : ∀ (k0_t1 : Fin k0_t1_loop.trips) (k0_t3 : Fin (k0_t3_loop k0_t1).trips) (v480 : IVec S16 32) (v514 : IVec S16 32) (k0_hw651 : k0_chk651 k0_t1 k0_t3 v480 v514), ∀ a x, ((![v514, v480] : Fin 2 → IVec S16 32) a x).toNat < S16x256.size a := fun k0_t1 k0_t3 v480 v514 k0_hw651 => k0_hw651

def k0_chk652 (k0_t1 : Fin k0_t1_loop.trips) (k0_t3 : Fin (k0_t3_loop k0_t1).trips) (v27 : IVec S16 32) (v516 : IVec S16 32) : Prop :=
  (∀ a x, ((![v27, v516] : Fin 2 → IVec S16 32) a x).toNat < S256x257.size a)
theorem k0_idx652_inb : ∀ (k0_t1 : Fin k0_t1_loop.trips) (k0_t3 : Fin (k0_t3_loop k0_t1).trips) (v27 : IVec S16 32) (v516 : IVec S16 32) (k0_hw652 : k0_chk652 k0_t1 k0_t3 v27 v516), ∀ a x, ((![v27, v516] : Fin 2 → IVec S16 32) a x).toNat < S256x257.size a := fun k0_t1 k0_t3 v27 v516 k0_hw652 => k0_hw652

def k0_chk653 (k0_t1 : Fin k0_t1_loop.trips) (k0_t3 : Fin (k0_t3_loop k0_t1).trips) (v480 : IVec S16 32) (v517 : IVec S16 32) : Prop :=
  (∀ a x, ((![v517, v480] : Fin 2 → IVec S16 32) a x).toNat < S16x256.size a)
theorem k0_idx653_inb : ∀ (k0_t1 : Fin k0_t1_loop.trips) (k0_t3 : Fin (k0_t3_loop k0_t1).trips) (v480 : IVec S16 32) (v517 : IVec S16 32) (k0_hw653 : k0_chk653 k0_t1 k0_t3 v480 v517), ∀ a x, ((![v517, v480] : Fin 2 → IVec S16 32) a x).toNat < S16x256.size a := fun k0_t1 k0_t3 v480 v517 k0_hw653 => k0_hw653

def k0_chk654 (k0_t1 : Fin k0_t1_loop.trips) (k0_t3 : Fin (k0_t3_loop k0_t1).trips) (v27 : IVec S16 32) (v519 : IVec S16 32) : Prop :=
  (∀ a x, ((![v27, v519] : Fin 2 → IVec S16 32) a x).toNat < S256x257.size a)
theorem k0_idx654_inb : ∀ (k0_t1 : Fin k0_t1_loop.trips) (k0_t3 : Fin (k0_t3_loop k0_t1).trips) (v27 : IVec S16 32) (v519 : IVec S16 32) (k0_hw654 : k0_chk654 k0_t1 k0_t3 v27 v519), ∀ a x, ((![v27, v519] : Fin 2 → IVec S16 32) a x).toNat < S256x257.size a := fun k0_t1 k0_t3 v27 v519 k0_hw654 => k0_hw654

def k0_chk655 (k0_t1 : Fin k0_t1_loop.trips) (k0_t3 : Fin (k0_t3_loop k0_t1).trips) (v480 : IVec S16 32) (v520 : IVec S16 32) : Prop :=
  (∀ a x, ((![v520, v480] : Fin 2 → IVec S16 32) a x).toNat < S16x256.size a)
theorem k0_idx655_inb : ∀ (k0_t1 : Fin k0_t1_loop.trips) (k0_t3 : Fin (k0_t3_loop k0_t1).trips) (v480 : IVec S16 32) (v520 : IVec S16 32) (k0_hw655 : k0_chk655 k0_t1 k0_t3 v480 v520), ∀ a x, ((![v520, v480] : Fin 2 → IVec S16 32) a x).toNat < S16x256.size a := fun k0_t1 k0_t3 v480 v520 k0_hw655 => k0_hw655

def k0_chk656 (k0_t1 : Fin k0_t1_loop.trips) (k0_t3 : Fin (k0_t3_loop k0_t1).trips) (v27 : IVec S16 32) (v522 : IVec S16 32) : Prop :=
  (∀ a x, ((![v27, v522] : Fin 2 → IVec S16 32) a x).toNat < S256x257.size a)
theorem k0_idx656_inb : ∀ (k0_t1 : Fin k0_t1_loop.trips) (k0_t3 : Fin (k0_t3_loop k0_t1).trips) (v27 : IVec S16 32) (v522 : IVec S16 32) (k0_hw656 : k0_chk656 k0_t1 k0_t3 v27 v522), ∀ a x, ((![v27, v522] : Fin 2 → IVec S16 32) a x).toNat < S256x257.size a := fun k0_t1 k0_t3 v27 v522 k0_hw656 => k0_hw656

def k0_chk657 (k0_t1 : Fin k0_t1_loop.trips) (k0_t3 : Fin (k0_t3_loop k0_t1).trips) (v480 : IVec S16 32) (v523 : IVec S16 32) : Prop :=
  (∀ a x, ((![v523, v480] : Fin 2 → IVec S16 32) a x).toNat < S16x256.size a)
theorem k0_idx657_inb : ∀ (k0_t1 : Fin k0_t1_loop.trips) (k0_t3 : Fin (k0_t3_loop k0_t1).trips) (v480 : IVec S16 32) (v523 : IVec S16 32) (k0_hw657 : k0_chk657 k0_t1 k0_t3 v480 v523), ∀ a x, ((![v523, v480] : Fin 2 → IVec S16 32) a x).toNat < S16x256.size a := fun k0_t1 k0_t3 v480 v523 k0_hw657 => k0_hw657

def k0_chk658 (k0_t1 : Fin k0_t1_loop.trips) (k0_t3 : Fin (k0_t3_loop k0_t1).trips) (v27 : IVec S16 32) (v525 : IVec S16 32) : Prop :=
  (∀ a x, ((![v27, v525] : Fin 2 → IVec S16 32) a x).toNat < S256x257.size a)
theorem k0_idx658_inb : ∀ (k0_t1 : Fin k0_t1_loop.trips) (k0_t3 : Fin (k0_t3_loop k0_t1).trips) (v27 : IVec S16 32) (v525 : IVec S16 32) (k0_hw658 : k0_chk658 k0_t1 k0_t3 v27 v525), ∀ a x, ((![v27, v525] : Fin 2 → IVec S16 32) a x).toNat < S256x257.size a := fun k0_t1 k0_t3 v27 v525 k0_hw658 => k0_hw658

def k0_chk659 (k0_t1 : Fin k0_t1_loop.trips) (k0_t3 : Fin (k0_t3_loop k0_t1).trips) (v480 : IVec S16 32) (v526 : IVec S16 32) : Prop :=
  (∀ a x, ((![v526, v480] : Fin 2 → IVec S16 32) a x).toNat < S16x256.size a)
theorem k0_idx659_inb : ∀ (k0_t1 : Fin k0_t1_loop.trips) (k0_t3 : Fin (k0_t3_loop k0_t1).trips) (v480 : IVec S16 32) (v526 : IVec S16 32) (k0_hw659 : k0_chk659 k0_t1 k0_t3 v480 v526), ∀ a x, ((![v526, v480] : Fin 2 → IVec S16 32) a x).toNat < S16x256.size a := fun k0_t1 k0_t3 v480 v526 k0_hw659 => k0_hw659

def k0_chk660 (k0_t1 : Fin k0_t1_loop.trips) (k0_t3 : Fin (k0_t3_loop k0_t1).trips) (v27 : IVec S16 32) (v528 : IVec S16 32) : Prop :=
  (∀ a x, ((![v27, v528] : Fin 2 → IVec S16 32) a x).toNat < S256x257.size a)
theorem k0_idx660_inb : ∀ (k0_t1 : Fin k0_t1_loop.trips) (k0_t3 : Fin (k0_t3_loop k0_t1).trips) (v27 : IVec S16 32) (v528 : IVec S16 32) (k0_hw660 : k0_chk660 k0_t1 k0_t3 v27 v528), ∀ a x, ((![v27, v528] : Fin 2 → IVec S16 32) a x).toNat < S256x257.size a := fun k0_t1 k0_t3 v27 v528 k0_hw660 => k0_hw660

def k0_chk661 (k0_t1 : Fin k0_t1_loop.trips) (k0_t3 : Fin (k0_t3_loop k0_t1).trips) (v532 : IVec S16 32) (v534 : IVec S16 32) : Prop :=
  (∀ a x, ((![v532, v534] : Fin 2 → IVec S16 32) a x).toNat < S44x128.size a)
theorem k0_idx661_inb : ∀ (k0_t1 : Fin k0_t1_loop.trips) (k0_t3 : Fin (k0_t3_loop k0_t1).trips) (v532 : IVec S16 32) (v534 : IVec S16 32) (k0_hw661 : k0_chk661 k0_t1 k0_t3 v532 v534), ∀ a x, ((![v532, v534] : Fin 2 → IVec S16 32) a x).toNat < S44x128.size a := fun k0_t1 k0_t3 v532 v534 k0_hw661 => k0_hw661

def k0_chk662 (k0_t1 : Fin k0_t1_loop.trips) (k0_t3 : Fin (k0_t3_loop k0_t1).trips) (v535 : IVec S16 32) (v536 : IVec S16 32) : Prop :=
  (∀ a x, ((![v536, v535] : Fin 2 → IVec S16 32) a x).toNat < S16x256.size a)
theorem k0_idx662_inb : ∀ (k0_t1 : Fin k0_t1_loop.trips) (k0_t3 : Fin (k0_t3_loop k0_t1).trips) (v535 : IVec S16 32) (v536 : IVec S16 32) (k0_hw662 : k0_chk662 k0_t1 k0_t3 v535 v536), ∀ a x, ((![v536, v535] : Fin 2 → IVec S16 32) a x).toNat < S16x256.size a := fun k0_t1 k0_t3 v535 v536 k0_hw662 => k0_hw662

def k0_chk663 (k0_t1 : Fin k0_t1_loop.trips) (k0_t3 : Fin (k0_t3_loop k0_t1).trips) (v27 : IVec S16 32) (v538 : IVec S16 32) : Prop :=
  (∀ a x, ((![v27, v538] : Fin 2 → IVec S16 32) a x).toNat < S256x257.size a)
theorem k0_idx663_inb : ∀ (k0_t1 : Fin k0_t1_loop.trips) (k0_t3 : Fin (k0_t3_loop k0_t1).trips) (v27 : IVec S16 32) (v538 : IVec S16 32) (k0_hw663 : k0_chk663 k0_t1 k0_t3 v27 v538), ∀ a x, ((![v27, v538] : Fin 2 → IVec S16 32) a x).toNat < S256x257.size a := fun k0_t1 k0_t3 v27 v538 k0_hw663 => k0_hw663

def k0_chk664 (k0_t1 : Fin k0_t1_loop.trips) (k0_t3 : Fin (k0_t3_loop k0_t1).trips) (v535 : IVec S16 32) (v539 : IVec S16 32) : Prop :=
  (∀ a x, ((![v539, v535] : Fin 2 → IVec S16 32) a x).toNat < S16x256.size a)
theorem k0_idx664_inb : ∀ (k0_t1 : Fin k0_t1_loop.trips) (k0_t3 : Fin (k0_t3_loop k0_t1).trips) (v535 : IVec S16 32) (v539 : IVec S16 32) (k0_hw664 : k0_chk664 k0_t1 k0_t3 v535 v539), ∀ a x, ((![v539, v535] : Fin 2 → IVec S16 32) a x).toNat < S16x256.size a := fun k0_t1 k0_t3 v535 v539 k0_hw664 => k0_hw664

def k0_chk665 (k0_t1 : Fin k0_t1_loop.trips) (k0_t3 : Fin (k0_t3_loop k0_t1).trips) (v27 : IVec S16 32) (v541 : IVec S16 32) : Prop :=
  (∀ a x, ((![v27, v541] : Fin 2 → IVec S16 32) a x).toNat < S256x257.size a)
theorem k0_idx665_inb : ∀ (k0_t1 : Fin k0_t1_loop.trips) (k0_t3 : Fin (k0_t3_loop k0_t1).trips) (v27 : IVec S16 32) (v541 : IVec S16 32) (k0_hw665 : k0_chk665 k0_t1 k0_t3 v27 v541), ∀ a x, ((![v27, v541] : Fin 2 → IVec S16 32) a x).toNat < S256x257.size a := fun k0_t1 k0_t3 v27 v541 k0_hw665 => k0_hw665

def k0_chk666 (k0_t1 : Fin k0_t1_loop.trips) (k0_t3 : Fin (k0_t3_loop k0_t1).trips) (v535 : IVec S16 32) (v542 : IVec S16 32) : Prop :=
  (∀ a x, ((![v542, v535] : Fin 2 → IVec S16 32) a x).toNat < S16x256.size a)
theorem k0_idx666_inb : ∀ (k0_t1 : Fin k0_t1_loop.trips) (k0_t3 : Fin (k0_t3_loop k0_t1).trips) (v535 : IVec S16 32) (v542 : IVec S16 32) (k0_hw666 : k0_chk666 k0_t1 k0_t3 v535 v542), ∀ a x, ((![v542, v535] : Fin 2 → IVec S16 32) a x).toNat < S16x256.size a := fun k0_t1 k0_t3 v535 v542 k0_hw666 => k0_hw666

def k0_chk667 (k0_t1 : Fin k0_t1_loop.trips) (k0_t3 : Fin (k0_t3_loop k0_t1).trips) (v27 : IVec S16 32) (v544 : IVec S16 32) : Prop :=
  (∀ a x, ((![v27, v544] : Fin 2 → IVec S16 32) a x).toNat < S256x257.size a)
theorem k0_idx667_inb : ∀ (k0_t1 : Fin k0_t1_loop.trips) (k0_t3 : Fin (k0_t3_loop k0_t1).trips) (v27 : IVec S16 32) (v544 : IVec S16 32) (k0_hw667 : k0_chk667 k0_t1 k0_t3 v27 v544), ∀ a x, ((![v27, v544] : Fin 2 → IVec S16 32) a x).toNat < S256x257.size a := fun k0_t1 k0_t3 v27 v544 k0_hw667 => k0_hw667

def k0_chk668 (k0_t1 : Fin k0_t1_loop.trips) (k0_t3 : Fin (k0_t3_loop k0_t1).trips) (v535 : IVec S16 32) (v545 : IVec S16 32) : Prop :=
  (∀ a x, ((![v545, v535] : Fin 2 → IVec S16 32) a x).toNat < S16x256.size a)
theorem k0_idx668_inb : ∀ (k0_t1 : Fin k0_t1_loop.trips) (k0_t3 : Fin (k0_t3_loop k0_t1).trips) (v535 : IVec S16 32) (v545 : IVec S16 32) (k0_hw668 : k0_chk668 k0_t1 k0_t3 v535 v545), ∀ a x, ((![v545, v535] : Fin 2 → IVec S16 32) a x).toNat < S16x256.size a := fun k0_t1 k0_t3 v535 v545 k0_hw668 => k0_hw668

def k0_chk669 (k0_t1 : Fin k0_t1_loop.trips) (k0_t3 : Fin (k0_t3_loop k0_t1).trips) (v27 : IVec S16 32) (v547 : IVec S16 32) : Prop :=
  (∀ a x, ((![v27, v547] : Fin 2 → IVec S16 32) a x).toNat < S256x257.size a)
theorem k0_idx669_inb : ∀ (k0_t1 : Fin k0_t1_loop.trips) (k0_t3 : Fin (k0_t3_loop k0_t1).trips) (v27 : IVec S16 32) (v547 : IVec S16 32) (k0_hw669 : k0_chk669 k0_t1 k0_t3 v27 v547), ∀ a x, ((![v27, v547] : Fin 2 → IVec S16 32) a x).toNat < S256x257.size a := fun k0_t1 k0_t3 v27 v547 k0_hw669 => k0_hw669

def k0_chk670 (k0_t1 : Fin k0_t1_loop.trips) (k0_t3 : Fin (k0_t3_loop k0_t1).trips) (v535 : IVec S16 32) (v548 : IVec S16 32) : Prop :=
  (∀ a x, ((![v548, v535] : Fin 2 → IVec S16 32) a x).toNat < S16x256.size a)
theorem k0_idx670_inb : ∀ (k0_t1 : Fin k0_t1_loop.trips) (k0_t3 : Fin (k0_t3_loop k0_t1).trips) (v535 : IVec S16 32) (v548 : IVec S16 32) (k0_hw670 : k0_chk670 k0_t1 k0_t3 v535 v548), ∀ a x, ((![v548, v535] : Fin 2 → IVec S16 32) a x).toNat < S16x256.size a := fun k0_t1 k0_t3 v535 v548 k0_hw670 => k0_hw670

def k0_chk671 (k0_t1 : Fin k0_t1_loop.trips) (k0_t3 : Fin (k0_t3_loop k0_t1).trips) (v27 : IVec S16 32) (v550 : IVec S16 32) : Prop :=
  (∀ a x, ((![v27, v550] : Fin 2 → IVec S16 32) a x).toNat < S256x257.size a)
theorem k0_idx671_inb : ∀ (k0_t1 : Fin k0_t1_loop.trips) (k0_t3 : Fin (k0_t3_loop k0_t1).trips) (v27 : IVec S16 32) (v550 : IVec S16 32) (k0_hw671 : k0_chk671 k0_t1 k0_t3 v27 v550), ∀ a x, ((![v27, v550] : Fin 2 → IVec S16 32) a x).toNat < S256x257.size a := fun k0_t1 k0_t3 v27 v550 k0_hw671 => k0_hw671

def k0_chk672 (k0_t1 : Fin k0_t1_loop.trips) (k0_t3 : Fin (k0_t3_loop k0_t1).trips) (v535 : IVec S16 32) (v551 : IVec S16 32) : Prop :=
  (∀ a x, ((![v551, v535] : Fin 2 → IVec S16 32) a x).toNat < S16x256.size a)
theorem k0_idx672_inb : ∀ (k0_t1 : Fin k0_t1_loop.trips) (k0_t3 : Fin (k0_t3_loop k0_t1).trips) (v535 : IVec S16 32) (v551 : IVec S16 32) (k0_hw672 : k0_chk672 k0_t1 k0_t3 v535 v551), ∀ a x, ((![v551, v535] : Fin 2 → IVec S16 32) a x).toNat < S16x256.size a := fun k0_t1 k0_t3 v535 v551 k0_hw672 => k0_hw672

def k0_chk673 (k0_t1 : Fin k0_t1_loop.trips) (k0_t3 : Fin (k0_t3_loop k0_t1).trips) (v27 : IVec S16 32) (v553 : IVec S16 32) : Prop :=
  (∀ a x, ((![v27, v553] : Fin 2 → IVec S16 32) a x).toNat < S256x257.size a)
theorem k0_idx673_inb : ∀ (k0_t1 : Fin k0_t1_loop.trips) (k0_t3 : Fin (k0_t3_loop k0_t1).trips) (v27 : IVec S16 32) (v553 : IVec S16 32) (k0_hw673 : k0_chk673 k0_t1 k0_t3 v27 v553), ∀ a x, ((![v27, v553] : Fin 2 → IVec S16 32) a x).toNat < S256x257.size a := fun k0_t1 k0_t3 v27 v553 k0_hw673 => k0_hw673

def k0_chk674 (k0_t1 : Fin k0_t1_loop.trips) (k0_t3 : Fin (k0_t3_loop k0_t1).trips) (v535 : IVec S16 32) (v554 : IVec S16 32) : Prop :=
  (∀ a x, ((![v554, v535] : Fin 2 → IVec S16 32) a x).toNat < S16x256.size a)
theorem k0_idx674_inb : ∀ (k0_t1 : Fin k0_t1_loop.trips) (k0_t3 : Fin (k0_t3_loop k0_t1).trips) (v535 : IVec S16 32) (v554 : IVec S16 32) (k0_hw674 : k0_chk674 k0_t1 k0_t3 v535 v554), ∀ a x, ((![v554, v535] : Fin 2 → IVec S16 32) a x).toNat < S16x256.size a := fun k0_t1 k0_t3 v535 v554 k0_hw674 => k0_hw674

def k0_chk675 (k0_t1 : Fin k0_t1_loop.trips) (k0_t3 : Fin (k0_t3_loop k0_t1).trips) (v27 : IVec S16 32) (v556 : IVec S16 32) : Prop :=
  (∀ a x, ((![v27, v556] : Fin 2 → IVec S16 32) a x).toNat < S256x257.size a)
theorem k0_idx675_inb : ∀ (k0_t1 : Fin k0_t1_loop.trips) (k0_t3 : Fin (k0_t3_loop k0_t1).trips) (v27 : IVec S16 32) (v556 : IVec S16 32) (k0_hw675 : k0_chk675 k0_t1 k0_t3 v27 v556), ∀ a x, ((![v27, v556] : Fin 2 → IVec S16 32) a x).toNat < S256x257.size a := fun k0_t1 k0_t3 v27 v556 k0_hw675 => k0_hw675

def k0_chk676 (k0_t1 : Fin k0_t1_loop.trips) (k0_t3 : Fin (k0_t3_loop k0_t1).trips) (v535 : IVec S16 32) (v557 : IVec S16 32) : Prop :=
  (∀ a x, ((![v557, v535] : Fin 2 → IVec S16 32) a x).toNat < S16x256.size a)
theorem k0_idx676_inb : ∀ (k0_t1 : Fin k0_t1_loop.trips) (k0_t3 : Fin (k0_t3_loop k0_t1).trips) (v535 : IVec S16 32) (v557 : IVec S16 32) (k0_hw676 : k0_chk676 k0_t1 k0_t3 v535 v557), ∀ a x, ((![v557, v535] : Fin 2 → IVec S16 32) a x).toNat < S16x256.size a := fun k0_t1 k0_t3 v535 v557 k0_hw676 => k0_hw676

def k0_chk677 (k0_t1 : Fin k0_t1_loop.trips) (k0_t3 : Fin (k0_t3_loop k0_t1).trips) (v27 : IVec S16 32) (v559 : IVec S16 32) : Prop :=
  (∀ a x, ((![v27, v559] : Fin 2 → IVec S16 32) a x).toNat < S256x257.size a)
theorem k0_idx677_inb : ∀ (k0_t1 : Fin k0_t1_loop.trips) (k0_t3 : Fin (k0_t3_loop k0_t1).trips) (v27 : IVec S16 32) (v559 : IVec S16 32) (k0_hw677 : k0_chk677 k0_t1 k0_t3 v27 v559), ∀ a x, ((![v27, v559] : Fin 2 → IVec S16 32) a x).toNat < S256x257.size a := fun k0_t1 k0_t3 v27 v559 k0_hw677 => k0_hw677

def k0_chk678 (k0_t1 : Fin k0_t1_loop.trips) (k0_t3 : Fin (k0_t3_loop k0_t1).trips) (v535 : IVec S16 32) (v560 : IVec S16 32) : Prop :=
  (∀ a x, ((![v560, v535] : Fin 2 → IVec S16 32) a x).toNat < S16x256.size a)
theorem k0_idx678_inb : ∀ (k0_t1 : Fin k0_t1_loop.trips) (k0_t3 : Fin (k0_t3_loop k0_t1).trips) (v535 : IVec S16 32) (v560 : IVec S16 32) (k0_hw678 : k0_chk678 k0_t1 k0_t3 v535 v560), ∀ a x, ((![v560, v535] : Fin 2 → IVec S16 32) a x).toNat < S16x256.size a := fun k0_t1 k0_t3 v535 v560 k0_hw678 => k0_hw678

def k0_chk679 (k0_t1 : Fin k0_t1_loop.trips) (k0_t3 : Fin (k0_t3_loop k0_t1).trips) (v27 : IVec S16 32) (v562 : IVec S16 32) : Prop :=
  (∀ a x, ((![v27, v562] : Fin 2 → IVec S16 32) a x).toNat < S256x257.size a)
theorem k0_idx679_inb : ∀ (k0_t1 : Fin k0_t1_loop.trips) (k0_t3 : Fin (k0_t3_loop k0_t1).trips) (v27 : IVec S16 32) (v562 : IVec S16 32) (k0_hw679 : k0_chk679 k0_t1 k0_t3 v27 v562), ∀ a x, ((![v27, v562] : Fin 2 → IVec S16 32) a x).toNat < S256x257.size a := fun k0_t1 k0_t3 v27 v562 k0_hw679 => k0_hw679

def k0_chk680 (k0_t1 : Fin k0_t1_loop.trips) (k0_t3 : Fin (k0_t3_loop k0_t1).trips) (v535 : IVec S16 32) (v563 : IVec S16 32) : Prop :=
  (∀ a x, ((![v563, v535] : Fin 2 → IVec S16 32) a x).toNat < S16x256.size a)
theorem k0_idx680_inb : ∀ (k0_t1 : Fin k0_t1_loop.trips) (k0_t3 : Fin (k0_t3_loop k0_t1).trips) (v535 : IVec S16 32) (v563 : IVec S16 32) (k0_hw680 : k0_chk680 k0_t1 k0_t3 v535 v563), ∀ a x, ((![v563, v535] : Fin 2 → IVec S16 32) a x).toNat < S16x256.size a := fun k0_t1 k0_t3 v535 v563 k0_hw680 => k0_hw680

def k0_chk681 (k0_t1 : Fin k0_t1_loop.trips) (k0_t3 : Fin (k0_t3_loop k0_t1).trips) (v27 : IVec S16 32) (v565 : IVec S16 32) : Prop :=
  (∀ a x, ((![v27, v565] : Fin 2 → IVec S16 32) a x).toNat < S256x257.size a)
theorem k0_idx681_inb : ∀ (k0_t1 : Fin k0_t1_loop.trips) (k0_t3 : Fin (k0_t3_loop k0_t1).trips) (v27 : IVec S16 32) (v565 : IVec S16 32) (k0_hw681 : k0_chk681 k0_t1 k0_t3 v27 v565), ∀ a x, ((![v27, v565] : Fin 2 → IVec S16 32) a x).toNat < S256x257.size a := fun k0_t1 k0_t3 v27 v565 k0_hw681 => k0_hw681

def k0_chk682 (k0_t1 : Fin k0_t1_loop.trips) (k0_t3 : Fin (k0_t3_loop k0_t1).trips) (v535 : IVec S16 32) (v566 : IVec S16 32) : Prop :=
  (∀ a x, ((![v566, v535] : Fin 2 → IVec S16 32) a x).toNat < S16x256.size a)
theorem k0_idx682_inb : ∀ (k0_t1 : Fin k0_t1_loop.trips) (k0_t3 : Fin (k0_t3_loop k0_t1).trips) (v535 : IVec S16 32) (v566 : IVec S16 32) (k0_hw682 : k0_chk682 k0_t1 k0_t3 v535 v566), ∀ a x, ((![v566, v535] : Fin 2 → IVec S16 32) a x).toNat < S16x256.size a := fun k0_t1 k0_t3 v535 v566 k0_hw682 => k0_hw682

def k0_chk683 (k0_t1 : Fin k0_t1_loop.trips) (k0_t3 : Fin (k0_t3_loop k0_t1).trips) (v27 : IVec S16 32) (v568 : IVec S16 32) : Prop :=
  (∀ a x, ((![v27, v568] : Fin 2 → IVec S16 32) a x).toNat < S256x257.size a)
theorem k0_idx683_inb : ∀ (k0_t1 : Fin k0_t1_loop.trips) (k0_t3 : Fin (k0_t3_loop k0_t1).trips) (v27 : IVec S16 32) (v568 : IVec S16 32) (k0_hw683 : k0_chk683 k0_t1 k0_t3 v27 v568), ∀ a x, ((![v27, v568] : Fin 2 → IVec S16 32) a x).toNat < S256x257.size a := fun k0_t1 k0_t3 v27 v568 k0_hw683 => k0_hw683

def k0_chk684 (k0_t1 : Fin k0_t1_loop.trips) (k0_t3 : Fin (k0_t3_loop k0_t1).trips) (v535 : IVec S16 32) (v569 : IVec S16 32) : Prop :=
  (∀ a x, ((![v569, v535] : Fin 2 → IVec S16 32) a x).toNat < S16x256.size a)
theorem k0_idx684_inb : ∀ (k0_t1 : Fin k0_t1_loop.trips) (k0_t3 : Fin (k0_t3_loop k0_t1).trips) (v535 : IVec S16 32) (v569 : IVec S16 32) (k0_hw684 : k0_chk684 k0_t1 k0_t3 v535 v569), ∀ a x, ((![v569, v535] : Fin 2 → IVec S16 32) a x).toNat < S16x256.size a := fun k0_t1 k0_t3 v535 v569 k0_hw684 => k0_hw684

def k0_chk685 (k0_t1 : Fin k0_t1_loop.trips) (k0_t3 : Fin (k0_t3_loop k0_t1).trips) (v27 : IVec S16 32) (v571 : IVec S16 32) : Prop :=
  (∀ a x, ((![v27, v571] : Fin 2 → IVec S16 32) a x).toNat < S256x257.size a)
theorem k0_idx685_inb : ∀ (k0_t1 : Fin k0_t1_loop.trips) (k0_t3 : Fin (k0_t3_loop k0_t1).trips) (v27 : IVec S16 32) (v571 : IVec S16 32) (k0_hw685 : k0_chk685 k0_t1 k0_t3 v27 v571), ∀ a x, ((![v27, v571] : Fin 2 → IVec S16 32) a x).toNat < S256x257.size a := fun k0_t1 k0_t3 v27 v571 k0_hw685 => k0_hw685

def k0_chk686 (k0_t1 : Fin k0_t1_loop.trips) (k0_t3 : Fin (k0_t3_loop k0_t1).trips) (v535 : IVec S16 32) (v572 : IVec S16 32) : Prop :=
  (∀ a x, ((![v572, v535] : Fin 2 → IVec S16 32) a x).toNat < S16x256.size a)
theorem k0_idx686_inb : ∀ (k0_t1 : Fin k0_t1_loop.trips) (k0_t3 : Fin (k0_t3_loop k0_t1).trips) (v535 : IVec S16 32) (v572 : IVec S16 32) (k0_hw686 : k0_chk686 k0_t1 k0_t3 v535 v572), ∀ a x, ((![v572, v535] : Fin 2 → IVec S16 32) a x).toNat < S16x256.size a := fun k0_t1 k0_t3 v535 v572 k0_hw686 => k0_hw686

def k0_chk687 (k0_t1 : Fin k0_t1_loop.trips) (k0_t3 : Fin (k0_t3_loop k0_t1).trips) (v27 : IVec S16 32) (v574 : IVec S16 32) : Prop :=
  (∀ a x, ((![v27, v574] : Fin 2 → IVec S16 32) a x).toNat < S256x257.size a)
theorem k0_idx687_inb : ∀ (k0_t1 : Fin k0_t1_loop.trips) (k0_t3 : Fin (k0_t3_loop k0_t1).trips) (v27 : IVec S16 32) (v574 : IVec S16 32) (k0_hw687 : k0_chk687 k0_t1 k0_t3 v27 v574), ∀ a x, ((![v27, v574] : Fin 2 → IVec S16 32) a x).toNat < S256x257.size a := fun k0_t1 k0_t3 v27 v574 k0_hw687 => k0_hw687

def k0_chk688 (k0_t1 : Fin k0_t1_loop.trips) (k0_t3 : Fin (k0_t3_loop k0_t1).trips) (v535 : IVec S16 32) (v575 : IVec S16 32) : Prop :=
  (∀ a x, ((![v575, v535] : Fin 2 → IVec S16 32) a x).toNat < S16x256.size a)
theorem k0_idx688_inb : ∀ (k0_t1 : Fin k0_t1_loop.trips) (k0_t3 : Fin (k0_t3_loop k0_t1).trips) (v535 : IVec S16 32) (v575 : IVec S16 32) (k0_hw688 : k0_chk688 k0_t1 k0_t3 v535 v575), ∀ a x, ((![v575, v535] : Fin 2 → IVec S16 32) a x).toNat < S16x256.size a := fun k0_t1 k0_t3 v535 v575 k0_hw688 => k0_hw688

def k0_chk689 (k0_t1 : Fin k0_t1_loop.trips) (k0_t3 : Fin (k0_t3_loop k0_t1).trips) (v27 : IVec S16 32) (v577 : IVec S16 32) : Prop :=
  (∀ a x, ((![v27, v577] : Fin 2 → IVec S16 32) a x).toNat < S256x257.size a)
theorem k0_idx689_inb : ∀ (k0_t1 : Fin k0_t1_loop.trips) (k0_t3 : Fin (k0_t3_loop k0_t1).trips) (v27 : IVec S16 32) (v577 : IVec S16 32) (k0_hw689 : k0_chk689 k0_t1 k0_t3 v27 v577), ∀ a x, ((![v27, v577] : Fin 2 → IVec S16 32) a x).toNat < S256x257.size a := fun k0_t1 k0_t3 v27 v577 k0_hw689 => k0_hw689

def k0_chk690 (k0_t1 : Fin k0_t1_loop.trips) (k0_t3 : Fin (k0_t3_loop k0_t1).trips) (v535 : IVec S16 32) (v578 : IVec S16 32) : Prop :=
  (∀ a x, ((![v578, v535] : Fin 2 → IVec S16 32) a x).toNat < S16x256.size a)
theorem k0_idx690_inb : ∀ (k0_t1 : Fin k0_t1_loop.trips) (k0_t3 : Fin (k0_t3_loop k0_t1).trips) (v535 : IVec S16 32) (v578 : IVec S16 32) (k0_hw690 : k0_chk690 k0_t1 k0_t3 v535 v578), ∀ a x, ((![v578, v535] : Fin 2 → IVec S16 32) a x).toNat < S16x256.size a := fun k0_t1 k0_t3 v535 v578 k0_hw690 => k0_hw690

def k0_chk691 (k0_t1 : Fin k0_t1_loop.trips) (k0_t3 : Fin (k0_t3_loop k0_t1).trips) (v27 : IVec S16 32) (v580 : IVec S16 32) : Prop :=
  (∀ a x, ((![v27, v580] : Fin 2 → IVec S16 32) a x).toNat < S256x257.size a)
theorem k0_idx691_inb : ∀ (k0_t1 : Fin k0_t1_loop.trips) (k0_t3 : Fin (k0_t3_loop k0_t1).trips) (v27 : IVec S16 32) (v580 : IVec S16 32) (k0_hw691 : k0_chk691 k0_t1 k0_t3 v27 v580), ∀ a x, ((![v27, v580] : Fin 2 → IVec S16 32) a x).toNat < S256x257.size a := fun k0_t1 k0_t3 v27 v580 k0_hw691 => k0_hw691

def k0_chk692 (k0_t1 : Fin k0_t1_loop.trips) (k0_t3 : Fin (k0_t3_loop k0_t1).trips) (v535 : IVec S16 32) (v581 : IVec S16 32) : Prop :=
  (∀ a x, ((![v581, v535] : Fin 2 → IVec S16 32) a x).toNat < S16x256.size a)
theorem k0_idx692_inb : ∀ (k0_t1 : Fin k0_t1_loop.trips) (k0_t3 : Fin (k0_t3_loop k0_t1).trips) (v535 : IVec S16 32) (v581 : IVec S16 32) (k0_hw692 : k0_chk692 k0_t1 k0_t3 v535 v581), ∀ a x, ((![v581, v535] : Fin 2 → IVec S16 32) a x).toNat < S16x256.size a := fun k0_t1 k0_t3 v535 v581 k0_hw692 => k0_hw692

def k0_chk693 (k0_t1 : Fin k0_t1_loop.trips) (k0_t3 : Fin (k0_t3_loop k0_t1).trips) (v27 : IVec S16 32) (v583 : IVec S16 32) : Prop :=
  (∀ a x, ((![v27, v583] : Fin 2 → IVec S16 32) a x).toNat < S256x257.size a)
theorem k0_idx693_inb : ∀ (k0_t1 : Fin k0_t1_loop.trips) (k0_t3 : Fin (k0_t3_loop k0_t1).trips) (v27 : IVec S16 32) (v583 : IVec S16 32) (k0_hw693 : k0_chk693 k0_t1 k0_t3 v27 v583), ∀ a x, ((![v27, v583] : Fin 2 → IVec S16 32) a x).toNat < S256x257.size a := fun k0_t1 k0_t3 v27 v583 k0_hw693 => k0_hw693

def k0_chk694 (k0_t1 : Fin k0_t1_loop.trips) (k0_t3 : Fin (k0_t3_loop k0_t1).trips) (v587 : IVec S16 32) (v589 : IVec S16 32) : Prop :=
  (∀ a x, ((![v587, v589] : Fin 2 → IVec S16 32) a x).toNat < S44x128.size a)
theorem k0_idx694_inb : ∀ (k0_t1 : Fin k0_t1_loop.trips) (k0_t3 : Fin (k0_t3_loop k0_t1).trips) (v587 : IVec S16 32) (v589 : IVec S16 32) (k0_hw694 : k0_chk694 k0_t1 k0_t3 v587 v589), ∀ a x, ((![v587, v589] : Fin 2 → IVec S16 32) a x).toNat < S44x128.size a := fun k0_t1 k0_t3 v587 v589 k0_hw694 => k0_hw694

def k0_chk695 (k0_t1 : Fin k0_t1_loop.trips) (k0_t3 : Fin (k0_t3_loop k0_t1).trips) (v590 : IVec S16 32) (v591 : IVec S16 32) : Prop :=
  (∀ a x, ((![v591, v590] : Fin 2 → IVec S16 32) a x).toNat < S16x256.size a)
theorem k0_idx695_inb : ∀ (k0_t1 : Fin k0_t1_loop.trips) (k0_t3 : Fin (k0_t3_loop k0_t1).trips) (v590 : IVec S16 32) (v591 : IVec S16 32) (k0_hw695 : k0_chk695 k0_t1 k0_t3 v590 v591), ∀ a x, ((![v591, v590] : Fin 2 → IVec S16 32) a x).toNat < S16x256.size a := fun k0_t1 k0_t3 v590 v591 k0_hw695 => k0_hw695

def k0_chk696 (k0_t1 : Fin k0_t1_loop.trips) (k0_t3 : Fin (k0_t3_loop k0_t1).trips) (v27 : IVec S16 32) (v593 : IVec S16 32) : Prop :=
  (∀ a x, ((![v27, v593] : Fin 2 → IVec S16 32) a x).toNat < S256x257.size a)
theorem k0_idx696_inb : ∀ (k0_t1 : Fin k0_t1_loop.trips) (k0_t3 : Fin (k0_t3_loop k0_t1).trips) (v27 : IVec S16 32) (v593 : IVec S16 32) (k0_hw696 : k0_chk696 k0_t1 k0_t3 v27 v593), ∀ a x, ((![v27, v593] : Fin 2 → IVec S16 32) a x).toNat < S256x257.size a := fun k0_t1 k0_t3 v27 v593 k0_hw696 => k0_hw696

def k0_chk697 (k0_t1 : Fin k0_t1_loop.trips) (k0_t3 : Fin (k0_t3_loop k0_t1).trips) (v590 : IVec S16 32) (v594 : IVec S16 32) : Prop :=
  (∀ a x, ((![v594, v590] : Fin 2 → IVec S16 32) a x).toNat < S16x256.size a)
theorem k0_idx697_inb : ∀ (k0_t1 : Fin k0_t1_loop.trips) (k0_t3 : Fin (k0_t3_loop k0_t1).trips) (v590 : IVec S16 32) (v594 : IVec S16 32) (k0_hw697 : k0_chk697 k0_t1 k0_t3 v590 v594), ∀ a x, ((![v594, v590] : Fin 2 → IVec S16 32) a x).toNat < S16x256.size a := fun k0_t1 k0_t3 v590 v594 k0_hw697 => k0_hw697

def k0_chk698 (k0_t1 : Fin k0_t1_loop.trips) (k0_t3 : Fin (k0_t3_loop k0_t1).trips) (v27 : IVec S16 32) (v596 : IVec S16 32) : Prop :=
  (∀ a x, ((![v27, v596] : Fin 2 → IVec S16 32) a x).toNat < S256x257.size a)
theorem k0_idx698_inb : ∀ (k0_t1 : Fin k0_t1_loop.trips) (k0_t3 : Fin (k0_t3_loop k0_t1).trips) (v27 : IVec S16 32) (v596 : IVec S16 32) (k0_hw698 : k0_chk698 k0_t1 k0_t3 v27 v596), ∀ a x, ((![v27, v596] : Fin 2 → IVec S16 32) a x).toNat < S256x257.size a := fun k0_t1 k0_t3 v27 v596 k0_hw698 => k0_hw698

def k0_chk699 (k0_t1 : Fin k0_t1_loop.trips) (k0_t3 : Fin (k0_t3_loop k0_t1).trips) (v590 : IVec S16 32) (v597 : IVec S16 32) : Prop :=
  (∀ a x, ((![v597, v590] : Fin 2 → IVec S16 32) a x).toNat < S16x256.size a)
theorem k0_idx699_inb : ∀ (k0_t1 : Fin k0_t1_loop.trips) (k0_t3 : Fin (k0_t3_loop k0_t1).trips) (v590 : IVec S16 32) (v597 : IVec S16 32) (k0_hw699 : k0_chk699 k0_t1 k0_t3 v590 v597), ∀ a x, ((![v597, v590] : Fin 2 → IVec S16 32) a x).toNat < S16x256.size a := fun k0_t1 k0_t3 v590 v597 k0_hw699 => k0_hw699

def k0_chk700 (k0_t1 : Fin k0_t1_loop.trips) (k0_t3 : Fin (k0_t3_loop k0_t1).trips) (v27 : IVec S16 32) (v599 : IVec S16 32) : Prop :=
  (∀ a x, ((![v27, v599] : Fin 2 → IVec S16 32) a x).toNat < S256x257.size a)
theorem k0_idx700_inb : ∀ (k0_t1 : Fin k0_t1_loop.trips) (k0_t3 : Fin (k0_t3_loop k0_t1).trips) (v27 : IVec S16 32) (v599 : IVec S16 32) (k0_hw700 : k0_chk700 k0_t1 k0_t3 v27 v599), ∀ a x, ((![v27, v599] : Fin 2 → IVec S16 32) a x).toNat < S256x257.size a := fun k0_t1 k0_t3 v27 v599 k0_hw700 => k0_hw700

def k0_chk701 (k0_t1 : Fin k0_t1_loop.trips) (k0_t3 : Fin (k0_t3_loop k0_t1).trips) (v590 : IVec S16 32) (v600 : IVec S16 32) : Prop :=
  (∀ a x, ((![v600, v590] : Fin 2 → IVec S16 32) a x).toNat < S16x256.size a)
theorem k0_idx701_inb : ∀ (k0_t1 : Fin k0_t1_loop.trips) (k0_t3 : Fin (k0_t3_loop k0_t1).trips) (v590 : IVec S16 32) (v600 : IVec S16 32) (k0_hw701 : k0_chk701 k0_t1 k0_t3 v590 v600), ∀ a x, ((![v600, v590] : Fin 2 → IVec S16 32) a x).toNat < S16x256.size a := fun k0_t1 k0_t3 v590 v600 k0_hw701 => k0_hw701

def k0_chk702 (k0_t1 : Fin k0_t1_loop.trips) (k0_t3 : Fin (k0_t3_loop k0_t1).trips) (v27 : IVec S16 32) (v602 : IVec S16 32) : Prop :=
  (∀ a x, ((![v27, v602] : Fin 2 → IVec S16 32) a x).toNat < S256x257.size a)
theorem k0_idx702_inb : ∀ (k0_t1 : Fin k0_t1_loop.trips) (k0_t3 : Fin (k0_t3_loop k0_t1).trips) (v27 : IVec S16 32) (v602 : IVec S16 32) (k0_hw702 : k0_chk702 k0_t1 k0_t3 v27 v602), ∀ a x, ((![v27, v602] : Fin 2 → IVec S16 32) a x).toNat < S256x257.size a := fun k0_t1 k0_t3 v27 v602 k0_hw702 => k0_hw702

def k0_chk703 (k0_t1 : Fin k0_t1_loop.trips) (k0_t3 : Fin (k0_t3_loop k0_t1).trips) (v590 : IVec S16 32) (v603 : IVec S16 32) : Prop :=
  (∀ a x, ((![v603, v590] : Fin 2 → IVec S16 32) a x).toNat < S16x256.size a)
theorem k0_idx703_inb : ∀ (k0_t1 : Fin k0_t1_loop.trips) (k0_t3 : Fin (k0_t3_loop k0_t1).trips) (v590 : IVec S16 32) (v603 : IVec S16 32) (k0_hw703 : k0_chk703 k0_t1 k0_t3 v590 v603), ∀ a x, ((![v603, v590] : Fin 2 → IVec S16 32) a x).toNat < S16x256.size a := fun k0_t1 k0_t3 v590 v603 k0_hw703 => k0_hw703

def k0_chk704 (k0_t1 : Fin k0_t1_loop.trips) (k0_t3 : Fin (k0_t3_loop k0_t1).trips) (v27 : IVec S16 32) (v605 : IVec S16 32) : Prop :=
  (∀ a x, ((![v27, v605] : Fin 2 → IVec S16 32) a x).toNat < S256x257.size a)
theorem k0_idx704_inb : ∀ (k0_t1 : Fin k0_t1_loop.trips) (k0_t3 : Fin (k0_t3_loop k0_t1).trips) (v27 : IVec S16 32) (v605 : IVec S16 32) (k0_hw704 : k0_chk704 k0_t1 k0_t3 v27 v605), ∀ a x, ((![v27, v605] : Fin 2 → IVec S16 32) a x).toNat < S256x257.size a := fun k0_t1 k0_t3 v27 v605 k0_hw704 => k0_hw704

def k0_chk705 (k0_t1 : Fin k0_t1_loop.trips) (k0_t3 : Fin (k0_t3_loop k0_t1).trips) (v590 : IVec S16 32) (v606 : IVec S16 32) : Prop :=
  (∀ a x, ((![v606, v590] : Fin 2 → IVec S16 32) a x).toNat < S16x256.size a)
theorem k0_idx705_inb : ∀ (k0_t1 : Fin k0_t1_loop.trips) (k0_t3 : Fin (k0_t3_loop k0_t1).trips) (v590 : IVec S16 32) (v606 : IVec S16 32) (k0_hw705 : k0_chk705 k0_t1 k0_t3 v590 v606), ∀ a x, ((![v606, v590] : Fin 2 → IVec S16 32) a x).toNat < S16x256.size a := fun k0_t1 k0_t3 v590 v606 k0_hw705 => k0_hw705

def k0_chk706 (k0_t1 : Fin k0_t1_loop.trips) (k0_t3 : Fin (k0_t3_loop k0_t1).trips) (v27 : IVec S16 32) (v608 : IVec S16 32) : Prop :=
  (∀ a x, ((![v27, v608] : Fin 2 → IVec S16 32) a x).toNat < S256x257.size a)
theorem k0_idx706_inb : ∀ (k0_t1 : Fin k0_t1_loop.trips) (k0_t3 : Fin (k0_t3_loop k0_t1).trips) (v27 : IVec S16 32) (v608 : IVec S16 32) (k0_hw706 : k0_chk706 k0_t1 k0_t3 v27 v608), ∀ a x, ((![v27, v608] : Fin 2 → IVec S16 32) a x).toNat < S256x257.size a := fun k0_t1 k0_t3 v27 v608 k0_hw706 => k0_hw706

def k0_chk707 (k0_t1 : Fin k0_t1_loop.trips) (k0_t3 : Fin (k0_t3_loop k0_t1).trips) (v590 : IVec S16 32) (v609 : IVec S16 32) : Prop :=
  (∀ a x, ((![v609, v590] : Fin 2 → IVec S16 32) a x).toNat < S16x256.size a)
theorem k0_idx707_inb : ∀ (k0_t1 : Fin k0_t1_loop.trips) (k0_t3 : Fin (k0_t3_loop k0_t1).trips) (v590 : IVec S16 32) (v609 : IVec S16 32) (k0_hw707 : k0_chk707 k0_t1 k0_t3 v590 v609), ∀ a x, ((![v609, v590] : Fin 2 → IVec S16 32) a x).toNat < S16x256.size a := fun k0_t1 k0_t3 v590 v609 k0_hw707 => k0_hw707

def k0_chk708 (k0_t1 : Fin k0_t1_loop.trips) (k0_t3 : Fin (k0_t3_loop k0_t1).trips) (v27 : IVec S16 32) (v611 : IVec S16 32) : Prop :=
  (∀ a x, ((![v27, v611] : Fin 2 → IVec S16 32) a x).toNat < S256x257.size a)
theorem k0_idx708_inb : ∀ (k0_t1 : Fin k0_t1_loop.trips) (k0_t3 : Fin (k0_t3_loop k0_t1).trips) (v27 : IVec S16 32) (v611 : IVec S16 32) (k0_hw708 : k0_chk708 k0_t1 k0_t3 v27 v611), ∀ a x, ((![v27, v611] : Fin 2 → IVec S16 32) a x).toNat < S256x257.size a := fun k0_t1 k0_t3 v27 v611 k0_hw708 => k0_hw708

def k0_chk709 (k0_t1 : Fin k0_t1_loop.trips) (k0_t3 : Fin (k0_t3_loop k0_t1).trips) (v590 : IVec S16 32) (v612 : IVec S16 32) : Prop :=
  (∀ a x, ((![v612, v590] : Fin 2 → IVec S16 32) a x).toNat < S16x256.size a)
theorem k0_idx709_inb : ∀ (k0_t1 : Fin k0_t1_loop.trips) (k0_t3 : Fin (k0_t3_loop k0_t1).trips) (v590 : IVec S16 32) (v612 : IVec S16 32) (k0_hw709 : k0_chk709 k0_t1 k0_t3 v590 v612), ∀ a x, ((![v612, v590] : Fin 2 → IVec S16 32) a x).toNat < S16x256.size a := fun k0_t1 k0_t3 v590 v612 k0_hw709 => k0_hw709

def k0_chk710 (k0_t1 : Fin k0_t1_loop.trips) (k0_t3 : Fin (k0_t3_loop k0_t1).trips) (v27 : IVec S16 32) (v614 : IVec S16 32) : Prop :=
  (∀ a x, ((![v27, v614] : Fin 2 → IVec S16 32) a x).toNat < S256x257.size a)
theorem k0_idx710_inb : ∀ (k0_t1 : Fin k0_t1_loop.trips) (k0_t3 : Fin (k0_t3_loop k0_t1).trips) (v27 : IVec S16 32) (v614 : IVec S16 32) (k0_hw710 : k0_chk710 k0_t1 k0_t3 v27 v614), ∀ a x, ((![v27, v614] : Fin 2 → IVec S16 32) a x).toNat < S256x257.size a := fun k0_t1 k0_t3 v27 v614 k0_hw710 => k0_hw710

def k0_chk711 (k0_t1 : Fin k0_t1_loop.trips) (k0_t3 : Fin (k0_t3_loop k0_t1).trips) (v590 : IVec S16 32) (v615 : IVec S16 32) : Prop :=
  (∀ a x, ((![v615, v590] : Fin 2 → IVec S16 32) a x).toNat < S16x256.size a)
theorem k0_idx711_inb : ∀ (k0_t1 : Fin k0_t1_loop.trips) (k0_t3 : Fin (k0_t3_loop k0_t1).trips) (v590 : IVec S16 32) (v615 : IVec S16 32) (k0_hw711 : k0_chk711 k0_t1 k0_t3 v590 v615), ∀ a x, ((![v615, v590] : Fin 2 → IVec S16 32) a x).toNat < S16x256.size a := fun k0_t1 k0_t3 v590 v615 k0_hw711 => k0_hw711

def k0_chk712 (k0_t1 : Fin k0_t1_loop.trips) (k0_t3 : Fin (k0_t3_loop k0_t1).trips) (v27 : IVec S16 32) (v617 : IVec S16 32) : Prop :=
  (∀ a x, ((![v27, v617] : Fin 2 → IVec S16 32) a x).toNat < S256x257.size a)
theorem k0_idx712_inb : ∀ (k0_t1 : Fin k0_t1_loop.trips) (k0_t3 : Fin (k0_t3_loop k0_t1).trips) (v27 : IVec S16 32) (v617 : IVec S16 32) (k0_hw712 : k0_chk712 k0_t1 k0_t3 v27 v617), ∀ a x, ((![v27, v617] : Fin 2 → IVec S16 32) a x).toNat < S256x257.size a := fun k0_t1 k0_t3 v27 v617 k0_hw712 => k0_hw712

def k0_chk713 (k0_t1 : Fin k0_t1_loop.trips) (k0_t3 : Fin (k0_t3_loop k0_t1).trips) (v590 : IVec S16 32) (v618 : IVec S16 32) : Prop :=
  (∀ a x, ((![v618, v590] : Fin 2 → IVec S16 32) a x).toNat < S16x256.size a)
theorem k0_idx713_inb : ∀ (k0_t1 : Fin k0_t1_loop.trips) (k0_t3 : Fin (k0_t3_loop k0_t1).trips) (v590 : IVec S16 32) (v618 : IVec S16 32) (k0_hw713 : k0_chk713 k0_t1 k0_t3 v590 v618), ∀ a x, ((![v618, v590] : Fin 2 → IVec S16 32) a x).toNat < S16x256.size a := fun k0_t1 k0_t3 v590 v618 k0_hw713 => k0_hw713

def k0_chk714 (k0_t1 : Fin k0_t1_loop.trips) (k0_t3 : Fin (k0_t3_loop k0_t1).trips) (v27 : IVec S16 32) (v620 : IVec S16 32) : Prop :=
  (∀ a x, ((![v27, v620] : Fin 2 → IVec S16 32) a x).toNat < S256x257.size a)
theorem k0_idx714_inb : ∀ (k0_t1 : Fin k0_t1_loop.trips) (k0_t3 : Fin (k0_t3_loop k0_t1).trips) (v27 : IVec S16 32) (v620 : IVec S16 32) (k0_hw714 : k0_chk714 k0_t1 k0_t3 v27 v620), ∀ a x, ((![v27, v620] : Fin 2 → IVec S16 32) a x).toNat < S256x257.size a := fun k0_t1 k0_t3 v27 v620 k0_hw714 => k0_hw714

def k0_chk715 (k0_t1 : Fin k0_t1_loop.trips) (k0_t3 : Fin (k0_t3_loop k0_t1).trips) (v590 : IVec S16 32) (v621 : IVec S16 32) : Prop :=
  (∀ a x, ((![v621, v590] : Fin 2 → IVec S16 32) a x).toNat < S16x256.size a)
theorem k0_idx715_inb : ∀ (k0_t1 : Fin k0_t1_loop.trips) (k0_t3 : Fin (k0_t3_loop k0_t1).trips) (v590 : IVec S16 32) (v621 : IVec S16 32) (k0_hw715 : k0_chk715 k0_t1 k0_t3 v590 v621), ∀ a x, ((![v621, v590] : Fin 2 → IVec S16 32) a x).toNat < S16x256.size a := fun k0_t1 k0_t3 v590 v621 k0_hw715 => k0_hw715

def k0_chk716 (k0_t1 : Fin k0_t1_loop.trips) (k0_t3 : Fin (k0_t3_loop k0_t1).trips) (v27 : IVec S16 32) (v623 : IVec S16 32) : Prop :=
  (∀ a x, ((![v27, v623] : Fin 2 → IVec S16 32) a x).toNat < S256x257.size a)
theorem k0_idx716_inb : ∀ (k0_t1 : Fin k0_t1_loop.trips) (k0_t3 : Fin (k0_t3_loop k0_t1).trips) (v27 : IVec S16 32) (v623 : IVec S16 32) (k0_hw716 : k0_chk716 k0_t1 k0_t3 v27 v623), ∀ a x, ((![v27, v623] : Fin 2 → IVec S16 32) a x).toNat < S256x257.size a := fun k0_t1 k0_t3 v27 v623 k0_hw716 => k0_hw716

def k0_chk717 (k0_t1 : Fin k0_t1_loop.trips) (k0_t3 : Fin (k0_t3_loop k0_t1).trips) (v590 : IVec S16 32) (v624 : IVec S16 32) : Prop :=
  (∀ a x, ((![v624, v590] : Fin 2 → IVec S16 32) a x).toNat < S16x256.size a)
theorem k0_idx717_inb : ∀ (k0_t1 : Fin k0_t1_loop.trips) (k0_t3 : Fin (k0_t3_loop k0_t1).trips) (v590 : IVec S16 32) (v624 : IVec S16 32) (k0_hw717 : k0_chk717 k0_t1 k0_t3 v590 v624), ∀ a x, ((![v624, v590] : Fin 2 → IVec S16 32) a x).toNat < S16x256.size a := fun k0_t1 k0_t3 v590 v624 k0_hw717 => k0_hw717

def k0_chk718 (k0_t1 : Fin k0_t1_loop.trips) (k0_t3 : Fin (k0_t3_loop k0_t1).trips) (v27 : IVec S16 32) (v626 : IVec S16 32) : Prop :=
  (∀ a x, ((![v27, v626] : Fin 2 → IVec S16 32) a x).toNat < S256x257.size a)
theorem k0_idx718_inb : ∀ (k0_t1 : Fin k0_t1_loop.trips) (k0_t3 : Fin (k0_t3_loop k0_t1).trips) (v27 : IVec S16 32) (v626 : IVec S16 32) (k0_hw718 : k0_chk718 k0_t1 k0_t3 v27 v626), ∀ a x, ((![v27, v626] : Fin 2 → IVec S16 32) a x).toNat < S256x257.size a := fun k0_t1 k0_t3 v27 v626 k0_hw718 => k0_hw718

def k0_chk719 (k0_t1 : Fin k0_t1_loop.trips) (k0_t3 : Fin (k0_t3_loop k0_t1).trips) (v590 : IVec S16 32) (v627 : IVec S16 32) : Prop :=
  (∀ a x, ((![v627, v590] : Fin 2 → IVec S16 32) a x).toNat < S16x256.size a)
theorem k0_idx719_inb : ∀ (k0_t1 : Fin k0_t1_loop.trips) (k0_t3 : Fin (k0_t3_loop k0_t1).trips) (v590 : IVec S16 32) (v627 : IVec S16 32) (k0_hw719 : k0_chk719 k0_t1 k0_t3 v590 v627), ∀ a x, ((![v627, v590] : Fin 2 → IVec S16 32) a x).toNat < S16x256.size a := fun k0_t1 k0_t3 v590 v627 k0_hw719 => k0_hw719

def k0_chk720 (k0_t1 : Fin k0_t1_loop.trips) (k0_t3 : Fin (k0_t3_loop k0_t1).trips) (v27 : IVec S16 32) (v629 : IVec S16 32) : Prop :=
  (∀ a x, ((![v27, v629] : Fin 2 → IVec S16 32) a x).toNat < S256x257.size a)
theorem k0_idx720_inb : ∀ (k0_t1 : Fin k0_t1_loop.trips) (k0_t3 : Fin (k0_t3_loop k0_t1).trips) (v27 : IVec S16 32) (v629 : IVec S16 32) (k0_hw720 : k0_chk720 k0_t1 k0_t3 v27 v629), ∀ a x, ((![v27, v629] : Fin 2 → IVec S16 32) a x).toNat < S256x257.size a := fun k0_t1 k0_t3 v27 v629 k0_hw720 => k0_hw720

def k0_chk721 (k0_t1 : Fin k0_t1_loop.trips) (k0_t3 : Fin (k0_t3_loop k0_t1).trips) (v590 : IVec S16 32) (v630 : IVec S16 32) : Prop :=
  (∀ a x, ((![v630, v590] : Fin 2 → IVec S16 32) a x).toNat < S16x256.size a)
theorem k0_idx721_inb : ∀ (k0_t1 : Fin k0_t1_loop.trips) (k0_t3 : Fin (k0_t3_loop k0_t1).trips) (v590 : IVec S16 32) (v630 : IVec S16 32) (k0_hw721 : k0_chk721 k0_t1 k0_t3 v590 v630), ∀ a x, ((![v630, v590] : Fin 2 → IVec S16 32) a x).toNat < S16x256.size a := fun k0_t1 k0_t3 v590 v630 k0_hw721 => k0_hw721

def k0_chk722 (k0_t1 : Fin k0_t1_loop.trips) (k0_t3 : Fin (k0_t3_loop k0_t1).trips) (v27 : IVec S16 32) (v632 : IVec S16 32) : Prop :=
  (∀ a x, ((![v27, v632] : Fin 2 → IVec S16 32) a x).toNat < S256x257.size a)
theorem k0_idx722_inb : ∀ (k0_t1 : Fin k0_t1_loop.trips) (k0_t3 : Fin (k0_t3_loop k0_t1).trips) (v27 : IVec S16 32) (v632 : IVec S16 32) (k0_hw722 : k0_chk722 k0_t1 k0_t3 v27 v632), ∀ a x, ((![v27, v632] : Fin 2 → IVec S16 32) a x).toNat < S256x257.size a := fun k0_t1 k0_t3 v27 v632 k0_hw722 => k0_hw722

def k0_chk723 (k0_t1 : Fin k0_t1_loop.trips) (k0_t3 : Fin (k0_t3_loop k0_t1).trips) (v590 : IVec S16 32) (v633 : IVec S16 32) : Prop :=
  (∀ a x, ((![v633, v590] : Fin 2 → IVec S16 32) a x).toNat < S16x256.size a)
theorem k0_idx723_inb : ∀ (k0_t1 : Fin k0_t1_loop.trips) (k0_t3 : Fin (k0_t3_loop k0_t1).trips) (v590 : IVec S16 32) (v633 : IVec S16 32) (k0_hw723 : k0_chk723 k0_t1 k0_t3 v590 v633), ∀ a x, ((![v633, v590] : Fin 2 → IVec S16 32) a x).toNat < S16x256.size a := fun k0_t1 k0_t3 v590 v633 k0_hw723 => k0_hw723

def k0_chk724 (k0_t1 : Fin k0_t1_loop.trips) (k0_t3 : Fin (k0_t3_loop k0_t1).trips) (v27 : IVec S16 32) (v635 : IVec S16 32) : Prop :=
  (∀ a x, ((![v27, v635] : Fin 2 → IVec S16 32) a x).toNat < S256x257.size a)
theorem k0_idx724_inb : ∀ (k0_t1 : Fin k0_t1_loop.trips) (k0_t3 : Fin (k0_t3_loop k0_t1).trips) (v27 : IVec S16 32) (v635 : IVec S16 32) (k0_hw724 : k0_chk724 k0_t1 k0_t3 v27 v635), ∀ a x, ((![v27, v635] : Fin 2 → IVec S16 32) a x).toNat < S256x257.size a := fun k0_t1 k0_t3 v27 v635 k0_hw724 => k0_hw724

def k0_chk725 (k0_t1 : Fin k0_t1_loop.trips) (k0_t3 : Fin (k0_t3_loop k0_t1).trips) (v590 : IVec S16 32) (v636 : IVec S16 32) : Prop :=
  (∀ a x, ((![v636, v590] : Fin 2 → IVec S16 32) a x).toNat < S16x256.size a)
theorem k0_idx725_inb : ∀ (k0_t1 : Fin k0_t1_loop.trips) (k0_t3 : Fin (k0_t3_loop k0_t1).trips) (v590 : IVec S16 32) (v636 : IVec S16 32) (k0_hw725 : k0_chk725 k0_t1 k0_t3 v590 v636), ∀ a x, ((![v636, v590] : Fin 2 → IVec S16 32) a x).toNat < S16x256.size a := fun k0_t1 k0_t3 v590 v636 k0_hw725 => k0_hw725

def k0_chk726 (k0_t1 : Fin k0_t1_loop.trips) (k0_t3 : Fin (k0_t3_loop k0_t1).trips) (v27 : IVec S16 32) (v638 : IVec S16 32) : Prop :=
  (∀ a x, ((![v27, v638] : Fin 2 → IVec S16 32) a x).toNat < S256x257.size a)
theorem k0_idx726_inb : ∀ (k0_t1 : Fin k0_t1_loop.trips) (k0_t3 : Fin (k0_t3_loop k0_t1).trips) (v27 : IVec S16 32) (v638 : IVec S16 32) (k0_hw726 : k0_chk726 k0_t1 k0_t3 v27 v638), ∀ a x, ((![v27, v638] : Fin 2 → IVec S16 32) a x).toNat < S256x257.size a := fun k0_t1 k0_t3 v27 v638 k0_hw726 => k0_hw726
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v18 : BitVec 32 := Scalar.muli v1 c512_i32
  let c0_i32_0 : BitVec 32 := 0#32
  let c1_i32 : BitVec 32 := 1#32
  let arg8 : BitVec 32 := Scf.iv c0_i32_0 c1_i32 k0_t1
  let c256_i32 : BitVec 32 := 256#32
  let v19 : BitVec 32 := Scalar.muli arg8 c256_i32
  let v20 : BitVec 32 := Scalar.addi v18 v19
  let c0_i32_16_r2 : BitVec 32 := 0#32
  ![v20.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x5 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S176x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S176x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S5x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256x128 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S2048x1 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x11 : Shape := ⟨2, ![16384, 11]⟩
abbrev S16384x5 : Shape := ⟨2, ![16384, 5]⟩
abbrev S166x16 : Shape := ⟨2, ![166, 16]⟩
abbrev S357x512 : Shape := ⟨2, ![357, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S166x16x2 : Shape := ⟨3, ![166, 16, 2]⟩
abbrev S166x32 : Shape := ⟨2, ![166, 32]⟩
abbrev S_ : Shape := ⟨0, ![]⟩
abbrev S32 : Shape := ⟨1, ![32]⟩
abbrev S16384x11x1 : Shape := ⟨3, ![16384, 11, 1]⟩
abbrev S1x1x1 : Shape := ⟨3, ![1, 1, 1]⟩
abbrev S16384x11x32 : Shape := ⟨3, ![16384, 11, 32]⟩
abbrev S16384x352 : Shape := ⟨2, ![16384, 352]⟩
abbrev S16384x357 : Shape := ⟨2, ![16384, 357]⟩
abbrev S16384x512 : Shape := ⟨2, ![16384, 512]⟩
abbrev S1x512 : Shape := ⟨2, ![1, 512]⟩
abbrev S16384 : Shape := ⟨1, ![16384]⟩
abbrev S16384x1 : Shape := ⟨2, ![16384, 1]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S1x1 : Shape := ⟨2, ![1, 1]⟩

abbrev nBuf : Space → Nat
  | .hbm => 216
  | .vmem => 0
  | .smem => 0
  | _ => 0

abbrev hbmTy0_0 (i : Nat) : BufTy := match i % 128 with
  | 0 => ⟨S16384x11, .i32⟩
  | 1 => ⟨S16384x5, .f32⟩
  | 2 => ⟨S166x16, .i32⟩
  | 3 => ⟨S357x512, .f32⟩
  | 4 => ⟨S512, .f32⟩
  | 5 => ⟨S512, .f32⟩
  | 6 => ⟨S512, .f32⟩
  | 7 => ⟨S512x256, .f32⟩
  | 8 => ⟨S256, .f32⟩
  | 9 => ⟨S256, .f32⟩
  | 10 => ⟨S256, .f32⟩
  | 11 => ⟨S256x128, .f32⟩
  | 12 => ⟨S128, .f32⟩
  | 13 => ⟨S128, .f32⟩
  | 14 => ⟨S128, .f32⟩
  | 15 => ⟨S128x1, .f32⟩
  | 16 => ⟨S1, .f32⟩
  | 17 => ⟨S166x16x2, .bf16⟩
  | 18 => ⟨S166x32, .bf16⟩
  | 19 => ⟨S166x32, .f32⟩
  | 20 => ⟨S_, .i32⟩
  | 21 => ⟨S1, .i32⟩
  | 22 => ⟨S_, .f32⟩
  | 23 => ⟨S32, .f32⟩
  | 24 => ⟨S166x32, .f32⟩
  | 25 => ⟨S_, .i32⟩
  | 26 => ⟨S16384x11, .i32⟩
  | 27 => ⟨S16384x11, .i1⟩
  | 28 => ⟨S_, .i32⟩
  | 29 => ⟨S16384x11, .i32⟩
  | 30 => ⟨S16384x11, .i32⟩
  | 31 => ⟨S16384x11, .i32⟩
  | 32 => ⟨S16384x11x1, .i32⟩
  | 33 => ⟨S1, .i32⟩
  | 34 => ⟨S_, .i32⟩
  | 35 => ⟨S16384x11x1, .i32⟩
  | 36 => ⟨S16384x11x1, .i1⟩
  | 37 => ⟨S1x1x1, .i32⟩
  | 38 => ⟨S16384x11x1, .i32⟩
  | 39 => ⟨S16384x11x1, .i1⟩
  | 40 => ⟨S16384x11x1, .i1⟩
  | 41 => ⟨S_, .i1⟩
  | 42 => ⟨S16384x11, .i1⟩
  | 43 => ⟨S16384x11x32, .f32⟩
  | 44 => ⟨S16384x11x32, .i1⟩
  | 45 => ⟨S_, .f32⟩
  | 46 => ⟨S16384x11x32, .f32⟩
  | 47 => ⟨S16384x11x32, .f32⟩
  | 48 => ⟨S16384x352, .f32⟩
  | 49 => ⟨S16384x357, .f32⟩
  | 50 => ⟨S16384x512, .f32⟩
  | 51 => ⟨S1x512, .f32⟩
  | 52 => ⟨S16384x512, .f32⟩
  | 53 => ⟨S16384x512, .f32⟩
  | 54 => ⟨S_, .f32⟩
  | 55 => ⟨S16384, .f32⟩
  | 56 => ⟨S16384x1, .f32⟩
  | 57 => ⟨S_, .f32⟩
  | 58 => ⟨S16384x1, .f32⟩
  | 59 => ⟨S16384x1, .f32⟩
  | 60 => ⟨S_, .i32⟩
  | 61 => ⟨S_, .f32⟩
  | 62 => ⟨S16384, .f32⟩
  | 63 => ⟨S16384x1, .f32⟩
  | 64 => ⟨S_, .f32⟩
  | 65 => ⟨S16384x1, .f32⟩
  | 66 => ⟨S16384x1, .f32⟩
  | 67 => ⟨S16384x512, .f32⟩
  | 68 => ⟨S16384x512, .f32⟩
  | 69 => ⟨S16384x512, .f32⟩
  | 70 => ⟨S_, .f32⟩
  | 71 => ⟨S_, .f32⟩
  | 72 => ⟨S_, .f32⟩
  | 73 => ⟨S_, .f32⟩
  | 74 => ⟨S16384, .f32⟩
  | 75 => ⟨S16384x1, .f32⟩
  | 76 => ⟨S16384x1, .f32⟩
  | 77 => ⟨S16384x1, .f32⟩
  | 78 => ⟨S_, .f32⟩
  | 79 => ⟨S_, .i1⟩
  | 80 => ⟨S_, .f32⟩
  | 81 => ⟨S_, .f32⟩
  | 82 => ⟨S16384x1, .f32⟩
  | 83 => ⟨S16384x1, .f32⟩
  | 84 => ⟨S16384x512, .f32⟩
  | 85 => ⟨S16384x512, .f32⟩
  | 86 => ⟨S_, .f32⟩
  | 87 => ⟨S16384x1, .f32⟩
  | 88 => ⟨S16384x1, .f32⟩
  | 89 => ⟨S16384x1, .f32⟩
  | 90 => ⟨S16384x512, .f32⟩
  | 91 => ⟨S16384x512, .f32⟩
  | 92 => ⟨S1x512, .f32⟩
  | 93 => ⟨S16384x512, .f32⟩
  | 94 => ⟨S16384x512, .f32⟩
  | 95 => ⟨S1x512, .f32⟩
  | 96 => ⟨S16384x512, .f32⟩
  | 97 => ⟨S16384x512, .f32⟩
  | 98 => ⟨S_, .f32⟩
  | 99 => ⟨S16384x512, .f32⟩
  | 100 => ⟨S16384x512, .f32⟩
  | 101 => ⟨S16384x256, .f32⟩
  | 102 => ⟨S1x256, .f32⟩
  | 103 => ⟨S16384x256, .f32⟩
  | 104 => ⟨S16384x256, .f32⟩
  | 105 => ⟨S_, .f32⟩
  | 106 => ⟨S16384, .f32⟩
  | 107 => ⟨S16384x1, .f32⟩
  | 108 => ⟨S_, .f32⟩
  | 109 => ⟨S16384x1, .f32⟩
  | 110 => ⟨S16384x1, .f32⟩
  | 111 => ⟨S_, .i32⟩
  | 112 => ⟨S_, .f32⟩
  | 113 => ⟨S16384, .f32⟩
  | 114 => ⟨S16384x1, .f32⟩
  | 115 => ⟨S_, .f32⟩
  | 116 => ⟨S16384x1, .f32⟩
  | 117 => ⟨S16384x1, .f32⟩
  | 118 => ⟨S16384x256, .f32⟩
  | 119 => ⟨S16384x256, .f32⟩
  | 120 => ⟨S16384x256, .f32⟩
  | 121 => ⟨S_, .f32⟩
  | 122 => ⟨S_, .f32⟩
  | 123 => ⟨S_, .f32⟩
  | 124 => ⟨S_, .f32⟩
  | 125 => ⟨S16384, .f32⟩
  | 126 => ⟨S16384x1, .f32⟩
  | 127 => ⟨S16384x1, .f32⟩
  | _ => ⟨S16384x11, .i32⟩

abbrev hbmTy0_1 (i : Nat) : BufTy := match i % 128 with
  | 0 => ⟨S16384x1, .f32⟩
  | 1 => ⟨S_, .f32⟩
  | 2 => ⟨S_, .i1⟩
  | 3 => ⟨S_, .f32⟩
  | 4 => ⟨S_, .f32⟩
  | 5 => ⟨S16384x1, .f32⟩
  | 6 => ⟨S16384x1, .f32⟩
  | 7 => ⟨S16384x256, .f32⟩
  | 8 => ⟨S16384x256, .f32⟩
  | 9 => ⟨S_, .f32⟩
  | 10 => ⟨S16384x1, .f32⟩
  | 11 => ⟨S16384x1, .f32⟩
  | 12 => ⟨S16384x1, .f32⟩
  | 13 => ⟨S16384x256, .f32⟩
  | 14 => ⟨S16384x256, .f32⟩
  | 15 => ⟨S1x256, .f32⟩
  | 16 => ⟨S16384x256, .f32⟩
  | 17 => ⟨S16384x256, .f32⟩
  | 18 => ⟨S1x256, .f32⟩
  | 19 => ⟨S16384x256, .f32⟩
  | 20 => ⟨S16384x256, .f32⟩
  | 21 => ⟨S_, .f32⟩
  | 22 => ⟨S16384x256, .f32⟩
  | 23 => ⟨S16384x256, .f32⟩
  | 24 => ⟨S16384x128, .f32⟩
  | 25 => ⟨S1x128, .f32⟩
  | 26 => ⟨S16384x128, .f32⟩
  | 27 => ⟨S16384x128, .f32⟩
  | 28 => ⟨S_, .f32⟩
  | 29 => ⟨S16384, .f32⟩
  | 30 => ⟨S16384x1, .f32⟩
  | 31 => ⟨S_, .f32⟩
  | 32 => ⟨S16384x1, .f32⟩
  | 33 => ⟨S16384x1, .f32⟩
  | 34 => ⟨S_, .i32⟩
  | 35 => ⟨S_, .f32⟩
  | 36 => ⟨S16384, .f32⟩
  | 37 => ⟨S16384x1, .f32⟩
  | 38 => ⟨S_, .f32⟩
  | 39 => ⟨S16384x1, .f32⟩
  | 40 => ⟨S16384x1, .f32⟩
  | 41 => ⟨S16384x128, .f32⟩
  | 42 => ⟨S16384x128, .f32⟩
  | 43 => ⟨S16384x128, .f32⟩
  | 44 => ⟨S_, .f32⟩
  | 45 => ⟨S_, .f32⟩
  | 46 => ⟨S_, .f32⟩
  | 47 => ⟨S_, .f32⟩
  | 48 => ⟨S16384, .f32⟩
  | 49 => ⟨S16384x1, .f32⟩
  | 50 => ⟨S16384x1, .f32⟩
  | 51 => ⟨S16384x1, .f32⟩
  | 52 => ⟨S_, .f32⟩
  | 53 => ⟨S_, .i1⟩
  | 54 => ⟨S_, .f32⟩
  | 55 => ⟨S_, .f32⟩
  | 56 => ⟨S16384x1, .f32⟩
  | 57 => ⟨S16384x1, .f32⟩
  | 58 => ⟨S16384x128, .f32⟩
  | 59 => ⟨S16384x128, .f32⟩
  | 60 => ⟨S_, .f32⟩
  | 61 => ⟨S16384x1, .f32⟩
  | 62 => ⟨S16384x1, .f32⟩
  | 63 => ⟨S16384x1, .f32⟩
  | 64 => ⟨S16384x128, .f32⟩
  | 65 => ⟨S16384x128, .f32⟩
  | 66 => ⟨S1x128, .f32⟩
  | 67 => ⟨S16384x128, .f32⟩
  | 68 => ⟨S16384x128, .f32⟩
  | 69 => ⟨S1x128, .f32⟩
  | 70 => ⟨S16384x128, .f32⟩
  | 71 => ⟨S16384x128, .f32⟩
  | 72 => ⟨S_, .f32⟩
  | 73 => ⟨S16384x128, .f32⟩
  | 74 => ⟨S16384x128, .f32⟩
  | 75 => ⟨S16384x1, .f32⟩
  | 76 => ⟨S1x1, .f32⟩
  | 77 => ⟨S16384x1, .f32⟩
  | 78 => ⟨S16384x1, .f32⟩
  | 79 => ⟨S16384x1, .f32⟩
  | 80 => ⟨S16384x1, .f32⟩
  | 81 => ⟨S_, .f32⟩
  | 82 => ⟨S16384x1, .f32⟩
  | 83 => ⟨S16384x1, .f32⟩
  | 84 => ⟨S_, .f32⟩
  | 85 => ⟨S16384x1, .f32⟩
  | 86 => ⟨S16384x1, .f32⟩
  | 87 => ⟨S16384, .f32⟩
  | _ => ⟨S16384x11, .i32⟩

abbrev hbmTy (i : Nat) : BufTy := match i / 128 with
  | 0 => hbmTy0_0 i
  | 1 => hbmTy0_1 i
  | _ => ⟨S16384x11, .i32⟩

abbrev bufTy : (tb : Table) → Fin (tcTables nBuf tb) → BufTy
  | .hbm, ⟨i, _⟩ => hbmTy i
  | _, _ => ⟨S16384x11, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst_0 : Ref sig .tc := ⟨.hbm, 54, rfl⟩
abbrev main_v13 : Ref sig .tc := ⟨.hbm, 55, rfl⟩
abbrev main_v14 : Ref sig .tc := ⟨.hbm, 56, rfl⟩
abbrev main_cst_1 : Ref sig .tc := ⟨.hbm, 57, rfl⟩
abbrev main_v15 : Ref sig .tc := ⟨.hbm, 58, rfl⟩
abbrev main_v16 : Ref sig .tc := ⟨.hbm, 59, rfl⟩
abbrev main_c_2 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_cst_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_cst_1 : Ref sig .tc := ⟨.hbm, 71, rfl⟩
abbrev main_call1_v8 : Ref sig .tc := ⟨.hbm, 72, rfl⟩
abbrev main_call1_cst_2 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_cst_3 : Ref sig .tc := ⟨.hbm, 78, rfl⟩
abbrev main_call1_v13 : Ref sig .tc := ⟨.hbm, 79, rfl⟩
abbrev main_call1_cst_4 : Ref sig .tc := ⟨.hbm, 80, rfl⟩
abbrev main_call1_call0_v0 : Ref sig .tc := ⟨.hbm, 81, rfl⟩
abbrev main_call1_call0_v1 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_cst_3 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_call2_cst : Ref sig .tc := ⟨.hbm, 98, rfl⟩
abbrev main_call2_v0 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_cst_4 : Ref sig .tc := ⟨.hbm, 105, rfl⟩
abbrev main_v36 : Ref sig .tc := ⟨.hbm, 106, rfl⟩
abbrev main_v37 : Ref sig .tc := ⟨.hbm, 107, rfl⟩
abbrev main_cst_5 : Ref sig .tc := ⟨.hbm, 108, rfl⟩
abbrev main_v38 : Ref sig .tc := ⟨.hbm, 109, rfl⟩
abbrev main_v39 : Ref sig .tc := ⟨.hbm, 110, rfl⟩
abbrev main_c_6 : Ref sig .tc := ⟨.hbm, 111, rfl⟩
abbrev main_call3_cst : Ref sig .tc := ⟨.hbm, 112, rfl⟩
abbrev main_call3_v0 : Ref sig .tc := ⟨.hbm, 113, rfl⟩
abbrev main_call3_v1 : Ref sig .tc := ⟨.hbm, 114, rfl⟩
abbrev main_call3_cst_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_v6 : Ref sig .tc := ⟨.hbm, 120, rfl⟩
abbrev main_call3_v7 : Ref sig .tc := ⟨.hbm, 121, rfl⟩
abbrev main_call3_cst_1 : Ref sig .tc := ⟨.hbm, 122, rfl⟩
abbrev main_call3_v8 : Ref sig .tc := ⟨.hbm, 123, rfl⟩
abbrev main_call3_cst_2 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_v12 : Ref sig .tc := ⟨.hbm, 128, rfl⟩
abbrev main_call3_cst_3 : Ref sig .tc := ⟨.hbm, 129, rfl⟩
abbrev main_call3_v13 : Ref sig .tc := ⟨.hbm, 130, rfl⟩
abbrev main_call3_cst_4 : Ref sig .tc := ⟨.hbm, 131, rfl⟩
abbrev main_call3_call0_v0 : Ref sig .tc := ⟨.hbm, 132, rfl⟩
abbrev main_call3_call0_v1 : Ref sig .tc := ⟨.hbm, 133, rfl⟩
abbrev main_v40 : Ref sig .tc := ⟨.hbm, 134, rfl⟩
abbrev main_v41 : Ref sig .tc := ⟨.hbm, 135, rfl⟩
abbrev main_v42 : Ref sig .tc := ⟨.hbm, 136, rfl⟩
abbrev main_cst_7 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev main_call4_cst : Ref sig .tc := ⟨.hbm, 149, rfl⟩
abbrev main_call4_v0 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_cst_8 : Ref sig .tc := ⟨.hbm, 156, rfl⟩
abbrev main_v59 : Ref sig .tc := ⟨.hbm, 157, rfl⟩
abbrev main_v60 : Ref sig .tc := ⟨.hbm, 158, rfl⟩
abbrev main_cst_9 : Ref sig .tc := ⟨.hbm, 159, rfl⟩
abbrev main_v61 : Ref sig .tc := ⟨.hbm, 160, rfl⟩
abbrev main_v62 : Ref sig .tc := ⟨.hbm, 161, rfl⟩
abbrev main_c_10 : Ref sig .tc := ⟨.hbm, 162, rfl⟩
abbrev main_call5_cst : Ref sig .tc := ⟨.hbm, 163, rfl⟩
abbrev main_call5_v0 : Ref sig .tc := ⟨.hbm, 164, rfl⟩
abbrev main_call5_v1 : Ref sig .tc := ⟨.hbm, 165, rfl⟩
abbrev main_call5_cst_0 : Ref sig .tc := ⟨.hbm, 166, rfl⟩
abbrev main_call5_v2 : Ref sig .tc := ⟨.hbm, 167, rfl⟩
abbrev main_call5_v3 : Ref sig .tc := ⟨.hbm, 168, rfl⟩
abbrev main_call5_v4 : Ref sig .tc := ⟨.hbm, 169, rfl⟩
abbrev main_call5_v5 : Ref sig .tc := ⟨.hbm, 170, rfl⟩
abbrev main_call5_v6 : Ref sig .tc := ⟨.hbm, 171, rfl⟩
abbrev main_call5_v7 : Ref sig .tc := ⟨.hbm, 172, rfl⟩
abbrev main_call5_cst_1 : Ref sig .tc := ⟨.hbm, 173, rfl⟩
abbrev main_call5_v8 : Ref sig .tc := ⟨.hbm, 174, rfl⟩
abbrev main_call5_cst_2 : Ref sig .tc := ⟨.hbm, 175, rfl⟩
abbrev main_call5_v9 : Ref sig .tc := ⟨.hbm, 176, rfl⟩
abbrev main_call5_v10 : Ref sig .tc := ⟨.hbm, 177, rfl⟩
abbrev main_call5_v11 : Ref sig .tc := ⟨.hbm, 178, rfl⟩
abbrev main_call5_v12 : Ref sig .tc := ⟨.hbm, 179, rfl⟩
abbrev main_call5_cst_3 : Ref sig .tc := ⟨.hbm, 180, rfl⟩
abbrev main_call5_v13 : Ref sig .tc := ⟨.hbm, 181, rfl⟩
abbrev main_call5_cst_4 : Ref sig .tc := ⟨.hbm, 182, rfl⟩
abbrev main_call5_call0_v0 : Ref sig .tc := ⟨.hbm, 183, rfl⟩
abbrev main_call5_call0_v1 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_cst_11 : Ref sig .tc := ⟨.hbm, 188, rfl⟩
abbrev main_v66 : Ref sig .tc := ⟨.hbm, 189, rfl⟩
abbrev main_v67 : Ref sig .tc := ⟨.hbm, 190, rfl⟩
abbrev main_v68 : Ref sig .tc := ⟨.hbm, 191, rfl⟩
abbrev main_v69 : Ref sig .tc := ⟨.hbm, 192, rfl⟩
abbrev main_v70 : Ref sig .tc := ⟨.hbm, 193, rfl⟩
abbrev main_v71 : Ref sig .tc := ⟨.hbm, 194, rfl⟩
abbrev main_v72 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩
abbrev main_v76 : Ref sig .tc := ⟨.hbm, 199, rfl⟩
abbrev main_call6_cst : Ref sig .tc := ⟨.hbm, 200, rfl⟩
abbrev main_call6_v0 : Ref sig .tc := ⟨.hbm, 201, rfl⟩
abbrev main_v77 : Ref sig .tc := ⟨.hbm, 202, rfl⟩
abbrev main_v78 : Ref sig .tc := ⟨.hbm, 203, rfl⟩
abbrev main_v79 : Ref sig .tc := ⟨.hbm, 204, rfl⟩
abbrev main_v80 : Ref sig .tc := ⟨.hbm, 205, rfl⟩
abbrev main_v81 : Ref sig .tc := ⟨.hbm, 206, rfl⟩
abbrev main_v82 : Ref sig .tc := ⟨.hbm, 207, rfl⟩
abbrev main_v83 : Ref sig .tc := ⟨.hbm, 208, rfl⟩
abbrev main_cst_12 : Ref sig .tc := ⟨.hbm, 209, rfl⟩
abbrev main_v84 : Ref sig .tc := ⟨.hbm, 210, rfl⟩
abbrev main_v85 : Ref sig .tc := ⟨.hbm, 211, rfl⟩
abbrev main_cst_13 : Ref sig .tc := ⟨.hbm, 212, rfl⟩
abbrev main_v86 : Ref sig .tc := ⟨.hbm, 213, rfl⟩
abbrev main_v87 : Ref sig .tc := ⟨.hbm, 214, rfl⟩
abbrev main_v88 : Ref sig .tc := ⟨.hbm, 215, rfl⟩

abbrev nD : Nat := 1
abbrev τ : Topo := Topo.v7x

variable {F : FTy → Type} [FloatOps F]
-- ==== Proof.Setup.lean ====
/-
  The program `KernelIdeal` as the launch theorem of a SparseCore program sees it, over any float values `F`: its
  configuration, the resource algebra (the handshakes' rounds, the pipeline's rounds, the transfers' counters), the
  memrefs a tile's kernel is called on, and the numbers the whole proof speaks of: the entry of the index array at a
  position, the entry of the transposed table at a word and an id.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program without the SparseCore call's: the pipeline's. -/
abbrev ΛP : Labels := Pipeline.Sig Λ₀ (Fin 1) fun p => (pcfgs (F := F) p).Adm
/-- The SparseCore configuration: one call. -/
abbrev K : SparseCore.Cfg τ sig (ΛP (F := F)) 1 := sc (F := F)
theorem nSub_zero : (K (F := F)).nSub 0 = 16 := rfl
theorem nCore_zero : (K (F := F)).nCore 0 = 2 := rfl
/-- The bodies below the SparseCore call: the pipeline's regions over the kernels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipeline's rounds. -/
abbrev UP : Type := URounds (GSem nD τ sig) Unit
/-- All the user's resources: handshakes, pipeline, transfers' counters. -/
abbrev UU : Type := UH × (UP × Counters)

/-- The resource algebra of the whole proof. -/
abbrev MM (F : FTy → Type) : Type := MT nD τ sig (HIx 1) (Elt F) ℕ UU ℕ

local notation "𝕄" => MM F

abbrev EH : Emb UH (MM F) := embL
/-- The pipeline's rounds inside the algebra. -/
def EP : Emb UP (MM F) := (Emb.inl.trans Emb.inr).trans (uEmb (Ix := HIx 1) (U := UU)).toEmb
instance EP_landsIn : (EP : Emb UP 𝕄).LandsIn (upEmb : UEmb _ 𝕄) := by unfold EP; infer_instance

/-! ## Names -/

section Names
variable (d : Dev nD) (L : grid0.Coords)

abbrev cV (L : grid0.Coords) : Fin τ.nSC := (L 0).castLE hcore0
abbrev jV (L : grid0.Coords) : Fin τ.nSub := (L 1).castLE hsub0
/-- The thread of the tile with coordinates `L`. -/
abbrev thr (d : Dev nD) (L : grid0.Coords) : Thread nD τ := V d (cV L) (jV L)
/-- The tile's number: twice the subcore and the core. -/
abbrev wid (L : grid0.Coords) : ℕ := 2 * (L 1).val + (L 0).val

/-- The transposed table, the index array and the gathered words, as a tile names them. -/
abbrev tabV : Memref sig .scVector .hbm S16x256 .i32 := Memref.whole main_v6_scv
abbrev idxV : Memref sig .scVector .hbm S1408x128 .i32 := Memref.whole main_v7_scv
abbrev outV : Memref sig .scVector .hbm S16384x256 .i32 := Memref.whole main_v8_scv
/-- A tile's three scratch buffers: the table, its index rows, the words of one chunk. -/
abbrev tabS : Memref sig .scVector .vmem S16x256 .i32 := Memref.whole cc0_scratch0
abbrev idxS : Memref sig .scVector .vmem S44x128 .i32 := Memref.whole cc0_scratch1
abbrev bufS : Memref sig .scVector .vmem S256x257 .i32 := Memref.whole cc0_scratch2

end Names

/-! ## Entries -/

/-- A pair of numbers as an index of a rank-two shape, each reduced into range. -/
def ix2 {n0 n1 : ℕ} [NeZero n0] [NeZero n1] (a b : ℕ) : (⟨2, ![n0, n1]⟩ : Shape).Idx
  | 0 => (Fin.ofNat n0 a : Fin n0)
  | 1 => (Fin.ofNat n1 b : Fin n1)

/-- An index of rank two is `ix2` of its coordinates. -/
theorem ix2_self {n0 n1 : ℕ} [NeZero n0] [NeZero n1] (j : (⟨2, ![n0, n1]⟩ : Shape).Idx) : ix2 (j 0).val (j 1).val = j := by
  have h0 : (j 0).val < n0 := (j 0).isLt
  have h1 : (j 1).val < n1 := (j 1).isLt
  funext a
  match a with
  | 0 => exact Fin.ext (Nat.mod_eq_of_lt h0)
  | 1 => exact Fin.ext (Nat.mod_eq_of_lt h1)

/-- The entry of a flat position in the tile's 44 index rows. -/
def iget (I : S44x128.Idx → BitVec 32) (n : ℕ) : BitVec 32 := I (ix2 (n / 128) (n % 128))
/-- The entry of a flat position in the whole index array. -/
def igetAll (I : S1408x128.Idx → BitVec 32) (n : ℕ) : BitVec 32 := I (ix2 (n / 128) (n % 128))
/-- Word `c` of the row of id `k` in the transposed table. -/
def tget (T : S16x256.Idx → BitVec 32) (c k : ℕ) : BitVec 32 := T (ix2 c k)

end Cert.Proof.Embed

end
-- ==== Proof.Steps.lean ====
/-
  One indexed operation of a tile's gather, as a step of its proof. A group gathers the words of sixteen samples: for
  each of the eleven slots it loads the sixteen ids from the tile's index rows, and for each of the sixteen words of a
  row it loads that word of those ids from the table and stores it at one column of the chunk's buffer. `Done` says how
  far the buffer is: every earlier sample complete, the group's own samples complete below a column. Each step is an
  entailment about the program from that operation on.
-/
module

public import proofs.«01_k».proof.Proof.Setup

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The numbers -/

/-- The word a sample's row holds at a column: word `col % 16` of the id in slot `col / 16`. -/
def want (T : S16x256.Idx → BitVec 32) (I : S44x128.Idx → BitVec 32) (r col : ℕ) : BitVec 32 :=
  tget T (col % 16) (iget I (r * 11 + col / 16)).toNat

/-- In the chunk starting at sample `b` of the tile, the buffer holds the wanted words for the samples before `16 g`
    and, below column `n`, for the sixteen samples from there. -/
def Done (T : S16x256.Idx → BitVec 32) (I : S44x128.Idx → BitVec 32) (b g n : ℕ) (f : S256x257.Idx → BitVec 32) : Prop :=
  ∀ j : S256x257.Idx, (j 1).val < 176 → ((j 0).val < 16 * g ∨ ((j 0).val < 16 * g + 16 ∧ (j 1).val < n)) →
    f j = want T I (b + (j 0).val) (j 1).val

/-- The buffer rows of the group: lane `x` is row `16 g + x`. -/
def Rows (g : ℕ) (v : IVec S16 32) : Prop := ∀ x : S16.Idx, (v x).toNat = 16 * g + (x 0).val
/-- The first index positions of the group's samples: lane `x`'s is eleven times its number in the tile. -/
def Base (b g : ℕ) (v : IVec S16 32) : Prop := ∀ x : S16.Idx, (v x).toNat = (b + 16 * g + (x 0).val) * 11
/-- The ids of slot `j`. -/
def IsIds (I : S44x128.Idx → BitVec 32) (b g j : ℕ) (v : IVec S16 32) : Prop :=
  ∀ x : S16.Idx, v x = iget I ((b + 16 * g + (x 0).val) * 11 + j)
/-- The words of column `n`. -/
def IsVal (T : S16x256.Idx → BitVec 32) (I : S44x128.Idx → BitVec 32) (b g n : ℕ) (v : IVec S16 32) : Prop :=
  ∀ x : S16.Idx, v x = want T I (b + 16 * g + (x 0).val) n
/-- Every id of the tile's index rows is a column of the table. -/
def InTab (I : S44x128.Idx → BitVec 32) : Prop := ∀ j, (I j).toNat < 256

/-! ## The index checks -/

theorem lane_lt (x : S16.Idx) : (x 0).val < 16 := (x 0).isLt

theorem chk_tab {I : S44x128.Idx → BitVec 32} {b g j c : ℕ} {v cv : IVec S16 32} (hI : InTab I) (hids : IsIds I b g j v)
    (hc : cv = broadcast S16 (BitVec.ofNat 32 c)) (hlt : c < 16) :
    ∀ a x, ((![cv, v] : Fin 2 → IVec S16 32) a x).toNat < S16x256.size a := by
  intro a x
  match a with
  | 0 =>
    subst hc
    show (BitVec.ofNat 32 c).toNat < 16
    rw [BitVec.toNat_ofNat, Nat.mod_eq_of_lt (by omega)]; exact hlt
  | 1 =>
    show (v x).toNat < 256
    rw [hids x]; exact hI _

theorem chk_buf {g n : ℕ} {v cv : IVec S16 32} (hr : Rows g v) (hg : g < 16)
    (hc : cv = broadcast S16 (BitVec.ofNat 32 n)) (hlt : n < 176) :
    ∀ a x, ((![v, cv] : Fin 2 → IVec S16 32) a x).toNat < S256x257.size a := by
  intro a x
  match a with
  | 0 =>
    show (v x).toNat < 256
    rw [hr x]; have := lane_lt x; omega
  | 1 =>
    subst hc
    show (BitVec.ofNat 32 n).toNat < 257
    rw [BitVec.toNat_ofNat, Nat.mod_eq_of_lt (by omega)]; omega

/-- The position of slot `j` of a lane, as the program computes it. -/
theorem flat_toNat {b g j : ℕ} {v : IVec S16 32} (hb : Base b g v) (hg : g < 16) (hbb : b ≤ 256) (hj : j < 11) (x : S16.Idx) :
    (addi v (broadcast S16 (BitVec.ofNat 32 j)) x).toNat = (b + 16 * g + (x 0).val) * 11 + j := by
  show (v x + BitVec.ofNat 32 j).toNat = _
  have := lane_lt x
  rw [BitVec.toNat_add, hb x, BitVec.toNat_ofNat, Nat.mod_eq_of_lt (a := j) (by omega), Nat.mod_eq_of_lt (by omega)]

theorem row_toNat {b g j : ℕ} {v : IVec S16 32} (hb : Base b g v) (hg : g < 16) (hbb : b ≤ 256) (hj : j < 11) (x : S16.Idx) :
    (shrsi (addi v (broadcast S16 (BitVec.ofNat 32 j))) (broadcast S16 7#32) x).toNat = ((b + 16 * g + (x 0).val) * 11 + j) / 128 := by
  have h := flat_toNat hb hg hbb hj x
  have := lane_lt x
  show (IntOp.shrsi .vector (addi v (broadcast S16 (BitVec.ofNat 32 j)) x) 7#32).toNat = _
  generalize addi v (broadcast S16 (BitVec.ofNat 32 j)) x = w at h ⊢
  have hm : w.msb = false := by rw [BitVec.msb_eq_false_iff_two_mul_lt]; omega
  unfold IntOp.shrsi
  simp [BitVec.sshiftRight_eq_of_msb_false hm, Nat.shiftRight_eq_div_pow, h]

theorem col_toNat {b g j : ℕ} {v : IVec S16 32} (hb : Base b g v) (hg : g < 16) (hbb : b ≤ 256) (hj : j < 11) (x : S16.Idx) :
    (andi (addi v (broadcast S16 (BitVec.ofNat 32 j))) (broadcast S16 127#32) x).toNat = ((b + 16 * g + (x 0).val) * 11 + j) % 128 := by
  have h := flat_toNat hb hg hbb hj x
  show ((addi v (broadcast S16 (BitVec.ofNat 32 j)) x) &&& 127#32).toNat = _
  rw [BitVec.toNat_and, h]
  exact Nat.and_two_pow_sub_one_eq_mod _ 7

theorem chk_idx {b g j : ℕ} {v rv cv : IVec S16 32} (hb : Base b g v) (hg : g < 16) (hbb : b ≤ 256)
    (hr : rv = shrsi (addi v (broadcast S16 (BitVec.ofNat 32 j))) (broadcast S16 7#32))
    (hc : cv = andi (addi v (broadcast S16 (BitVec.ofNat 32 j))) (broadcast S16 127#32)) (hj : j < 11) :
    ∀ a x, ((![rv, cv] : Fin 2 → IVec S16 32) a x).toNat < S44x128.size a := by
  intro a x
  have := lane_lt x
  match a with
  | 0 =>
    show (rv x).toNat < 44
    rw [hr, row_toNat hb hg hbb hj]; omega
  | 1 =>
    show (cv x).toNat < 128
    rw [hc, col_toNat hb hg hbb hj]; omega

/-! ## What a store leaves -/

/-- An element no lane names keeps its value; an element exactly one lane names holds that lane's value. -/
theorem storeIdx_apply [FloatOps F] {s : Shape} {d : Fin 1 → ℕ} (f : Vec F s .i32) (idxs : Fin s.rank → IVec ⟨1, d⟩ 32) (v : Vec F ⟨1, d⟩ .i32)
    (h : ∀ a x, (idxs a x).toNat < s.size a) (j : s.Idx) (w : BitVec 32)
    (hno : (∀ k, ¬ ∀ a, (j a).val = (idxs a (Shape.ofLane k)).toNat) → f j = w)
    (hyes : ∀ k, (∀ a, (j a).val = (idxs a (Shape.ofLane k)).toNat) → v (Shape.ofLane k) = w) :
    storeIdx (F := F) (e := .i32) f idxs v (fun _ => 1#1) false h j = w := by
  unfold storeIdx
  have hl : (∀ k ∈ List.finRange (d 0), ¬ ∀ a, (j a).val = (idxs a (Shape.ofLane k)).toNat) → f j = w :=
    fun hl => hno fun k => hl k (List.mem_finRange k)
  clear hno
  generalize List.finRange (d 0) = l at hl ⊢
  induction l generalizing f with
  | nil => exact hl (by simp)
  | cons k l ih =>
    rw [List.foldl_cons]
    refine ih _ fun hl' => ?_
    rw [if_pos]
    rotate_left
    · rfl
    rw [if_neg (by simp : ¬ (false = true))]
    by_cases hk : ∀ a, (j a).val = (idxAt idxs h (Shape.ofLane k) a).val
    · rw [if_pos hk]; exact hyes k hk
    · rw [if_neg hk]
      refine hl fun k' hk' => ?_
      rcases List.mem_cons.mp hk' with rfl | hk'
      · exact hk
      · exact hl' k' hk'

/-- Storing the words of column `n` at the group's rows takes the buffer from columns below `n` to columns below
    `n + 1`. -/
theorem done_store [FloatOps F] {T : S16x256.Idx → BitVec 32} {I : S44x128.Idx → BitVec 32} {b g n : ℕ} {f : Vec F S256x257 .i32}
    {rv cv : IVec S16 32} {v : Vec F S16 .i32} (hD : Done T I b g n f) (hv : IsVal T I b g n v) (hr : Rows g rv)
    (hc : cv = broadcast S16 (BitVec.ofNat 32 n)) (hlt : n < 176)
    (h : ∀ a x, ((![rv, cv] : Fin 2 → IVec S16 32) a x).toNat < S256x257.size a) :
    Done T I b g (n + 1) (storeIdx (F := F) (e := .i32) f ![rv, cv] v (fun _ => 1#1) false h) := by
  intro j hj hlt'
  have hcv : ∀ x, (cv x).toNat = n := fun x => by
    subst hc
    show (BitVec.ofNat 32 n).toNat = n
    rw [BitVec.toNat_ofNat, Nat.mod_eq_of_lt (by omega)]
  refine storeIdx_apply f ![rv, cv] v h j _ (fun hno => ?_) fun k hk => ?_
  · refine hD j hj ?_
    by_contra hcon
    have h0 : ¬ (j 0).val < 16 * g := fun h => hcon (.inl h)
    have h1 : (j 0).val < 16 * g + 16 ∧ (j 1).val < n + 1 := hlt'.resolve_left h0
    have h2 : (j 1).val = n := by
      by_contra h2; exact hcon (.inr ⟨h1.1, by omega⟩)
    refine hno (⟨(j 0).val - 16 * g, by show (j 0).val - 16 * g < 16; omega⟩ : Fin 16) fun a => ?_
    match a with
    | 0 =>
      show (j 0).val = (rv _).toNat
      rw [hr]
      show (j 0).val = 16 * g + ((j 0).val - 16 * g)
      omega
    | 1 =>
      show (j 1).val = (cv _).toNat
      rw [hcv, h2]
  · have h0 : (j 0).val = 16 * g + (Shape.ofLane (d := ![16]) k 0).val := (hk 0).trans (hr _)
    have h1 : (j 1).val = n := (hk 1).trans (hcv _)
    rw [hv, h0, h1, Nat.add_assoc]

/-! ## The steps -/

section Steps
variable [FloatOps F] (d : Dev nD) (L : grid0.Coords)

/-- What the tile holds through the gather: the table, its index rows and the chunk's buffer, all in its own memory. -/
def Own (T : S16x256.Idx → BitVec 32) (I : S44x128.Idx → BitVec 32) (f : S256x257.Idx → BitVec 32) : sProp 𝕄 :=
  iprop(((tabS.access (.whole S16x256)).loc (thr d L) ↦[(Finset.univ : Finset (Idx ((tabS.access (.whole S16x256)).loc (thr d L))))]{fullShare}
        (T : Buf (Elt F) ((tabS.access (.whole S16x256)).loc (thr d L))))
      ∗ ((idxS.access (.whole S44x128)).loc (thr d L) ↦[(Finset.univ : Finset (Idx ((idxS.access (.whole S44x128)).loc (thr d L))))]{fullShare}
        (I : Buf (Elt F) ((idxS.access (.whole S44x128)).loc (thr d L))))
      ∗ ((bufS.access (.whole S256x257)).loc (thr d L) ↦[(bufS.access (.whole S256x257)).set]{fullShare}
        (f : Buf (Elt F) ((bufS.access (.whole S256x257)).loc (thr d L)))))

variable {d L}

/-- The weakest precondition of a tile's program over the certificate's kernels. -/
abbrev twp {α : Type} (d : Dev nD) (L : grid0.Coords) (p : Prog (TpuEff nD τ sig (Elt F) Λ₀ (thr d L).2) α) (Q : α → sProp 𝕄) : sProp 𝕄 :=
  wp frame (wpE (defs₀ (F := F)) 𝒱₀ (thr d L) none) Set.univ p Q

variable {T : S16x256.Idx → BitVec 32} {I : S44x128.Idx → BitVec 32} {f : S256x257.Idx → BitVec 32} {b g n : ℕ}
variable {α : Type} {Q : α → sProp (MM F)}

/-- A check that holds. -/
theorem step_chk {P : Prop} {dec : Decidable P} {k : PLift P → Prog (TpuEff nD τ sig (Elt F) Λ₀ (thr d L).2) α} (h : P)
    (hk : Own d L T I f ⊢ twp d L (k ⟨h⟩) Q) :
    Own d L T I f ⊢ twp d L (Prog.lift (TpuEff.assume P dec) >>= k) Q :=
  hk.trans (Entails.of_eq (wp_assume_of (Ix := HIx 1) (Name := ℕ) (U := UU) (Lvl := ℕ) 𝒱₀ (thr d L) none Set.univ h).symm)

/-- The load of the ids of the slot the next column belongs to. -/
theorem step_idx {v rv cv : IVec S16 32} {h} {hl} {k : Vec F S16 .i32 → Prog (TpuEff nD τ sig (Elt F) Λ₀ (thr d L).2) α}
    (_hD : Done T I b g n f) (hb : Base b g v) (hg : g < 16) (hbb : b ≤ 256)
    (hr : rv = shrsi (addi v (broadcast S16 (BitVec.ofNat 32 (n / 16)))) (broadcast S16 7#32))
    (hc : cv = andi (addi v (broadcast S16 (BitVec.ofNat 32 (n / 16)))) (broadcast S16 127#32)) (hj : n / 16 < 11)
    (hk : ∀ w, IsIds I b g (n / 16) w → Own d L T I f ⊢ twp d L (k w) Q) :
    Own d L T I f ⊢ twp d L (SparseCore.vectorLoadIdx (F := F) idxS ![rv, cv] h hl >>= k) Q := by
  have hk' := hk (loadIdx (F := F) (e := .i32) I ![rv, cv] h) fun x => by
    show I (idxAt ![rv, cv] h x) = I _
    congr 1
    have := lane_lt x
    have e0 := row_toNat hb hg hbb hj x
    have e1 := col_toNat hb hg hbb hj x
    rw [← hr] at e0
    rw [← hc] at e1
    rw [← ix2_self (idxAt ![rv, cv] h x)]
    show ix2 (rv x).toNat (cv x).toNat = _
    rw [e0, e1]
  unfold Own at hk' ⊢
  iintro ⟨HT, HI, HB⟩
  iapply (SparseCore.wp_vectorLoadIdx 𝒱₀ (thr d L) none Set.univ (base := idxS) (S := Finset.univ) (q := fullShare) (Finset.subset_univ _)) $$ HI
  iintro HI
  rw [show (idxS.access (.whole S44x128)).read (Elt F) I = I from Memref.read_access_whole (Elt F) cc0_scratch1 I]
  iapply hk'
  isplitl [HT]; · iexact HT
  isplitl [HI]; · iexact HI
  iexact HB

/-- The load of one word of each of the group's rows of the table. -/
theorem step_tab {v cv : IVec S16 32} {h} {hl} {k : Vec F S16 .i32 → Prog (TpuEff nD τ sig (Elt F) Λ₀ (thr d L).2) α}
    (_hD : Done T I b g n f) (hids : IsIds I b g (n / 16) v) (hc : cv = broadcast S16 (BitVec.ofNat 32 (n % 16)))
    (hk : ∀ w, IsVal T I b g n w → Own d L T I f ⊢ twp d L (k w) Q) :
    Own d L T I f ⊢ twp d L (SparseCore.vectorLoadIdx (F := F) tabS ![cv, v] h hl >>= k) Q := by
  have hk' := hk (loadIdx (F := F) (e := .i32) T ![cv, v] h) fun x => by
    show T (idxAt ![cv, v] h x) = T _
    congr 1
    rw [← ix2_self (idxAt ![cv, v] h x)]
    show ix2 (cv x).toNat (v x).toNat = _
    rw [hids x, hc]
    show ix2 (BitVec.ofNat 32 (n % 16)).toNat _ = _
    rw [BitVec.toNat_ofNat, Nat.mod_eq_of_lt (a := n % 16) (by omega)]
  unfold Own at hk' ⊢
  iintro ⟨HT, HI, HB⟩
  iapply (SparseCore.wp_vectorLoadIdx 𝒱₀ (thr d L) none Set.univ (base := tabS) (S := Finset.univ) (q := fullShare) (Finset.subset_univ _)) $$ HT
  iintro HT
  rw [show (tabS.access (.whole S16x256)).read (Elt F) T = T from Memref.read_access_whole (Elt F) cc0_scratch0 T]
  iapply hk'
  isplitl [HT]; · iexact HT
  isplitl [HI]; · iexact HI
  iexact HB

/-- The chunk's buffer after a store through its whole rectangle holds what was stored. -/
theorem pts_stored (d : Dev nD) (L : grid0.Coords) (f w : cc0_scratch2.ty.Contents (Elt F)) :
    ((bufS.access (.whole S256x257)).loc (thr d L) ↦[(bufS.access (.whole S256x257)).set]{fullShare}
        ((bufS.access (.whole S256x257)).write (Elt F) f w Finset.univ) : sProp (MM F))
      = ((bufS.access (.whole S256x257)).loc (thr d L) ↦[(bufS.access (.whole S256x257)).set]{fullShare} (w : Buf (Elt F) ((bufS.access (.whole S256x257)).loc (thr d L)))) := by
  have h := Memref.write_access_whole_univ (Elt F) cc0_scratch2 f w
  exact congrArg (fun w' : Buf (Elt F) ((bufS.access (.whole S256x257)).loc (thr d L)) =>
    ((bufS.access (.whole S256x257)).loc (thr d L) ↦[(bufS.access (.whole S256x257)).set]{fullShare} w' : sProp (MM F))) h

/-- A store into the chunk's buffer, unmasked and through its whole rectangle. -/
theorem store_raw {rv cv : IVec S16 32} {v : Vec F S16 .i32} {h} {hs} {k : PUnit → Prog (TpuEff nD τ sig (Elt F) Λ₀ (thr d L).2) α}
    (f : cc0_scratch2.ty.Contents (Elt F)) :
    ((bufS.access (.whole S256x257)).loc (thr d L) ↦[(bufS.access (.whole S256x257)).set]{fullShare} (f : Buf (Elt F) ((bufS.access (.whole S256x257)).loc (thr d L))))
      ⊢ iprop((((bufS.access (.whole S256x257)).loc (thr d L) ↦[(bufS.access (.whole S256x257)).set]{fullShare}
            (storeIdx (F := F) (e := .i32) f ![rv, cv] v (fun _ => 1#1) false h : Buf (Elt F) ((bufS.access (.whole S256x257)).loc (thr d L))))
          -∗ twp d L (k ⟨⟩) Q)
        -∗ twp d L (SparseCore.vectorStoreIdx (F := F) bufS ![rv, cv] v (fun _ => 1#1) false h hs >>= k) Q) := by
  have H := SparseCore.wp_vectorStoreIdx (F := F) (defs := defs₀ (F := F)) (Q := Q) (k := k) (h := h) (hs := hs) (v := v) (mask := fun _ => 1#1) (add := false)
    𝒱₀ (thr d L) none Set.univ (base := bufS) (f := (f : Buf (Elt F) ((bufS.access (.whole S256x257)).loc (thr d L))))
  rw [show (bufS.access (.whole S256x257)).read (Elt F) f = f from Memref.read_access_whole (Elt F) cc0_scratch2 f] at H
  rw [pts_stored] at H
  exact H

/-- The store of a column. -/
theorem step_store {rv cv : IVec S16 32} {v : Vec F S16 .i32} {h} {hs} {k : PUnit → Prog (TpuEff nD τ sig (Elt F) Λ₀ (thr d L).2) α}
    (hD : Done T I b g n f) (hv : IsVal T I b g n v) (hr : Rows g rv) (hc : cv = broadcast S16 (BitVec.ofNat 32 n)) (hlt : n < 176)
    (hk : ∀ f', Done T I b g (n + 1) f' → Own d L T I f' ⊢ twp d L (k ⟨⟩) Q) :
    Own d L T I f ⊢ twp d L (SparseCore.vectorStoreIdx (F := F) bufS ![rv, cv] v (fun _ => 1#1) false h hs >>= k) Q := by
  have hk' := hk _ (done_store (F := F) hD hv hr hc hlt h)
  unfold Own at hk' ⊢
  iintro ⟨HT, HI, HB⟩
  iapply (store_raw f) $$ HB
  iintro HB
  iapply hk'
  isplitl [HT]; · iexact HT
  isplitl [HI]; · iexact HI
  iexact HB

/-- A part of the group's program: what follows it is its postcondition, under a name. -/
theorem step_bind {β : Type} {P : sProp 𝕄} {p : Prog (TpuEff nD τ sig (Elt F) Λ₀ (thr d L).2) β} {k : β → Prog (TpuEff nD τ sig (Elt F) Λ₀ (thr d L).2) α}
    (h : ∀ Q' : β → sProp 𝕄, (Q' = fun a => twp d L (k a) Q) → P ⊢ twp d L p Q') : P ⊢ twp d L (p >>= k) Q :=
  (h _ rfl).trans (Entails.of_eq (wp_bind frame _ _ p k Q).symm)

/-- A returned value. -/
theorem step_pure {P : sProp 𝕄} {a : α} (h : P ⊢ Q a) : P ⊢ twp d L (pure a) Q :=
  h.trans (le_wp_ret frame _ _ a Q)

end Steps

end Cert.Proof.Embed

end
-- ==== Proof.Group.lean ====
/-
  One group of sixteen samples: from a buffer complete for the groups before, the group's program leaves it complete for
  this group too. The program is 176 loads of words of the table and as many stores, with a load of ids at every
  sixteenth; the proof takes them one after another by the steps of `Steps`.
-/
module

public import proofs.«01_k».proof.Proof.Steps

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

set_option maxRecDepth 65536 in
set_option maxHeartbeats 4000000 in
/-- The group's program, at a tile holding the table `T`, its index rows `I` and a buffer complete for the samples
    before `16 g`: it leaves the buffer complete for the samples before `16 (g + 1)`. -/
theorem group [FloatOps F] (d : Dev nD) (L : grid0.Coords) {T : S16x256.Idx → BitVec 32} {I : S44x128.Idx → BitVec 32}
    {f : S256x257.Idx → BitVec 32} {b g : ℕ} (hI : InTab I) (hg : g < 16) (hbb : b ≤ 256)
    (v6_r0 v6_r1 v21_r2 : DmaSems sig S_) (v2 : IVec S16 32) (k0_t1 : Fin k0_t1_loop.trips) (arg8 v6 : BitVec 32)
    (k0_t2 : Fin (k0_t2_loop k0_t1).trips)
    (hr : Rows g (k0_pay1 v2 k0_t1 arg8 v6 1#32 0#32 1#32 k0_t2))
    (hb : Base b g (k0_pay2 v2 k0_t1 v6 1#32 0#32 1#32 k0_t2)) (hD : Done T I b g 0 f) :
    Own (F := F) d L T I f ⊢ twp d L
      (k0_t2_body (F := F) L tabV (Memref.isWhole_whole _) idxV (Memref.isWhole_whole _) outV (Memref.isWhole_whole _) tabS (Memref.isWhole_whole _)
        idxS (Memref.isWhole_whole _) bufS (Memref.isWhole_whole _) v6_r0 v6_r1 v21_r2 v2 k0_t1 arg8 v6 k0_t2 ())
      fun _ => iprop(∃ f', ⌜Done T I b g 176 f'⌝ ∗ Own d L T I f') := by
  unfold k0_t2_body
  repeat
    first
    | (with_reducible refine step_chk (F := F) ?_ ?_
       · first
         | exact chk_tab hI hids rfl (by norm_num)
         | exact chk_buf hr hg rfl (by norm_num)
         | exact chk_idx hb hg hbb rfl rfl (by norm_num))
    | (with_reducible refine step_tab (F := F) hD ?_ ?_ ?_
       · exact hids
       · rfl
       intro v hv)
    | (with_reducible refine step_store (F := F) hD hv hr ?_ ?_ ?_
       · rfl
       · norm_num
       clear hD hv
       intro f hD
       simp only [Nat.reduceAdd] at hD)
    | (with_reducible refine step_idx (F := F) hD hb hg hbb ?_ ?_ ?_ ?_
       · rfl
       · rfl
       · norm_num
       intro w hids
       simp only [Nat.reduceDiv] at hids)
    | (with_reducible refine step_bind (F := F) ?_
       intro Q' hQ'
       first
         | rw [k0_part1_eq_skeleton]; unfold k0_part1_skel
         | rw [k0_part2_eq_skeleton]; unfold k0_part2_skel
         | rw [k0_part3_eq_skeleton]; unfold k0_part3_skel
         | rw [k0_part4_eq_skeleton]; unfold k0_part4_skel
         | rw [k0_part5_eq_skeleton]; unfold k0_part5_skel
         | rw [k0_part6_eq_skeleton]; unfold k0_part6_skel
         | rw [k0_part7_eq_skeleton]; unfold k0_part7_skel
         | rw [k0_part8_eq_skeleton]; unfold k0_part8_skel
         | rw [k0_part9_eq_skeleton]; unfold k0_part9_skel
         | rw [k0_part10_eq_skeleton]; unfold k0_part10_skel
         | rw [k0_part11_eq_skeleton]; unfold k0_part11_skel
         | rw [k0_part12_eq_skeleton]; unfold k0_part12_skel
         | rw [k0_part13_eq_skeleton]; unfold k0_part13_skel
         | rw [k0_part14_eq_skeleton]; unfold k0_part14_skel
         | rw [k0_part15_eq_skeleton]; unfold k0_part15_skel
         | rw [k0_part16_eq_skeleton]; unfold k0_part16_skel
         | rw [k0_part17_eq_skeleton]; unfold k0_part17_skel
         | rw [k0_part18_eq_skeleton]; unfold k0_part18_skel
         | rw [k0_part19_eq_skeleton]; unfold k0_part19_skel
         | rw [k0_part20_eq_skeleton]; unfold k0_part20_skel
         | rw [k0_part21_eq_skeleton]; unfold k0_part21_skel
         | rw [k0_part22_eq_skeleton]; unfold k0_part22_skel
         | rw [k0_part23_eq_skeleton]; unfold k0_part23_skel
         | rw [k0_part24_eq_skeleton]; unfold k0_part24_skel
         | rw [k0_part25_eq_skeleton]; unfold k0_part25_skel
         | rw [k0_part26_eq_skeleton]; unfold k0_part26_skel
       dsimp only)
    | (with_reducible refine step_pure (F := F) ?_
       subst Q'
       dsimp only)
  refine step_pure (F := F) ?_
  iintro H
  iexists f
  isplitr
  · ipureintro; exact hD
  iexact H

end Cert.Proof.Embed

end
-- ==== Proof.Chunk.lean ====
/-
  One chunk of 256 samples: sixteen groups fill the buffer, and its first 256 columns go out to the chunk's rows of the
  result.
-/
module

public import proofs.«01_k».proof.Proof.Group

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The loops' counts and the group's two vectors -/

theorem trips1 : k0_t1_loop.trips = 2 := by decide +kernel
theorem trips2 : ∀ t : Fin k0_t1_loop.trips, (k0_t2_loop t).trips = 16 := by decide +kernel
theorem trips3 : ∀ t : Fin k0_t1_loop.trips, (k0_t3_loop t).trips = 0 := by decide +kernel

/-- The lanes' numbers. -/
abbrev lanes : IVec S16 32 := iota .scVector S16 32 [0] iota_S16_d0_w32_scVector
/-- The chunk's number and sixteen times it, as words. -/
abbrev ckW (t : Fin k0_t1_loop.trips) : BitVec 32 := Scf.iv 0#32 1#32 t
abbrev ckW16 (t : Fin k0_t1_loop.trips) : BitVec 32 := Scalar.muli (ckW t) 16#32

theorem lane_ofLane (x : S16.Idx) : x = Shape.ofLane (d := ![16]) (x 0) := by
  funext a
  match a with
  | 0 => rfl

theorem rows_pay (t : Fin k0_t1_loop.trips) (u : Fin (k0_t2_loop t).trips) :
    Rows u.val (k0_pay1 lanes t (ckW t) (ckW16 t) 1#32 0#32 1#32 u) := by
  have h : ∀ (t : Fin k0_t1_loop.trips) (u : Fin (k0_t2_loop t).trips) (x : Fin 16),
      (k0_pay1 lanes t (ckW t) (ckW16 t) 1#32 0#32 1#32 u (Shape.ofLane (d := ![16]) x)).toNat = 16 * u.val + x.val := by decide +kernel
  intro x
  conv_lhs => rw [lane_ofLane x]
  exact h t u (x 0)

theorem base_pay (t : Fin k0_t1_loop.trips) (u : Fin (k0_t2_loop t).trips) :
    Base (256 * t.val) u.val (k0_pay2 lanes t (ckW16 t) 1#32 0#32 1#32 u) := by
  have h : ∀ (t : Fin k0_t1_loop.trips) (u : Fin (k0_t2_loop t).trips) (x : Fin 16),
      (k0_pay2 lanes t (ckW16 t) 1#32 0#32 1#32 u (Shape.ofLane (d := ![16]) x)).toNat = (256 * t.val + 16 * u.val + x.val) * 11 := by decide +kernel
  intro x
  conv_lhs => rw [lane_ofLane x]
  exact h t u (x 0)

theorem done_zero {T : S16x256.Idx → BitVec 32} {I : S44x128.Idx → BitVec 32} {b : ℕ} {f : S256x257.Idx → BitVec 32} : Done T I b 0 0 f :=
  fun _ _ h => by omega

theorem done_next {T : S16x256.Idx → BitVec 32} {I : S44x128.Idx → BitVec 32} {b g : ℕ} {f : S256x257.Idx → BitVec 32} (h : Done T I b g 176 f) :
    Done T I b (g + 1) 0 f :=
  fun j hj hr => h j hj (by omega)

section Chunk
variable [FloatOps F] (d : Dev nD) (L : grid0.Coords) {T : S16x256.Idx → BitVec 32} {I : S44x128.Idx → BitVec 32}
variable {α : Type} {Q : α → sProp (MM F)}

/-- The loop over the groups fills the chunk's buffer. -/
theorem groups (hI : InTab I) (v6_r0 v6_r1 v21_r2 : DmaSems sig S_) (t : Fin k0_t1_loop.trips) {f : S256x257.Idx → BitVec 32}
    {k : Unit → Prog (TpuEff nD τ sig (Elt F) Λ₀ (thr d L).2) α} :
    Own (F := F) d L T I f ⊢ iprop((∀ f', ⌜Done T I (256 * t.val) 16 0 f'⌝ -∗ Own d L T I f' -∗ twp d L (k ⟨⟩) Q)
      -∗ twp d L (Scf.Loop.for (k0_t2_loop t) (k0_t2_ok t) ⟨⟩
        (k0_t2_body (F := F) L tabV (Memref.isWhole_whole _) idxV (Memref.isWhole_whole _) outV (Memref.isWhole_whole _) tabS (Memref.isWhole_whole _)
          idxS (Memref.isWhole_whole _) bufS (Memref.isWhole_whole _) v6_r0 v6_r1 v21_r2 lanes t (ckW t) (ckW16 t)) >>= k) Q) := by
  iintro H HK
  iapply (Scf.wp_for_bind frame (wpE (defs₀ (F := F)) 𝒱₀ (thr d L) none) Set.univ (k0_t2_loop t).lb (k0_t2_loop t).ub (k0_t2_loop t).st (k0_t2_ok t) ⟨⟩ _
    (fun u _ => iprop(∃ f', ⌜Done T I (256 * t.val) u 0 f'⌝ ∗ Own (F := F) d L T I f')) ?hb) $$ [H]
  case hb =>
    intro u _
    iintro ⟨%f', %hD, H⟩
    have hu : u.val < 16 := (trips2 t) ▸ u.isLt
    have ht : t.val < 2 := trips1 ▸ t.isLt
    iapply (wp_mono frame (wpE (defs₀ (F := F)) 𝒱₀ (thr d L) none) Set.univ
      (show ∀ _, iprop(∃ f'', ⌜Done T I (256 * t.val) u.val 176 f''⌝ ∗ Own (F := F) d L T I f'')
        ⊢ iprop(∃ f'', ⌜Done T I (256 * t.val) (u.val + 1) 0 f''⌝ ∗ Own (F := F) d L T I f'') from fun _ => by
        iintro ⟨%f'', %h, H⟩
        iexists f''
        isplitr
        · ipureintro; exact done_next h
        iexact H))
    iapply (group (F := F) d L hI hu (by omega) v6_r0 v6_r1 v21_r2 lanes t (ckW t) (ckW16 t) u (rows_pay t u) (base_pay t u) hD) $$ H
  · iexists f
    isplitr
    · ipureintro; exact done_zero
    iexact H
  iintro %_ ⟨%f', %hD, H⟩
  ispecialize HK $$ %f'
  iapply HK $$ [] [H]
  · ipureintro
    exact (show (k0_t2_loop t).trips = 16 from trips2 t) ▸ hD
  · iexact H

/-- The loop left over behind it makes no trip. -/
theorem leftover {P : sProp (MM F)} {t : Fin k0_t1_loop.trips} {body : Fin (k0_t3_loop t).trips → Unit → Prog (TpuEff nD τ sig (Elt F) Λ₀ (thr d L).2) Unit}
    {k : Unit → Prog (TpuEff nD τ sig (Elt F) Λ₀ (thr d L).2) α} (h : P ⊢ twp d L (k ⟨⟩) Q) :
    P ⊢ twp d L (Scf.Loop.for (k0_t3_loop t) (k0_t3_ok t) ⟨⟩ body >>= k) Q := by
  iintro H
  iapply (Scf.wp_for_bind frame (wpE (defs₀ (F := F)) 𝒱₀ (thr d L) none) Set.univ (k0_t3_loop t).lb (k0_t3_loop t).ub (k0_t3_loop t).st (k0_t3_ok t) ⟨⟩ body
    (fun _ _ => P) (fun u _ => absurd (lt_of_lt_of_eq u.isLt (trips3 t)) (Nat.not_lt_zero _))) $$ H
  iintro %_ H
  iapply h $$ H

end Chunk

end Cert.Proof.Embed

end
-- ==== Proof.Tile.lean ====
/-
  A tile's kernel: it copies in the table and its 44 rows of indices, fills and copies out its two chunks. From the
  table, the tile's index rows and its 512 rows of the result, it leaves every wanted word of those rows equal to the
  table's word for the sample's id (`OutOK`).
-/
module

public import proofs.«01_k».proof.Proof.Chunk

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The tile's part of the arrays -/

/-- The index rows of tile `w`. -/
def iSet (w : ℕ) : Finset S1408x128.Idx := Finset.univ.filter fun j => (j 0).val / 44 = w
/-- The result's rows of tile `w`. -/
def oSet (w : ℕ) : Finset S16384x256.Idx := Finset.univ.filter fun j => (j 0).val / 512 = w

/-- The words the gather leaves in the result's rows `j` with `P j`: word `col % 16` of the id in slot `col / 16` of the
    row's sample. -/
def OutOn (T : S16x256.Idx → BitVec 32) (J : S1408x128.Idx → BitVec 32) (P : ℕ → Prop) (f : S16384x256.Idx → BitVec 32) : Prop :=
  ∀ j : S16384x256.Idx, P (j 0).val → (j 1).val < 176 → f j = tget T ((j 1).val % 16) (igetAll J ((j 0).val * 11 + (j 1).val / 16)).toNat

/-- A tile's rows are as wanted. -/
abbrev OutOK (T : S16x256.Idx → BitVec 32) (J : S1408x128.Idx → BitVec 32) (w : ℕ) (f : S16384x256.Idx → BitVec 32) : Prop :=
  OutOn T J (fun r => r / 512 = w) f

/-- The tile's 44 index rows, as it holds them. -/
def idxRows (J : S1408x128.Idx → BitVec 32) (w : ℕ) : S44x128.Idx → BitVec 32 := fun x => J (ix2 (44 * w + (x 0).val) (x 1).val)

theorem ix2_zero {n0 n1 : ℕ} [NeZero n0] [NeZero n1] {a b : ℕ} (h : a < n0) : ((ix2 a b : (⟨2, ![n0, n1]⟩ : Shape).Idx) 0).val = a :=
  Nat.mod_eq_of_lt h
theorem ix2_one {n0 n1 : ℕ} [NeZero n0] [NeZero n1] {a b : ℕ} (h : b < n1) : ((ix2 a b : (⟨2, ![n0, n1]⟩ : Shape).Idx) 1).val = b :=
  Nat.mod_eq_of_lt h

/-- A flat position of the tile's rows is one of the whole array. -/
theorem iget_idxRows (J : S1408x128.Idx → BitVec 32) (w n : ℕ) (h : n < 5632) : iget (idxRows J w) n = igetAll J (5632 * w + n) := by
  show J _ = J _
  rw [ix2_zero (by omega), ix2_one (by omega)]
  congr 2 <;> omega

theorem inTab_idxRows {J : S1408x128.Idx → BitVec 32} (h : ∀ j, (J j).toNat < 256) (w : ℕ) : InTab (idxRows J w) := fun _ => h _

/-! ## The views -/

section Views
variable (d : Dev nD) (L : grid0.Coords)

theorem wid_lt : wid L < 32 := by
  have h0 : (L 0).val < 2 := (L 0).isLt
  have h1 : (L 1).val < 16 := (L 1).isLt
  show 2 * (L 1).val + (L 0).val < 32
  omega

/-- The tile's index rows, as it addresses them. -/
abbrev iRect (L : grid0.Coords) : Rect S1408x128 := Rect.unit (s := S1408x128) (k0_off1 L) S44x128.size (k0_off1_inb L)
abbrev iView (L : grid0.Coords) : Memref sig .scVector .hbm S44x128 .i32 := idxV.slice (iRect L) (fun _ => rfl)
/-- A chunk's rows of the result, and the buffer's columns that go there. -/
abbrev oRect (L : grid0.Coords) (t : Fin k0_t1_loop.trips) : Rect S16384x256 := Rect.unit (s := S16384x256) (k0_off2 L t) S256x256.size (k0_off2_inb L t)
abbrev oView (L : grid0.Coords) (t : Fin k0_t1_loop.trips) : Memref sig .scVector .hbm S256x256 .i32 := outV.slice (oRect L t) (fun _ => rfl)
abbrev bRect : Rect S256x257 := Rect.unit (s := S256x257) ![0, 0] S256x256.size inb_S256x257_S256x256_0_0
abbrev bView : Memref sig .scVector .vmem S256x256 .i32 := bufS.slice bRect (fun _ => rfl)

theorem set_iView : (iView L).view.set = iSet (wid L) := by
  have e : (iView L).view.set = (iRect L).set := View.set_slice_whole main_v7_scv (iRect L)
  rw [e]
  ext j
  have hj : (j 0).val < 1408 := (j 0).isLt
  have hj1 : (j 1).val < 128 := (j 1).isLt
  rw [Rect.mem_set_unit, k0_off1_eq]
  simp only [iSet, Finset.mem_filter, Finset.mem_univ, true_and]
  constructor
  · intro h
    have h0 : 88 * (L 1).val + 44 * (L 0).val ≤ (j 0).val ∧ (j 0).val < 88 * (L 1).val + 44 * (L 0).val + 44 := h 0
    show (j 0).val / 44 = 2 * (L 1).val + (L 0).val
    omega
  · intro h a
    have h' : (j 0).val / 44 = 2 * (L 1).val + (L 0).val := h
    match a with
    | 0 =>
      show 88 * (L 1).val + 44 * (L 0).val ≤ (j 0).val ∧ (j 0).val < 88 * (L 1).val + 44 * (L 0).val + 44
      omega
    | 1 =>
      show 0 ≤ (j 1).val ∧ (j 1).val < 0 + 128
      omega

theorem mem_oView (t : Fin k0_t1_loop.trips) (j : S16384x256.Idx) : j ∈ (oView L t).view.set ↔ (j 0).val / 256 = 2 * wid L + t.val := by
  have e : (oView L t).view.set = (oRect L t).set := View.set_slice_whole main_v8_scv (oRect L t)
  rw [e]
  have hj1 : (j 1).val < 256 := (j 1).isLt
  rw [Rect.mem_set_unit, k0_off2_eq]
  constructor
  · intro h
    have h0 : 1024 * (L 1).val + 512 * (L 0).val + 256 * t.val ≤ (j 0).val ∧ (j 0).val < 1024 * (L 1).val + 512 * (L 0).val + 256 * t.val + 256 := h 0
    show (j 0).val / 256 = 2 * (2 * (L 1).val + (L 0).val) + t.val
    omega
  · intro h a
    have h' : (j 0).val / 256 = 2 * (2 * (L 1).val + (L 0).val) + t.val := h
    match a with
    | 0 =>
      show 1024 * (L 1).val + 512 * (L 0).val + 256 * t.val ≤ (j 0).val ∧ (j 0).val < 1024 * (L 1).val + 512 * (L 0).val + 256 * t.val + 256
      omega
    | 1 =>
      show 0 ≤ (j 1).val ∧ (j 1).val < 0 + 256
      omega

theorem oView_subset (t : Fin k0_t1_loop.trips) : (oView L t).view.set ⊆ oSet (wid L) := by
  intro j hj
  have h := (mem_oView L t j).mp hj
  have ht : t.val < 2 := trips1 ▸ t.isLt
  simp only [oSet, Finset.mem_filter, Finset.mem_univ, true_and]
  omega

theorem read_iView (J : S1408x128.Idx → BitVec 32) : (iView L).view.read (Elt F) J = idxRows J (wid L) := by
  funext x
  show J ((iRect L).emb x) = J _
  congr 1
  have hx : (x 0).val < 44 := (x 0).isLt
  have hx1 : (x 1).val < 128 := (x 1).isLt
  have hw := wid_lt L
  have e0 : k0_off1 L 0 = 88 * (L 1).val + 44 * (L 0).val := by rw [k0_off1_eq]; rfl
  have e1 : k0_off1 L 1 = 0 := by rw [k0_off1_eq]; rfl
  rw [← ix2_self (n0 := 1408) (n1 := 128) ((iRect L).emb x), Rect.emb_apply, Rect.emb_apply]
  show ix2 (k0_off1 L 0 + 1 * (x 0).val) (k0_off1 L 1 + 1 * (x 1).val) = _
  rw [e0, e1]
  congr 1 <;> (try show _ = 44 * (2 * (L 1).val + (L 0).val) + (x 0).val) <;> omega

/-- The chunk's rows after they are copied out of a filled buffer. -/
theorem outOn_write (t : Fin k0_t1_loop.trips) {T : S16x256.Idx → BitVec 32} {J : S1408x128.Idx → BitVec 32}
    {f : S256x257.Idx → BitVec 32} {g : S16384x256.Idx → BitVec 32}
    (hD : Done T (idxRows J (wid L)) (256 * t.val) 16 0 f) (hO : OutOn T J (fun r => r / 512 = wid L ∧ r / 256 < 2 * wid L + t.val) g) :
    OutOn T J (fun r => r / 512 = wid L ∧ r / 256 < 2 * wid L + (t.val + 1))
      ((oView L t).view.write (Elt F) g (bView.view.read (Elt F) f) Finset.univ) := by
  have ht : t.val < 2 := trips1 ▸ t.isLt
  intro j hj hc
  by_cases hm : j ∈ (oView L t).view.set
  · have hr := (mem_oView L t j).mp hm
    obtain ⟨x, -, rfl⟩ := Finset.mem_map.mp hm
    have e := View.write_emb_of_mem (v := (oView L t).view) (Val := Elt F) g (bView.view.read (Elt F) f) (Finset.mem_univ x)
    refine e.trans ?_
    have hx : (x 0).val < 256 := (x 0).isLt
    have hx1 : (x 1).val < 256 := (x 1).isLt
    have e0 : k0_off2 L t 0 = 1024 * (L 1).val + 512 * (L 0).val + 256 * t.val := by rw [k0_off2_eq]; rfl
    have e1 : k0_off2 L t 1 = 0 := by rw [k0_off2_eq]; rfl
    have j0 : (((oView L t).view.emb x) 0).val = 512 * wid L + 256 * t.val + (x 0).val := by
      show k0_off2 L t 0 + 1 * (x 0).val = 512 * (2 * (L 1).val + (L 0).val) + 256 * t.val + (x 0).val
      omega
    have j1 : (((oView L t).view.emb x) 1).val = (x 1).val := by
      show k0_off2 L t 1 + 1 * (x 1).val = (x 1).val
      omega
    rw [j1] at hc
    rw [j0, j1]
    have b0 : ((bRect.emb x) 0).val = (x 0).val := by
      show 0 + 1 * (x 0).val = (x 0).val
      omega
    have b1 : ((bRect.emb x) 1).val = (x 1).val := by
      show 0 + 1 * (x 1).val = (x 1).val
      omega
    show f (bRect.emb x) = _
    rw [hD (bRect.emb x) (by rw [b1]; exact hc) (by left; omega), b0, b1]
    unfold want
    have hlt : (256 * t.val + (x 0).val) * 11 + (x 1).val / 16 < 5632 := by omega
    rw [iget_idxRows _ _ _ hlt]
    congr 3
    omega
  · have hn := mt (mem_oView L t j).mpr hm
    rw [View.write_of_not_mem (v := (oView L t).view) (Val := Elt F) g _ _ hm]
    exact hO j ⟨hj.1, by omega⟩ hc

end Views

end Cert.Proof.Embed

end
-- ==== Proof.Body.lean ====
/-
  One trip of the chunks' loop and the tile's whole kernel, run on what the tile holds: its own memory, its three
  transfer semaphores at zero, a share of the table, its index rows and its rows of the result. The kernel leaves the
  result's rows as `OutOK` says.
-/
module

public import proofs.«01_k».proof.Proof.Tile

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (ownCells mem_ownCells ownSems0 ownBufs ownRefs)

variable {F : FTy → Type} [FloatOps F]

local notation "𝕄" => MM F

section Body
variable (d : Dev nD) (L : grid0.Coords)

/-- The arrays the gather moves between, where the TensorCore names them. -/
abbrev tabLoc (d : Dev nD) : Loc nD τ sig := (d.tc : Thread nD τ).loc main_v6
abbrev idxLoc (d : Dev nD) : Loc nD τ sig := (d.tc : Thread nD τ).loc main_v7
abbrev outLoc (d : Dev nD) : Loc nD τ sig := (d.tc : Thread nD τ).loc main_v8

/-- The three scratch buffers, whole. -/
abbrev tabPts (f : S16x256.Idx → BitVec 32) : sProp 𝕄 := tabS.view.loc (thr d L) ↦{fullShare} (f : Buf (Elt F) (tabS.view.loc (thr d L)))
abbrev idxPts (f : S44x128.Idx → BitVec 32) : sProp 𝕄 := idxS.view.loc (thr d L) ↦{fullShare} (f : Buf (Elt F) (idxS.view.loc (thr d L)))
abbrev bufPts (f : S256x257.Idx → BitVec 32) : sProp 𝕄 := bufS.view.loc (thr d L) ↦{fullShare} (f : Buf (Elt F) (bufS.view.loc (thr d L)))

/-- The gather holds exactly the three buffers. -/
theorem own_eq (T : S16x256.Idx → BitVec 32) (I : S44x128.Idx → BitVec 32) (f : S256x257.Idx → BitVec 32) :
    (Own d L T I f : sProp 𝕄) = iprop(tabPts d L T ∗ idxPts d L I ∗ bufPts d L f) := by
  unfold Own
  rw [show (bufS.access (.whole S256x257)).set = Finset.univ from Memref.set_access_whole _]

/-- What the trips of the chunks' loop keep: the evidence for their waits, the tile's memory at the table and the index
    rows, the result's rows at the wanted words in the chunks done, the copies' semaphore at zero. -/
def inv (T : S16x256.Idx → BitVec 32) (J : S1408x128.Idx → BitVec 32) (O : CellTallies nD τ sig (HIx 1)) (W : Waits sig (HIx 1)) (t : ℕ) (_ : BitVec 32) : sProp 𝕄 :=
  iprop(Transfers.MayWaits (thr d L) (default : HIx 1) O
    ∗ (∃ f, Own d L T (idxRows J (wid L)) f)
    ∗ (∃ g, ⌜OutOn T J (fun r => r / 512 = wid L ∧ r / 256 < 2 * wid L + t) g⌝
        ∗ outV.view.loc (thr d L) ↦[oSet (wid L)]{fullShare} (g : Buf (Elt F) (outV.view.loc (thr d L))))
    ∗ semVal (thr d L, SemLoc.dma cc0_scoped2.sem) 0
    ∗ ∃ W', ⌜∀ p ∈ W', p ∈ W ∨ p.2 = none⌝ ∗ owes (thr d L) O W')

set_option maxHeartbeats 4000000 in
/-- One trip fills the buffer with its chunk's words and copies it to the chunk's rows of the result. -/
theorem trip (T : S16x256.Idx → BitVec 32) (J : S1408x128.Idx → BitVec 32) (hJ : ∀ j, (J j).toNat < 256) (O : CellTallies nD τ sig (HIx 1)) (W : Waits sig (HIx 1))
    (t : Fin k0_t1_loop.trips) (x : BitVec 32) :
    (inv d L T J O W t.val x : sProp 𝕄) ⊢ twp (F := F) d L
      (k0_t1_body (F := F) L tabV (Memref.isWhole_whole _) idxV (Memref.isWhole_whole _) outV (Memref.isWhole_whole _) tabS (Memref.isWhole_whole _)
          idxS (Memref.isWhole_whole _) bufS (Memref.isWhole_whole _) cc0_scoped0 cc0_scoped1 cc0_scoped2 lanes t x)
      (inv d L T J O W (t.val + 1)) := by
  unfold k0_t1_body
  conv_lhs => unfold inv
  iintro ⟨Hmw, ⟨%f, Hown⟩, ⟨%g, %hg, Hout⟩, Hsem, %W', %hW', HO⟩
  iapply (groups (F := F) d L (inTab_idxRows hJ (wid L)) cc0_scoped0 cc0_scoped1 cc0_scoped2 t) $$ [Hown]
  · iexact Hown
  iintro %f' %hD Hown
  ihave Hown := (Entails.of_eq (own_eq (F := F) d L _ _ _)) $$ Hown
  icases Hown with ⟨Ht, Hi, Hb⟩
  iapply (leftover (F := F) d L (t := t) (Entails.refl _))
  ihave Hbs := (pointsTo_split_subset (q := fullShare) (f := (f' : Buf (Elt F) (bufS.view.loc (thr d L)))) (S := Finset.univ) (Finset.subset_univ bView.view.set)).1 $$ Hb
  icases Hbs with ⟨Hb, Hbr⟩
  ihave Hos := (pointsTo_split_subset (q := fullShare) (f := (g : Buf (Elt F) (outV.view.loc (thr d L)))) (oView_subset L t)).1 $$ Hout
  icases Hos with ⟨Ho, Hor⟩
  ihave Hb' := (Entails.of_eq (show (bufS.view.loc (thr d L) ↦[bView.view.set]{fullShare} (f' : Buf (Elt F) (bufS.view.loc (thr d L))) : sProp 𝕄)
    = bView.view.loc (thr d L) ↦[bView.view.set]{fullShare} (f' : Buf (Elt F) (bView.view.loc (thr d L))) from rfl)) $$ Hb
  ihave Ho' := (Entails.of_eq (show (outV.view.loc (thr d L) ↦[(oView L t).view.set]{fullShare} (g : Buf (Elt F) (outV.view.loc (thr d L))) : sProp 𝕄)
    = (oView L t).view.loc (thr d L) ↦[(oView L t).view.set]{fullShare} (g : Buf (Elt F) ((oView L t).view.loc (thr d L))) from rfl)) $$ Ho
  unfold twp
  sl_exec (disch := exact View.amount_pos _ _ (show 0 < S256x256.numel by decide))
  sl_step
  unfold inv
  isplitl [Hmw]; · iexact Hmw
  isplitl [Ht Hi Hbr]
  · iexists f'
    iapply (Entails.of_eq (own_eq (F := F) d L _ _ _).symm)
    isplitl [Ht]; · iexact Ht
    isplitl [Hi]; · iexact Hi
    iexact Hbr
  isplitl [Ho' Hor]
  · iexists ((oView L t).view.write (Elt F) g (bView.view.read (Elt F) f') Finset.univ)
    isplitr
    · ipureintro; exact outOn_write (F := F) L t hD hg
    iapply (pointsTo_split_subset (q := fullShare) (f := ((oView L t).view.write (Elt F) g (bView.view.read (Elt F) f') Finset.univ : Buf (Elt F) (outV.view.loc (thr d L)))) (oView_subset L t)).2
    isplitl [Ho']
    · iapply (Entails.of_eq (pointsTo_congr (fun i _ => congrFun (View.write_univ_eq_writes_whole (oView L t).view (Val := Elt F) g [] (bView.view.read (Elt F) f')).symm i)))
      iexact Ho'
    iapply (Entails.of_eq (pointsTo_congr (fun i hi => (View.write_of_not_mem (v := (oView L t).view) (Val := Elt F) g _ _ (Finset.mem_sdiff.mp hi).2).symm)))
    iexact Hor
  isplitl [Hsem]; · iexact Hsem
  iexists (insert (SemLoc.dma cc0_scoped2.sem, (default : HIx 1)) W'); isplitr
  · ipureintro; intro p hp
    rcases Finset.mem_insert.mp hp with hp | hp
    · exact .inr (hp ▸ rfl)
    · exact hW' p hp
  · iexact HO

/-! ## The tile's semaphores and buffers -/

abbrev cAcell : GSem nD τ sig := (thr d L, .dma cc0_scoped0.sem)
abbrev cBcell : GSem nD τ sig := (thr d L, .dma cc0_scoped1.sem)
abbrev cCcell : GSem nD τ sig := (thr d L, .dma cc0_scoped2.sem)

/-- The three copies' semaphores are among the tile's own. -/
theorem ownSems0_V :
    (ownSems0 (thr d L) : sProp 𝕄)
      = iprop(semVal (cAcell d L) 0 ∗ semVal (cBcell d L) 0 ∗ semVal (cCcell d L) 0
          ∗ bigSep ((((ownCells (thr d L)).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc0_scoped2.sem : SemLoc sig).isScoped .scVector = true; decide⟩⟩⟩)]

abbrev sref0 : DevRef τ sig := (Proc.scVector (cV L) (jV L)).devRef cc0_scratch0
abbrev sref1 : DevRef τ sig := (Proc.scVector (cV L) (jV L)).devRef cc0_scratch1
abbrev sref2 : DevRef τ sig := (Proc.scVector (cV L) (jV L)).devRef cc0_scratch2

/-- The three scratch buffers are among the tile's own. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase (sref0 L)).erase (sref1 L)).erase (sref2 L))
              fun b => iprop(∃ f, ((d, b) : Loc nD τ sig) ↦{fullShare} f)) := by
  unfold SparseCore.Cfg.ownBufs
  have m0 := SparseCore.Cfg.mem_ownRefs_of_owner (p := Proc.scVector (cV L) (jV L)) (b := sref0 L) rfl
  have m1 := SparseCore.Cfg.mem_ownRefs_of_owner (p := Proc.scVector (cV L) (jV L)) (b := sref1 L) rfl
  have m2 := SparseCore.Cfg.mem_ownRefs_of_owner (p := Proc.scVector (cV L) (jV L)) (b := sref2 L) rfl
  have n10 : sref1 L ≠ sref0 L := fun e => absurd (Proc.devRef_injective _ e) (show (cc0_scratch1 : Ref sig .scVector) ≠ cc0_scratch0 by decide)
  have n20 : sref2 L ≠ sref0 L := fun e => absurd (Proc.devRef_injective _ e) (show (cc0_scratch2 : Ref sig .scVector) ≠ cc0_scratch0 by decide)
  have n21 : sref2 L ≠ sref1 L := fun e => absurd (Proc.devRef_injective _ e) (show (cc0_scratch2 : Ref sig .scVector) ≠ cc0_scratch1 by decide)
  refine (SparseCore.bigSep_erase' m0).trans ?_
  rw [SparseCore.bigSep_erase' (Finset.mem_erase.mpr ⟨n10, m1⟩), SparseCore.bigSep_erase' (Finset.mem_erase.mpr ⟨n21, Finset.mem_erase.mpr ⟨n20, m2⟩⟩)]

/-! ## The kernel -/

/-- What a tile is given: a share of the table, its index rows, its rows of the result. -/
abbrev goRes (q : PosShare TreeShare) (T : S16x256.Idx → BitVec 32) (J : S1408x128.Idx → BitVec 32) (w : ℕ) (g : S16384x256.Idx → BitVec 32) : sProp 𝕄 :=
  iprop((tabLoc d ↦{q} (T : Buf (Elt F) (tabLoc d))) ∗ (idxLoc d ↦[iSet w]{fullShare} (J : Buf (Elt F) (idxLoc d))) ∗ (outLoc d ↦[oSet w]{fullShare} (g : Buf (Elt F) (outLoc d))))

/-- What it gives back: the same, the result's rows as wanted. -/
abbrev tdRes (q : PosShare TreeShare) (T : S16x256.Idx → BitVec 32) (J : S1408x128.Idx → BitVec 32) (w : ℕ) : sProp 𝕄 :=
  iprop((tabLoc d ↦{q} (T : Buf (Elt F) (tabLoc d))) ∗ (idxLoc d ↦[iSet w]{fullShare} (J : Buf (Elt F) (idxLoc d)))
    ∗ ∃ g, ⌜OutOK T J w g⌝ ∗ outLoc d ↦[oSet w]{fullShare} (g : Buf (Elt F) (outLoc d)))

set_option maxHeartbeats 4000000 in
/-- The tile's kernel: from its share of the table, its index rows and its rows of the result it leaves the wanted words
    in those rows, gives everything back, its memory and semaphores as they were lent. -/
theorem tile_body (hF : (K (F := F)).Facts) (q : PosShare TreeShare) (T : S16x256.Idx → BitVec 32) (J : S1408x128.Idx → BitVec 32) (hJ : ∀ j, (J j).toNat < 256)
    (g : S16384x256.Idx → BitVec 32) (O : CellTallies nD τ sig (HIx 1)) (W : Waits sig (HIx 1)) (hO : ∀ g, O g none = 0) :
    iprop(levAts (K (F := F)).L (K (F := F)).lev ∗ emp ∗ goRes (F := F) d q T J (wid L) g
        ∗ scopedBufs (thr d L) ∗ scopedSems0 (thr d L) ∗ owes (thr d L) O W)
      ⊢ wp frame (wpE (defs₀ (F := F)) 𝒱₀ (thr d L) none) Set.univ
          (cc0_gather_k (F := F) L tabV (Memref.isWhole_whole _) idxV (Memref.isWhole_whole _) outV (Memref.isWhole_whole _) tabS (Memref.isWhole_whole _)
            idxS (Memref.isWhole_whole _) bufS (Memref.isWhole_whole _) cc0_scoped0 cc0_scoped1 cc0_scoped2)
          fun _ => iprop(tdRes (F := F) d q T J (wid L)
            ∗ scopedBufs (thr d L) ∗ scopedSems0 (thr d L) ∗ ∃ W', ⌜∀ p ∈ W', p ∈ W ∨ p.2 = none⌝ ∗ owes (thr d L) O W') := by
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%f0, Hs0⟩, ⟨%f1, Hs1⟩, ⟨%f2, Hs2⟩, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  ihave Ht' := (Entails.of_eq (show (tabLoc d ↦{q} (T : Buf (Elt F) (tabLoc d)) : sProp 𝕄) = tabV.view.loc (thr d L) ↦{q} (T : Buf (Elt F) (tabV.view.loc (thr d L))) from rfl)) $$ Ht
  ihave Hi' := (Entails.of_eq (show (idxLoc d ↦[iSet (wid L)]{fullShare} (J : Buf (Elt F) (idxLoc d)) : sProp 𝕄)
    = (iView L).view.loc (thr d L) ↦[(iView L).view.set]{fullShare} (J : Buf (Elt F) ((iView L).view.loc (thr d L))) by rw [set_iView])) $$ Hi
  ihave Hs0' := (Entails.of_eq (show ((thr d L).loc cc0_scratch0 ↦{fullShare} f0 : sProp 𝕄) = tabS.view.loc (thr d L) ↦{fullShare} f0 from rfl)) $$ Hs0
  ihave Hs1' := (Entails.of_eq (show ((thr d L).loc cc0_scratch1 ↦{fullShare} f1 : sProp 𝕄) = idxS.view.loc (thr d L) ↦{fullShare} f1 from rfl)) $$ Hs1
  ihave Hs2' := (Entails.of_eq (show ((thr d L).loc cc0_scratch2 ↦{fullShare} f2 : sProp 𝕄) = bufPts d L f2 from rfl)) $$ Hs2
  sl_exec
  ihave Hs0 := (Entails.of_eq (show (tabS.view.loc (thr d L) ↦{fullShare} View.write (Elt F) tabS.view f0 (tile_body.sl.dma0 T) Finset.univ : sProp 𝕄) = tabPts d L T by
    rw [View.write_whole_univ]; rfl)) $$ Hs0'
  ihave Hs1 := (Entails.of_eq (show (idxS.view.loc (thr d L) ↦{fullShare} View.write (Elt F) idxS.view f1 (tile_body.sl.dma0_1 L J) Finset.univ : sProp 𝕄) = idxPts d L (idxRows J (wid L)) by
    rw [View.write_whole_univ]; exact congrArg _ (read_iView (F := F) L J))) $$ Hs1'
  iapply (Scf.wp_for_bind frame (wpE (defs₀ (F := F)) 𝒱₀ (thr d L) none) Set.univ k0_t1_loop.lb k0_t1_loop.ub k0_t1_loop.st k0_t1_ok 0#32 _
    (inv d L T J O W) (fun t x => trip d L T J hJ O W t x)) $$ [Hmw Hs0 Hs1 Hs2' Ho HsemC HO]
  · unfold inv
    isplitl [Hmw]; · iexact Hmw
    isplitl [Hs0 Hs1 Hs2']
    · iexists f2
      iapply (Entails.of_eq (own_eq (F := F) d L _ _ _).symm)
      isplitl [Hs0]; · iexact Hs0
      isplitl [Hs1]; · iexact Hs1
      iexact Hs2'
    isplitl [Ho]
    · iexists g
      isplitr
      · ipureintro; intro j hj; exact absurd hj.2 (by have := hj.1; omega)
      iexact Ho
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %_ HI
  unfold inv
  icases HI with ⟨-, ⟨%f2', Hown⟩, ⟨%g', %hg', Ho⟩, HsemC, %W', %hW', HO⟩
  ihave Hown := (Entails.of_eq (own_eq (F := F) d L _ _ _)) $$ Hown
  icases Hown with ⟨Hs0, Hs1, Hs2⟩
  sl_step
  isplitl [Ht' Hi' Ho]
  · isplitl [Ht']; · iexact Ht'
    isplitl [Hi']
    · iapply (Entails.of_eq (show ((iView L).view.loc (thr d L) ↦[(iView L).view.set]{fullShare} (J : Buf (Elt F) ((iView L).view.loc (thr d L))) : sProp 𝕄)
        = idxLoc d ↦[iSet (wid L)]{fullShare} (J : Buf (Elt F) (idxLoc d)) by rw [set_iView]))
      iexact Hi'
    iexists g'
    isplitr
    · ipureintro
      have ht : Scf.trips k0_t1_loop.lb k0_t1_loop.ub k0_t1_loop.st = 2 := trips1
      intro j hj
      exact hg' j ⟨hj, by omega⟩
    iexact Ho
  isplitl [Hs0 Hs1 Hs2 Hbufs]
  · isplitl [Hs0]; · iexists _; iexact Hs0
    isplitl [Hs1]; · iexists _; iexact Hs1
    isplitl [Hs2]; · iexists _; iexact Hs2
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Body

end Cert.Proof.Embed

end
-- ==== Proof.Launch.lean ====
/-
  What the SparseCore call carries: each of the 32 tiles gets a share of the table, its index rows and its rows of the
  result, and gives them back with the wanted words; the three arrays are the tiles' parts taken together.
-/
module

public import proofs.«01_k».proof.Proof.Body

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The tiles -/

/-- The share of the table dealt to tile `w`. -/
def tabQ (w : Fin 32) : PosShare TreeShare := Transfers.dealOf fullShare (Finset.univ : Finset (Fin 32)) w

/-- Tile `i` of SparseCore `c`. -/
def tileNo (c : Fin 2) (i : Fin 16) : Fin 32 := ⟨2 * i.val + c.val, by omega⟩

/-- The tiles, by SparseCore and subcore. -/
def tileEquiv : Fin 2 × Fin 16 ≃ Fin 32 where
  toFun x := tileNo x.1 x.2
  invFun w := (⟨w.val % 2, Nat.mod_lt _ (by decide)⟩, ⟨w.val / 2, by omega⟩)
  left_inv x := by
    obtain ⟨c, i⟩ := x
    refine Prod.ext (Fin.ext ?_) (Fin.ext ?_)
    · show (2 * i.val + c.val) % 2 = c.val
      omega
    · show (2 * i.val + c.val) / 2 = i.val
      omega
  right_inv w := Fin.ext (by show 2 * (w.val / 2) + w.val % 2 = w.val; omega)

/-- A statement of every tile, by SparseCore and subcore. -/
theorem bigSep_tiles (Φ : Fin 32 → sProp 𝕄) :
    (bigSep Finset.univ fun c : Fin 2 => bigSep Finset.univ fun i : Fin 16 => Φ (tileNo c i)) = bigSep Finset.univ Φ := by
  rw [bigSep_univ_equiv tileEquiv Φ, BI.bigSep_univ_prod]
  rfl

theorem iSet_disjoint : ∀ i ∈ (Finset.univ : Finset (Fin 32)), ∀ j ∈ (Finset.univ : Finset (Fin 32)), i ≠ j → Disjoint (iSet i.val) (iSet j.val) := by
  intro i _ j _ h
  refine Finset.disjoint_left.mpr fun x hx hy => h (Fin.ext ?_)
  simp only [iSet, Finset.mem_filter] at hx hy
  omega
theorem oSet_disjoint : ∀ i ∈ (Finset.univ : Finset (Fin 32)), ∀ j ∈ (Finset.univ : Finset (Fin 32)), i ≠ j → Disjoint (oSet i.val) (oSet j.val) := by
  intro i _ j _ h
  refine Finset.disjoint_left.mpr fun x hx hy => h (Fin.ext ?_)
  simp only [oSet, Finset.mem_filter] at hx hy
  omega
theorem iSet_cover : (Finset.univ : Finset (Fin 32)).biUnion (fun w => iSet w.val) = Finset.univ := by
  ext x
  have hx : (x 0).val < 1408 := (x 0).isLt
  simp only [Finset.mem_biUnion, Finset.mem_univ, true_and, iff_true, iSet, Finset.mem_filter]
  exact ⟨⟨(x 0).val / 44, by omega⟩, rfl⟩
theorem oSet_cover : (Finset.univ : Finset (Fin 32)).biUnion (fun w => oSet w.val) = Finset.univ := by
  ext x
  have hx : (x 0).val < 16384 := (x 0).isLt
  simp only [Finset.mem_biUnion, Finset.mem_univ, true_and, iff_true, oSet, Finset.mem_filter]
  exact ⟨⟨(x 0).val / 512, by omega⟩, rfl⟩

section Pay
variable (Tb : Dev nD → S16x256.Idx → BitVec 32) (Jb : Dev nD → S1408x128.Idx → BitVec 32) (g₀ : Dev nD → S16384x256.Idx → BitVec 32)

/-- The handshakes' contents: a tile's part going and coming; a SparseCore's is its tiles' parts. -/
def P : (K (F := F)).Pay (nD := nD) (Val := Elt F) (Name := ℕ) (U := UU) where
  st := fun q d c => match q with
    | 0 => bigSep Finset.univ fun i : Fin ((K (F := F)).nSub 0) => goRes (F := F) d (tabQ (tileNo c i)) (Tb d) (Jb d) (tileNo c i).val (g₀ d)
  dn := fun q d c => match q with
    | 0 => bigSep Finset.univ fun i : Fin ((K (F := F)).nSub 0) => tdRes (F := F) d (tabQ (tileNo c i)) (Tb d) (Jb d) (tileNo c i).val
  go := fun q d c i => match q with | 0 => goRes (F := F) d (tabQ (tileNo c i)) (Tb d) (Jb d) (tileNo c i).val (g₀ d)
  td := fun q d c i => match q with | 0 => tdRes (F := F) d (tabQ (tileNo c i)) (Tb d) (Jb d) (tileNo c i).val
  x := fun _ _ => iprop(emp)

instance P_storable : (P (F := F) Tb Jb g₀).IsStorable where
  st q d c := match q with
    | 0 => (inferInstance : BI.Storable (upEmb : UEmb _ 𝕄)
      (bigSep Finset.univ fun i : Fin ((K (F := F)).nSub 0) => goRes (F := F) d (tabQ (tileNo c i)) (Tb d) (Jb d) (tileNo c i).val (g₀ d)))
  dn q d c := match q with
    | 0 => (inferInstance : BI.Storable (upEmb : UEmb _ 𝕄)
      (bigSep Finset.univ fun i : Fin ((K (F := F)).nSub 0) => tdRes (F := F) d (tabQ (tileNo c i)) (Tb d) (Jb d) (tileNo c i).val))
  go q d c i := match q with
    | 0 => (inferInstance : BI.Storable (upEmb : UEmb _ 𝕄) (goRes (F := F) d (tabQ (tileNo c i)) (Tb d) (Jb d) (tileNo c i).val (g₀ d)))
  td q d c i := match q with
    | 0 => (inferInstance : BI.Storable (upEmb : UEmb _ 𝕄) (tdRes (F := F) d (tabQ (tileNo c i)) (Tb d) (Jb d) (tileNo c i).val))

/-! ## The obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (F := F) (coordsV c s)
          tabV (Memref.isWhole_whole _) idxV (Memref.isWhole_whole _) outV (Memref.isWhole_whole _)
          tabS (Memref.isWhole_whole _) idxS (Memref.isWhole_whole _) bufS (Memref.isWhole_whole _) cc0_scoped0 cc0_scoped1 cc0_scoped2) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hJ : ∀ d j, (Jb d j).toNat < 256) : (K (F := F)).TileObl (D (F := F)) 𝒱 (P Tb Jb g₀) v₀ 0 := by
  intro d c i O W hO _ _
  simp only [show (P (F := F) Tb Jb g₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (F := F) d (coordsV ⟨_, hci.1⟩ ⟨_, hci.2⟩) facts (tabQ (tileNo c i)) (Tb d) (Jb d) (hJ d) (g₀ d) O W hO).trans (wp_mono frame _ _ fun _ => obl_post)

theorem vecSplit : (K (F := F)).VecSplit' (P Tb Jb g₀) 0 := by
  intro d c
  show (bigSep Finset.univ fun i : Fin ((K (F := F)).nSub 0) => goRes (F := F) d (tabQ (tileNo c i)) (Tb d) (Jb d) (tileNo c i).val (g₀ d))
    ⊢ |={Set.univ}=> iprop((bigSep Finset.univ fun i : Fin ((K (F := F)).nSub 0) => goRes (F := F) d (tabQ (tileNo c i)) (Tb d) (Jb d) (tileNo c i).val (g₀ d))
      ∗ ((bigSep Finset.univ fun i : Fin ((K (F := F)).nSub 0) => tdRes (F := F) d (tabQ (tileNo c i)) (Tb d) (Jb d) (tileNo c i).val)
        -∗ (bigSep Finset.univ fun i : Fin ((K (F := F)).nSub 0) => tdRes (F := F) d (tabQ (tileNo c i)) (Tb d) (Jb d) (tileNo c i).val)))
  iintro H; imodintro
  isplitl [H]; · iexact H
  iintro H; iexact H

/-! ## The arrays are the tiles' parts -/

theorem st_eq (d : Dev nD) : (bigSep Finset.univ fun c : Fin ((K (F := F)).nCore 0) => (P (F := F) Tb Jb g₀).st 0 d c)
    = iprop((tabLoc d ↦{fullShare} (Tb d : Buf (Elt F) (tabLoc d))) ∗ (idxLoc d ↦{fullShare} (Jb d : Buf (Elt F) (idxLoc d))) ∗ (outLoc d ↦{fullShare} (g₀ d : Buf (Elt F) (outLoc d)))) := by
  refine (bigSep_tiles (F := F) fun w => goRes (F := F) d (tabQ w) (Tb d) (Jb d) w.val (g₀ d)).trans ?_
  rw [bigSep_sep', bigSep_sep']
  congr 1
  · exact (Transfers.pointsTo_deal (ℓ := tabLoc d) (S := Finset.univ) Finset.univ ⟨0, Finset.mem_univ _⟩ fullShare).symm
  congr 1
  · rw [← pointsTo_biUnion Finset.univ (ℓ := idxLoc d) (fun w : Fin 32 => iSet w.val) iSet_disjoint, iSet_cover]
  · rw [← pointsTo_biUnion Finset.univ (ℓ := outLoc d) (fun w : Fin 32 => oSet w.val) oSet_disjoint, oSet_cover]

/-- The tiles' parts coming back are the table, the indices, and the result with every wanted word in place. -/
theorem dn_entails (d : Dev nD) : (bigSep Finset.univ fun c : Fin ((K (F := F)).nCore 0) => (P (F := F) Tb Jb g₀).dn 0 d c)
    ⊢ iprop((tabLoc d ↦{fullShare} (Tb d : Buf (Elt F) (tabLoc d))) ∗ (idxLoc d ↦{fullShare} (Jb d : Buf (Elt F) (idxLoc d)))
      ∗ ∃ g, ⌜OutOn (Tb d) (Jb d) (fun _ => True) g⌝ ∗ outLoc d ↦{fullShare} (g : Buf (Elt F) (outLoc d))) := by
  refine (Entails.of_eq (bigSep_tiles (F := F) fun w => tdRes (F := F) d (tabQ w) (Tb d) (Jb d) w.val)).trans ?_
  rw [bigSep_sep', bigSep_sep']
  iintro ⟨Ht, Hi, Ho⟩
  isplitl [Ht]
  · iapply (Entails.of_eq (Transfers.pointsTo_deal (ℓ := tabLoc d) (S := Finset.univ) Finset.univ ⟨(0 : Fin 32), Finset.mem_univ _⟩ fullShare).symm); iexact Ht
  isplitl [Hi]
  · iapply (Entails.of_eq (show (bigSep Finset.univ fun w : Fin 32 => (idxLoc d ↦[iSet w.val]{fullShare} (Jb d : Buf (Elt F) (idxLoc d)) : sProp 𝕄)) = _ by
      rw [← pointsTo_biUnion Finset.univ (ℓ := idxLoc d) (fun w : Fin 32 => iSet w.val) iSet_disjoint, iSet_cover]))
    iexact Hi
  ihave Ho := (bigSep_exists_pi Finset.univ (fun (w : Fin 32) (g : S16384x256.Idx → BitVec 32) =>
    (iprop(⌜OutOK (Tb d) (Jb d) w.val g⌝ ∗ outLoc d ↦[oSet w.val]{fullShare} (g : Buf (Elt F) (outLoc d))) : sProp 𝕄))) $$ Ho
  icases Ho with ⟨%gs, Ho⟩
  ihave Ho := (bigSep_pure_sep Finset.univ (fun w : Fin 32 => OutOK (Tb d) (Jb d) w.val (gs w))
    (fun w => (outLoc d ↦[oSet w.val]{fullShare} (gs w : Buf (Elt F) (outLoc d)) : sProp 𝕄))) $$ Ho
  icases Ho with ⟨%hp, Ho⟩
  have : Nonempty (Buf (Elt F) (outLoc d)) := ⟨gs 0⟩
  ihave H' := (pointsTo_biUnion_join (ℓ := outLoc d) (q := fullShare) (Val := Elt F) Finset.univ (fun w : Fin 32 => oSet w.val) gs (gs 0) oSet_disjoint) $$ Ho
  icases H' with ⟨%g, %hg, Hg⟩
  iexists g
  isplitr
  · ipureintro
    intro j _ hc
    have hj : (j 0).val < 16384 := (j 0).isLt
    have hm : j ∈ oSet ((j 0).val / 512) := by simp [oSet]
    rw [hg ⟨(j 0).val / 512, by omega⟩ (Finset.mem_univ _) j hm]
    exact hp ⟨(j 0).val / 512, by omega⟩ (Finset.mem_univ _) j rfl hc
  rw [oSet_cover]
  iexact Hg

end Pay

end Cert.Proof.Embed

end
-- ==== Proof.Host.lean ====
/-
  @main between the two calls: its three straight lines of host operations, found by unification from the printed
  program, each operation on buffers that are no core's scratch.
-/
module

public import proofs.«01_k».proof.Proof.Setup
public import Idealize.ShloMosaic.Lib.Pipeline.Frame
public import Idealize.ShloMosaic.Lib.Pipeline.FrameTail
public import Idealize.ShloMosaic.Lib.StableHlo.RunRead

@[expose] public section

set_option maxRecDepth 16384

noncomputable section

namespace Cert.Proof.Embed

open Cert.KernelIdeal Cert.KernelIdeal.Gen

open Idealize.ShloMosaic
open Idealize.ShloMosaic.SparseCore (S V T)
open Idealize.SL.Sem
open Idealize.ShloMosaic.StableHlo (seq)
open Idealize.ShloMosaic.Pipeline (ucRefs)

variable {F : FTy → Type} [FloatOps F]

/-- The labels of the whole program. -/
abbrev ΛS : Labels := SparseCore.Sig (ΛP (F := F)) 1
/-- A program of a TensorCore. -/
abbrev TcProg : Type 1 := Prog (TpuEff nD τ sig (Elt F) (ΛS (F := F)) .tc) PUnit

/-- An operation the lines may use: it works on unscoped buffers and allocates none. -/
def Plain (op : HloOp τ sig (Elt F)) : Prop := op.bufs ⊆ ucRefs τ sig ∧ op.fresh = ∅

/-- The straight line of operations a program starts with, and the program that follows it. -/
structure Line (p : TcProg (F := F)) (k : TcProg (F := F)) where
  ops : List (HloOp τ sig (Elt F))
  eq : p = seq ops >>= fun _ => k
  plain : ∀ op ∈ ops, Plain op

/-- A line of no operation. -/
def Line.nil (k : TcProg (F := F)) : Line k k := ⟨[], by rw [seq, pure_bind], by simp⟩

/-- One operation more at the head of a line. -/
def Line.cons {hp} {op : HloOp τ sig (Elt F)} {p k : TcProg (F := F)} (h : Plain op) (l : Line p k) :
    Line (hlo hp op (fun _ => .ret (⟨⟩ : PUnit)) >>= fun _ => p) k :=
  ⟨op :: l.ops, by
    rw [seq, bind_assoc]; exact congrArg _ (funext fun _ => l.eq), by
    simp only [List.mem_cons]; rintro o (rfl | ho); exacts [h, l.plain o ho]⟩

/-- A last operation. -/
def Line.last {hp} {op : HloOp τ sig (Elt F)} (h : Plain op) : Line (F := F) (hlo hp op (fun _ => .ret (⟨⟩ : PUnit))) (pure ⟨⟩) :=
  ⟨[op], by rw [seq, seq, bind_assoc]; simp only [pure_bind]; exact (bind_pure _).symm, by simp [h]⟩

theorem plain_of_sub {op : HloOp τ sig (Elt F)} (h : op.bufs ⊆ StableHlo.tcRefs τ sig) (hf : op.fresh = ∅) : Plain op :=
  ⟨Pipeline.sub_ucRefs op h, hf⟩

/-- The first part up to the SparseCore's call, and the line after it. -/
def part0 (d : Dev nD) : (k : TcProg (F := F)) × Line (main_part0 d) ((K (F := F)).run d 0 >>= fun _ => k) × Line k (pure ⟨⟩) := by
  refine ⟨?k, ?a, ?b⟩
  case a =>
    delta main_part0
    repeat first
      | exact Line.nil _
      | refine Line.cons (plain_of_sub (by with_reducible exact StableHlo.nullary_bufs_sub ..) rfl) ?_
      | refine Line.cons (plain_of_sub (by with_reducible exact StableHlo.unary_bufs_sub ..) rfl) ?_
      | refine Line.cons (plain_of_sub (by with_reducible exact StableHlo.ternary_bufs_sub ..) rfl) ?_
      | refine Line.cons (plain_of_sub (by with_reducible exact StableHlo.reshape_bufs_sub ..) rfl) ?_
  case b =>
    repeat first
      | exact Line.last (plain_of_sub (by with_reducible exact StableHlo.unary_bufs_sub ..) rfl)
      | refine Line.cons (plain_of_sub (by with_reducible exact StableHlo.nullary_bufs_sub ..) rfl) ?_
      | refine Line.cons (plain_of_sub (by with_reducible exact StableHlo.unary_bufs_sub ..) rfl) ?_
      | refine Line.cons (plain_of_sub (by with_reducible exact StableHlo.binary_bufs_sub ..) rfl) ?_

/-- The second part up to the TensorCore's call, and the line after it. -/
def part1 (d : Dev nD) : (k : TcProg (F := F)) × Line (main_part1 d) (Prog.lift (.customCall (SparseCore.inner (Pipeline.entry 0)) ()) >>= fun _ => k) × Line k (pure ⟨⟩) := by
  refine ⟨?k, ?a, ?b⟩
  case a =>
    delta main_part1
    repeat first
      | exact Line.nil _
      | refine Line.cons (plain_of_sub (by with_reducible exact StableHlo.unary_bufs_sub ..) rfl) ?_
      | refine Line.cons (plain_of_sub (by with_reducible exact StableHlo.reshape_bufs_sub ..) rfl) ?_
  case b => exact Line.cons (plain_of_sub (StableHlo.reshape_bufs_sub ..) rfl) (Line.nil _)

/-- The operations before the SparseCore's call, between the two calls (the first part's and the second's), after both. -/
abbrev opsA (d : Dev nD) : List (HloOp τ sig (Elt F)) := (part0 d).2.1.ops
abbrev opsB (d : Dev nD) : List (HloOp τ sig (Elt F)) := (part0 d).2.2.ops
abbrev opsC (d : Dev nD) : List (HloOp τ sig (Elt F)) := (part1 d).2.1.ops
abbrev opsD (d : Dev nD) : List (HloOp τ sig (Elt F)) := (part1 d).2.2.ops

/-- @main, its four lines and its two calls. -/
theorem main_eq (d : Dev nD) : main (F := F) d = seq (opsA d) >>= fun _ => (K (F := F)).run d 0 >>= fun _ => seq (opsB d) >>= fun _ =>
    seq (opsC d) >>= fun _ => Prog.lift (.customCall (SparseCore.inner (Pipeline.entry 0)) ()) >>= fun _ => seq (opsD d) >>= fun _ => pure ⟨⟩ := by
  have e0 : main_part0 (F := F) d = seq (opsA d) >>= fun _ => (K (F := F)).run d 0 >>= fun _ => seq (opsB d) :=
    (part0 d).2.1.eq.trans (congrArg (fun k : TcProg (F := F) => seq (opsA d) >>= fun _ => (K (F := F)).run d 0 >>= fun _ => k)
      ((part0 d).2.2.eq.trans (bind_pure _)))
  have e1 : main_part1 (F := F) d = seq (opsC d) >>= fun _ => Prog.lift (.customCall (SparseCore.inner (Pipeline.entry 0)) ()) >>= fun _ =>
      seq (opsD d) >>= fun _ => pure ⟨⟩ :=
    (part1 d).2.1.eq.trans (congrArg (fun k : TcProg (F := F) => seq (opsC d) >>= fun _ =>
      Prog.lift (.customCall (SparseCore.inner (Pipeline.entry 0)) ()) >>= fun _ => k) (part1 d).2.2.eq)
  show (main_part0 d >>= fun _ => main_part1 d) = _
  rw [e0, e1]
  simp only [bind_assoc]

open Idealize.ShloMosaic.StableHlo

/-! ## What the lines leave -/

/-- A weight matrix less its row means, and a bias less its mean, as the program computes them. -/
def cen1 (w : FVec F S357x512 .f32) : FVec F S357x512 .f32 :=
  subf w (broadcastInDim S357x512 ![0, 1] bcast_S357x1_S357x512_0_1 (Host.divf
    (broadcastInDim S357x1 ![0] bcast_S357_S357x1_0 (Host.reduceAdd w (constant S_ .f32 0x00000000#32) reducesTo_S357x512_S357_d1 h_S_))
    (broadcastInDim S357x1 ![] bcast_S_S357x1 (constant S_ .f32 0x44000000#32))))
def cenb1 (b : FVec F S512 .f32) : FVec F S512 .f32 :=
  subf b (broadcastInDim S512 ![] bcast_S_S512 (Host.divf
    (Host.reduceAdd b (constant S_ .f32 0x00000000#32) reducesTo_S512_S_d0 h_S_) (constant S_ .f32 0x44000000#32)))
def cen2 (w : FVec F S512x256 .f32) : FVec F S512x256 .f32 :=
  subf w (broadcastInDim S512x256 ![0, 1] bcast_S512x1_S512x256_0_1 (Host.divf
    (broadcastInDim S512x1 ![0] bcast_S512_S512x1_0 (Host.reduceAdd w (constant S_ .f32 0x00000000#32) reducesTo_S512x256_S512_d1 h_S_))
    (broadcastInDim S512x1 ![] bcast_S_S512x1 (constant S_ .f32 0x43800000#32))))
def cenb2 (b : FVec F S256 .f32) : FVec F S256 .f32 :=
  subf b (broadcastInDim S256 ![] bcast_S_S256 (Host.divf
    (Host.reduceAdd b (constant S_ .f32 0x00000000#32) reducesTo_S256_S_d0 h_S_) (constant S_ .f32 0x43800000#32)))
def cen3 (w : FVec F S256x128 .f32) : FVec F S256x128 .f32 :=
  subf w (broadcastInDim S256x128 ![0, 1] bcast_S256x1_S256x128_0_1 (Host.divf
    (broadcastInDim S256x1 ![0] bcast_S256_S256x1_0 (Host.reduceAdd w (constant S_ .f32 0x00000000#32) reducesTo_S256x128_S256_d1 h_S_))
    (broadcastInDim S256x1 ![] bcast_S_S256x1 (constant S_ .f32 0x43000000#32))))
def cenb3 (b : FVec F S128 .f32) : FVec F S128 .f32 :=
  subf b (broadcastInDim S128 ![] bcast_S_S128 (Host.divf
    (Host.reduceAdd b (constant S_ .f32 0x00000000#32) reducesTo_S128_S_d0 h_S_) (constant S_ .f32 0x43000000#32)))

/-- The table as the SparseCore reads it: the words transposed, row 0 cleared, columns 166 on zero. -/
def tabOf (e : Vec F S166x16 .i32) : Vec F S16x256 .i32 :=
  Host.scatter scatter_S16x256_S1_S16x166_01_n_1_0 (fun _ b => b) (broadcastInDim S16x256 ![] bcast_S_S16x256 (constantI S_ 32 0#32))
    (broadcastInDim S1 ![] bcast_S_S1 (constantI S_ 32 0#32))
    (transpose S16x166 [1, 0] (Host.scatter scatter_S166x16_S1_S16_0_0_0_0 (fun _ b => b) e
      (broadcastInDim S1 ![] bcast_S_S1 (constantI S_ 32 0#32)) (broadcastInDim S16 ![] bcast_S_S16 (constantI S_ 32 0#32))) transposes_S166x16_S16x166_1_0)

section Reads
variable (d : Dev nD) (V : Valuation τ sig (Elt F))

theorem A_v7 : after (opsA d) V (Proc.devRef .tc main_v7) = shapeCast _ (V (Proc.devRef .tc main_arg0)) shapeCasts_S16384x11_S1408x128 := by
  dsimp only [opsA, part0, Line.cons, Line.nil, Line.last]
  after_reads_simp
  rfl

theorem A_v6 : after (opsA d) V (Proc.devRef .tc main_v6) = tabOf (V (Proc.devRef .tc main_arg2)) := by
  dsimp only [opsA, part0, Line.cons, Line.nil, Line.last]
  after_reads_simp
  rfl

theorem A_v8 : after (opsA d) V (Proc.devRef .tc main_v8) = V (Proc.devRef .tc main_v8) := by
  dsimp only [opsA, part0, Line.cons, Line.nil, Line.last]
  after_reads_simp

/-- The contents of the arrays between the two calls. -/
abbrev mid : Valuation τ sig (Elt F) := after (opsC d) (after (opsB d) V)

theorem mid_v8 : mid d V (Proc.devRef .tc main_v8) = V (Proc.devRef .tc main_v8) := by
  dsimp only [mid, opsB, opsC, part0, part1, Line.cons, Line.nil, Line.last]
  after_reads_simp

theorem mid_v47 : mid d V (Proc.devRef .tc main_v47) = truncf .bf16 (V (Proc.devRef .tc main_arg1)) bitsLt_bf16_f32 := by
  dsimp only [mid, opsB, opsC, part0, part1, Line.cons, Line.nil, Line.last]
  after_reads_simp

theorem mid_v40 : mid d V (Proc.devRef .tc main_v40) = truncf .bf16 (Host.slice S176x512 ![0, 0] ![2, 1] (cen1 (V (Proc.devRef .tc main_arg3))) slicesBy_S357x512_S176x512_0s2_0s1) bitsLt_bf16_f32 := by
  dsimp only [mid, opsB, opsC, part0, part1, Line.cons, Line.nil, Line.last]
  after_reads_simp
  rfl

theorem mid_v59 : mid d V (Proc.devRef .tc main_v59) = shapeCast _ (cenb1 (V (Proc.devRef .tc main_arg4))) shapeCasts_S512_S1x512 := by
  dsimp only [mid, opsB, opsC, part0, part1, Line.cons, Line.nil, Line.last]
  after_reads_simp
  rfl

theorem mid_v60 : mid d V (Proc.devRef .tc main_v60) = shapeCast _ (V (Proc.devRef .tc main_arg5)) shapeCasts_S512_S1x512 := by
  dsimp only [mid, opsB, opsC, part0, part1, Line.cons, Line.nil, Line.last]
  after_reads_simp
  rfl

theorem mid_v42 : mid d V (Proc.devRef .tc main_v42) = truncf .bf16 (Host.slice S176x512 ![1, 0] ![2, 1] (cen1 (V (Proc.devRef .tc main_arg3))) slicesBy_S357x512_S176x512_1s2_0s1) bitsLt_bf16_f32 := by
  dsimp only [mid, opsB, opsC, part0, part1, Line.cons, Line.nil, Line.last]
  after_reads_simp
  rfl

theorem mid_v44 : mid d V (Proc.devRef .tc main_v44) = truncf .bf16 (extractStridedSlice S5x512 ![352, 0] (cen1 (V (Proc.devRef .tc main_arg3))) slices_S357x512_S5x512_352_0) bitsLt_bf16_f32 := by
  dsimp only [mid, opsB, opsC, part0, part1, Line.cons, Line.nil, Line.last]
  after_reads_simp
  rfl

theorem mid_v45 : mid d V (Proc.devRef .tc main_v45) = truncf .bf16 (cen2 (V (Proc.devRef .tc main_arg7))) bitsLt_bf16_f32 := by
  dsimp only [mid, opsB, opsC, part0, part1, Line.cons, Line.nil, Line.last]
  after_reads_simp
  rfl

theorem mid_v46 : mid d V (Proc.devRef .tc main_v46) = truncf .bf16 (cen3 (V (Proc.devRef .tc main_arg11))) bitsLt_bf16_f32 := by
  dsimp only [mid, opsB, opsC, part0, part1, Line.cons, Line.nil, Line.last]
  after_reads_simp
  rfl

theorem mid_v61 : mid d V (Proc.devRef .tc main_v61) = shapeCast _ (V (Proc.devRef .tc main_arg6)) shapeCasts_S512_S1x512 := by
  dsimp only [mid, opsB, opsC, part0, part1, Line.cons, Line.nil, Line.last]
  after_reads_simp
  rfl

theorem mid_v62 : mid d V (Proc.devRef .tc main_v62) = shapeCast _ (cenb2 (V (Proc.devRef .tc main_arg8))) shapeCasts_S256_S1x256 := by
  dsimp only [mid, opsB, opsC, part0, part1, Line.cons, Line.nil, Line.last]
  after_reads_simp
  rfl

theorem mid_v63 : mid d V (Proc.devRef .tc main_v63) = shapeCast _ (V (Proc.devRef .tc main_arg9)) shapeCasts_S256_S1x256 := by
  dsimp only [mid, opsB, opsC, part0, part1, Line.cons, Line.nil, Line.last]
  after_reads_simp
  rfl

theorem mid_v64 : mid d V (Proc.devRef .tc main_v64) = shapeCast _ (V (Proc.devRef .tc main_arg10)) shapeCasts_S256_S1x256 := by
  dsimp only [mid, opsB, opsC, part0, part1, Line.cons, Line.nil, Line.last]
  after_reads_simp
  rfl

theorem mid_v65 : mid d V (Proc.devRef .tc main_v65) = shapeCast _ (cenb3 (V (Proc.devRef .tc main_arg12))) shapeCasts_S128_S1x128 := by
  dsimp only [mid, opsB, opsC, part0, part1, Line.cons, Line.nil, Line.last]
  after_reads_simp
  rfl

theorem mid_v66 : mid d V (Proc.devRef .tc main_v66) = shapeCast _ (V (Proc.devRef .tc main_arg13)) shapeCasts_S128_S1x128 := by
  dsimp only [mid, opsB, opsC, part0, part1, Line.cons, Line.nil, Line.last]
  after_reads_simp
  rfl

theorem mid_v67 : mid d V (Proc.devRef .tc main_v67) = shapeCast _ (V (Proc.devRef .tc main_arg14)) shapeCasts_S128_S1x128 := by
  dsimp only [mid, opsB, opsC, part0, part1, Line.cons, Line.nil, Line.last]
  after_reads_simp
  rfl

theorem mid_v68 : mid d V (Proc.devRef .tc main_v68) = shapeCast _ (V (Proc.devRef .tc main_arg15)) shapeCasts_S128x1_S1x128 := by
  dsimp only [mid, opsB, opsC, part0, part1, Line.cons, Line.nil, Line.last]
  after_reads_simp
  rfl

theorem mid_v69 : mid d V (Proc.devRef .tc main_v69) = shapeCast _ (V (Proc.devRef .tc main_arg16)) shapeCasts_S1_S1x1 := by
  dsimp only [mid, opsB, opsC, part0, part1, Line.cons, Line.nil, Line.last]
  after_reads_simp
  rfl

theorem D_v71 : after (opsD d) V (Proc.devRef .tc main_v71) = shapeCast _ (V (Proc.devRef .tc main_v70)) shapeCasts_S16384x1_S16384 := by
  dsimp only [opsD, part1, Line.cons, Line.nil, Line.last]
  after_reads_simp
  rfl

end Reads

/-- The program's arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-- What each line writes, in order. -/
abbrev outsA : List (Ref sig .tc) := [main_c, main_v0, main_c_0, main_v1, main_v2, main_c_1, main_v3, main_v4, main_c_2, main_v5, main_v6, main_v7]
abbrev outsB : List (Ref sig .tc) := [main_cst, main_v9, main_v10, main_cst_3, main_v11, main_v12, main_v13, main_v14, main_cst_4, main_v15, main_cst_5, main_v16, main_v17, main_v18, main_cst_6, main_v19, main_v20, main_cst_7, main_v21, main_v22, main_v23, main_v24, main_cst_8, main_v25, main_cst_9, main_v26, main_v27, main_v28, main_cst_10, main_v29, main_v30, main_cst_11, main_v31, main_v32, main_v33, main_v34, main_cst_12, main_v35, main_cst_13, main_v36, main_v37, main_v38, main_v39, main_v40, main_v41, main_v42, main_v43]
abbrev outsC : List (Ref sig .tc) := [main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69]
abbrev outsD : List (Ref sig .tc) := [main_v71]

section Kept
variable (d : Dev nD) (V : Valuation τ sig (Elt F)) (r : Ref sig .tc) (hr : r ∈ argRefs)
include hr

/-- No line writes an argument. -/
theorem A_kept : after (opsA d) V (Proc.devRef .tc r) = V (Proc.devRef .tc r) :=
  after_unwritten outsA (by dsimp only [opsA, part0, Line.cons, Line.nil, Line.last]; rfl) (by revert r; decide) V

theorem mid_kept : mid d V (Proc.devRef .tc r) = V (Proc.devRef .tc r) :=
  (after_unwritten outsC (by dsimp only [opsC, part1, Line.cons, Line.nil, Line.last]; rfl) (by revert r; decide) _).trans
    (after_unwritten outsB (by dsimp only [opsB, part0, Line.cons, Line.nil, Line.last]; rfl) (by revert r; decide) V)

theorem D_kept : after (opsD d) V (Proc.devRef .tc r) = V (Proc.devRef .tc r) :=
  after_unwritten outsD (by dsimp only [opsD, part1, Line.cons, Line.nil, Line.last]; rfl) (by revert r; decide) V

end Kept

end Cert.Proof.Embed

end
-- ==== Proof.Region.lean ====
/-
  The TensorCore's call: what one grid point of the layer-normed network leaves in the result's staging buffer, and
  the proof data of the call over any contents of its arrays.
-/
module

public import proofs.«01_k».proof.Proof.Setup
public import Idealize.ShloMosaic.Lib.Pipeline.FrameBody
public import Idealize.ShloMosaic.Lib.Pipeline.Value

@[expose] public section

set_option maxRecDepth 16384

noncomputable section

namespace Cert.Proof.Embed

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MM F

/-! ## The body at one point -/

/-- The network on one block of 2048 samples, from the contents of the eighteen operands' blocks. -/
def mlp (x0 : Vec F S2048x256 .i32) (x1 : Vec F S2048x5 .bf16) (x2 : Vec F S176x512 .bf16) (x3 : Vec F S176x512 .bf16) (x4 : Vec F S5x512 .bf16) (x5 : Vec F S1x512 .f32) (x6 : Vec F S1x512 .f32) (x7 : Vec F S1x512 .f32) (x8 : Vec F S512x256 .bf16) (x9 : Vec F S1x256 .f32) (x10 : Vec F S1x256 .f32) (x11 : Vec F S1x256 .f32) (x12 : Vec F S256x128 .bf16) (x13 : Vec F S1x128 .f32) (x14 : Vec F S1x128 .f32) (x15 : Vec F S1x128 .f32) (x16 : Vec F S1x128 .f32) (x17 : Vec F S1x1 .f32) : Vec F S2048x1 .f32 :=
  k1_pay1 (k1_pay6 (k1_pay2 x0 x2 x3 x1 x4 x5) (k1_pay3 x6) (k1_pay4 x7) (k1_pay5 x0 x2 x3 x1 x4 x5)
    (Scalar.ofBits .f32 0x44000000#32) x8 x9 x10 x11) x12 x13 x14 x15 x16 x17

/-- The eighteen operands' staging buffers at given contents. -/
def ins (c : Dev nD) (a0 : Memref sig .tc .vmem S2048x256 .i32) (a1 : Memref sig .tc .vmem S2048x5 .bf16) (a2 : Memref sig .tc .vmem S176x512 .bf16) (a3 : Memref sig .tc .vmem S176x512 .bf16) (a4 : Memref sig .tc .vmem S5x512 .bf16) (a5 : Memref sig .tc .vmem S1x512 .f32) (a6 : Memref sig .tc .vmem S1x512 .f32) (a7 : Memref sig .tc .vmem S1x512 .f32) (a8 : Memref sig .tc .vmem S512x256 .bf16) (a9 : Memref sig .tc .vmem S1x256 .f32) (a10 : Memref sig .tc .vmem S1x256 .f32) (a11 : Memref sig .tc .vmem S1x256 .f32) (a12 : Memref sig .tc .vmem S256x128 .bf16) (a13 : Memref sig .tc .vmem S1x128 .f32) (a14 : Memref sig .tc .vmem S1x128 .f32) (a15 : Memref sig .tc .vmem S1x128 .f32) (a16 : Memref sig .tc .vmem S1x128 .f32) (a17 : Memref sig .tc .vmem S1x1 .f32)
    (x0 : Vec F S2048x256 .i32) (x1 : Vec F S2048x5 .bf16) (x2 : Vec F S176x512 .bf16) (x3 : Vec F S176x512 .bf16) (x4 : Vec F S5x512 .bf16) (x5 : Vec F S1x512 .f32) (x6 : Vec F S1x512 .f32) (x7 : Vec F S1x512 .f32) (x8 : Vec F S512x256 .bf16) (x9 : Vec F S1x256 .f32) (x10 : Vec F S1x256 .f32) (x11 : Vec F S1x256 .f32) (x12 : Vec F S256x128 .bf16) (x13 : Vec F S1x128 .f32) (x14 : Vec F S1x128 .f32) (x15 : Vec F S1x128 .f32) (x16 : Vec F S1x128 .f32) (x17 : Vec F S1x1 .f32) : sProp 𝕄 :=
  iprop(owns (c.tc : Thread nD τ) a0 fullShare x0 ∗ owns (c.tc : Thread nD τ) a1 fullShare x1 ∗ owns (c.tc : Thread nD τ) a2 fullShare x2 ∗ owns (c.tc : Thread nD τ) a3 fullShare x3 ∗ owns (c.tc : Thread nD τ) a4 fullShare x4 ∗ owns (c.tc : Thread nD τ) a5 fullShare x5 ∗ owns (c.tc : Thread nD τ) a6 fullShare x6 ∗ owns (c.tc : Thread nD τ) a7 fullShare x7 ∗ owns (c.tc : Thread nD τ) a8 fullShare x8 ∗ owns (c.tc : Thread nD τ) a9 fullShare x9 ∗ owns (c.tc : Thread nD τ) a10 fullShare x10 ∗ owns (c.tc : Thread nD τ) a11 fullShare x11 ∗ owns (c.tc : Thread nD τ) a12 fullShare x12 ∗ owns (c.tc : Thread nD τ) a13 fullShare x13 ∗ owns (c.tc : Thread nD τ) a14 fullShare x14 ∗ owns (c.tc : Thread nD τ) a15 fullShare x15 ∗ owns (c.tc : Thread nD τ) a16 fullShare x16 ∗ owns (c.tc : Thread nD τ) a17 fullShare x17)

theorem zeros_two : (![0, 0] : Fin 2 → ℕ) = fun _ => 0 := by decide

/-- A load of the whole of a buffer reads its contents. -/
theorem readAt_full {m n : ℕ} {e : EltTy} (a : Memref sig .tc .vmem ⟨2, ![m, n]⟩ e)
    (inb : ∀ k, (![0, 0] : Fin 2 → ℕ) k + (![m, n] : Fin 2 → ℕ) k ≤ (![m, n] : Fin 2 → ℕ) k) (f) :
    View.readAt (Elt F) a.view (Rect.unit (s := ⟨2, ![m, n]⟩) ![0, 0] ![m, n] inb).toLoadRect f = a.view.read (Elt F) f :=
  View.ld_unit_zero (S := ⟨2, ![m, n]⟩) zeros_two inb (a.view.read (Elt F) f)

set_option maxHeartbeats 2000000 in
/-- The body, on whole staging buffers: it keeps its operands' and leaves the network's value in the result's. -/
theorem body_wp (c : Dev nD) (E : Set ℕ) (i : grid1.Coords) (a0 : Memref sig .tc .vmem S2048x256 .i32) (a1 : Memref sig .tc .vmem S2048x5 .bf16) (a2 : Memref sig .tc .vmem S176x512 .bf16) (a3 : Memref sig .tc .vmem S176x512 .bf16) (a4 : Memref sig .tc .vmem S5x512 .bf16) (a5 : Memref sig .tc .vmem S1x512 .f32) (a6 : Memref sig .tc .vmem S1x512 .f32) (a7 : Memref sig .tc .vmem S1x512 .f32) (a8 : Memref sig .tc .vmem S512x256 .bf16) (a9 : Memref sig .tc .vmem S1x256 .f32) (a10 : Memref sig .tc .vmem S1x256 .f32) (a11 : Memref sig .tc .vmem S1x256 .f32) (a12 : Memref sig .tc .vmem S256x128 .bf16) (a13 : Memref sig .tc .vmem S1x128 .f32) (a14 : Memref sig .tc .vmem S1x128 .f32) (a15 : Memref sig .tc .vmem S1x128 .f32) (a16 : Memref sig .tc .vmem S1x128 .f32) (a17 : Memref sig .tc .vmem S1x1 .f32) (a18 : Memref sig .tc .vmem S2048x1 .f32)
    (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) (h17 : a17.IsWhole) (h18 : a18.IsWhole)
    (x0 : Vec F S2048x256 .i32) (x1 : Vec F S2048x5 .bf16) (x2 : Vec F S176x512 .bf16) (x3 : Vec F S176x512 .bf16) (x4 : Vec F S5x512 .bf16) (x5 : Vec F S1x512 .f32) (x6 : Vec F S1x512 .f32) (x7 : Vec F S1x512 .f32) (x8 : Vec F S512x256 .bf16) (x9 : Vec F S1x256 .f32) (x10 : Vec F S1x256 .f32) (x11 : Vec F S1x256 .f32) (x12 : Vec F S256x128 .bf16) (x13 : Vec F S1x128 .f32) (x14 : Vec F S1x128 .f32) (x15 : Vec F S1x128 .f32) (x16 : Vec F S1x128 .f32) (x17 : Vec F S1x1 .f32) (Q : PUnit → sProp 𝕄) :
    iprop(ins c a0 a1 a2 a3 a4 a5 a6 a7 a8 a9 a10 a11 a12 a13 a14 a15 a16 a17 x0 x1 x2 x3 x4 x5 x6 x7 x8 x9 x10 x11 x12 x13 x14 x15 x16 x17 ∗ (∃ d, owns (c.tc : Thread nD τ) a18 fullShare d)
        ∗ (iprop(ins c a0 a1 a2 a3 a4 a5 a6 a7 a8 a9 a10 a11 a12 a13 a14 a15 a16 a17 x0 x1 x2 x3 x4 x5 x6 x7 x8 x9 x10 x11 x12 x13 x14 x15 x16 x17 ∗ owns (c.tc : Thread nD τ) a18 fullShare (mlp x0 x1 x2 x3 x4 x5 x6 x7 x8 x9 x10 x11 x12 x13 x14 x15 x16 x17)) -∗ Q ⟨⟩))
      ⊢ wp frame (wpE (defs₀ (F := F)) Variants.none (c.tc : Thread nD τ) none) E (cc1__mlp_body i a0 h0 a1 h1 a2 h2 a3 h3 a4 h4 a5 h5 a6 h6 a7 h7 a8 h8 a9 h9 a10 h10 a11 h11 a12 h12 a13 h13 a14 h14 a15 h15 a16 h16 a17 h17 a18 h18) Q := by
  simp only [cc1__mlp_body_eq_skeleton]; unfold cc1__mlp_body_skel
  simp only [k1_part1_eq_skeleton, k1_part2_eq_skeleton]
  unfold ins
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, ⟨%d, %f18, %e18, H18⟩, Hk⟩
  subst e0 e1 e2 e3 e4 e5 e6 e7 e8 e9 e10 e11 e12 e13 e14 e15 e16 e17
  sl_exec
  sl_step
  iapply Hk
  isplitr [H18]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    isplitl [H15]
    · iexists f15; isplitr; · ipureintro; rfl
      iexact H15
    isplitl [H16]
    · iexists f16; isplitr; · ipureintro; rfl
      iexact H16
    iexists f17; isplitr; · ipureintro; rfl
    iexact H17
  iexists _; isplitr; swap; · iexact H18
  ipureintro
  rw [View.read_writes_eq_canon _ _ _ (View.cover_of_tiled _ S2048x1.size (by rfl))]
  refine (View.canon_cons_unit_zero zeros_two _ _ _).trans ?_
  unfold body_wp.sl.r_4 body_wp.sl.r_5 body_wp.sl.r body_wp.sl.r_1 body_wp.sl.r_2 body_wp.sl.r_3 body_wp.sl.cst_18
  simp only [readAt_full]
  unfold mlp
  with_reducible rfl

/-! ## The proof data: any contents of the arrays -/

section Data
variable (W : Valuation τ sig (Elt F))

/-- Window `w`'s block at point `t` of the contents `W`. -/
def blk (c : Dev nD) (w : Fin cfg1.W) (t : Fin cfg1.N) : ((cfg1.win w).xblock (cfg1.grid.coords t)).Idx → Elt F (cfg1.win w).elt :=
  ((cfg1.win w).blk t).view.read (Elt F) (show Buf (Elt F) ((cfg1.win w).arr.view.loc (c.tc : Thread nD τ)) from W (Proc.devRef .tc (Pipeline.arrRef spec1 w)))

/-- What the network leaves for block `t`. -/
def mlpAt (c : Dev nD) (t : Fin cfg1.N) : Vec F S2048x1 .f32 :=
  mlp (blk W c 0 t) (blk W c 1 t) (blk W c 2 t) (blk W c 3 t) (blk W c 4 t) (blk W c 5 t) (blk W c 6 t) (blk W c 7 t) (blk W c 8 t) (blk W c 9 t) (blk W c 10 t) (blk W c 11 t) (blk W c 12 t) (blk W c 13 t) (blk W c 14 t) (blk W c 15 t) (blk W c 16 t) (blk W c 17 t)

/-- The call's proof data: the arrays at `W`; a point leaves its operands' blocks in place and the network's value in the
    result's; nothing is owed. -/
def dat (c : Dev nD) : Dat τ (Elt F) (HIx 1) ℕ UU ℕ cfg1 c where
  A w := W (Proc.devRef .tc (Pipeline.arrRef spec1 w))
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => blk W c 5 t
    | ⟨6, _⟩ => blk W c 6 t
    | ⟨7, _⟩ => blk W c 7 t
    | ⟨8, _⟩ => blk W c 8 t
    | ⟨9, _⟩ => blk W c 9 t
    | ⟨10, _⟩ => blk W c 10 t
    | ⟨11, _⟩ => blk W c 11 t
    | ⟨12, _⟩ => blk W c 12 t
    | ⟨13, _⟩ => blk W c 13 t
    | ⟨14, _⟩ => blk W c 14 t
    | ⟨15, _⟩ => blk W c 15 t
    | ⟨16, _⟩ => blk W c 16 t
    | ⟨17, _⟩ => blk W c 17 t
    | ⟨18, _⟩ => mlpAt W c t
    | ⟨_ + 19, h⟩ => absurd h (Nat.not_lt.2 (Nat.le_add_left _ _))
  Φ _ := BI.emp
  q _ := fullShare
  owed _ := 0

/-- An operand's staging buffer holds its block at every point. -/
theorem before_eq_after (c : Dev nD) (w : Fin 19) (hw : w.val < 18) (t : Fin cfg1.N) (d) : (dat W c).before w t d = (dat W c).after w t := by
  have key : ∀ (h1 : (cfg1.win w).isOut = false) (h2 : ∀ i, cfg1.idle w i = false)
      (h3 : ∀ t t' : Fin cfg1.N, (cfg1.win w).index t = (cfg1.win w).index t' → (cfg1.win w).clip (cfg1.grid.coords t) = (cfg1.win w).clip (cfg1.grid.coords t'))
      (h4 : ∀ t, (cfg1.win w).cut (cfg1.grid.coords t) ((dat W c).after w t) = (dat W c).blockOf w t)
      (h5 : (dat W c).fetched w t d = (dat W c).after w t), (dat W c).before w t d = (dat W c).after w t :=
    fun h1 h2 h3 h4 h5 => ((dat W c).before_in_eq_fetched w h1 h2 h3 h4 t d).trans h5
  obtain ⟨w, hw'⟩ := w
  dsimp only at hw
  interval_cases w <;> exact key rfl (fun _ => rfl) (fun _ _ _ => rfl) (fun _ => by unfold Dat.blockOf; dsimp only [dat]; unfold blk; rfl) (by unfold Dat.fetched Dat.blockOf; dsimp only [dat]; unfold blk; rfl)

/-- The call's body at point `t` is the network's at the staging buffers in use there. -/
theorem row_eq (t : Fin cfg1.N) : defs₀ (F := F) .tc cfg1.body (cfg1.bodyArgs t (cfg1.slots t)) = bodyAt1 t := rfl

set_option maxHeartbeats 2000000 in
theorem body_at (c : Dev nD) (t : Fin cfg1.N) :
    iprop((dat W c).Φ t.castSucc ∗ (dat W c).owesAt none t.castSucc
        ∗ (∃ d, owns (c.tc : Thread nD τ) (st1_0 t) fullShare ((dat W c).before 0 t d)) ∗ (∃ d, owns (c.tc : Thread nD τ) (st1_1 t) fullShare ((dat W c).before 1 t d)) ∗ (∃ d, owns (c.tc : Thread nD τ) (st1_2 t) fullShare ((dat W c).before 2 t d)) ∗ (∃ d, owns (c.tc : Thread nD τ) (st1_3 t) fullShare ((dat W c).before 3 t d)) ∗ (∃ d, owns (c.tc : Thread nD τ) (st1_4 t) fullShare ((dat W c).before 4 t d)) ∗ (∃ d, owns (c.tc : Thread nD τ) (st1_5 t) fullShare ((dat W c).before 5 t d)) ∗ (∃ d, owns (c.tc : Thread nD τ) (st1_6 t) fullShare ((dat W c).before 6 t d)) ∗ (∃ d, owns (c.tc : Thread nD τ) (st1_7 t) fullShare ((dat W c).before 7 t d)) ∗ (∃ d, owns (c.tc : Thread nD τ) (st1_8 t) fullShare ((dat W c).before 8 t d)) ∗ (∃ d, owns (c.tc : Thread nD τ) (st1_9 t) fullShare ((dat W c).before 9 t d)) ∗ (∃ d, owns (c.tc : Thread nD τ) (st1_10 t) fullShare ((dat W c).before 10 t d)) ∗ (∃ d, owns (c.tc : Thread nD τ) (st1_11 t) fullShare ((dat W c).before 11 t d)) ∗ (∃ d, owns (c.tc : Thread nD τ) (st1_12 t) fullShare ((dat W c).before 12 t d)) ∗ (∃ d, owns (c.tc : Thread nD τ) (st1_13 t) fullShare ((dat W c).before 13 t d)) ∗ (∃ d, owns (c.tc : Thread nD τ) (st1_14 t) fullShare ((dat W c).before 14 t d)) ∗ (∃ d, owns (c.tc : Thread nD τ) (st1_15 t) fullShare ((dat W c).before 15 t d)) ∗ (∃ d, owns (c.tc : Thread nD τ) (st1_16 t) fullShare ((dat W c).before 16 t d)) ∗ (∃ d, owns (c.tc : Thread nD τ) (st1_17 t) fullShare ((dat W c).before 17 t d)) ∗ (∃ d, owns (c.tc : Thread nD τ) (st1_18 t) fullShare ((dat W c).before 18 t d)))
      ⊢ wp frame (wpE (defs₀ (F := F)) Variants.none (c.tc : Thread nD τ) none) Set.univ (bodyAt1 t) (fun _ =>
        iprop((dat W c).Φ t.succ ∗ (dat W c).owesAt none t.succ
          ∗ owns (c.tc : Thread nD τ) (st1_0 t) fullShare ((dat W c).after 0 t) ∗ owns (c.tc : Thread nD τ) (st1_1 t) fullShare ((dat W c).after 1 t) ∗ owns (c.tc : Thread nD τ) (st1_2 t) fullShare ((dat W c).after 2 t) ∗ owns (c.tc : Thread nD τ) (st1_3 t) fullShare ((dat W c).after 3 t) ∗ owns (c.tc : Thread nD τ) (st1_4 t) fullShare ((dat W c).after 4 t) ∗ owns (c.tc : Thread nD τ) (st1_5 t) fullShare ((dat W c).after 5 t) ∗ owns (c.tc : Thread nD τ) (st1_6 t) fullShare ((dat W c).after 6 t) ∗ owns (c.tc : Thread nD τ) (st1_7 t) fullShare ((dat W c).after 7 t) ∗ owns (c.tc : Thread nD τ) (st1_8 t) fullShare ((dat W c).after 8 t) ∗ owns (c.tc : Thread nD τ) (st1_9 t) fullShare ((dat W c).after 9 t) ∗ owns (c.tc : Thread nD τ) (st1_10 t) fullShare ((dat W c).after 10 t) ∗ owns (c.tc : Thread nD τ) (st1_11 t) fullShare ((dat W c).after 11 t) ∗ owns (c.tc : Thread nD τ) (st1_12 t) fullShare ((dat W c).after 12 t) ∗ owns (c.tc : Thread nD τ) (st1_13 t) fullShare ((dat W c).after 13 t) ∗ owns (c.tc : Thread nD τ) (st1_14 t) fullShare ((dat W c).after 14 t) ∗ owns (c.tc : Thread nD τ) (st1_15 t) fullShare ((dat W c).after 15 t) ∗ owns (c.tc : Thread nD τ) (st1_16 t) fullShare ((dat W c).after 16 t) ∗ owns (c.tc : Thread nD τ) (st1_17 t) fullShare ((dat W c).after 17 t) ∗ owns (c.tc : Thread nD τ) (st1_18 t) fullShare ((dat W c).after 18 t))) := by
  have key : ∀ (w : Fin 19) (hw : w.val < 18), iprop(∃ d, owns (c.tc : Thread nD τ) ((cfg1.win w).stage (cfg1.slots t w)) fullShare ((dat W c).before w t d))
      ⊢ (owns (c.tc : Thread nD τ) ((cfg1.win w).stage (cfg1.slots t w)) fullShare ((dat W c).after w t) : sProp 𝕄) := fun w hw => by
    iintro ⟨%d, H⟩
    rw [before_eq_after W c w hw t d]
    iexact H
  have run := fun Q => body_wp (F := F) c Set.univ (grid1.coords t) (st1_0 t) (st1_1 t) (st1_2 t) (st1_3 t) (st1_4 t) (st1_5 t) (st1_6 t) (st1_7 t) (st1_8 t) (st1_9 t) (st1_10 t) (st1_11 t) (st1_12 t) (st1_13 t) (st1_14 t) (st1_15 t) (st1_16 t) (st1_17 t) (st1_18 t) (hstage1_0 ((cfg1.slots t 0).cast nbuf1_0)) (hstage1_1 ((cfg1.slots t 1).cast nbuf1_1)) (hstage1_2 ((cfg1.slots t 2).cast nbuf1_2)) (hstage1_3 ((cfg1.slots t 3).cast nbuf1_3)) (hstage1_4 ((cfg1.slots t 4).cast nbuf1_4)) (hstage1_5 ((cfg1.slots t 5).cast nbuf1_5)) (hstage1_6 ((cfg1.slots t 6).cast nbuf1_6)) (hstage1_7 ((cfg1.slots t 7).cast nbuf1_7)) (hstage1_8 ((cfg1.slots t 8).cast nbuf1_8)) (hstage1_9 ((cfg1.slots t 9).cast nbuf1_9)) (hstage1_10 ((cfg1.slots t 10).cast nbuf1_10)) (hstage1_11 ((cfg1.slots t 11).cast nbuf1_11)) (hstage1_12 ((cfg1.slots t 12).cast nbuf1_12)) (hstage1_13 ((cfg1.slots t 13).cast nbuf1_13)) (hstage1_14 ((cfg1.slots t 14).cast nbuf1_14)) (hstage1_15 ((cfg1.slots t 15).cast nbuf1_15)) (hstage1_16 ((cfg1.slots t 16).cast nbuf1_16)) (hstage1_17 ((cfg1.slots t 17).cast nbuf1_17)) (hstage1_18 ((cfg1.slots t 18).cast nbuf1_18)) (blk W c 0 t) (blk W c 1 t) (blk W c 2 t) (blk W c 3 t) (blk W c 4 t) (blk W c 5 t) (blk W c 6 t) (blk W c 7 t) (blk W c 8 t) (blk W c 9 t) (blk W c 10 t) (blk W c 11 t) (blk W c 12 t) (blk W c 13 t) (blk W c 14 t) (blk W c 15 t) (blk W c 16 t) (blk W c 17 t) Q
  unfold ins at run
  iintro ⟨HΦ, HO, H0, H1, H2, H3, H4, H5, H6, H7, H8, H9, H10, H11, H12, H13, H14, H15, H16, H17, ⟨%d, H18⟩⟩
  iapply (run _)
  isplitl [H0 H1 H2 H3 H4 H5 H6 H7 H8 H9 H10 H11 H12 H13 H14 H15 H16 H17]
  · isplitl [H0]; · iapply (key 0 (by decide)); iexact H0
    isplitl [H1]; · iapply (key 1 (by decide)); iexact H1
    isplitl [H2]; · iapply (key 2 (by decide)); iexact H2
    isplitl [H3]; · iapply (key 3 (by decide)); iexact H3
    isplitl [H4]; · iapply (key 4 (by decide)); iexact H4
    isplitl [H5]; · iapply (key 5 (by decide)); iexact H5
    isplitl [H6]; · iapply (key 6 (by decide)); iexact H6
    isplitl [H7]; · iapply (key 7 (by decide)); iexact H7
    isplitl [H8]; · iapply (key 8 (by decide)); iexact H8
    isplitl [H9]; · iapply (key 9 (by decide)); iexact H9
    isplitl [H10]; · iapply (key 10 (by decide)); iexact H10
    isplitl [H11]; · iapply (key 11 (by decide)); iexact H11
    isplitl [H12]; · iapply (key 12 (by decide)); iexact H12
    isplitl [H13]; · iapply (key 13 (by decide)); iexact H13
    isplitl [H14]; · iapply (key 14 (by decide)); iexact H14
    isplitl [H15]; · iapply (key 15 (by decide)); iexact H15
    isplitl [H16]; · iapply (key 16 (by decide)); iexact H16
    iapply (key 17 (by decide)); iexact H17
  isplitl [H18]; · iexists _; iexact H18
  iintro ⟨⟨H0, H1, H2, H3, H4, H5, H6, H7, H8, H9, H10, H11, H12, H13, H14, H15, H16, H17⟩, H18⟩
  isplitl [HΦ]; · rw [show (dat W c).Φ t.succ = (dat W c).Φ t.castSucc from rfl]; iexact HΦ
  isplitl [HO]; · rw [show (dat W c).owesAt none t.succ = (dat W c).owesAt none t.castSucc from rfl]; iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body's obligation at every point. -/
theorem body_obligation (c : Dev nD) : BodyObligation (dat W c) (defs₀ (F := F)) Variants.none none Set.univ := fun t => by
  rw [bigSep_W1, bigSep_W1, row_eq]
  exact triple_restated (body_at W c t) rfl .rfl fun _ => .rfl

end Data

end Cert.Proof.Embed
-- ==== Proof.Seg.lean ====
/-
  The TensorCore's call as a region of the main program: what it takes, what it gives back, and the result's array
  after it.
-/
module

public import proofs.«01_k».proof.Proof.Region
public import Idealize.ShloMosaic.Lib.Pipeline.RegionArraysS
public import Idealize.ShloMosaic.Lib.Pipeline.ValueKit

@[expose] public section

set_option maxRecDepth 16384

noncomputable section

namespace Cert.Proof.Embed

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MM F

section Data
variable (W : Valuation τ sig (Elt F))

/-! ## The call as a region -/

/-- The tables the call prefetches: none. -/
abbrev adm : (p : Fin 1) → ((pcfgs (F := F)) p).Adm := fun p => (cfgs p).toPCfg_adm

/-- The proof data by pipeline: there is one. -/
abbrev dats : (p : Fin 1) → (c : Dev nD) → Dat τ (Elt F) (HIx 1) ℕ UU ℕ (Pipeline.pin (pcfgs (F := F)) adm p) c := fun _ c => dat W c

theorem levelCut : Pipeline.LevelCut (pcfgs (F := F)) adm none ((K (F := F)).L (nD := nD)) ((K (F := F)).lev (nD := nD)) (0 : Fin 1) (fun _ : Dev nD => 0) (fun _ => 0) :=
  ⟨fun _ _ _ => Finset.mem_univ _, fun _ _ _ => le_refl 0, fun _ _ _ h => absurd h (Nat.lt_irrefl 0)⟩

/-- The call: entered from the program's arrays at `W`, left with the result's array rewritten. -/
def seg : Pipeline.RegionSeg (pcfgs (F := F)) adm (dats W) none (defs₀ (F := F)) Variants.none ((K (F := F)).L (nD := nD)) ((K (F := F)).lev (nD := nD)) 0 :=
  Pipeline.RegionSeg.ofHeldIn pcfgs adm (dats W) none defs₀ Variants.none ((K (F := F)).L (nD := nD)) ((K (F := F)).lev (nD := nD)) 0 (fun _ => 0) (Pipeline.ucRefs τ sig)
    (fun _ => BI.emp) (fun _ => BI.emp) launch1.toP rfl (fun c => (body_obligation W c).loose) (fun _ _ => rfl) (fun _ => rfl)
    (fun c => (dat W c).share_full fun _ => rfl)
    (fun c => by
      show iprop(Pipeline.scopedRest spec1 c ∗ BI.emp) ⊢ BI.emp
      rw [scopedRest1_eq]; iintro -; iempintro)
    (fun c => by
      show BI.emp ⊢ iprop(Pipeline.scopedRest spec1 c ∗ BI.emp)
      rw [scopedRest1_eq]; iintro -; isplitl [] <;> iempintro)
    (fun _ => 0) levelCut (fun _ => BI.emp) (fun _ => W) (fun _ _ => rfl)

/-- The arrays the call works on are among the program's. -/
theorem arrs_sub : Pipeline.arrRefs ((pcfgs (F := F)) 0).spec ⊆ Pipeline.ucRefs τ sig := Pipeline.arrRefs_sub_ucRefs spec1 (by decide)

theorem seg_pre (c : Dev nD) : iprop(StableHlo.held (c.tc : Thread nD τ) (Pipeline.ucRefs τ sig) W ∗ (∃ Wd, owes (c.tc : Thread nD τ) 0 Wd))
    ⊢ ((seg W).pre c : sProp 𝕄) := by
  have hp : iprop(StableHlo.held (c.tc : Thread nD τ) (Pipeline.ucRefs τ sig) W ∗ ((∃ Wd, owes (c.tc : Thread nD τ) 0 Wd) ∗ BI.emp ∗ BI.emp))
      ⊢ ((seg W).pre c : sProp 𝕄) :=
    Pipeline.RegionSeg.ofHeldIn_pre (W := fun _ => W) (R := fun _ => BI.emp) (X := fun _ => BI.emp) (Y := fun _ => BI.emp) (D := fun _ => 0) (arrs_sub (F := F)) c
  iintro ⟨H, HO⟩
  iapply hp
  isplitl [H]; · iexact H
  isplitl [HO]; · iexact HO
  isplitl [] <;> iempintro

theorem seg_post (c : Dev nD) : ((seg W).post c : sProp 𝕄)
    ⊢ iprop(StableHlo.held (c.tc : Thread nD τ) (Pipeline.ucRefs τ sig) (Pipeline.afterRegion (dat W c) W) ∗ (∃ Wd, owes (c.tc : Thread nD τ) 0 Wd)) := by
  have hp : ((seg W).post c : sProp 𝕄) ⊢ iprop(StableHlo.held (c.tc : Thread nD τ) (Pipeline.ucRefs τ sig) (Pipeline.afterRegion (dat W c) W)
      ∗ ((∃ Wd, owes (c.tc : Thread nD τ) 0 Wd) ∗ BI.emp ∗ BI.emp)) := Pipeline.RegionSeg.ofHeldIn_post (arrs_sub (F := F)) c
  refine hp.trans ?_
  iintro ⟨H, HO, -⟩
  isplitl [H]; · iexact H
  iexact HO

/-! ## The result's array after the call -/

/-- The result, from the blocks' values. -/
def resV (c : Dev nD) : S16384x1.Idx → Elt F .f32 := fun j =>
  mlpAt W c ⟨(j 0).val / 2048, by have := (j 0).isLt; show _ < grid1.N; rw [N_1]; change (j 0).val < 16384 at this; omega⟩ (ix2 ((j 0).val % 2048) 0)

theorem index_18 : ∀ t : Fin cfg1.N, (win1_18.index t : Fin 2 → ℕ) = ![t.val, 0] := by decide +kernel

theorem after_v70 (c : Dev nD) : Pipeline.afterRegion (dat W c) W (Proc.devRef .tc main_v70) = resV W c := by
  refine (Pipeline.afterRegion_arr (dat W c) W launch1.win.arr_inj 18).trans ?_
  refine (dat W c).arrAt_eq_of_covers 18 (resV W c) (by decide +kernel) fun t hf y => ?_
  blk_simp
  show mlpAt W c t y = _
  unfold resV
  have hy : (y 0).val < 2048 := (y 0).isLt
  have e0 : ((win1_18.blk t).view.emb y 0).val = t.val * 2048 + (y 0).val := by
    blk_simp
    rw [index_18]
    rfl
  have e1 : (⟨((win1_18.blk t).view.emb y 0).val / 2048, by have ht : t.val < cfg1.N := t.isLt; show _ < cfg1.N; omega⟩ : Fin cfg1.N) = t := Fin.ext (by
    show ((win1_18.blk t).view.emb y 0).val / 2048 = t.val
    omega)
  have e2 : (ix2 (((win1_18.blk t).view.emb y 0).val % 2048) 0 : S2048x1.Idx) = y := by
    rw [e0, show (t.val * 2048 + (y 0).val) % 2048 = (y 0).val by omega]
    exact (congrArg (ix2 (y 0).val) (by have h1 : (y 1).val < 1 := (y 1).isLt; omega)).trans (ix2_self y)
  exact congrArg₂ (mlpAt W c) e1.symm e2.symm

theorem after_kept (c : Dev nD) (r : Ref sig .tc) (h : r ≠ main_v70) :
    Pipeline.afterRegion (dat W c) W (Proc.devRef .tc r) = W (Proc.devRef .tc r) :=
  Pipeline.afterRegion_keeps (dat W c) W launch1.win.arr_inj (fun _ => rfl) r (by
    intro w e
    subst e
    have key : ∀ w : Fin 19, w.val < 18 → (cfg1.win w).isOut = false := by decide
    refine key w ?_
    by_contra hw
    exact h (by rw [show w = (18 : Fin 19) from Fin.ext (by have := w.isLt; change w.val < 19 at this; show w.val = 18; omega)]))

end Data

end Cert.Proof.Embed

end
-- ==== Proof.Main.lean ====
/-
  The run of the whole program: the host's first line, the SparseCore's call, the lines that centre the weights, the
  TensorCore's call, and the last reshape; what every array of the program holds at the end.
-/
module

public import proofs.«01_k».proof.Proof.Launch
public import proofs.«01_k».proof.Proof.Host
public import proofs.«01_k».proof.Proof.Seg
public import Idealize.ShloMosaic.Lib.SparseCore.Quiescent

@[expose] public section

set_option maxRecDepth 16384

noncomputable section

namespace Cert.Proof.Embed

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (seq after held)
open Idealize.ShloMosaic.Pipeline (ucRefs)

variable {F : FTy → Type} [FloatOps F]

local notation "𝕄" => MM F

variable (m : (ℓ : Loc nD τ sig) → Buf (Elt F) ℓ) (ρ : Dev nD → PrngReg)

/-! ## The program's arrays, stage by stage -/

/-- Before the SparseCore's call. -/
def V0 (d : Dev nD) : Valuation τ sig (Elt F) := after (opsA d) (fun b => m (d, b))
/-- The table, the indices and the result's first contents the SparseCore is given. -/
def Tb (d : Dev nD) : S16x256.Idx → BitVec 32 := V0 m d (Proc.devRef .tc main_v6)
def Jb (d : Dev nD) : S1408x128.Idx → BitVec 32 := V0 m d (Proc.devRef .tc main_v7)
def Gb (d : Dev nD) : S16384x256.Idx → BitVec 32 := V0 m d (Proc.devRef .tc main_v8)
/-- After the SparseCore's call left `g`. -/
def V1 (d : Dev nD) (g : S16384x256.Idx → BitVec 32) : Valuation τ sig (Elt F) := Function.update (V0 m d) (Proc.devRef .tc main_v8) g
/-- Before the TensorCore's call. -/
def V2 (d : Dev nD) (g : S16384x256.Idx → BitVec 32) : Valuation τ sig (Elt F) := mid d (V1 m d g)
/-- After it. -/
def V3 (d : Dev nD) (g : S16384x256.Idx → BitVec 32) : Valuation τ sig (Elt F) := Pipeline.afterRegion (dat (V2 m d g) d) (V2 m d g)
/-- At the end. -/
def V4 (d : Dev nD) (g : S16384x256.Idx → BitVec 32) : Valuation τ sig (Elt F) := after (opsD d) (V3 m d g)

/-! ## The SparseCore's arrays out of all -/

/-- The three arrays of the SparseCore's call. -/
def three : Finset (DevRef τ sig) := {Proc.devRef .tc main_v6, Proc.devRef .tc main_v7, Proc.devRef .tc main_v8}

theorem three_sub : three ⊆ ucRefs τ sig := by
  intro b hb
  simp only [three, Finset.mem_insert, Finset.mem_singleton] at hb
  rcases hb with rfl | rfl | rfl <;> exact Pipeline.devRef_mem_ucRefs rfl

/-- All arrays are the three and the others. -/
theorem held_three (d : Dev nD) (V : Valuation τ sig (Elt F)) : (held (d.tc : Thread nD τ) (ucRefs τ sig) V : sProp 𝕄)
    = iprop(((tabLoc d ↦{fullShare} V (Proc.devRef .tc main_v6)) ∗ (idxLoc d ↦{fullShare} V (Proc.devRef .tc main_v7)) ∗ outLoc d ↦{fullShare} V (Proc.devRef .tc main_v8))
      ∗ held (d.tc : Thread nD τ) (ucRefs τ sig \ three) V) := by
  rw [StableHlo.held_sub_split (d.tc : Thread nD τ) three_sub V]
  congr 1
  unfold StableHlo.held three
  rw [SparseCore.bigSep_insert' (by decide), SparseCore.bigSep_insert' (by decide), bigSep_singleton]

theorem V1_off (d : Dev nD) (g) : ∀ b ∈ ucRefs τ sig \ three, V1 m d g b = V0 m d b := fun b hb => by
  unfold V1
  refine Function.update_of_ne ?_ _ _
  rintro rfl
  exact (Finset.mem_sdiff.mp hb).2 (by simp [three])

/-! ## Ghost state at launch -/

/-- The handshakes' and the pipeline's rounds. -/
def u₀ : UU := (initOf (K (F := F)).hsCells (K (F := F)).hsToks,
  (initOf (Pipeline.cells (Pipeline.pin (pcfgs (F := F)) adm) (nD := nD) (τ := τ) cellOf_inj) (Pipeline.launchToks (Pipeline.pin (pcfgs (F := F)) adm) cellOf_inj), 1))

/-- What a TensorCore keeps for its pipeline. -/
abbrev G (d : Dev nD) : sProp 𝕄 := iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ (T J g) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (F := F) T J g).x q thr) := by
  unfold u₀
  iintro Hu
  ihave H := (ownU_pair (initOf (K (F := F)).hsCells (K (F := F)).hsToks)
    (initOf (Pipeline.cells (Pipeline.pin (pcfgs (F := F)) adm) (nD := nD) (τ := τ) cellOf_inj) (Pipeline.launchToks (Pipeline.pin (pcfgs (F := F)) adm) cellOf_inj), (1 : Counters))) $$ Hu
  icases H with ⟨HH, HP⟩
  ihave HP := (own_pair_emb (F := (embR : Emb (UP × Counters) 𝕄)) (initOf (Pipeline.cells (Pipeline.pin (pcfgs (F := F)) adm) (nD := nD) (τ := τ) cellOf_inj)
    (Pipeline.launchToks (Pipeline.pin (pcfgs (F := F)) adm) cellOf_inj)) (1 : Counters)) $$ HP
  icases HP with ⟨HP, -⟩
  have e : (Emb.inl.trans (embR : Emb (UP × Counters) 𝕄) : Emb UP 𝕄) = EP := rfl
  rw [e]
  imod (Pipeline.fund_ghost (Pipeline.pin (pcfgs (F := F)) adm) EP cellOf_inj) $$ HP with ⟨Hc, Ht⟩
  imodintro
  isplitl [HH]; · iexact HH
  isplitl [Hc Ht]
  · rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  rw [show (bigSep Finset.univ fun thr : Thread nD τ => bigSep Finset.univ fun q : Fin 1 => (P (F := F) T J g).x q thr) = bigSep Finset.univ fun _ => iprop(emp) from
    bigSep_congr fun _ _ => bigSep_univ_of_subsingleton (0 : Fin 1), bigSep_emp']
  iempintro

/-! ## @main on the TensorCore -/

/-- What the run leaves: every array as stated, of some contents the SparseCore's call may leave. -/
abbrev FIN (d : Dev nD) : sProp 𝕄 := iprop(∃ g, ⌜OutOn (Tb m d) (Jb m d) (fun _ => True) g⌝ ∗ held (d.tc : Thread nD τ) (ucRefs τ sig) (V4 m d g))

/-- The TensorCore's call inside the whole program. -/
theorem region_wp (W : Valuation τ sig (Elt F)) (d : Dev nD) (Φ : PUnit → sProp 𝕄) :
    iprop((iprop(boundary (d.tc : Thread nD τ) ∗ held (d.tc : Thread nD τ) (ucRefs τ sig) (Pipeline.afterRegion (dat W d) W) ∗ (∃ Wd, owes (d.tc : Thread nD τ) 0 Wd)) -∗ Φ ⟨⟩)
        ∗ boundary (d.tc : Thread nD τ) ∗ held (d.tc : Thread nD τ) (ucRefs τ sig) W ∗ (∃ Wd, owes (d.tc : Thread nD τ) 0 Wd)
        ∗ levAts ((K (F := F)).L (nD := nD)) ((K (F := F)).lev (nD := nD)) ∗ G d)
      ⊢ wp frame (wpE ((K (F := F)).defs (D (F := F))) 𝒱 (SparseCore.T d) none) Set.univ
          (Prog.lift (.customCall (SparseCore.inner (Pipeline.entry 0)) ())) Φ := by
  have e : (Prog.lift (.customCall (SparseCore.inner (Pipeline.entry 0)) ()) : Prog (TpuEff nD τ sig (Elt F) (SparseCore.Sig (ΛP (F := F)) 1) .tc) PUnit)
      = SparseCore.liftProg (Prog.lift (.customCall (Pipeline.entry 0) ()) : Prog (TpuEff nD τ sig (Elt F) (ΛP (F := F)) .tc) PUnit) := rfl
  have hl := (K (F := F)).wp_liftProg (D (F := F)) 𝒱 (SparseCore.T d) Set.univ none
    (Prog.lift (.customCall (Pipeline.entry 0) ()) : Prog (TpuEff nD τ sig (Elt F) (ΛP (F := F)) .tc) PUnit) Φ
  have hr := Pipeline.RegionSeg.wp pcfgs adm (dats W) none cellOf_inj EP defs₀ 𝒱₀ ((K (F := F)).L (nD := nD)) ((K (F := F)).lev (nD := nD)) (seg W) d none
    (fun _ h => nomatch h) Prog.ret Φ
  rw [e]
  iintro ⟨Hk, Hb, Hu, HO, Hl, Hc, Ht⟩
  iapply hl
  iapply hr
  isplitl [Hk]
  · iintro ⟨Hb, Hp⟩
    ihave Hp := (seg_post W d) $$ Hp
    icases Hp with ⟨Hu, HO⟩
    rw [wp_ret]
    imodintro
    iapply Hk
    isplitl [Hb]; · iexact Hb
    isplitl [Hu]; · iexact Hu
    iexact HO
  isplitl [Hb]; · iexact Hb
  isplitl [Hu HO]
  · iapply (seg_pre W d)
    isplitl [Hu]; · iexact Hu
    iexact HO
  isplitl [Hl]; · iexact Hl
  isplitl [Hc]; · iexact Hc
  iexact Ht

theorem hmain (κ : GSem nD τ sig → ℕ) (d : Dev nD) :
    iprop((K (F := F)).ctx EH (P (Tb m) (Jb m) (Gb m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hu, Hts, -⟩, Hg, Ht⟩
  ihave Hu := (Entails.of_eq (Pipeline.unscopedBufs_held (τ := τ) (sig := sig) (Val := Elt F) d (fun b => m (d, b)))) $$ Hu
  iapply (StableHlo.wp_seq 𝒱 none Set.univ d (ucRefs τ sig) _ (opsA d) (fun op h => ((part0 d).2.1.plain op h).1) (fun op h => ((part0 d).2.1.plain op h).2) _) $$ [Hb Hu]
  · isplitl [Hb]; · iexact Hb
    iexact Hu
  iintro ⟨Hb, Hu⟩
  ihave Hu := (show (held (d.tc : Thread nD τ) (ucRefs τ sig) (after (opsA d) fun b => m (d, b)) : sProp 𝕄) ⊢ _ from Entails.of_eq (held_three (F := F) d (V0 m d))) $$ Hu
  icases Hu with ⟨Hu3, Hu⟩
  rw [wp_bind]
  iapply ((K (F := F)).wp_run (D (F := F)) 𝒱 (EH := EH) (P := P (Tb m) (Jb m) (Gb m)) κ d 0) $$ [Hst Hu3 Hu Hb Hts Hg Ht]
  isplitr; · iexact Hctx
  isplitl [Hst]; · iexact Hst
  isplitl [Hu3]
  · rw [st_eq]
    iexact Hu3
  iintro ⟨Hst, Hdn⟩
  ihave Hdn := (dn_entails (Tb m) (Jb m) (Gb m) d) $$ Hdn
  icases Hdn with ⟨H6, H7, %g, %hg, H8⟩
  ihave Hu := (Entails.of_eq (held_three (F := F) d (V1 m d g)).symm) $$ [H6 H7 H8 Hu]
  · isplitr [Hu]
    · isplitl [H6]
      · rw [show V1 m d g (Proc.devRef .tc main_v6) = V0 m d (Proc.devRef .tc main_v6) from Function.update_of_ne (by decide) _ _]
        iexact H6
      isplitl [H7]
      · rw [show V1 m d g (Proc.devRef .tc main_v7) = V0 m d (Proc.devRef .tc main_v7) from Function.update_of_ne (by decide) _ _]
        iexact H7
      rw [show V1 m d g (Proc.devRef .tc main_v8) = g from Function.update_self _ _ _]
      iexact H8
    rw [StableHlo.held_congr (d.tc : Thread nD τ) (V1_off m d g)]
    iexact Hu
  iapply (StableHlo.wp_seq 𝒱 none Set.univ d (ucRefs τ sig) _ (opsB d) (fun op h => ((part0 d).2.2.plain op h).1) (fun op h => ((part0 d).2.2.plain op h).2) _) $$ [Hb Hu]
  · isplitl [Hb]; · iexact Hb
    iexact Hu
  iintro ⟨Hb, Hu⟩
  iapply (StableHlo.wp_seq 𝒱 none Set.univ d (ucRefs τ sig) _ (opsC d) (fun op h => ((part1 d).2.1.plain op h).1) (fun op h => ((part1 d).2.1.plain op h).2) _) $$ [Hb Hu]
  · isplitl [Hb]; · iexact Hb
    iexact Hu
  iintro ⟨Hb, Hu⟩
  unfold SparseCore.Cfg.tcSt
  icases Hst with ⟨⟨%Ws, -, HO⟩, Hst⟩
  ihave Hl := ((K (F := F)).ctx_levAts κ) $$ Hctx
  rw [wp_bind]
  iapply (region_wp (V2 m d g) d _)
  isplitl [Hst Hts]
  · iintro ⟨Hb, Hu, %Wd, HO⟩
    iapply (StableHlo.wp_seq 𝒱 none Set.univ d (ucRefs τ sig) _ (opsD d) (fun op h => ((part1 d).2.2.plain op h).1) (fun op h => ((part1 d).2.2.plain op h).2) _) $$ [Hb Hu]
    · isplitl [Hb]; · iexact Hb
      iexact Hu
    iintro ⟨Hb, Hu⟩
    rw [wp_pure]
    imodintro
    isplitl [HO Hst]
    · isplitl [HO]
      · iexists Wd
        isplitr
        · ipureintro
          intro p _
          rcases p with ⟨s, _ | q⟩
          · exact Nat.zero_le _
          · show 8 * q.val + (K (F := F)).place (d.tc, s) + 1 ≤ 8 * 1
            have h := (K (F := F)).place_le_six (d.tc, s)
            omega
        rw [(K (F := F)).Otc_end d (le_refl 1)]
        iexact HO
      iexact Hst
    isplitl [Hu]
    · iexists g
      isplitr; · ipureintro; exact hg
      iexact Hu
    isplitl [Hb]; · iexact Hb
    iexact Hts
  isplitl [Hb]; · iexact Hb
  isplitl [Hu]; · iexact Hu
  isplitl [HO]
  · iexists Ws
    rw [show (K (F := F)).Otc d ((0 : Fin 1).val + 1) = 0 from (K (F := F)).Otc_end d (le_refl 1)]
    iexact HO
  isplitl [Hl]; · iexact Hl
  isplitl [Hg]; · iexact Hg
  iexact Ht

def fq (d : Dev nD) (s' : Phys nD τ sig (Elt F)) : Prop :=
  ∃ g, OutOn (Tb m d) (Jb m d) (fun _ => True) g ∧ ∀ b ∈ ucRefs τ sig, s'.mem.mem (d, b) = V4 m d g b

theorem hfin (d : Dev nD) (s' : Phys nD τ sig (Elt F)) : iprop(FIN m d ∗ SI s') ⊢ (⌜fq m d s'⌝ : sProp 𝕄) := by
  iintro ⟨⟨%g, %hg, H⟩, HSI⟩
  unfold StableHlo.held
  ihave H := (pointsTo_read_all (ucRefs τ sig) (fun b => (d, b)) (fun b => V4 m d g b) s') $$ [H HSI]
  · isplitl [H]; · iexact H
    iexact HSI
  icases H with ⟨%h, -⟩
  ipureintro
  exact ⟨g, hg, h⟩

/-- The indices the SparseCore is given, below 256 as the arguments' are. -/
theorem Jb_lt (h : ∀ (d : Dev nD) j, ((m ((d.tc : Thread nD τ).loc main_arg0) : S16384x11.Idx → BitVec 32) j).toNat < 256) (d : Dev nD) (j) : (Jb m d j).toNat < 256 := by
  unfold Jb V0
  rw [A_v7]
  exact h d _

/-- The program runs to its end with every counter at zero, its arrays as stated. -/
theorem run_main [∀ e, Nonempty (Elt F e)]
    (h : ∀ (d : Dev nD) j, ((m ((d.tc : Thread nD τ).loc main_arg0) : S16384x11.Idx → BitVec 32) j).toNat < 256) :
    θ_run (Cert.KernelIdeal.defs (F := F)) (Cert.KernelIdeal.threads (F := F)) ⟨m, fun _ => 0, ρ⟩
      fun r => (∀ d, ∃ g, OutOn (Tb m d) (Jb m d) (fun _ => True) g ∧ ∀ b ∈ ucRefs τ sig, r.2.mem (d, b) = V4 m d g b) ∧ r.2.sem = fun _ => 0 :=
  SparseCore.Cfg.θ_run_sc_quiescent (K := K (F := F)) (D := D (F := F)) (𝒱 := 𝒱) (EH := EH) (P := P (Tb m) (Jb m) (Gb m)) (A := ∅) facts v₀
    (fun q hq => match q with | 0 => nomatch hq)
    (fun q _ => match q with | 0 => tileObl (Tb m) (Jb m) (Gb m) (Jb_lt m h))
    (fun q _ => match q with | 0 => SparseCore.Cfg.VecSplit.of_plain (vecSplit (Tb m) (Jb m) (Gb m)))
    m ρ main G (FIN m) (u₀ (F := F)) (sep_elim_left.trans (hu₀ (Tb m) (Jb m) (Gb m))) (hmain m ρ) (fq m) (hfin m) _ (fun _ h hz => ⟨h, hz⟩)

end Cert.Proof.Embed

end
-- ==== Proof.Frames.lean ====
/-
  The claims that the programs run to their ends: every id the precondition admits is below 166, the arguments are
  unchanged, every counter is back at zero.
-/
module

public import proofs.«01_k».proof.Proof.Main
public import proofs.«01_k».proof.Proof.Gen.Kernel
public import proofs.«01_k».proof.Proof.Gen.ReferenceIdeal.Run
public import proofs.«01_k».proof.Proof.Gen.Pre_in_range
public import proofs.«01_k».proof.Proof.Gen.Pre_in_range_finite
public import Idealize.ShloMosaic.Lib.ReduceAll
public import Idealize.ShloMosaic.Lib.Affine
public import Idealize.ShloMosaic.Lib.Tactic.ProgEq

@[expose] public section

set_option maxRecDepth 16384

noncomputable section

namespace Cert.Proof.Embed

open Cert.KernelIdeal Cert.KernelIdeal.Gen
open Idealize.ShloMosaic Idealize.SL.Sem
open scoped Idealize.ShloMosaic.ProgEq
open Idealize.ShloMosaic.StableHlo (after)
open Idealize.ShloMosaic.Pipeline (ucRefs)

variable {F : FTy → Type} [FloatOps F]

attribute [local instance] Cert.Pre_in_range.Gen.facts Cert.Pre_in_range_finite.Gen.facts

/-! ## The precondition on the ids -/

/-- A word between 0 and 165, signed, is at most 165. -/
theorem word_le (v : BitVec 32) (h : IntOp.andi (IntOp.cmpi .sge v 0#32) (IntOp.cmpi .sle v 165#32) = 1#1) : v.toNat ≤ 165 := by
  rw [IntOp.andi_eq_one, IntOp.cmpi_sge, IntOp.cmpi_sle, show (0#32 : BitVec 32).toInt = 0 from by decide,
    show (165#32 : BitVec 32).toInt = 165 from by decide, BitVec.toInt_eq_toNat_cond] at h
  have := v.isLt
  split at h <;> omega

/-- The one index of an array with no axes. -/
abbrev pt : Cert.Pre_in_range.S_.Idx := fun a => a.elim0

instance : Subsingleton Cert.Pre_in_range.S_.Idx := ⟨fun a b => funext fun i => i.elim0⟩

theorem ids_of_in_range (a0 a1 a2 a3 a4 a5 a6 a7 a8 a9 a10 a11 a12 a13 a14 a15 a16)
    (h : Cert.Pre_in_range.fn (F := F) a0 a1 a2 a3 a4 a5 a6 a7 a8 a9 a10 a11 a12 a13 a14 a15 a16 = fun _ => 1#1) (j) : (a0 j).toNat ≤ 165 := by
  have e := congrFun h pt
  dsimp only [Cert.Pre_in_range.fn] at e
  exact word_le _ (Host.reduce_andi_all _ _ _ _ _ e j)

theorem ids_of_in_range_finite (a0 a1 a2 a3 a4 a5 a6 a7 a8 a9 a10 a11 a12 a13 a14 a15 a16)
    (h : Cert.Pre_in_range_finite.fn (F := F) a0 a1 a2 a3 a4 a5 a6 a7 a8 a9 a10 a11 a12 a13 a14 a15 a16 = fun _ => 1#1) (j) : (a0 j).toNat ≤ 165 := by
  have e := congrFun h pt
  dsimp only [Cert.Pre_in_range_finite.fn, Cert.Pre_in_range_finite.fn_part1, Cert.Pre_in_range_finite.fn_part2, Cert.Pre_in_range_finite.fn_part3, andi] at e
  simp only [IntOp.andi_eq_one] at e
  exact word_le _ (Host.reduce_andi_all _ _ _ _ _ e.1.1.1.1.1.1.1.1.1.1.1.1 j)

/-! ## The arguments at the end -/

variable (m : (ℓ : Loc nD τ sig) → Buf (Elt F) ℓ) (ρ : Dev nD → PrngReg)

theorem V4_kept (d : Dev nD) (g) (r : Ref sig .tc) (hr : r ∈ argRefs) : V4 m d g (Proc.devRef .tc r) = m (d, Proc.devRef .tc r) := by
  unfold V4
  rw [D_kept d _ r hr]
  unfold V3
  rw [after_kept _ d r (by revert r; decide)]
  unfold V2
  rw [mid_kept d _ r hr]
  unfold V1
  rw [Function.update_of_ne (by revert r; decide)]
  unfold V0
  rw [A_kept d _ r hr]

/-- The run, read at the arguments. -/
theorem run_frame [∀ e, Nonempty (Elt F e)]
    (h : ∀ (d : Dev nD) j, ((m ((d.tc : Thread nD τ).loc main_arg0) : S16384x11.Idx → BitVec 32) j).toNat ≤ 165) :
    θ_run (Cert.KernelIdeal.defs (F := F)) (Cert.KernelIdeal.threads (F := F)) ⟨m, fun _ => 0, ρ⟩
      fun r => (∀ d : Dev nD, ∀ b ∈ argRefs, r.2.mem ((d.tc : Thread nD τ).loc b) = m ((d.tc : Thread nD τ).loc b)) ∧ r.2.sem = fun _ => 0 :=
  (θ_run _ _ _).mono (fun r hr => ⟨fun d b hb => by
      obtain ⟨g, -, hg⟩ := hr.1 d
      exact (hg (Proc.devRef .tc b) (Pipeline.devRef_mem_ucRefs (by revert b; decide))).trans (V4_kept m d g b hb), hr.2⟩)
    (run_main m ρ fun d j => lt_of_le_of_lt (h d j) (by decide))

/-- A fact of every argument, one by one. -/
theorem of_args {p : Ref sig .tc → Prop} (h : ∀ b ∈ argRefs, p b) :
    p main_arg0 ∧ p main_arg1 ∧ p main_arg2 ∧ p main_arg3 ∧ p main_arg4 ∧ p main_arg5 ∧ p main_arg6 ∧ p main_arg7 ∧ p main_arg8 ∧ p main_arg9
      ∧ p main_arg10 ∧ p main_arg11 ∧ p main_arg12 ∧ p main_arg13 ∧ p main_arg14 ∧ p main_arg15 ∧ p main_arg16 := by
  refine ⟨?_, ?_, ?_, ?_, ?_, ?_, ?_, ?_, ?_, ?_, ?_, ?_, ?_, ?_, ?_, ?_, ?_⟩ <;> exact h _ (by decide)

/-- The same, one conjunct an argument. -/
theorem run_args [∀ e, Nonempty (Elt F e)]
    (h : ∀ (d : Dev nD) j, ((m ((d.tc : Thread nD τ).loc main_arg0) : S16384x11.Idx → BitVec 32) j).toNat ≤ 165) :
    θ_run (Cert.KernelIdeal.defs (F := F)) (Cert.KernelIdeal.threads (F := F)) ⟨m, fun _ => 0, ρ⟩
      fun r => (∀ d : Dev nD, r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)
        ∧ r.2.mem ((d.tc : Thread nD τ).loc main_arg5) = m ((d.tc : Thread nD τ).loc main_arg5)
        ∧ r.2.mem ((d.tc : Thread nD τ).loc main_arg6) = m ((d.tc : Thread nD τ).loc main_arg6)
        ∧ r.2.mem ((d.tc : Thread nD τ).loc main_arg7) = m ((d.tc : Thread nD τ).loc main_arg7)
        ∧ r.2.mem ((d.tc : Thread nD τ).loc main_arg8) = m ((d.tc : Thread nD τ).loc main_arg8)
        ∧ r.2.mem ((d.tc : Thread nD τ).loc main_arg9) = m ((d.tc : Thread nD τ).loc main_arg9)
        ∧ r.2.mem ((d.tc : Thread nD τ).loc main_arg10) = m ((d.tc : Thread nD τ).loc main_arg10)
        ∧ r.2.mem ((d.tc : Thread nD τ).loc main_arg11) = m ((d.tc : Thread nD τ).loc main_arg11)
        ∧ r.2.mem ((d.tc : Thread nD τ).loc main_arg12) = m ((d.tc : Thread nD τ).loc main_arg12)
        ∧ r.2.mem ((d.tc : Thread nD τ).loc main_arg13) = m ((d.tc : Thread nD τ).loc main_arg13)
        ∧ r.2.mem ((d.tc : Thread nD τ).loc main_arg14) = m ((d.tc : Thread nD τ).loc main_arg14)
        ∧ r.2.mem ((d.tc : Thread nD τ).loc main_arg15) = m ((d.tc : Thread nD τ).loc main_arg15)
        ∧ r.2.mem ((d.tc : Thread nD τ).loc main_arg16) = m ((d.tc : Thread nD τ).loc main_arg16))
        ∧ r.2.sem = fun _ => 0 :=
  (θ_run _ _ _).mono (fun _ h => ⟨fun c => of_args (p := fun b => _ = m ((c.tc : Thread nD τ).loc b)) (h.1 c), h.2⟩) (run_frame m ρ h)

/-- What the claim says of the program as printed, of the idealized text at any float values. -/
def Quiet (F : FTy → Type) [FloatOps F] : Prop :=
  ∀ (m : (ℓ : Loc nD τ sig) → Buf (Elt F) ℓ) (g : Dev nD → PrngReg),
    (∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) = fun _ => 1#1) →
    θ_run (Cert.KernelIdeal.defs (F := F)) (Cert.KernelIdeal.threads (F := F)) ⟨m, fun _ => 0, g⟩
      fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16))
        ∧ r.2.sem = fun _ => 0

theorem quiet [∀ e, Nonempty (Elt F e)] : Quiet F := fun m ρ hp =>
  run_args m ρ fun d j => ids_of_in_range _ _ _ _ _ _ _ _ _ _ _ _ _ _ _ _ _ (hp d) j

/-- The two texts are one program. -/
theorem quiet_eq : Cert.quiescent_Kernel (hKernel := Cert.Kernel.Gen.facts) (hPre_in_range := Cert.Pre_in_range.Gen.facts) = Quiet Bits := by sl_kernel_rfl

theorem frame_kernel : Cert.quiescent_Kernel (hKernel := Cert.Kernel.Gen.facts) (hPre_in_range := Cert.Pre_in_range.Gen.facts) :=
  quiet_eq ▸ quiet

theorem frame_ideal : Cert.quiescent_KernelIdeal (hKernelIdeal := Cert.KernelIdeal.Gen.facts) (hPre_in_range := Cert.Pre_in_range.Gen.facts) := fun m ρ hp =>
  (run_args (F := Ideal) m ρ fun d j => ids_of_in_range _ _ _ _ _ _ _ _ _ _ _ _ _ _ _ _ _ (hp d) j)

theorem frame_ideal_finite : Cert.quiescent_KernelIdeal_pre_in_range_finite (hKernelIdeal := Cert.KernelIdeal.Gen.facts)
    (hPre_in_range_finite := Cert.Pre_in_range_finite.Gen.facts) := fun m ρ hp =>
  (run_args (F := Ideal) m ρ fun d j => ids_of_in_range_finite _ _ _ _ _ _ _ _ _ _ _ _ _ _ _ _ _ (hp d) j)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_in_range_finite (hReferenceIdeal := Cert.ReferenceIdeal.Gen.facts)
    (hPre_in_range_finite := Cert.Pre_in_range_finite.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Embed

end
-- ==== Proof.Algebra.lean ====
/-
  A layer of the network over the extended reals, a row at a time: weights and bias less their means first, or the
  products less their mean after. Over finite numbers the two normalised rows are one.
-/
module

public import Idealize.ShloMosaic.PureOps.Ideal.Laws

@[expose] public section

noncomputable section

namespace Cert.Proof.Value

open Idealize.ShloMosaic
open scoped BigOperators

/-- A row less its mean, `c` its length. -/
def cen {n : ℕ} (c : EReal) (h : Fin n → EReal) (j : Fin n) : EReal := h j - Ideal.div (∑ k, h k) c
/-- A row through a matrix and a bias. -/
def lin {k n : ℕ} (x : Fin k → EReal) (W : Fin k → Fin n → EReal) (b : Fin n → EReal) (j : Fin n) : EReal :=
  (∑ i, x i * W i j) + b j
/-- A row of mean zero, normalised, scaled, shifted and cut at zero: times the inverse root. -/
def kln {n : ℕ} (c e : EReal) (h g b : Fin n → EReal) (j : Fin n) : EReal :=
  max (h j * Ideal.rsqrt (Ideal.div (∑ k, h k * h k) c + e) * g j + b j) 0
/-- A row normalised, scaled, shifted and cut at zero: over the root. -/
def rln {n : ℕ} (c e : EReal) (h g b : Fin n → EReal) (j : Fin n) : EReal :=
  max (Ideal.div (cen c h j) (Ideal.sqrt (Ideal.div (∑ k, cen c h k * cen c h k) c + e)) * g j + b j) 0

/-- A finite number. -/
def IsReal (x : EReal) : Prop := ∃ r : ℝ, x = r

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.max {x y : EReal} : IsReal x → IsReal y → IsReal (Max.max x y) := by
  rintro ⟨a, rfl⟩ ⟨b, rfl⟩; exact ⟨Max.max a b, (EReal.coe_strictMono.monotone.map_max).symm⟩
theorem IsReal.sum {n : ℕ} {f : Fin n → EReal} (h : ∀ i, IsReal (f i)) : IsReal (∑ i, f i) := by
  choose r hr using h
  exact ⟨∑ i, r i, by rw [coe_sum]; exact Finset.sum_congr rfl fun i _ => hr i⟩
theorem IsReal.lin {k n : ℕ} {x : Fin k → EReal} {W : Fin k → Fin n → EReal} {b : Fin n → EReal} (hx : ∀ i, IsReal (x i))
    (hW : ∀ i j, IsReal (W i j)) (hb : ∀ j, IsReal (b j)) (j : Fin n) : IsReal (lin x W b j) :=
  (IsReal.sum fun i => (hx i).mul (hW i j)).add (hb j)

/-- A row of finite numbers less its mean. -/
theorem cen_coe {n : ℕ} {N : ℝ} (hN : N ≠ 0) (h : Fin n → ℝ) (j : Fin n) :
    cen N (fun k => (h k : EReal)) j = ((h j - (∑ k, h k) * (1 / N) : ℝ) : EReal) := by
  rw [cen, Ideal.div_coe hN, ← coe_sum, ← EReal.coe_mul, ← EReal.coe_sub]

/-- The mean of a row's squares and a positive number: a positive number. -/
theorem spread {n : ℕ} {N e : ℝ} (hN : 0 < N) (he : 0 < e) (d : Fin n → ℝ) :
    ∃ v : ℝ, 0 < v ∧ Ideal.div (∑ k, (d k : EReal) * (d k : EReal)) N + e = v := by
  refine ⟨(∑ k, d k * d k) * (1 / N) + e, ?_, ?_⟩
  · have : 0 ≤ ∑ k, d k * d k := Finset.sum_nonneg fun k _ => mul_self_nonneg _
    positivity
  · rw [Ideal.div_coe hN.ne', EReal.coe_add, EReal.coe_mul, coe_sum]
    simp only [EReal.coe_mul]

/-- Over the root of a positive number is times its inverse root. -/
theorem div_sqrt {v : ℝ} (hv : 0 < v) (x : EReal) : Ideal.div x (Ideal.sqrt v) = x * Ideal.rsqrt v := by
  rw [Ideal.sqrt_coe, if_neg (not_lt.mpr hv.le), Ideal.rsqrt_coe, if_neg (not_lt.mpr hv.le), if_neg hv.ne',
    Ideal.div_coe (Real.sqrt_pos.mpr hv).ne', one_div]

/-- A row of finite numbers: less its mean and then normalised as a row of mean zero, or normalised. -/
theorem kln_cen {n : ℕ} {N e : ℝ} (hN : 0 < N) (he : 0 < e) {h : Fin n → EReal} (hh : ∀ k, IsReal (h k)) (g b : Fin n → EReal) :
    kln N e (cen N h) g b = rln N e h g b := by
  choose r hr using hh
  obtain rfl : h = fun k => (r k : EReal) := funext hr
  obtain ⟨v, hv, ev⟩ := spread hN he fun j => r j - (∑ k, r k) * (1 / N)
  funext j
  unfold kln rln
  simp only [cen_coe hN.ne', ev, div_sqrt hv]

/-- A normalised row of finite numbers is one. -/
theorem IsReal.rln {n : ℕ} {N e : ℝ} (hN : 0 < N) (he : 0 < e) {h g b : Fin n → EReal} (hh : ∀ k, IsReal (h k))
    (hg : ∀ k, IsReal (g k)) (hb : ∀ k, IsReal (b k)) (j : Fin n) : IsReal (rln N e h g b j) := by
  choose r hr using hh
  obtain rfl : h = fun k => (r k : EReal) := funext hr
  obtain ⟨v, hv, ev⟩ := spread hN he fun j => r j - (∑ k, r k) * (1 / N)
  unfold Value.rln
  simp only [cen_coe hN.ne', ev, div_sqrt hv]
  refine IsReal.max (IsReal.add (IsReal.mul (IsReal.mul ⟨_, rfl⟩ ?_) (hg j)) (hb j)) ⟨0, rfl⟩
  rw [Ideal.rsqrt_coe, if_neg (not_lt.mpr hv.le), if_neg hv.ne']
  exact ⟨_, rfl⟩

/-- Through weights and a bias less their means: the row less its mean. -/
theorem lin_cen {k n : ℕ} {N : ℝ} (hN : 0 < N) {x : Fin k → EReal} {W : Fin k → Fin n → EReal} {b : Fin n → EReal}
    (hx : ∀ i, IsReal (x i)) (hW : ∀ i j, IsReal (W i j)) (hb : ∀ j, IsReal (b j)) :
    lin x (fun i => cen N (W i)) (cen N b) = cen N (lin x W b) := by
  choose x' ex using hx
  choose W' eW using hW
  choose b' eb using hb
  obtain rfl : x = fun i => (x' i : EReal) := funext ex
  obtain rfl : W = fun i j => (W' i j : EReal) := funext fun i => funext (eW i)
  obtain rfl : b = fun i => (b' i : EReal) := funext eb
  have e : lin (fun i => (x' i : EReal)) (fun i j => (W' i j : EReal)) (fun i => (b' i : EReal))
      = fun j => (((∑ i, x' i * W' i j) + b' j : ℝ) : EReal) := by
    funext j
    simp only [lin, EReal.coe_add, coe_sum, EReal.coe_mul]
  funext j
  rw [e, cen_coe hN.ne']
  simp only [lin, cen_coe hN.ne', ← EReal.coe_mul, ← coe_sum, ← EReal.coe_add]
  congr 1
  simp only [mul_sub, Finset.sum_sub_distrib, Finset.sum_add_distrib, add_mul, Finset.sum_mul, Finset.mul_sum]
  rw [Finset.sum_comm]
  simp only [mul_assoc]
  ring

/-- A layer whose weights and bias are less their means, without a mean to take off, is the layer. -/
theorem layer {k n : ℕ} {N e : ℝ} (hN : 0 < N) (he : 0 < e) {x : Fin k → EReal} {W : Fin k → Fin n → EReal} {b : Fin n → EReal}
    (hx : ∀ i, IsReal (x i)) (hW : ∀ i j, IsReal (W i j)) (hb : ∀ j, IsReal (b j)) (g s : Fin n → EReal) :
    kln N e (lin x (fun i => cen N (W i)) (cen N b)) g s = rln N e (lin x W b) g s := by
  rw [lin_cen hN hx hW hb, kln_cen hN he (IsReal.lin hx hW hb)]

/-- A sum over 357 places: the even ones below 352, the odd ones, the last five. -/
theorem sum_split {M : Type} [AddCommMonoid M] (f : ℕ → M) :
    ∑ i : Fin 357, f i.val = ((∑ k : Fin 176, f (2 * k.val)) + ∑ k : Fin 176, f (2 * k.val + 1)) + ∑ k : Fin 5, f (352 + k.val) := by
  have h : ∀ n, ∑ i ∈ Finset.range (2 * n), f i = (∑ k ∈ Finset.range n, f (2 * k)) + ∑ k ∈ Finset.range n, f (2 * k + 1) := by
    intro n
    induction n with
    | zero => simp
    | succ n ih =>
      rw [show 2 * (n + 1) = 2 * n + 1 + 1 from rfl, Finset.sum_range_succ, Finset.sum_range_succ, ih, Finset.sum_range_succ,
        Finset.sum_range_succ]
      abel
  rw [Fin.sum_univ_eq_sum_range f 357, show (357 : ℕ) = 352 + 5 from rfl, Finset.sum_range_add, show (352 : ℕ) = 2 * 176 from rfl, h,
    Fin.sum_univ_eq_sum_range (fun k => f (2 * k)) 176, Fin.sum_univ_eq_sum_range (fun k => f (2 * k + 1)) 176,
    Fin.sum_univ_eq_sum_range (fun k => f (2 * 176 + k)) 5]

end Cert.Proof.Value

end
-- ==== Proof.Decode.lean ====
/-
  What the words denote: a word's two halves as numbers, a table's row overwritten, a table laid into a wider one, a table's rows taken.
-/
module

public import Idealize.ShloMosaic.Lib.Pointwise
public import Idealize.ShloMosaic.Lib.Routing.OpsSet

@[expose] public section

noncomputable section

namespace Cert.Proof.Value

open Idealize.ShloMosaic
open Idealize.ShloMosaic.Routing (resultIdx?_eq_some scatter_set_hit scatter_set_miss)

/-! ## Halves of a word -/

/-- The number the sixteen bits from `16 p` on denote. -/
def half (w : BitVec 32) (p : ℕ) : EReal := Ideal.ofBits .bf16 (w.extractLsb' (p * 16) 16)

theorem half_zero (p : ℕ) : half 0#32 p = 0 := by
  unfold half
  rw [show (0#32 : BitVec 32).extractLsb' (p * 16) 16 = 0#16 from by ext; simp]
  exact Ideal.ofBits_zero _

/-- A word whose high half is the short number's bits, its low half zero, denotes that number. -/
theorem ofBits_high (w : BitVec 32) (b : BitVec 16) (h : w.toNat = b.toNat * 65536) : Ideal.ofBits .f32 w = Ideal.ofBits .bf16 b := by
  have hb := b.isLt
  have e1 : w.extractLsb' 31 1 = b.extractLsb' 15 1 := by
    apply BitVec.eq_of_toNat_eq; simp only [BitVec.extractLsb'_toNat, Nat.shiftRight_eq_div_pow]; omega
  have e2 : w.extractLsb' 23 8 = b.extractLsb' 7 8 := by
    apply BitVec.eq_of_toNat_eq; simp only [BitVec.extractLsb'_toNat, Nat.shiftRight_eq_div_pow]; omega
  have e3 : (w.extractLsb' 0 23).toNat = (b.extractLsb' 0 7).toNat * 2 ^ 16 := by
    simp only [BitVec.extractLsb'_toNat, Nat.shiftRight_eq_div_pow]; omega
  have key : ∀ (s : ℝ) (n : ℕ) (k : ℤ), s * ((n * 2 ^ 16 : ℕ) : ℝ) * (2:ℝ) ^ (k - 23) = s * (n : ℝ) * 2 ^ (k - 7) := fun s n k => by
    have : (2:ℝ) ^ (k - 7) = 2 ^ (16:ℕ) * 2 ^ (k - 23) := by
      rw [← zpow_natCast, ← zpow_add₀ (by norm_num)]; congr 1; push_cast; ring
    rw [this]; push_cast; ring
  have z : ((b.extractLsb' 0 7).toNat * 2 ^ 16 = 0) ↔ (b.extractLsb' 0 7).toNat = 0 := by omega
  simp only [Ideal.ofBits, Ideal.ieee, Nat.reduceAdd, e1, e2, e3]
  split
  · simp only [z]
  · split
    · exact congrArg _ (key _ _ _)
    · rw [show 2 ^ 23 + (b.extractLsb' 0 7).toNat * 2 ^ 16 = (2 ^ 7 + (b.extractLsb' 0 7).toNat) * 2 ^ 16 from by ring]
      exact congrArg _ (key _ _ _)

/-- The low half, shifted up. -/
theorem half_low (w : BitVec 32) : Ideal.ofBits .f32 (IntOp.shli .vector w 16#32) = half w 0 := by
  apply ofBits_high
  have := w.isLt
  rw [show IntOp.shli .vector w 16#32 = w <<< 16 from rfl]
  simp [BitVec.extractLsb'_toNat, Nat.shiftLeft_eq]
  omega

theorem mask_bit : ∀ k : Fin 32, (4294901760#32 : BitVec 32)[k.val] = decide (16 ≤ k.val) := by decide

/-- The high half, the low one masked away. -/
theorem half_high (w : BitVec 32) : Ideal.ofBits .f32 (IntOp.andi w 4294901760#32) = half w 1 := by
  apply ofBits_high
  have := w.isLt
  have e : IntOp.andi w 4294901760#32 = (w.extractLsb' 16 16).zeroExtend 32 <<< 16 := by
    unfold IntOp.andi
    ext i hi
    have mi := mask_bit ⟨i, hi⟩
    simp only [BitVec.getElem_and, mi]
    by_cases h : 16 ≤ i
    · have a : 16 + (i - 16) = i := by omega
      have b : i - 16 < 16 := by omega
      simp [h, a, b, BitVec.getLsbD_eq_getElem hi]
    · simp [h]
  rw [e]
  simp [BitVec.extractLsb'_toNat, Nat.shiftRight_eq_div_pow, Nat.shiftLeft_eq]
  omega

/-! ## Rows of a table -/

/-- Row 0 of a table overwritten: where the update lands. -/
abbrev rowDims (N C : ℕ) (wf : ScatterDims.WF ⟨2, ![N, C]⟩ ⟨1, ![1]⟩ ⟨1, ![C]⟩ [0] [0] [0] 0) : ScatterDims ⟨2, ![N, C]⟩ ⟨1, ![1]⟩ ⟨1, ![C]⟩ where
  updateWindowDims := [0]
  insertedWindowDims := [0]
  scatterDimsToOperandDims := [0]
  indexVectorDim := 0
  wf := wf

theorem row_lands {N C : ℕ} (wf) (k : (⟨1, ![C]⟩ : Shape).Idx) (idx : IVec ⟨1, ![1]⟩ 32) (h : ∀ i, idx i = 0#32) (a : Fin N) (b : Fin C) :
    (rowDims N C wf).resultIdx? k idx = some (ix2 a b) ↔ a.val = 0 ∧ (k 0).val = b.val := by
  rw [resultIdx?_eq_some]
  have e0 : (rowDims N C wf).start k idx 0 + ((rowDims N C wf).window k 0 : Int) = (idx _).toInt + 0 := rfl
  have e1 : (rowDims N C wf).start k idx 1 + ((rowDims N C wf).window k 1 : Int) = 0 + ((k 0).val : Int) := rfl
  rw [h] at e0
  constructor
  · intro H
    have p := e0.symm.trans (H 0)
    have q := e1.symm.trans (H 1)
    change _ = (a.val : Int) at p
    change _ = (b.val : Int) at q
    simp at p q
    omega
  · rintro ⟨p, q⟩ r
    match r with
    | ⟨0, _⟩ => exact e0.trans (by show _ = (a.val : Int); simp; omega)
    | ⟨1, _⟩ => exact e1.trans (by show _ = (b.val : Int); simp; omega)

/-- Row 0 overwritten with one value, the others kept. -/
theorem clear_row {N C : ℕ} {α : Type} (wf) (x : (⟨2, ![N, C]⟩ : Shape).Idx → α) (idx : IVec ⟨1, ![1]⟩ 32) (h : ∀ i, idx i = 0#32)
    (u : (⟨1, ![C]⟩ : Shape).Idx → α) (z : α) (hu : ∀ k, u k = z) (a : Fin N) (b : Fin C) :
    Host.scatter (rowDims N C wf) (fun _ y => y) x idx u (ix2 a b) = if a.val = 0 then z else x (ix2 a b) := by
  split
  · rename_i h0
    exact scatter_set_hit _ _ _ _ _ _ (fun k _ => hu k) (ix1 b) ((row_lands _ _ _ h _ _).2 ⟨h0, rfl⟩)
  · rename_i h0
    exact scatter_set_miss _ _ _ _ _ fun k e => h0 ((row_lands _ _ _ h _ _).1 e).1

/-- A table laid into a wider one from its column 0 on: where the update lands. -/
abbrev layDims (N C D : ℕ) (wf : ScatterDims.WF ⟨2, ![N, C]⟩ ⟨1, ![1]⟩ ⟨2, ![N, D]⟩ [0, 1] [] [1] 0) : ScatterDims ⟨2, ![N, C]⟩ ⟨1, ![1]⟩ ⟨2, ![N, D]⟩ where
  updateWindowDims := [0, 1]
  insertedWindowDims := []
  scatterDimsToOperandDims := [1]
  indexVectorDim := 0
  wf := wf

theorem lay_lands {N C D : ℕ} (wf) (k : (⟨2, ![N, D]⟩ : Shape).Idx) (idx : IVec ⟨1, ![1]⟩ 32) (h : ∀ i, idx i = 0#32) (a : Fin N) (b : Fin C) :
    (layDims N C D wf).resultIdx? k idx = some (ix2 a b) ↔ (k 0).val = a.val ∧ (k 1).val = b.val := by
  rw [resultIdx?_eq_some]
  have e0 : (layDims N C D wf).start k idx 0 + ((layDims N C D wf).window k 0 : Int) = 0 + ((k 0).val : Int) := rfl
  have e1 : (layDims N C D wf).start k idx 1 + ((layDims N C D wf).window k 1 : Int) = (idx _).toInt + ((k 1).val : Int) := rfl
  rw [h] at e1
  constructor
  · intro H
    have p := e0.symm.trans (H 0)
    have q := e1.symm.trans (H 1)
    change _ = (a.val : Int) at p
    change _ = (b.val : Int) at q
    simp at p q
    omega
  · rintro ⟨p, q⟩ r
    match r with
    | ⟨0, _⟩ => exact e0.trans (by show _ = (a.val : Int); simp; omega)
    | ⟨1, _⟩ => exact e1.trans (by show _ = (b.val : Int); simp; omega)

/-- The wider table read where the narrower one lies. -/
theorem lay_cols {N C D : ℕ} {α : Type} (wf) (x : (⟨2, ![N, C]⟩ : Shape).Idx → α) (idx : IVec ⟨1, ![1]⟩ 32) (h : ∀ i, idx i = 0#32)
    (u : (⟨2, ![N, D]⟩ : Shape).Idx → α) (a : Fin N) (b : Fin C) (hb : b.val < D) :
    Host.scatter (layDims N C D wf) (fun _ y => y) x idx u (ix2 a b) = u (ix2 a ⟨b.val, hb⟩) := by
  refine scatter_set_hit _ _ _ _ _ _ (fun k hk => ?_) (ix2 a ⟨b.val, hb⟩) ((lay_lands _ _ _ h _ _).2 ⟨rfl, rfl⟩)
  obtain ⟨p, q⟩ := (lay_lands _ _ _ h _ _).1 hk
  refine congrArg u (funext fun r => Fin.ext ?_)
  match r with
  | ⟨0, _⟩ => exact p
  | ⟨1, _⟩ => exact q

/-- Rows taken at a table of indices. -/
abbrev takeDims (N C S A : ℕ) (wf : GatherDims.WF ⟨2, ![N, C]⟩ ⟨3, ![S, A, 1]⟩ ⟨3, ![S, A, C]⟩ [2] [0] [] [0] [] 2 ![1, C]) : GatherDims ⟨2, ![N, C]⟩ ⟨3, ![S, A, 1]⟩ ⟨3, ![S, A, C]⟩ where
  offsetDims := [2]
  collapsedSliceDims := [0]
  operandBatchingDims := []
  startIndicesBatchingDims := []
  startIndexMap := [0]
  indexVectorDim := 2
  sliceSizes := ![1, C]
  wf := wf

/-- The row taken at an index in range. -/
theorem take_row {N C S A : ℕ} {α : Type} (wf) (x : (⟨2, ![N, C]⟩ : Shape).Idx → α) (idx : IVec ⟨3, ![S, A, 1]⟩ 32) (s : Fin S) (a : Fin A)
    (c : Fin C) (h : (idx (ix3 s a 0)).toNat < N) (hN : N < 2 ^ 31) :
    Host.gather (takeDims N C S A wf) x idx (ix3 s a c) = x (ix2 ⟨(idx (ix3 s a 0)).toNat, h⟩ c) := by
  unfold Host.gather
  refine congrArg x (funext fun q => Fin.ext ?_)
  have e0 : (takeDims N C S A wf).siIdx (ix3 s a c) ⟨0, Nat.zero_lt_one⟩ = ix3 s a 0 := by
    funext b
    match b with
    | ⟨0, _⟩ => rfl
    | ⟨1, _⟩ => rfl
    | ⟨2, _⟩ => rfl
  match q with
  | ⟨0, _⟩ =>
    show min (idx ((takeDims N C S A wf).siIdx (ix3 s a c) ⟨0, _⟩)).toInt.toNat (N - 1) + 0 + 0 = (idx (ix3 s a 0)).toNat
    rw [e0]
    generalize idx (ix3 s a 0) = w at h
    rw [BitVec.toInt_eq_toNat_of_lt (by omega)]
    omega
  | ⟨1, _⟩ =>
    show 0 + 0 + c.val = c.val
    omega

end Cert.Proof.Value
-- ==== Proof.Net.lean ====
/-
  The network at one sample, its weights centred or its rows: the arguments, the features read from the words, the two
  scores, and that they are one where the arguments are finite.
-/
module

public import proofs.«01_k».proof.Proof.Setup
public import proofs.«01_k».proof.Proof.Algebra
public import proofs.«01_k».proof.Proof.Decode

@[expose] public section

noncomputable section

namespace Cert.Proof.Value

open Idealize.ShloMosaic

/-! ## The constants -/

/-- The small number under the root. -/
def eps : EReal := Ideal.ofBits .f32 925353388#32
/-- The lengths of the three rows. -/
def len1 : EReal := Ideal.ofBits .f32 1140850688#32
def len2 : EReal := Ideal.ofBits .f32 1132462080#32
def len3 : EReal := Ideal.ofBits .f32 1124073472#32

theorem len1_eq : len1 = ((512 : ℝ) : EReal) := by simp [len1, Ideal.ofBits, Ideal.ieee, -EReal.coe_mul]; norm_num
theorem len2_eq : len2 = ((256 : ℝ) : EReal) := by simp [len2, Ideal.ofBits, Ideal.ieee, -EReal.coe_mul]; norm_num
theorem len3_eq : len3 = ((128 : ℝ) : EReal) := by simp [len3, Ideal.ofBits, Ideal.ieee, -EReal.coe_mul]; norm_num
theorem eps_eq : ∃ e : ℝ, 0 < e ∧ eps = (e : EReal) :=
  ⟨2748779 / 274877906944, by norm_num, by simp [eps, Ideal.ofBits, Ideal.ieee, -EReal.coe_mul]; norm_num⟩

/-! ## The arguments and the features -/

/-- The arguments of a call. -/
structure Args where
  ids : (⟨2, ![16384, 11]⟩ : Shape).Idx → BitVec 32
  role : (⟨2, ![16384, 5]⟩ : Shape).Idx → EReal
  tab : (⟨2, ![166, 16]⟩ : Shape).Idx → BitVec 32
  W1 : (⟨2, ![357, 512]⟩ : Shape).Idx → EReal
  b1 : (⟨1, ![512]⟩ : Shape).Idx → EReal
  g1 : (⟨1, ![512]⟩ : Shape).Idx → EReal
  e1 : (⟨1, ![512]⟩ : Shape).Idx → EReal
  W2 : (⟨2, ![512, 256]⟩ : Shape).Idx → EReal
  b2 : (⟨1, ![256]⟩ : Shape).Idx → EReal
  g2 : (⟨1, ![256]⟩ : Shape).Idx → EReal
  e2 : (⟨1, ![256]⟩ : Shape).Idx → EReal
  W3 : (⟨2, ![256, 128]⟩ : Shape).Idx → EReal
  b3 : (⟨1, ![128]⟩ : Shape).Idx → EReal
  g3 : (⟨1, ![128]⟩ : Shape).Idx → EReal
  e3 : (⟨1, ![128]⟩ : Shape).Idx → EReal
  W4 : (⟨2, ![128, 1]⟩ : Shape).Idx → EReal
  b4 : (⟨1, ![1]⟩ : Shape).Idx → EReal

/-- A matrix's entries, an array's entries. -/
def mat {n k : ℕ} (w : (⟨2, ![n, k]⟩ : Shape).Idx → EReal) (i : Fin n) (j : Fin k) : EReal := w (ix2 i j)
def vec {n : ℕ} (b : (⟨1, ![n]⟩ : Shape).Idx → EReal) (j : Fin n) : EReal := b (ix1 j)

theorem nat_ix2 {n k : ℕ} [NeZero n] [NeZero k] (a : Fin n) (b : Fin k) : (Embed.ix2 a.val b.val : (⟨2, ![n, k]⟩ : Shape).Idx) = ix2 a b :=
  Embed.ix2_self (ix2 a b)

variable (A : Args) (s : Fin 16384)

/-- A sample's word at a position: of the id's row, zero for id 0. -/
def word (q : ℕ) : BitVec 32 :=
  if (A.ids (Embed.ix2 s.val (q / 16))).toNat = 0 then 0#32 else A.tab (Embed.ix2 (A.ids (Embed.ix2 s.val (q / 16))).toNat (q % 16))

/-- A sample's features: the words' halves, then the roles. -/
def feat (i : ℕ) : EReal := if i < 352 then half (word A s (i / 2)) (i % 2) else A.role (Embed.ix2 s.val (i - 352))

theorem feat_even (k : Fin 176) : feat A s (2 * k.val) = half (word A s k.val) 0 := by
  unfold feat
  rw [if_pos (by omega), show 2 * k.val / 2 = k.val by omega, show 2 * k.val % 2 = 0 by omega]
theorem feat_odd (k : Fin 176) : feat A s (2 * k.val + 1) = half (word A s k.val) 1 := by
  unfold feat
  rw [if_pos (by omega), show (2 * k.val + 1) / 2 = k.val by omega, show (2 * k.val + 1) % 2 = 1 by omega]
theorem feat_role (k : Fin 5) : feat A s (352 + k.val) = A.role (ix2 s k) := by
  unfold feat
  rw [if_neg (by omega), show 352 + k.val - 352 = k.val by omega]
  exact congrArg A.role (nat_ix2 s k)

/-- The first layer's product, its columns apart: even, odd, further. -/
theorem lin_feat (W : Fin 357 → Fin 512 → EReal) (b : Fin 512 → EReal) (j : Fin 512) :
    lin (fun i : Fin 357 => feat A s i.val) W b j
      = (((∑ k : Fin 176, half (word A s k.val) 0 * W ⟨2 * k.val, by omega⟩ j) + ∑ k : Fin 176, half (word A s k.val) 1 * W ⟨2 * k.val + 1, by omega⟩ j)
          + ∑ k : Fin 5, A.role (ix2 s k) * W ⟨352 + k.val, by omega⟩ j) + b j := by
  have h := sum_split fun i => if h : i < 357 then feat A s i * W ⟨i, h⟩ j else 0
  unfold lin
  refine congrArg (· + b j) (Eq.trans (Finset.sum_congr rfl fun i _ => ?_) (h.trans ?_))
  · show feat A s i.val * W i j = _
    rw [dif_pos i.isLt]
  · refine congrArg₂ _ (congrArg₂ _ (Finset.sum_congr rfl fun k _ => ?_) (Finset.sum_congr rfl fun k _ => ?_)) (Finset.sum_congr rfl fun k _ => ?_)
    · rw [dif_pos (by omega), feat_even]
    · rw [dif_pos (by omega), feat_odd]
    · rw [dif_pos (by omega), feat_role]

/-! ## The two scores -/

/-- The last product and the sigmoid. -/
def top (z w : Fin 128 → EReal) (b : EReal) : EReal := Ideal.logistic ((∑ j, z j * w j) + b)

/-- The score with the weights and biases centred. -/
def kscore : EReal :=
  top (kln len3 eps (lin (kln len2 eps (lin (kln len1 eps (lin (fun i : Fin 357 => feat A s i.val) (fun i => cen len1 (mat A.W1 i)) (cen len1 (vec A.b1)))
      (vec A.g1) (vec A.e1)) (fun i => cen len2 (mat A.W2 i)) (cen len2 (vec A.b2))) (vec A.g2) (vec A.e2))
      (fun i => cen len3 (mat A.W3 i)) (cen len3 (vec A.b3))) (vec A.g3) (vec A.e3)) (fun j => mat A.W4 j 0) (vec A.b4 0)

/-- The score with the rows normalised. -/
def rscore : EReal :=
  top (rln len3 eps (lin (rln len2 eps (lin (rln len1 eps (lin (fun i : Fin 357 => feat A s i.val) (mat A.W1) (vec A.b1))
      (vec A.g1) (vec A.e1)) (mat A.W2) (vec A.b2)) (vec A.g2) (vec A.e2))
      (mat A.W3) (vec A.b3)) (vec A.g3) (vec A.e3)) (fun j => mat A.W4 j 0) (vec A.b4 0)

/-- The finite arguments: all the first three products meet. -/
structure Fine : Prop where
  tab : ∀ j (p : ℕ), p < 2 → IsReal (half (A.tab j) p)
  role : ∀ j, IsReal (A.role j)
  W1 : ∀ j, IsReal (A.W1 j)
  b1 : ∀ j, IsReal (A.b1 j)
  g1 : ∀ j, IsReal (A.g1 j)
  e1 : ∀ j, IsReal (A.e1 j)
  W2 : ∀ j, IsReal (A.W2 j)
  b2 : ∀ j, IsReal (A.b2 j)
  g2 : ∀ j, IsReal (A.g2 j)
  e2 : ∀ j, IsReal (A.e2 j)
  W3 : ∀ j, IsReal (A.W3 j)
  b3 : ∀ j, IsReal (A.b3 j)

variable {A}

theorem Fine.feat (h : Fine A) (i : ℕ) : IsReal (feat A s i) := by
  unfold Value.feat
  split
  · unfold word
    split
    · rw [half_zero]; exact ⟨0, rfl⟩
    · exact h.tab _ _ (Nat.mod_lt _ (by decide))
  · exact h.role _

/-- Over finite arguments the two scores are one. -/
theorem kscore_eq (h : Fine A) : kscore A s = rscore A s := by
  obtain ⟨e, he, ee⟩ := eps_eq
  have x := fun i : Fin 357 => h.feat s i.val
  unfold kscore rscore
  rw [len1_eq, len2_eq, len3_eq, ee]
  have r1 := IsReal.rln (N := 512) (g := vec A.g1) (b := vec A.e1) (by norm_num) he (IsReal.lin (W := mat A.W1) (b := vec A.b1) x (fun _ _ => h.W1 _) fun _ => h.b1 _) (fun _ => h.g1 _) fun _ => h.e1 _
  have r2 := IsReal.rln (N := 256) (g := vec A.g2) (b := vec A.e2) (by norm_num) he (IsReal.lin (W := mat A.W2) (b := vec A.b2) r1 (fun _ _ => h.W2 _) fun _ => h.b2 _) (fun _ => h.g2 _) fun _ => h.e2 _
  rw [layer (W := mat A.W1) (b := vec A.b1) (by norm_num) he x (fun _ _ => h.W1 _) fun _ => h.b1 _,
    layer (W := mat A.W2) (b := vec A.b2) (by norm_num) he r1 (fun _ _ => h.W2 _) fun _ => h.b2 _,
    layer (W := mat A.W3) (b := vec A.b3) (by norm_num) he r2 (fun _ _ => h.W3 _) fun _ => h.b3 _]

end Cert.Proof.Value

end
-- ==== Proof.Dense.lean ====
/-
  The dense kernel's payload at an output element: three layers and the last product, on the blocks it reads.
-/
module

public import proofs.«01_k».proof.Proof.Region
public import proofs.«01_k».proof.Proof.Net

@[expose] public section

set_option maxRecDepth 16384

noncomputable section

namespace Cert.Proof.Value

open Cert.KernelIdeal Cert.KernelIdeal.Gen
open Idealize.ShloMosaic

/-- The three normalised layers and the last product, each row of weights of mean zero. -/
def score (h : Fin 512 → EReal) (g1 e1 : Fin 512 → EReal) (W2 : Fin 512 → Fin 256 → EReal) (b2 g2 e2 : Fin 256 → EReal)
    (W3 : Fin 256 → Fin 128 → EReal) (b3 g3 e3 : Fin 128 → EReal) (w : Fin 128 → EReal) (b : EReal) : EReal :=
  top (kln len3 eps (lin (kln len2 eps (lin (kln len1 eps h g1 e1) W2 b2) g2 e2) W3 b3) g3 e3) w b

/-- The first layer's product at a row: the even columns, the odd columns, the further columns, the bias. -/
def first (x0 : Vec Ideal S2048x256 .i32) (x1 : Vec Ideal S2048x5 .bf16) (x2 x3 : Vec Ideal S176x512 .bf16) (x4 : Vec Ideal S5x512 .bf16)
    (x5 : Vec Ideal S1x512 .f32) (r : Fin 2048) (j : Fin 512) : EReal :=
  (((∑ k : Fin 176, half (x0 (ix2 r ⟨k.val, by omega⟩)) 0 * x2 (ix2 k j)) + ∑ k : Fin 176, half (x0 (ix2 r ⟨k.val, by omega⟩)) 1 * x3 (ix2 k j))
    + ∑ k : Fin 5, x1 (ix2 r k) * x4 (ix2 k j)) + x5 (ix2 0 j)

theorem pay2_at (x0 : Vec Ideal S2048x256 .i32) (x1 : Vec Ideal S2048x5 .bf16) (x2 x3 : Vec Ideal S176x512 .bf16) (x4 : Vec Ideal S5x512 .bf16)
    (x5 : Vec Ideal S1x512 .f32) (r : Fin 2048) (j : Fin 512) :
    k1_pay2 (F := Ideal) x0 x2 x3 x1 x4 x5 (ix2 r j) = first x0 x1 x2 x3 x4 x5 r j := by
  pointwise [k1_pay2]
  simp only [half_low, half_high]
  rfl

theorem pay5_at (x0 : Vec Ideal S2048x256 .i32) (x1 : Vec Ideal S2048x5 .bf16) (x2 x3 : Vec Ideal S176x512 .bf16) (x4 : Vec Ideal S5x512 .bf16)
    (x5 : Vec Ideal S1x512 .f32) (r : Fin 2048) :
    k1_pay5 (F := Ideal) x0 x2 x3 x1 x4 x5 (ix2 r 0) = ∑ k, first x0 x1 x2 x3 x4 x5 r k * first x0 x1 x2 x3 x4 x5 r k := by
  pointwise [k1_pay5]
  simp only [pay2_at]

theorem pay3_at (x : Vec Ideal S1x512 .f32) (j : Fin 512) : k1_pay3 (F := Ideal) x (ix2 0 j) = x (ix2 0 j) := by
  pointwise [k1_pay3]
theorem pay4_at (x : Vec Ideal S1x512 .f32) (j : Fin 512) : k1_pay4 (F := Ideal) x (ix2 0 j) = x (ix2 0 j) := by
  pointwise [k1_pay4]

theorem pay6_at (v28 : FVec Ideal S2048x512 .f32) (v30 v32 : FVec Ideal S1x512 .f32) (v35 : FVec Ideal S2048x1 .f32) (c : Ideal .f32)
    (v50 : Vec Ideal S512x256 .bf16) (v53 v57 v59 : Vec Ideal S1x256 .f32) (r : Fin 2048) (j : Fin 256) :
    k1_pay6 (F := Ideal) v28 v30 v32 v35 c v50 v53 v57 v59 (ix2 r j)
      = kln len2 eps (lin (fun k => max (v28 (ix2 r k) * Ideal.rsqrt (Ideal.div (v35 (ix2 r 0)) c + eps) * v30 (ix2 0 k) + v32 (ix2 0 k)) 0)
          (fun i k => v50 (ix2 i k)) (fun k => v53 (ix2 0 k))) (fun k => v57 (ix2 0 k)) (fun k => v59 (ix2 0 k)) j := by
  pointwise [k1_pay6]
  rfl

theorem pay1_at (v77 : FVec Ideal S2048x256 .bf16) (v78 : Vec Ideal S256x128 .bf16) (v81 v85 v87 v105 : Vec Ideal S1x128 .f32)
    (v111 : Vec Ideal S1x1 .f32) (r : Fin 2048) :
    k1_pay1 (F := Ideal) v77 v78 v81 v85 v87 v105 v111 (ix2 r 0)
      = Ideal.logistic ((∑ j, kln len3 eps (lin (fun k => v77 (ix2 r k)) (fun i k => v78 (ix2 i k)) (fun k => v81 (ix2 0 k)))
          (fun k => v85 (ix2 0 k)) (fun k => v87 (ix2 0 k)) j * v105 (ix2 0 j)) + v111 (ix2 0 0)) := by
  pointwise [k1_pay1]
  rfl

/-- The payload at a row. -/
theorem mlp_at (x0 : Vec Ideal S2048x256 .i32) (x1 : Vec Ideal S2048x5 .bf16) (x2 x3 : Vec Ideal S176x512 .bf16) (x4 : Vec Ideal S5x512 .bf16)
    (x5 x6 x7 : Vec Ideal S1x512 .f32) (x8 : Vec Ideal S512x256 .bf16) (x9 x10 x11 : Vec Ideal S1x256 .f32) (x12 : Vec Ideal S256x128 .bf16)
    (x13 x14 x15 x16 : Vec Ideal S1x128 .f32) (x17 : Vec Ideal S1x1 .f32) (r : Fin 2048) :
    Embed.mlp (F := Ideal) x0 x1 x2 x3 x4 x5 x6 x7 x8 x9 x10 x11 x12 x13 x14 x15 x16 x17 (ix2 r 0)
      = score (first x0 x1 x2 x3 x4 x5 r) (fun k => x6 (ix2 0 k)) (fun k => x7 (ix2 0 k)) (fun i k => x8 (ix2 i k)) (fun k => x9 (ix2 0 k))
          (fun k => x10 (ix2 0 k)) (fun k => x11 (ix2 0 k)) (fun i k => x12 (ix2 i k)) (fun k => x13 (ix2 0 k)) (fun k => x14 (ix2 0 k))
          (fun k => x15 (ix2 0 k)) (fun k => x16 (ix2 0 k)) (x17 (ix2 0 0)) := by
  unfold Embed.mlp
  rw [pay1_at]
  simp only [pay6_at, pay2_at, pay3_at, pay4_at, pay5_at]
  rfl

end Cert.Proof.Value
-- ==== Proof.Blocks.lean ====
/-
  What the dense kernel reads: its blocks of the host's arrays, those arrays from the arguments, and so the result's
  array from the arguments and the gathered words.
-/
module

public import proofs.«01_k».proof.Proof.Seg
public import proofs.«01_k».proof.Proof.Host
public import proofs.«01_k».proof.Proof.Dense

@[expose] public section

set_option maxRecDepth 16384

noncomputable section

namespace Cert.Proof.Value

open Cert.KernelIdeal Cert.KernelIdeal.Gen
open Idealize.ShloMosaic Idealize.ShloMosaic.Tactic
open Cert.Proof.Embed (blk mid)

/-- The arguments a valuation holds. -/
def kargs (V : Valuation τ sig (Elt Ideal)) : Args where
  ids := V (Proc.devRef .tc main_arg0)
  role := V (Proc.devRef .tc main_arg1)
  tab := V (Proc.devRef .tc main_arg2)
  W1 := V (Proc.devRef .tc main_arg3)
  b1 := V (Proc.devRef .tc main_arg4)
  g1 := V (Proc.devRef .tc main_arg5)
  e1 := V (Proc.devRef .tc main_arg6)
  W2 := V (Proc.devRef .tc main_arg7)
  b2 := V (Proc.devRef .tc main_arg8)
  g2 := V (Proc.devRef .tc main_arg9)
  e2 := V (Proc.devRef .tc main_arg10)
  W3 := V (Proc.devRef .tc main_arg11)
  b3 := V (Proc.devRef .tc main_arg12)
  g3 := V (Proc.devRef .tc main_arg13)
  e3 := V (Proc.devRef .tc main_arg14)
  W4 := V (Proc.devRef .tc main_arg15)
  b4 := V (Proc.devRef .tc main_arg16)

/-! ## The blocks -/

/-- The sample the row of a block is. -/
def samp (t : Fin cfg1.N) (r : Fin 2048) : Fin 16384 :=
  ⟨t.val * 2048 + r.val, by have h : t.val < 8 := t.isLt.trans_eq N_1; omega⟩

theorem index_0 : ∀ t : Fin cfg1.N, (win1_0.index t : Fin 2 → ℕ) = ![t.val, 0] := by decide +kernel
theorem index_1 : ∀ t : Fin cfg1.N, (win1_1.index t : Fin 2 → ℕ) = ![t.val, 0] := by decide +kernel

section Reads
variable (V : Valuation τ sig (Elt Ideal)) (d c : Dev nD) (t : Fin cfg1.N)

theorem words_at (r : Fin 2048) (j : Fin 256) : (blk (mid d V) c 0 t : Vec Ideal S2048x256 .i32) (ix2 r j)
    = (V (Proc.devRef .tc main_v8) : Vec Ideal S16384x256 .i32) (ix2 (samp t r) j) := by
  have e := index_0 t
  refine Eq.trans ?_ (congrFun (Embed.mid_v8 d V) _)
  blk_ext [blk, samp, e]

theorem role_at (r : Fin 2048) (j : Fin 5) : (blk (mid d V) c 1 t : Vec Ideal S2048x5 .bf16) (ix2 r j) = (kargs V).role (ix2 (samp t r) j) := by
  have e := index_1 t
  refine Eq.trans ?_ ((congrFun (Embed.mid_v47 d V) (ix2 (samp t r) j)).trans (by pointwise; rfl))
  blk_ext [blk, samp, e]

theorem even_at (i : Fin 176) (j : Fin 512) : (blk (mid d V) c 2 t : Vec Ideal S176x512 .bf16) (ix2 i j) = cen len1 (mat (kargs V).W1 ⟨2 * i.val, by omega⟩) j := by
  have e : (win1_2.index t : Fin 2 → ℕ) = ![0, 0] := by revert t; decide +kernel
  refine Eq.trans ?_ ((congrFun (Embed.mid_v40 d V) (ix2 i j)).trans (by pointwise [Embed.cen1]; rfl))
  blk_ext [blk, e]

theorem odd_at (i : Fin 176) (j : Fin 512) : (blk (mid d V) c 3 t : Vec Ideal S176x512 .bf16) (ix2 i j) = cen len1 (mat (kargs V).W1 ⟨2 * i.val + 1, by omega⟩) j := by
  have e : (win1_3.index t : Fin 2 → ℕ) = ![0, 0] := by revert t; decide +kernel
  refine Eq.trans ?_ ((congrFun (Embed.mid_v42 d V) (ix2 i j)).trans (by
    rw [show (⟨2 * i.val + 1, by omega⟩ : Fin 357) = ⟨1 + 2 * i.val, by omega⟩ from Fin.ext (Nat.add_comm _ _)]
    pointwise [Embed.cen1]; rfl))
  blk_ext [blk, e]

theorem more_at (i : Fin 5) (j : Fin 512) : (blk (mid d V) c 4 t : Vec Ideal S5x512 .bf16) (ix2 i j) = cen len1 (mat (kargs V).W1 ⟨352 + i.val, by omega⟩) j := by
  have e : (win1_4.index t : Fin 2 → ℕ) = ![0, 0] := by revert t; decide +kernel
  refine Eq.trans ?_ ((congrFun (Embed.mid_v44 d V) (ix2 i j)).trans (by pointwise [Embed.cen1]; rfl))
  blk_ext [blk, e]

theorem b1_at (j : Fin 512) : (blk (mid d V) c 5 t : Vec Ideal S1x512 .f32) (ix2 0 j) = cen len1 (vec (kargs V).b1) j := by
  have e : (win1_5.index t : Fin 2 → ℕ) = ![0, 0] := by revert t; decide +kernel
  refine Eq.trans ?_ ((congrFun (Embed.mid_v59 d V) (ix2 0 j)).trans (by pointwise [Embed.cenb1]; rfl))
  blk_ext [blk, e]

theorem g1_at (j : Fin 512) : (blk (mid d V) c 6 t : Vec Ideal S1x512 .f32) (ix2 0 j) = vec (kargs V).g1 j := by
  have e : (win1_6.index t : Fin 2 → ℕ) = ![0, 0] := by revert t; decide +kernel
  refine Eq.trans ?_ ((congrFun (Embed.mid_v60 d V) (ix2 0 j)).trans (by pointwise; rfl))
  blk_ext [blk, e]

theorem e1_at (j : Fin 512) : (blk (mid d V) c 7 t : Vec Ideal S1x512 .f32) (ix2 0 j) = vec (kargs V).e1 j := by
  have e : (win1_7.index t : Fin 2 → ℕ) = ![0, 0] := by revert t; decide +kernel
  refine Eq.trans ?_ ((congrFun (Embed.mid_v61 d V) (ix2 0 j)).trans (by pointwise; rfl))
  blk_ext [blk, e]

theorem W2_at (i : Fin 512) (j : Fin 256) : (blk (mid d V) c 8 t : Vec Ideal S512x256 .bf16) (ix2 i j) = cen len2 (mat (kargs V).W2 i) j := by
  have e : (win1_8.index t : Fin 2 → ℕ) = ![0, 0] := by revert t; decide +kernel
  refine Eq.trans ?_ ((congrFun (Embed.mid_v45 d V) (ix2 i j)).trans (by pointwise [Embed.cen2]; rfl))
  blk_ext [blk, e]

theorem b2_at (j : Fin 256) : (blk (mid d V) c 9 t : Vec Ideal S1x256 .f32) (ix2 0 j) = cen len2 (vec (kargs V).b2) j := by
  have e : (win1_9.index t : Fin 2 → ℕ) = ![0, 0] := by revert t; decide +kernel
  refine Eq.trans ?_ ((congrFun (Embed.mid_v62 d V) (ix2 0 j)).trans (by pointwise [Embed.cenb2]; rfl))
  blk_ext [blk, e]

theorem g2_at (j : Fin 256) : (blk (mid d V) c 10 t : Vec Ideal S1x256 .f32) (ix2 0 j) = vec (kargs V).g2 j := by
  have e : (win1_10.index t : Fin 2 → ℕ) = ![0, 0] := by revert t; decide +kernel
  refine Eq.trans ?_ ((congrFun (Embed.mid_v63 d V) (ix2 0 j)).trans (by pointwise; rfl))
  blk_ext [blk, e]

theorem e2_at (j : Fin 256) : (blk (mid d V) c 11 t : Vec Ideal S1x256 .f32) (ix2 0 j) = vec (kargs V).e2 j := by
  have e : (win1_11.index t : Fin 2 → ℕ) = ![0, 0] := by revert t; decide +kernel
  refine Eq.trans ?_ ((congrFun (Embed.mid_v64 d V) (ix2 0 j)).trans (by pointwise; rfl))
  blk_ext [blk, e]

theorem W3_at (i : Fin 256) (j : Fin 128) : (blk (mid d V) c 12 t : Vec Ideal S256x128 .bf16) (ix2 i j) = cen len3 (mat (kargs V).W3 i) j := by
  have e : (win1_12.index t : Fin 2 → ℕ) = ![0, 0] := by revert t; decide +kernel
  refine Eq.trans ?_ ((congrFun (Embed.mid_v46 d V) (ix2 i j)).trans (by pointwise [Embed.cen3]; rfl))
  blk_ext [blk, e]

theorem b3_at (j : Fin 128) : (blk (mid d V) c 13 t : Vec Ideal S1x128 .f32) (ix2 0 j) = cen len3 (vec (kargs V).b3) j := by
  have e : (win1_13.index t : Fin 2 → ℕ) = ![0, 0] := by revert t; decide +kernel
  refine Eq.trans ?_ ((congrFun (Embed.mid_v65 d V) (ix2 0 j)).trans (by pointwise [Embed.cenb3]; rfl))
  blk_ext [blk, e]

theorem g3_at (j : Fin 128) : (blk (mid d V) c 14 t : Vec Ideal S1x128 .f32) (ix2 0 j) = vec (kargs V).g3 j := by
  have e : (win1_14.index t : Fin 2 → ℕ) = ![0, 0] := by revert t; decide +kernel
  refine Eq.trans ?_ ((congrFun (Embed.mid_v66 d V) (ix2 0 j)).trans (by pointwise; rfl))
  blk_ext [blk, e]

theorem e3_at (j : Fin 128) : (blk (mid d V) c 15 t : Vec Ideal S1x128 .f32) (ix2 0 j) = vec (kargs V).e3 j := by
  have e : (win1_15.index t : Fin 2 → ℕ) = ![0, 0] := by revert t; decide +kernel
  refine Eq.trans ?_ ((congrFun (Embed.mid_v67 d V) (ix2 0 j)).trans (by pointwise; rfl))
  blk_ext [blk, e]

theorem W4_at (j : Fin 128) : (blk (mid d V) c 16 t : Vec Ideal S1x128 .f32) (ix2 0 j) = mat (kargs V).W4 j 0 := by
  have e : (win1_16.index t : Fin 2 → ℕ) = ![0, 0] := by revert t; decide +kernel
  refine Eq.trans ?_ ((congrFun (Embed.mid_v68 d V) (ix2 0 j)).trans (by pointwise; rfl))
  blk_ext [blk, e]

theorem b4_at : (blk (mid d V) c 17 t : Vec Ideal S1x1 .f32) (ix2 0 0) = vec (kargs V).b4 0 := by
  have e : (win1_17.index t : Fin 2 → ℕ) = ![0, 0] := by revert t; decide +kernel
  refine Eq.trans ?_ ((congrFun (Embed.mid_v69 d V) (ix2 0 0)).trans (by pointwise; rfl))
  blk_ext [blk, e]

/-- The result's array at a sample, where the gathered words are those of the arguments. -/
theorem res_at (s : Fin 16384)
    (hg : ∀ q : Fin 176, (V (Proc.devRef .tc main_v8) : Vec Ideal S16384x256 .i32) (ix2 s ⟨q.val, by omega⟩) = word (kargs V) s q.val) :
    (Embed.resV (mid d V) c : Vec Ideal S16384x1 .f32) (ix2 s 0) = kscore (kargs V) s := by
  have ht : s.val / 2048 < cfg1.N := by show _ < grid1.N; rw [N_1]; omega
  have hr : s.val % 2048 < 2048 := Nat.mod_lt _ (by decide)
  have es : samp ⟨s.val / 2048, ht⟩ ⟨s.val % 2048, hr⟩ = s := Fin.ext (by show s.val / 2048 * 2048 + s.val % 2048 = s.val; omega)
  refine Eq.trans (b := Embed.mlpAt (mid d V) c ⟨s.val / 2048, ht⟩ (ix2 ⟨s.val % 2048, hr⟩ 0)) ?_ ?_
  · exact congrArg (Embed.mlpAt (mid d V) c ⟨s.val / 2048, ht⟩) (nat_ix2 (⟨s.val % 2048, hr⟩ : Fin 2048) (0 : Fin 1))
  unfold Embed.mlpAt
  rw [mlp_at]
  have hf : first (blk (mid d V) c 0 ⟨s.val / 2048, ht⟩) (blk (mid d V) c 1 ⟨s.val / 2048, ht⟩) (blk (mid d V) c 2 ⟨s.val / 2048, ht⟩)
      (blk (mid d V) c 3 ⟨s.val / 2048, ht⟩) (blk (mid d V) c 4 ⟨s.val / 2048, ht⟩) (blk (mid d V) c 5 ⟨s.val / 2048, ht⟩) ⟨s.val % 2048, hr⟩
      = lin (fun i : Fin 357 => feat (kargs V) s i.val) (fun i => cen len1 (mat (kargs V).W1 i)) (cen len1 (vec (kargs V).b1)) := by
    funext j
    rw [lin_feat]
    unfold first
    simp only [words_at, role_at, even_at, odd_at, more_at, b1_at, es, hg]
  rw [hf]
  simp only [g1_at, e1_at, W2_at, b2_at, g2_at, e2_at, W3_at, b3_at, g3_at, e3_at, W4_at, b4_at]
  rfl

end Reads

end Cert.Proof.Value

end
-- ==== Proof.Gathered.lean ====
/-
  The kernel's result from its arguments: the table the SparseCore is given, the words it gathers, the score of every
  sample.
-/
module

public import proofs.«01_k».proof.Proof.Frames
public import proofs.«01_k».proof.Proof.Blocks

@[expose] public section

set_option maxRecDepth 16384

noncomputable section

namespace Cert.Proof.Value

open Cert.KernelIdeal Cert.KernelIdeal.Gen
open Idealize.ShloMosaic
open Cert.Proof.Embed (mid argRefs)

/-- The transposed table: the words of an id's row, row 0 cleared. -/
theorem tab_at (e : Vec Ideal S166x16 .i32) (k : Fin 16) (b : Fin 256) (hb : b.val < 166) :
    Embed.tabOf (F := Ideal) e (ix2 k b) = if b.val = 0 then (0#32 : BitVec 32) else e (ix2 ⟨b.val, hb⟩ k) := by
  unfold Embed.tabOf
  refine (lay_cols _ _ _ (fun _ => rfl) _ k b hb).trans ?_
  pointwise
  exact clear_row _ e _ (fun _ => rfl) _ 0#32 (fun _ => rfl) ⟨b.val, hb⟩ k

/-- The ids laid out in rows of 128, at a position. -/
theorem ids_at (x : Vec Ideal S16384x11 .i32) (s : Fin 16384) (a : Fin 11) :
    Embed.igetAll (shapeCast S1408x128 x shapeCasts_S16384x11_S1408x128) (s.val * 11 + a.val) = x (ix2 s a) := by
  unfold Embed.igetAll
  have h1 : (s.val * 11 + a.val) / 128 < 1408 := by omega
  have h2 : (s.val * 11 + a.val) % 128 < 128 := Nat.mod_lt _ (by decide)
  rw [show (Embed.ix2 ((s.val * 11 + a.val) / 128) ((s.val * 11 + a.val) % 128) : S1408x128.Idx) = ix2 ⟨_, h1⟩ ⟨_, h2⟩ from nat_ix2 (⟨_, h1⟩ : Fin 1408) (⟨_, h2⟩ : Fin 128)]
  pointwise

variable (m : (ℓ : Loc nD τ sig) → Buf (Elt Ideal) ℓ) (d : Dev nD)

/-- The arguments in memory. -/
abbrev margs : Args := kargs fun b => m (d, b)

theorem V1_args (g : S16384x256.Idx → BitVec 32) : kargs (Embed.V1 m d g) = margs m d := by
  have h : ∀ r ∈ argRefs, Embed.V1 m d g (Proc.devRef .tc r) = m (d, Proc.devRef .tc r) := fun r hr => by
    unfold Embed.V1
    rw [Function.update_of_ne (by revert r; decide)]
    exact Embed.A_kept d _ r hr
  unfold margs kargs
  congr 1 <;> exact h _ (by decide)

/-- The words gathered for a sample. -/
theorem words_eq (g : S16384x256.Idx → BitVec 32) (hg : Embed.OutOn (Embed.Tb m d) (Embed.Jb m d) (fun _ => True) g)
    (hid : ∀ j, ((margs m d).ids j).toNat ≤ 165) (s : Fin 16384) (q : Fin 176) :
    g (ix2 s ⟨q.val, by omega⟩) = word (margs m d) s q.val := by
  have ha : q.val / 16 < 11 := by omega
  have hk : q.val % 16 < 16 := Nat.mod_lt _ (by decide)
  have eA : (Embed.ix2 s.val (q.val / 16) : (⟨2, ![16384, 11]⟩ : Shape).Idx) = ix2 s ⟨q.val / 16, ha⟩ := nat_ix2 s (⟨q.val / 16, ha⟩ : Fin 11)
  have eI : Embed.igetAll (Embed.Jb m d) (s.val * 11 + q.val / 16) = (margs m d).ids (ix2 s ⟨q.val / 16, ha⟩) :=
    (congrArg (fun x => Embed.igetAll x (s.val * 11 + q.val / 16)) (Embed.A_v7 d _)).trans (ids_at _ s ⟨q.val / 16, ha⟩)
  have hi := hid (ix2 s ⟨q.val / 16, ha⟩)
  refine (hg (ix2 s ⟨q.val, by omega⟩) trivial q.isLt).trans ?_
  show Embed.tget (Embed.Tb m d) (q.val % 16) (Embed.igetAll (Embed.Jb m d) (s.val * 11 + q.val / 16)).toNat = _
  rw [eI]
  unfold word
  rw [eA]
  generalize ((margs m d).ids (ix2 s ⟨q.val / 16, ha⟩)).toNat = n at hi
  have hn : n < 256 := by omega
  have hn' : n < 166 := by omega
  unfold Embed.tget
  rw [show (Embed.ix2 (q.val % 16) n : S16x256.Idx) = ix2 ⟨_, hk⟩ ⟨_, hn⟩ from nat_ix2 (⟨_, hk⟩ : Fin 16) (⟨n, hn⟩ : Fin 256)]
  refine (congrFun (Embed.A_v6 d _) _).trans ((tab_at _ _ _ hn').trans ?_)
  rw [show (Embed.ix2 n (q.val % 16) : (⟨2, ![166, 16]⟩ : Shape).Idx) = ix2 ⟨_, hn'⟩ ⟨_, hk⟩ from nat_ix2 (⟨n, hn'⟩ : Fin 166) (⟨_, hk⟩ : Fin 16)]
  rfl

/-- The kernel's result at a sample. -/
theorem kernel_at (g : S16384x256.Idx → BitVec 32) (hg : Embed.OutOn (Embed.Tb m d) (Embed.Jb m d) (fun _ => True) g)
    (hid : ∀ j, ((margs m d).ids j).toNat ≤ 165) (s : Fin 16384) :
    (Embed.V4 m d g (Proc.devRef .tc main_v71) : FVec Ideal S16384 .f32) (ix1 s) = kscore (margs m d) s := by
  refine (congrFun (Embed.D_v71 d _) (ix1 s)).trans ?_
  refine Eq.trans (b := (Embed.V3 m d g (Proc.devRef .tc main_v70) : FVec Ideal S16384x1 .f32) (ix2 s 0)) (by pointwise) ?_
  refine (congrFun (Embed.after_v70 (Embed.V2 m d g) d) (ix2 s 0)).trans ?_
  refine (res_at (Embed.V1 m d g) d d s fun q => ?_).trans (by rw [V1_args])
  rw [V1_args]
  refine Eq.trans ?_ (words_eq m d g hg hid s q)
  exact congrFun (Function.update_self (Proc.devRef .tc main_v8) g (Embed.V0 m d)) _

end Cert.Proof.Value

end
-- ==== Proof.Refer.lean ====
/-
  The reference's result from its arguments: the features it looks up, its three normalised layers, the score of every
  sample.
-/
module

public import proofs.«01_k».proof.Proof.Gen.ReferenceIdeal.Run
public import proofs.«01_k».proof.Proof.Net
public import Idealize.ShloMosaic.Lib.BitcastConvert

@[expose] public section

set_option maxRecDepth 16384

noncomputable section

namespace Cert.Proof.Value

open Cert.ReferenceIdeal Cert.ReferenceIdeal.Gen Cert.ReferenceIdeal.Value
open Idealize.ShloMosaic
open Idealize.ShloMosaic.Routing (wrap_of_lt)

/-- The arguments a valuation of the reference's holds. -/
def rargs (V : Valuation τ sig (Elt Ideal)) : Args where
  ids := V (Proc.devRef .tc main_arg0)
  role := V (Proc.devRef .tc main_arg1)
  tab := V (Proc.devRef .tc main_arg2)
  W1 := V (Proc.devRef .tc main_arg3)
  b1 := V (Proc.devRef .tc main_arg4)
  g1 := V (Proc.devRef .tc main_arg5)
  e1 := V (Proc.devRef .tc main_arg6)
  W2 := V (Proc.devRef .tc main_arg7)
  b2 := V (Proc.devRef .tc main_arg8)
  g2 := V (Proc.devRef .tc main_arg9)
  e2 := V (Proc.devRef .tc main_arg10)
  W3 := V (Proc.devRef .tc main_arg11)
  b3 := V (Proc.devRef .tc main_arg12)
  g3 := V (Proc.devRef .tc main_arg13)
  e3 := V (Proc.devRef .tc main_arg14)
  W4 := V (Proc.devRef .tc main_arg15)
  b4 := V (Proc.devRef .tc main_arg16)

variable (V : Valuation τ sig (Elt Ideal))

/-- The words' halves as numbers. -/
theorem halves_at (e : IVec S166x16 32) (i : Fin 166) (c : Fin 32) :
    (extf .f32 (shapeCast S166x32 (bitcastToFloat (F := Ideal) .bf16 (Host.bitcastConvertNarrow S166x16x2 16 e splits_S166x16_w32_S166x16x2_w16))
      shapeCasts_S166x16x2_S166x32) bitsLt_bf16_f32 : FVec Ideal S166x32 .f32) (ix2 i c) = half (e (ix2 i ⟨c.val / 2, by omega⟩)) (c.val % 2) := by
  pointwise
  refine congrArg (fun k => Ideal.ofBits .bf16 ((e k).extractLsb' (c.val % 2 * 16) 16)) (funext fun b => ?_)
  match b with
  | ⟨0, _⟩ => rfl
  | ⟨1, _⟩ => rfl

/-- An index as it is looked up: the id itself. -/
theorem wrap_at (hid : ∀ j, ((rargs V).ids j).toNat ≤ 165) (s : Fin 16384) (a : Fin 11) (z : Fin 1) :
    res_main_call0_v5 V (ix3 s a z) = (rargs V).ids (ix2 s a) := by
  have h := hid (ix2 s a)
  pointwise [res_main_call0_v5]
  exact wrap_of_lt _ _ (by change ((rargs V).ids (ix2 s a)).toNat < _; omega)

theorem fold_one {ι : Type} (t : Finset ι) (f : ι → BitVec 1) (h : ∀ i ∈ t, f i = 1#1) : Finset.fold IntOp.andi 1#1 f t = 1#1 := by
  classical
  induction t using Finset.induction_on with
  | empty => rfl
  | insert a t ha ih => rw [Finset.fold_insert ha, h a (Finset.mem_insert_self a t), ih fun i hi => h i (Finset.mem_insert_of_mem hi)]; rfl

/-- An id in range passes the lookup's test. -/
theorem in_range (v : BitVec 32) (h : v.toNat ≤ 165) : IntOp.andi (IntOp.cmpi .sge v 0#32) (IntOp.cmpi .sle v 165#32) = 1#1 := by
  rw [IntOp.andi_eq_one, IntOp.cmpi_sge, IntOp.cmpi_sle, show (0#32 : BitVec 32).toInt = 0 from by decide,
    show (165#32 : BitVec 32).toInt = 165 from by decide, BitVec.toInt_eq_toNat_of_lt (by omega)]
  omega

theorem sum_tail {M : Type} [AddCommMonoid M] (f : ℕ → M) : ∑ i : Fin 357, f i.val = (∑ i : Fin 352, f i.val) + ∑ k : Fin 5, f (352 + k.val) :=
  Fin.sum_univ_add (a := 352) (b := 5) (fun i : Fin (352 + 5) => f i.val)

/-- The first layer's product. -/
theorem first_at (hid : ∀ j, ((rargs V).ids j).toNat ≤ 165) (s : Fin 16384) (j : Fin 512) :
    res_main_v12 V (ix2 s j) = lin (fun i : Fin 357 => feat (rargs V) s i.val) (mat (rargs V).W1) (vec (rargs V).b1) j := by
  unfold res_main_v12
  generalize hL : select (broadcastInDim S16384x11x32 _ _ _) (Host.gather _ _ _) _ = L
  have hl : ∀ (a : Fin 11) (c : Fin 32), L (ix3 s a c) = half (word (rargs V) s (a.val * 16 + c.val / 2)) (c.val % 2) := by
    intro a c
    have hi := hid (ix2 s a)
    have hr : (res_main_call0_v5 V (ix3 s a 0)).toNat < 166 := by rw [wrap_at V hid]; omega
    subst hL
    pointwise
    rw [fold_one _ _ fun x _ => by
      idx_vars x
      rw [wrap_at V hid]
      exact in_range _ (hid _)]
    refine Eq.trans (if_pos rfl) ?_
    refine (take_row _ _ _ s a c hr (by decide)).trans ?_
    refine (clear_row _ _ _ (fun _ => rfl) _ 0 (fun _ => Ideal.ofBits_zero _) _ c).trans ?_
    rw [halves_at]
    have ea : (a.val * 16 + c.val / 2) / 16 = a.val := by omega
    have ek : (a.val * 16 + c.val / 2) % 16 = c.val / 2 := by omega
    unfold word
    rw [ea, ek, nat_ix2 s a]
    simp only [wrap_at V hid]
    split
    · exact (half_zero _).symm
    · refine congrArg (fun k => half ((rargs V).tab k) _) ?_
      exact (nat_ix2 (⟨((rargs V).ids (ix2 s a)).toNat, by omega⟩ : Fin 166) (⟨c.val / 2, by omega⟩ : Fin 16)).symm
  have h := sum_tail fun i => if h : i < 357 then feat (rargs V) s i * mat (rargs V).W1 ⟨i, h⟩ j else 0
  pointwise
  unfold lin
  refine congrArg (· + vec (rargs V).b1 j) (Eq.trans (Eq.symm ?_) (h.symm.trans (Finset.sum_congr rfl fun i _ => ?_)))
  · refine congrArg₂ _ (Finset.sum_congr rfl fun i _ => ?_) (Finset.sum_congr rfl fun k _ => ?_)
    · rw [dif_pos (by omega), hl]
      unfold feat
      rw [if_pos i.isLt, show i.val / 32 * 16 + i.val % 32 / 2 = i.val / 2 by omega, show i.val % 32 % 2 = i.val % 2 by omega]
      rfl
    · rw [dif_pos (by omega), feat_role]
      rfl
  · rw [dif_pos i.isLt]

/-- No correction to the length. -/
theorem int_zero : (FloatOps.sitofp .f32 (0#32) : Ideal .f32) = (0 : EReal) := by
  show (((0#32 : BitVec 32).toInt : ℝ) : EReal) = 0
  simp

theorem len1_pos : (0 : EReal) < Ideal.ofBits .f32 1140850688#32 := by
  rw [show Ideal.ofBits .f32 1140850688#32 = ((512 : ℝ) : EReal) from len1_eq]; exact_mod_cast (by norm_num : (0 : ℝ) < 512)
theorem len2_pos : (0 : EReal) < Ideal.ofBits .f32 1132462080#32 := by
  rw [show Ideal.ofBits .f32 1132462080#32 = ((256 : ℝ) : EReal) from len2_eq]; exact_mod_cast (by norm_num : (0 : ℝ) < 256)
theorem len3_pos : (0 : EReal) < Ideal.ofBits .f32 1124073472#32 := by
  rw [show Ideal.ofBits .f32 1124073472#32 = ((128 : ℝ) : EReal) from len3_eq]; exact_mod_cast (by norm_num : (0 : ℝ) < 128)

/-- The second layer's product, the third's. -/
theorem second_at (s : Fin 16384) (j : Fin 256) : res_main_v35 V (ix2 s j)
    = lin (rln len1 eps (fun k => res_main_v12 V (ix2 s k)) (vec (rargs V).g1) (vec (rargs V).e1)) (mat (rargs V).W2) (vec (rargs V).b2) j := by
  pointwise [res_main_v35, res_main_call1_v8, res_main_call1_v5]
  simp only [int_zero, sub_zero, if_pos len1_pos]
  rfl

theorem third_at (s : Fin 16384) (j : Fin 128) : res_main_v58 V (ix2 s j)
    = lin (rln len2 eps (fun k => res_main_v35 V (ix2 s k)) (vec (rargs V).g2) (vec (rargs V).e2)) (mat (rargs V).W3) (vec (rargs V).b3) j := by
  pointwise [res_main_v58, res_main_call3_v8, res_main_call3_v5]
  simp only [int_zero, sub_zero, if_pos len2_pos]
  rfl

/-- Every sample's score. -/
theorem refer_at (hid : ∀ j, ((rargs V).ids j).toNat ≤ 165) (s : Fin 16384) :
    (val2 V (Proc.devRef .tc main_v88) : FVec Ideal S16384 .f32) (ix1 s) = rscore (rargs V) s := by
  have h1 := fun k => first_at V hid s k
  have h2 := fun k => second_at V s k
  have h3 := fun k => third_at V s k
  simp only [h1] at h2
  simp only [h2] at h3
  refine (congrFun (val2_main_v88 V) (ix1 s)).trans ?_
  pointwise [res_main_call5_v8, res_main_call5_v5]
  simp only [int_zero, sub_zero, if_pos len3_pos, h3]
  rfl

end Cert.Proof.Value

end
-- ==== Proof.Algebraic.lean ====
/-
  The value claim: where the ids are in range and the floats of the first three layers are finite, the kernel and the
  reference leave the same scores.
-/
module

public import proofs.«01_k».proof.Proof.Gathered
public import proofs.«01_k».proof.Proof.Refer

@[expose] public section

set_option maxRecDepth 16384

noncomputable section

namespace Cert.Proof.Value

open Idealize.ShloMosaic Idealize.ShloMosaic.TcCoe Idealize.SL.Sem Idealize.ShloMosaic.StableHlo

/-! ## Finite arguments -/

/-- A number of magnitude under the top is a real. -/
theorem real_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- An array all of whose magnitudes pass the test, at an index. -/
theorem real_at {s : Shape} {x : FVec Ideal s .f32} {y : FVec Ideal s .f32} {j : s.Idx} (hy : y j = Ideal.ofBits .f32 0x7F800000#32)
    (h : cmpf .olt (Host.absf x) y j = 1#1) : IsReal (x j) :=
  real_of_lt _ (by rw [← hy]; exact h)

section

open Cert.Pre_in_range_finite Cert.Pre_in_range_finite.Gen

attribute [local instance] Cert.Pre_in_range_finite.Gen.facts

/-- The words' halves as the test reads them. -/
theorem pair_at (e : IVec S166x16 32) (i : Fin 166) (k : Fin 16) (p : Fin 2) :
    (extf .f32 (bitcastToFloat (F := Ideal) .bf16 (Host.bitcastConvertNarrow S166x16x2 16 e splits_S166x16_w32_S166x16x2_w16))
      bitsLt_bf16_f32 : FVec Ideal S166x16x2 .f32) (ix3 i k p) = half (e (ix2 i k)) p.val := by
  pointwise
  refine congrArg (fun q => Ideal.ofBits .bf16 ((e q).extractLsb' (p.val * 16) 16)) (funext fun b => ?_)
  match b with
  | ⟨0, _⟩ => rfl
  | ⟨1, _⟩ => rfl

/-- What the precondition says of the arguments. -/
theorem fine_of (A : Args)
    (h : Cert.Pre_in_range_finite.fn (F := Ideal) A.ids A.role A.tab A.W1 A.b1 A.g1 A.e1 A.W2 A.b2 A.g2 A.e2 A.W3 A.b3 A.g3 A.e3 A.W4 A.b4 = fun _ => 1#1) :
    Fine A := by
  have e := congrFun h Embed.pt
  dsimp only [Cert.Pre_in_range_finite.fn, Cert.Pre_in_range_finite.fn_part1, Cert.Pre_in_range_finite.fn_part2, Cert.Pre_in_range_finite.fn_part3, andi] at e
  simp only [IntOp.andi_eq_one] at e
  obtain ⟨⟨⟨⟨⟨⟨⟨⟨⟨⟨⟨⟨-, f2⟩, f1⟩, f3⟩, f4⟩, f5⟩, f6⟩, f7⟩, f8⟩, f9⟩, f10⟩, f11⟩, f12⟩ := e
  refine ⟨fun j p hp => ?_, fun j => ?_, fun j => ?_, fun j => ?_, fun j => ?_, fun j => ?_, fun j => ?_, fun j => ?_, fun j => ?_, fun j => ?_,
    fun j => ?_, fun j => ?_⟩
  · idx_vars j
    have := real_at rfl (Host.reduce_andi_all _ _ _ _ _ f2 (ix3 j0 j1 ⟨p, hp⟩))
    rwa [pair_at A.tab j0 j1 ⟨p, hp⟩] at this
  · exact real_at rfl (Host.reduce_andi_all _ _ _ _ _ f1 j)
  · exact real_at rfl (Host.reduce_andi_all _ _ _ _ _ f3 j)
  · exact real_at rfl (Host.reduce_andi_all _ _ _ _ _ f4 j)
  · exact real_at rfl (Host.reduce_andi_all _ _ _ _ _ f5 j)
  · exact real_at rfl (Host.reduce_andi_all _ _ _ _ _ f6 j)
  · exact real_at rfl (Host.reduce_andi_all _ _ _ _ _ f7 j)
  · exact real_at rfl (Host.reduce_andi_all _ _ _ _ _ f8 j)
  · exact real_at rfl (Host.reduce_andi_all _ _ _ _ _ f9 j)
  · exact real_at rfl (Host.reduce_andi_all _ _ _ _ _ f10 j)
  · exact real_at rfl (Host.reduce_andi_all _ _ _ _ _ f11 j)
  · exact real_at rfl (Host.reduce_andi_all _ _ _ _ _ f12 j)

end

/-! ## The two runs -/

section

open Cert.KernelIdeal Cert.KernelIdeal.Gen

/-- The kernel's run: the scores of its arguments, and the arguments kept. -/
theorem kernel_run (m : (ℓ : Loc nD τ sig) → Buf (Elt Ideal) ℓ) (g : Dev nD → PrngReg) (hid : ∀ (c : Dev nD) j, ((margs m c).ids j).toNat ≤ 165) :
    θ_run (Cert.KernelIdeal.defs (F := Ideal)) (Cert.KernelIdeal.threads (F := Ideal)) ⟨m, fun _ => 0, g⟩
      fun r => ∀ c : Dev nD, (r.2.mem ((c.tc : Thread nD τ).loc main_v71) : FVec Ideal S16384 .f32) = (fun j => kscore (margs m c) (j 0))
        ∧ ∀ b ∈ Embed.argRefs, r.2.mem ((c.tc : Thread nD τ).loc b) = m ((c.tc : Thread nD τ).loc b) :=
  (θ_run _ _ _).mono (fun r hr c => by
      obtain ⟨t, ht, hv⟩ := hr.1 c
      refine ⟨(hv (Proc.devRef .tc main_v71) (Pipeline.devRef_mem_ucRefs (by decide))).trans (funext fun j => ?_), fun b hb => ?_⟩
      · rw [show (j : S16384.Idx) = ix1 (j 0) from funext fun b => match b with | ⟨0, _⟩ => rfl]
        exact kernel_at m c t ht (hid c) (j 0)
      · exact (hv (Proc.devRef .tc b) (Pipeline.devRef_mem_ucRefs (by revert b; decide))).trans (Embed.V4_kept m c t b hb))
    (Embed.run_main m g fun d j => lt_of_le_of_lt (hid d j) (by decide))

end

/-- The reference's result is the scores of its arguments. -/
theorem reference_res (V : Valuation Cert.ReferenceIdeal.τ Cert.ReferenceIdeal.sig (Elt Ideal)) (hid : ∀ j, ((rargs V).ids j).toNat ≤ 165) :
    (Cert.ReferenceIdeal.Value.val2 V (Proc.devRef .tc Cert.ReferenceIdeal.main_v88) : FVec Ideal Cert.ReferenceIdeal.S16384 .f32)
      = fun j => rscore (rargs V) (j 0) := by
  funext j
  rw [show (j : Cert.ReferenceIdeal.S16384.Idx) = ix1 (j 0) from funext fun b => match b with | ⟨0, _⟩ => rfl]
  exact refer_at V hid (j 0)

theorem algebraic : Cert.algebraic_KernelIdeal_ReferenceIdeal_pre_in_range_finite (hKernelIdeal := Cert.KernelIdeal.Gen.facts)
    (hReferenceIdeal := Cert.ReferenceIdeal.Gen.facts) (hPre_in_range_finite := Cert.Pre_in_range_finite.Gen.facts) := by
  intro m g m' g' hp ha
  have hid : ∀ (c : Dev Cert.KernelIdeal.nD) j, ((margs m c).ids j).toNat ≤ 165 :=
    fun c j => Embed.ids_of_in_range_finite _ _ _ _ _ _ _ _ _ _ _ _ _ _ _ _ _ (hp c) j
  have hf : ∀ c : Dev Cert.KernelIdeal.nD, Fine (margs m c) := fun c => fine_of (margs m c) (hp c)
  have hr : ∀ c : Dev Cert.KernelIdeal.nD, rargs (launchContents m' c) = margs m c := by
    intro c
    obtain ⟨h0, h1, h2, h3, h4, h5, h6, h7, h8, h9, h10, h11, h12, h13, h14, h15, h16⟩ := ha c
    exact Args.mk.injEq .. |>.mpr ⟨h0, h1, h2, h3, h4, h5, h6, h7, h8, h9, h10, h11, h12, h13, h14, h15, h16⟩
  refine ⟨fun c j => kscore (margs m c) (j 0), ?_, ?_⟩
  · refine (θ_run _ _ _).mono (fun r h c => ⟨(h c).1, ?_⟩) (kernel_run m g hid)
    exact Embed.of_args (p := fun b => r.2.mem ((c.tc : Thread _ _).loc b) = m ((c.tc : Thread _ _).loc b)) (h c).2
  · refine (θ_run _ _ _).mono (fun r h c => ⟨?_, (h c).2⟩) (Cert.ReferenceIdeal.Value.run (F := Ideal) m' g')
    refine (h c).1.trans ((Cert.ReferenceIdeal.Value.val2_main_v88 (launchContents m' c)).symm.trans ?_)
    refine (reference_res (launchContents m' c) (by rw [hr c]; exact hid c)).trans (funext fun j => ?_)
    rw [hr c]
    exact (kscore_eq (j 0) (hf c)).symm

end Cert.Proof.Value

end
-- ==== Proof.lean ====
/-
  The certificate: the programs' facts, their frames, the idealized text's agreement with the kernel, the scores.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_in_range_finite
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_in_range.Gen.facts, Cert.Pre_in_range_finite.Gen.facts,
    Embed.frame_kernel, Embed.frame_ideal, Embed.frame_ideal_finite, Embed.frame_reference, Embed.frame_reference_finite, trivial, Value.algebraic⟩

end Cert.Proof

end
